-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def preserves_Kernel_KernelIdeal : Prop :=
  IdealRules.named_const.Statement Cert.KernelIdeal.κ "dead" .f32 0x42DC0000#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v168_0)) (v1 : (c : Dev Cert.Kernel3Ideal.nD) → Buf (Elt Ideal) ((c.tc : Thread Cert.Kernel3Ideal.nD Cert.Kernel3Ideal.τ).loc Cert.Kernel3Ideal.main_v168_1)) (v2 : (c : Dev Cert.Kernel3Ideal.nD) → Buf (Elt Ideal) ((c.tc : Thread Cert.Kernel3Ideal.nD Cert.Kernel3Ideal.τ).loc Cert.Kernel3Ideal.main_v168_2)) (v3 : (c : Dev Cert.Kernel3Ideal.nD) → Buf (Elt Ideal) ((c.tc : Thread Cert.Kernel3Ideal.nD Cert.Kernel3Ideal.τ).loc Cert.Kernel3Ideal.main_v168_3)) (v4 : (c : Dev Cert.Kernel3Ideal.nD) → Buf (Elt Ideal) ((c.tc : Thread Cert.Kernel3Ideal.nD Cert.Kernel3Ideal.τ).loc Cert.Kernel3Ideal.main_v168_4)) (v5 : (c : Dev Cert.Kernel3Ideal.nD) → Buf (Elt Ideal) ((c.tc : Thread Cert.Kernel3Ideal.nD Cert.Kernel3Ideal.τ).loc Cert.Kernel3Ideal.main_v168_5)) (v6 : (c : Dev Cert.Kernel3Ideal.nD) → Buf (Elt Ideal) ((c.tc : Thread Cert.Kernel3Ideal.nD Cert.Kernel3Ideal.τ).loc Cert.Kernel3Ideal.main_v168_6)) (v7 : (c : Dev Cert.Kernel3Ideal.nD) → Buf (Elt Ideal) ((c.tc : Thread Cert.Kernel3Ideal.nD Cert.Kernel3Ideal.τ).loc Cert.Kernel3Ideal.main_v168_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v168_0) = v0 c
          ∧ r.2.mem ((c.tc : Thread Cert.Kernel3Ideal.nD Cert.Kernel3Ideal.τ).loc Cert.Kernel3Ideal.main_v168_1) = v1 c
          ∧ r.2.mem ((c.tc : Thread Cert.Kernel3Ideal.nD Cert.Kernel3Ideal.τ).loc Cert.Kernel3Ideal.main_v168_2) = v2 c
          ∧ r.2.mem ((c.tc : Thread Cert.Kernel3Ideal.nD Cert.Kernel3Ideal.τ).loc Cert.Kernel3Ideal.main_v168_3) = v3 c
          ∧ r.2.mem ((c.tc : Thread Cert.Kernel3Ideal.nD Cert.Kernel3Ideal.τ).loc Cert.Kernel3Ideal.main_v168_4) = v4 c
          ∧ r.2.mem ((c.tc : Thread Cert.Kernel3Ideal.nD Cert.Kernel3Ideal.τ).loc Cert.Kernel3Ideal.main_v168_5) = v5 c
          ∧ r.2.mem ((c.tc : Thread Cert.Kernel3Ideal.nD Cert.Kernel3Ideal.τ).loc Cert.Kernel3Ideal.main_v168_6) = v6 c
          ∧ r.2.mem ((c.tc : Thread Cert.Kernel3Ideal.nD Cert.Kernel3Ideal.τ).loc Cert.Kernel3Ideal.main_v168_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_v17) = v2 c
          ∧ r.2.mem ((c.tc : Thread Cert.Reference3Ideal.nD Cert.Reference3Ideal.τ).loc Cert.Reference3Ideal.main_v18) = v3 c
          ∧ r.2.mem ((c.tc : Thread Cert.Reference3Ideal.nD Cert.Reference3Ideal.τ).loc Cert.Reference3Ideal.main_v19) = v4 c
          ∧ r.2.mem ((c.tc : Thread Cert.Reference3Ideal.nD Cert.Reference3Ideal.τ).loc Cert.Reference3Ideal.main_v20) = v5 c
          ∧ r.2.mem ((c.tc : Thread Cert.Reference3Ideal.nD Cert.Reference3Ideal.τ).loc Cert.Reference3Ideal.main_v23) = v6 c
          ∧ r.2.mem ((c.tc : Thread Cert.Reference3Ideal.nD Cert.Reference3Ideal.τ).loc Cert.Reference3Ideal.main_v24) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v169_0)) (v1 : (c : Dev Cert.Kernel5Ideal.nD) → Buf (Elt Ideal) ((c.tc : Thread Cert.Kernel5Ideal.nD Cert.Kernel5Ideal.τ).loc Cert.Kernel5Ideal.main_v169_1)) (v2 : (c : Dev Cert.Kernel5Ideal.nD) → Buf (Elt Ideal) ((c.tc : Thread Cert.Kernel5Ideal.nD Cert.Kernel5Ideal.τ).loc Cert.Kernel5Ideal.main_v169_2)) (v3 : (c : Dev Cert.Kernel5Ideal.nD) → Buf (Elt Ideal) ((c.tc : Thread Cert.Kernel5Ideal.nD Cert.Kernel5Ideal.τ).loc Cert.Kernel5Ideal.main_v169_3)) (v4 : (c : Dev Cert.Kernel5Ideal.nD) → Buf (Elt Ideal) ((c.tc : Thread Cert.Kernel5Ideal.nD Cert.Kernel5Ideal.τ).loc Cert.Kernel5Ideal.main_v169_4)) (v5 : (c : Dev Cert.Kernel5Ideal.nD) → Buf (Elt Ideal) ((c.tc : Thread Cert.Kernel5Ideal.nD Cert.Kernel5Ideal.τ).loc Cert.Kernel5Ideal.main_v169_5)) (v6 : (c : Dev Cert.Kernel5Ideal.nD) → Buf (Elt Ideal) ((c.tc : Thread Cert.Kernel5Ideal.nD Cert.Kernel5Ideal.τ).loc Cert.Kernel5Ideal.main_v169_6)) (v7 : (c : Dev Cert.Kernel5Ideal.nD) → Buf (Elt Ideal) ((c.tc : Thread Cert.Kernel5Ideal.nD Cert.Kernel5Ideal.τ).loc Cert.Kernel5Ideal.main_v169_7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v169_0) = v0 c
          ∧ r.2.mem ((c.tc : Thread Cert.Kernel5Ideal.nD Cert.Kernel5Ideal.τ).loc Cert.Kernel5Ideal.main_v169_1) = v1 c
          ∧ r.2.mem ((c.tc : Thread Cert.Kernel5Ideal.nD Cert.Kernel5Ideal.τ).loc Cert.Kernel5Ideal.main_v169_2) = v2 c
          ∧ r.2.mem ((c.tc : Thread Cert.Kernel5Ideal.nD Cert.Kernel5Ideal.τ).loc Cert.Kernel5Ideal.main_v169_3) = v3 c
          ∧ r.2.mem ((c.tc : Thread Cert.Kernel5Ideal.nD Cert.Kernel5Ideal.τ).loc Cert.Kernel5Ideal.main_v169_4) = v4 c
          ∧ r.2.mem ((c.tc : Thread Cert.Kernel5Ideal.nD Cert.Kernel5Ideal.τ).loc Cert.Kernel5Ideal.main_v169_5) = v5 c
          ∧ r.2.mem ((c.tc : Thread Cert.Kernel5Ideal.nD Cert.Kernel5Ideal.τ).loc Cert.Kernel5Ideal.main_v169_6) = v6 c
          ∧ r.2.mem ((c.tc : Thread Cert.Kernel5Ideal.nD Cert.Kernel5Ideal.τ).loc Cert.Kernel5Ideal.main_v169_7) = v7 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v25) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v27) = v2 c
          ∧ r.2.mem ((c.tc : Thread Cert.Reference5Ideal.nD Cert.Reference5Ideal.τ).loc Cert.Reference5Ideal.main_v28) = v3 c
          ∧ r.2.mem ((c.tc : Thread Cert.Reference5Ideal.nD Cert.Reference5Ideal.τ).loc Cert.Reference5Ideal.main_v29) = v4 c
          ∧ r.2.mem ((c.tc : Thread Cert.Reference5Ideal.nD Cert.Reference5Ideal.τ).loc Cert.Reference5Ideal.main_v30) = v5 c
          ∧ r.2.mem ((c.tc : Thread Cert.Reference5Ideal.nD Cert.Reference5Ideal.τ).loc Cert.Reference5Ideal.main_v31) = v6 c
          ∧ r.2.mem ((c.tc : Thread Cert.Reference5Ideal.nD Cert.Reference5Ideal.τ).loc Cert.Reference5Ideal.main_v32) = v7 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v15) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v33) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S2x8192x8x64 : Shape := ⟨4, ![2, 8192, 8, 64]⟩
abbrev S_ : Shape := ⟨0, ![]⟩

class Facts : Prop where
  bcast_S_S2x8192x8x64 : S_.BroadcastsInDim S2x8192x8x64 (![] : Fin 0 → Fin S2x8192x8x64.rank)
  reducesTo_S2x8192x8x64_S_d0_1_2_3 : S2x8192x8x64.ReducesTo [0, 1, 2, 3] S_
  h_S_ : 0 < S_.numel

variable [Facts]

def fn {F : FTy → Type} [FloatOps F] (main_arg0 : FVec F S2x8192x8x64 .f32) (main_arg1 : FVec F S2x8192x8x64 .f32) (main_arg2 : FVec F S2x8192x8x64 .f32) : IVec S_ 1 :=
  let main_v0 : FVec F S2x8192x8x64 .f32 := Host.absf main_arg0
  let main_cst : FVec F S_ .f32 := constant S_ .f32 0x7F800000#32
  let main_v1 : FVec F S2x8192x8x64 .f32 := broadcastInDim S2x8192x8x64 ![] bcast_S_S2x8192x8x64 main_cst
  let main_v2 : IVec S2x8192x8x64 1 := cmpf .olt main_v0 main_v1
  let main_c : IVec S_ 1 := constantI S_ 1 1#1
  let main_v3 : IVec S_ 1 := (fun x v => Host.reduce IntOp.andi x v reducesTo_S2x8192x8x64_S_d0_1_2_3 h_S_) main_v2 main_c
  let main_v4 : FVec F S2x8192x8x64 .f32 := Host.absf main_arg1
  let main_cst_0 : FVec F S_ .f32 := constant S_ .f32 0x7F800000#32
  let main_v5 : FVec F S2x8192x8x64 .f32 := broadcastInDim S2x8192x8x64 ![] bcast_S_S2x8192x8x64 main_cst_0
  let main_v6 : IVec S2x8192x8x64 1 := cmpf .olt main_v4 main_v5
  let main_c_1 : IVec S_ 1 := constantI S_ 1 1#1
  let main_v7 : IVec S_ 1 := (fun x v => Host.reduce IntOp.andi x v reducesTo_S2x8192x8x64_S_d0_1_2_3 h_S_) main_v6 main_c_1
  let main_v8 : IVec S_ 1 := andi main_v3 main_v7
  main_v8
-- ==== Kernel.lean ====
abbrev S2x8192x8x64 : Shape := ⟨4, ![2, 8192, 8, 64]⟩
abbrev S_ : Shape := ⟨0, ![]⟩
abbrev S2x8x8192x64 : Shape := ⟨4, ![2, 8, 8192, 64]⟩
abbrev S2x4x2x8192x64 : Shape := ⟨5, ![2, 4, 2, 8192, 64]⟩
abbrev S2x4x1x8192x64 : Shape := ⟨5, ![2, 4, 1, 8192, 64]⟩
abbrev S2x4x1x8192x128 : Shape := ⟨5, ![2, 4, 1, 8192, 128]⟩
abbrev S2x4x2x8192x128 : Shape := ⟨5, ![2, 4, 2, 8192, 128]⟩
abbrev S2x8x8192x128 : Shape := ⟨4, ![2, 8, 8192, 128]⟩
abbrev S2x8192x512 : Shape := ⟨3, ![2, 8192, 512]⟩
abbrev S2x512x8192 : Shape := ⟨3, ![2, 512, 8192]⟩
abbrev S1x8x128x128 : Shape := ⟨4, ![1, 8, 128, 128]⟩
abbrev S1x8192x512 : Shape := ⟨3, ![1, 8192, 512]⟩
abbrev S1x512x8192 : Shape := ⟨3, ![1, 512, 8192]⟩
abbrev S1x512x128 : Shape := ⟨3, ![1, 512, 128]⟩
abbrev S4x1x256 : Shape := ⟨3, ![4, 1, 256]⟩
abbrev S4x64x256 : Shape := ⟨3, ![4, 64, 256]⟩
abbrev S128x1 : Shape := ⟨2, ![128, 1]⟩
abbrev S1x128 : Shape := ⟨2, ![1, 128]⟩
abbrev S128x128 : Shape := ⟨2, ![128, 128]⟩
abbrev S128x256 : Shape := ⟨2, ![128, 256]⟩
abbrev S1x2x128x128 : Shape := ⟨4, ![1, 2, 128, 128]⟩
abbrev S2x128x128 : Shape := ⟨3, ![2, 128, 128]⟩
abbrev S256x128 : Shape := ⟨2, ![256, 128]⟩
abbrev S1x128x128 : Shape := ⟨3, ![1, 128, 128]⟩
abbrev S1x1x256 : Shape := ⟨3, ![1, 1, 256]⟩
abbrev S1x256 : Shape := ⟨2, ![1, 256]⟩
abbrev S1x64x256 : Shape := ⟨3, ![1, 64, 256]⟩
abbrev S64x256 : Shape := ⟨2, ![64, 256]⟩
abbrev S64x128 : Shape := ⟨2, ![64, 128]⟩
abbrev S256 : Shape := ⟨1, ![256]⟩
abbrev S1x4x1x256 : Shape := ⟨4, ![1, 4, 1, 256]⟩
abbrev S1 : Shape := ⟨1, ![1]⟩
abbrev S1x1x1x1 : Shape := ⟨4, ![1, 1, 1, 1]⟩
abbrev S1x64x128 : Shape := ⟨3, ![1, 64, 128]⟩

abbrev nBuf : Space → Nat
  | .hbm => 23
  | .vmem => 10
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S_, .f32⟩
  | .hbm, ⟨4, _⟩ => ⟨S2x8192x8x64, .f32⟩
  | .hbm, ⟨5, _⟩ => ⟨S2x8192x8x64, .f32⟩
  | .hbm, ⟨6, _⟩ => ⟨S2x8x8192x64, .f32⟩
  | .hbm, ⟨7, _⟩ => ⟨S2x4x2x8192x64, .f32⟩
  | .hbm, ⟨8, _⟩ => ⟨S_, .f32⟩
  | .hbm, ⟨9, _⟩ => ⟨S2x4x1x8192x64, .f32⟩
  | .hbm, ⟨10, _⟩ => ⟨S2x4x1x8192x64, .f32⟩
  | .hbm, ⟨11, _⟩ => ⟨S2x4x1x8192x128, .f32⟩
  | .hbm, ⟨12, _⟩ => ⟨S2x4x1x8192x64, .f32⟩
  | .hbm, ⟨13, _⟩ => ⟨S2x4x1x8192x128, .f32⟩
  | .hbm, ⟨14, _⟩ => ⟨S2x4x2x8192x128, .f32⟩
  | .hbm, ⟨15, _⟩ => ⟨S2x8x8192x128, .f32⟩
  | .hbm, ⟨16, _⟩ => ⟨S2x8x8192x128, .bf16⟩
  | .hbm, ⟨17, _⟩ => ⟨S2x8192x512, .f32⟩
  | .hbm, ⟨18, _⟩ => ⟨S2x8192x512, .bf16⟩
  | .hbm, ⟨19, _⟩ => ⟨S2x8192x512, .f32⟩
  | .hbm, ⟨20, _⟩ => ⟨S2x512x8192, .f32⟩
  | .hbm, ⟨21, _⟩ => ⟨S2x512x8192, .bf16⟩
  | .hbm, ⟨22, _⟩ => ⟨S2x512x8192, .f32⟩
  | .local _ .vmem, ⟨0, _⟩ => ⟨S1x8x128x128, .bf16⟩
  | .local _ .vmem, ⟨1, _⟩ => ⟨S1x8x128x128, .bf16⟩
  | .local _ .vmem, ⟨2, _⟩ => ⟨S1x8192x512, .bf16⟩
  | .local _ .vmem, ⟨3, _⟩ => ⟨S1x8192x512, .bf16⟩
  | .local _ .vmem, ⟨4, _⟩ => ⟨S1x512x8192, .bf16⟩
  | .local _ .vmem, ⟨5, _⟩ => ⟨S1x512x8192, .bf16⟩
  | .local _ .vmem, ⟨6, _⟩ => ⟨S1x512x128, .f32⟩
  | .local _ .vmem, ⟨7, _⟩ => ⟨S1x512x128, .f32⟩
  | .local _ .vmem, ⟨8, _⟩ => ⟨S4x1x256, .f32⟩
  | .local _ .vmem, ⟨9, _⟩ => ⟨S4x64x256, .f32⟩
  | _, _ => ⟨S2x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v20 : BitVec 32 := Scalar.muli arg1 c128_i32
  v20
def k0_off1 (i : grid0.Coords) : Fin 3 → Nat :=
  let c0_10 : Index := 0#32
  let arg1 : BitVec 32 := BitVec.ofNat 32 (i 1).val
  let c128_i32 : BitVec 32 := 128#32
  let v20 : BitVec 32 := Scalar.muli arg1 c128_i32
  let v21 : BitVec 32 := v20
  let v25 : Index := Scalar.indexCast v21
  let c0_11 : Index := 0#32
  ![0, v25.toNat, 0]
def k0_off2 (i : grid0.Coords) : Fin 3 → Nat :=
  let c0_12 : Index := 0#32
  let c0_13 : Index := 0#32
  let arg1 : BitVec 32 := BitVec.ofNat 32 (i 1).val
  let c128_i32 : BitVec 32 := 128#32
  let v20 : BitVec 32 := Scalar.muli arg1 c128_i32
  let v21 : BitVec 32 := v20
  let v28 : Index := Scalar.indexCast v21
  ![0, 0, v28.toNat]
def k0_off3 (i : grid0.Coords) : Fin 3 → Nat :=
  let c0_55 : Index := 0#32
  let arg1 : BitVec 32 := BitVec.ofNat 32 (i 1).val
  let c128_i32 : BitVec 32 := 128#32
  let v20 : BitVec 32 := Scalar.muli arg1 c128_i32
  let v21 : BitVec 32 := v20
  let v96 : Index := Scalar.indexCast v21
  let c128_56 : Index := 128#32
  ![0, v96.toNat, 128]
def k0_off4 (i : grid0.Coords) : Fin 3 → Nat :=
  let c0_57 : Index := 0#32
  let c128_58 : Index := 128#32
  let arg1 : BitVec 32 := BitVec.ofNat 32 (i 1).val
  let c128_i32 : BitVec 32 := 128#32
  let v20 : BitVec 32 := Scalar.muli arg1 c128_i32
  let v21 : BitVec 32 := v20
  let v99 : Index := Scalar.indexCast v21
  ![0, 128, v99.toNat]
def k0_off5 (i : grid0.Coords) : Fin 3 → Nat :=
  let c0_100 : Index := 0#32
  let arg1 : BitVec 32 := BitVec.ofNat 32 (i 1).val
  let c128_i32 : BitVec 32 := 128#32
  let v20 : BitVec 32 := Scalar.muli arg1 c128_i32
  let v21 : BitVec 32 := v20
  let v167 : Index := Scalar.indexCast v21
  let c256 : Index := 256#32
  ![0, v167.toNat, 256]
def k0_off6 (i : grid0.Coords) : Fin 3 → Nat :=
  let c0_101 : Index := 0#32
  let c256_102 : Index := 256#32
  let arg1 : BitVec 32 := BitVec.ofNat 32 (i 1).val
  let c128_i32 : BitVec 32 := 128#32
  let v20 : BitVec 32 := Scalar.muli arg1 c128_i32
  let v21 : BitVec 32 := v20
  let v170 : Index := Scalar.indexCast v21
  ![0, 256, v170.toNat]
def k0_off7 (i : grid0.Coords) : Fin 3 → Nat :=
  let c0_145 : Index := 0#32
  let arg1 : BitVec 32 := BitVec.ofNat 32 (i 1).val
  let c128_i32 : BitVec 32 := 128#32
  let v20 : BitVec 32 := Scalar.muli arg1 c128_i32
  let v21 : BitVec 32 := v20
  let v238 : Index := Scalar.indexCast v21
  let c384 : Index := 384#32
  ![0, v238.toNat, 384]
def k0_off8 (i : grid0.Coords) : Fin 3 → Nat :=
  let c0_146 : Index := 0#32
  let c384_147 : Index := 384#32
  let arg1 : BitVec 32 := BitVec.ofNat 32 (i 1).val
  let c128_i32 : BitVec 32 := 128#32
  let v20 : BitVec 32 := Scalar.muli arg1 c128_i32
  let v21 : BitVec 32 := v20
  let v241 : Index := Scalar.indexCast v21
  ![0, 384, v241.toNat]
def k0_mult2 (arg8 : BitVec 32) : BitVec 32 :=
  let c128_i32_228 : BitVec 32 := 128#32
  let v346 : BitVec 32 := Scalar.muli arg8 c128_i32_228
  v346

def k0_off9 (arg8 : BitVec 32) : Fin 3 → Nat :=
  let c0_233 : Index := 0#32
  let c128_i32_228 : BitVec 32 := 128#32
  let v346 : BitVec 32 := Scalar.muli arg8 c128_i32_228
  let v347 : BitVec 32 := v346
  let v351 : Index := Scalar.indexCast v347
  let c0_234 : Index := 0#32
  ![0, v351.toNat, 0]
def k0_off10 (arg8 : BitVec 32) : Fin 3 → Nat :=
  let c0_235 : Index := 0#32
  let c0_236 : Index := 0#32
  let c128_i32_228 : BitVec 32 := 128#32
  let v346 : BitVec 32 := Scalar.muli arg8 c128_i32_228
  let v347 : BitVec 32 := v346
  let v354 : Index := Scalar.indexCast v347
  ![0, 0, v354.toNat]
def k0_off11 (arg8 : BitVec 32) : Fin 3 → Nat :=
  let c0_279 : Index := 0#32
  let c128_i32_228 : BitVec 32 := 128#32
  let v346 : BitVec 32 := Scalar.muli arg8 c128_i32_228
  let v347 : BitVec 32 := v346
  let v418 : Index := Scalar.indexCast v347
  let c128_280 : Index := 128#32
  ![0, v418.toNat, 128]
def k0_off12 (arg8 : BitVec 32) : Fin 3 → Nat :=
  let c0_281 : Index := 0#32
  let c128_282 : Index := 128#32
  let c128_i32_228 : BitVec 32 := 128#32
  let v346 : BitVec 32 := Scalar.muli arg8 c128_i32_228
  let v347 : BitVec 32 := v346
  let v421 : Index := Scalar.indexCast v347
  ![0, 128, v421.toNat]
def k0_off13 (arg8 : BitVec 32) : Fin 3 → Nat :=
  let c0_325 : Index := 0#32
  let c128_i32_228 : BitVec 32 := 128#32
  let v346 : BitVec 32 := Scalar.muli arg8 c128_i32_228
  let v347 : BitVec 32 := v346
  let v485 : Index := Scalar.indexCast v347
  let c256_326 : Index := 256#32
  ![0, v485.toNat, 256]
def k0_off14 (arg8 : BitVec 32) : Fin 3 → Nat :=
  let c0_327 : Index := 0#32
  let c256_328 : Index := 256#32
  let c128_i32_228 : BitVec 32 := 128#32
  let v346 : BitVec 32 := Scalar.muli arg8 c128_i32_228
  let v347 : BitVec 32 := v346
  let v488 : Index := Scalar.indexCast v347
  ![0, 256, v488.toNat]
def k0_off15 (arg8 : BitVec 32) : Fin 3 → Nat :=
  let c0_371 : Index := 0#32
  let c128_i32_228 : BitVec 32 := 128#32
  let v346 : BitVec 32 := Scalar.muli arg8 c128_i32_228
  let v347 : BitVec 32 := v346
  let v552 : Index := Scalar.indexCast v347
  let c384_372 : Index := 384#32
  ![0, v552.toNat, 384]
def k0_off16 (arg8 : BitVec 32) : Fin 3 → Nat :=
  let c0_373 : Index := 0#32
  let c384_374 : Index := 384#32
  let c128_i32_228 : BitVec 32 := 128#32
  let v346 : BitVec 32 := Scalar.muli arg8 c128_i32_228
  let v347 : BitVec 32 := v346
  let v555 : Index := Scalar.indexCast v347
  ![0, 384, v555.toNat]

def k0_chk1 (arg8 : BitVec 32) : Prop :=
  (128 ∣ (k0_mult2 arg8).toNat) ∧
  (∀ a, (k0_off9 arg8) a + S1x128x128.size a ≤ S1x8192x512.size a) ∧
  (∀ a, (k0_off10 arg8) a + S1x128x128.size a ≤ S1x512x8192.size a) ∧
  (∀ a, (k0_off11 arg8) a + S1x128x128.size a ≤ S1x8192x512.size a) ∧
  (∀ a, (k0_off12 arg8) a + S1x128x128.size a ≤ S1x512x8192.size a) ∧
  (∀ a, (k0_off13 arg8) a + S1x128x128.size a ≤ S1x8192x512.size a) ∧
  (∀ a, (k0_off14 arg8) a + S1x128x128.size a ≤ S1x512x8192.size a) ∧
  (∀ a, (k0_off15 arg8) a + S1x128x128.size a ≤ S1x8192x512.size a) ∧
  (∀ a, (k0_off16 arg8) a + S1x128x128.size a ≤ S1x512x8192.size a)
theorem k0_mult2_dvd : ∀ (arg8 : BitVec 32) (k0_hw1 : k0_chk1 arg8), 128 ∣ (k0_mult2 arg8).toNat := fun arg8 k0_hw1 => k0_hw1.1
theorem k0_off9_inb : ∀ (arg8 : BitVec 32) (k0_hw1 : k0_chk1 arg8), ∀ a, (k0_off9 arg8) a + S1x128x128.size a ≤ S1x8192x512.size a := fun arg8 k0_hw1 => k0_hw1.2.1
theorem k0_off10_inb : ∀ (arg8 : BitVec 32) (k0_hw1 : k0_chk1 arg8), ∀ a, (k0_off10 arg8) a + S1x128x128.size a ≤ S1x512x8192.size a := fun arg8 k0_hw1 => k0_hw1.2.2.1
theorem k0_off11_inb : ∀ (arg8 : BitVec 32) (k0_hw1 : k0_chk1 arg8), ∀ a, (k0_off11 arg8) a + S1x128x128.size a ≤ S1x8192x512.size a := fun arg8 k0_hw1 => k0_hw1.2.2.2.1
theorem k0_off12_inb : ∀ (arg8 : BitVec 32) (k0_hw1 : k0_chk1 arg8), ∀ a, (k0_off12 arg8) a + S1x128x128.size a ≤ S1x512x8192.size a := fun arg8 k0_hw1 => k0_hw1.2.2.2.2.1
theorem k0_off13_inb : ∀ (arg8 : BitVec 32) (k0_hw1 : k0_chk1 arg8), ∀ a, (k0_off13 arg8) a + S1x128x128.size a ≤ S1x8192x512.size a := fun arg8 k0_hw1 => k0_hw1.2.2.2.2.2.1
theorem k0_off14_inb : ∀ (arg8 : BitVec 32) (k0_hw1 : k0_chk1 arg8), ∀ a, (k0_off14 arg8) a + S1x128x128.size a ≤ S1x512x8192.size a := fun arg8 k0_hw1 => k0_hw1.2.2.2.2.2.2.1
theorem k0_off15_inb : ∀ (arg8 : BitVec 32) (k0_hw1 : k0_chk1 arg8), ∀ a, (k0_off15 arg8) a + S1x128x128.size a ≤ S1x8192x512.size a := fun arg8 k0_hw1 => k0_hw1.2.2.2.2.2.2.2.1
theorem k0_off16_inb : ∀ (arg8 : BitVec 32) (k0_hw1 : k0_chk1 arg8), ∀ a, (k0_off16 arg8) a + S1x128x128.size a ≤ S1x512x8192.size a := fun arg8 k0_hw1 => k0_hw1.2.2.2.2.2.2.2.2

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x8x128x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "dead" => some ⊤
  | _ => none
-- ==== ReferenceIdeal.lean ====
abbrev S2x8192x8x64 : Shape := ⟨4, ![2, 8192, 8, 64]⟩
abbrev S8192 : Shape := ⟨1, ![8192]⟩
abbrev S_ : Shape := ⟨0, ![]⟩
abbrev S2x8x8192x8192 : Shape := ⟨4, ![2, 8, 8192, 8192]⟩
abbrev S1x8192 : Shape := ⟨2, ![1, 8192]⟩
abbrev S8192x1 : Shape := ⟨2, ![8192, 1]⟩
abbrev S8192x8192 : Shape := ⟨2, ![8192, 8192]⟩
abbrev S2x8x64x8192 : Shape := ⟨4, ![2, 8, 64, 8192]⟩
abbrev S2x8192x512 : Shape := ⟨3, ![2, 8192, 512]⟩
abbrev S2x512x8192 : Shape := ⟨3, ![2, 512, 8192]⟩

abbrev nBuf : Space → Nat
  | .hbm => 63
  | .vmem => 0
  | .smem => 0
  | _ => 0

abbrev bufTy : (tb : Table) → Fin (tcTables nBuf tb) → BufTy
  | .hbm, ⟨0, _⟩ => ⟨S2x8192x8x64, .f32⟩
  | .hbm, ⟨1, _⟩ => ⟨S2x8192x8x64, .f32⟩
  | .hbm, ⟨2, _⟩ => ⟨S2x8192x8x64, .f32⟩
  | .hbm, ⟨3, _⟩ => ⟨S8192, .i32⟩
  | .hbm, ⟨4, _⟩ => ⟨S_, .f32⟩
  | .hbm, ⟨5, _⟩ => ⟨S2x8192x8x64, .f32⟩
  | .hbm, ⟨6, _⟩ => ⟨S2x8192x8x64, .f32⟩
  | .hbm, ⟨7, _⟩ => ⟨S2x8x8192x8192, .f32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S2x8x8192x8192, .f32⟩
  | .hbm, ⟨15, _⟩ => ⟨S2x8x8192x8192, .f32⟩
  | .hbm, ⟨16, _⟩ => ⟨S2x8x8192x8192, .f32⟩
  | .hbm, ⟨17, _⟩ => ⟨S2x8x8192x8192, .f32⟩
  | .hbm, ⟨18, _⟩ => ⟨S2x8x8192x8192, .i1⟩
  | .hbm, ⟨19, _⟩ => ⟨S2x8x8192x8192, .f32⟩
  | .hbm, ⟨20, _⟩ => ⟨S2x8x8192x8192, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .f32⟩
  | .hbm, ⟨25, _⟩ => ⟨S2x8x8192x8192, .f32⟩
  | .hbm, ⟨26, _⟩ => ⟨S2x8x8192x8192, .f32⟩
  | .hbm, ⟨27, _⟩ => ⟨S_, .f32⟩
  | .hbm, ⟨28, _⟩ => ⟨S_, .f32⟩
  | .hbm, ⟨29, _⟩ => ⟨S2x8x8192x8192, .i1⟩
  | .hbm, ⟨30, _⟩ => ⟨S2x8x8192x8192, .f32⟩
  | .hbm, ⟨31, _⟩ => ⟨S2x8x8192x8192, .f32⟩
  | .hbm, ⟨32, _⟩ => ⟨S_, .f32⟩
  | .hbm, ⟨33, _⟩ => ⟨S_, .f32⟩
  | .hbm, ⟨34, _⟩ => ⟨S2x8x8192x8192, .f32⟩
  | .hbm, ⟨35, _⟩ => ⟨S2x8x8192x8192, .f32⟩
  | .hbm, ⟨36, _⟩ => ⟨S2x8x8192x8192, .f32⟩
  | .hbm, ⟨37, _⟩ => ⟨S_, .f32⟩
  | .hbm, ⟨38, _⟩ => ⟨S2x8x8192x8192, .f32⟩
  | .hbm, ⟨39, _⟩ => ⟨S2x8x8192x8192, .f32⟩
  | .hbm, ⟨40, _⟩ => ⟨S2x8x8192x8192, .f32⟩
  | .hbm, ⟨41, _⟩ => ⟨S2x8x8192x8192, .f32⟩
  | .hbm, ⟨42, _⟩ => ⟨S2x8x8192x8192, .i1⟩
  | .hbm, ⟨43, _⟩ => ⟨S2x8x8192x8192, .f32⟩
  | .hbm, ⟨44, _⟩ => ⟨S2x8x8192x8192, .f32⟩
  | .hbm, ⟨45, _⟩ => ⟨S2x8x8192x8192, .f32⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .f32⟩
  | .hbm, ⟨53, _⟩ => ⟨S_, .f32⟩
  | .hbm, ⟨54, _⟩ => ⟨S_, .f32⟩
  | .hbm, ⟨55, _⟩ => ⟨S2x8x8192x8192, .i1⟩
  | .hbm, ⟨56, _⟩ => ⟨S2x8x8192x8192, .f32⟩
  | .hbm, ⟨57, _⟩ => ⟨S2x8x8192x8192, .f32⟩
  | .hbm, ⟨58, _⟩ => ⟨S2x8x8192x8192, .f32⟩
  | .hbm, ⟨59, _⟩ => ⟨S2x8x64x8192, .f32⟩
  | .hbm, ⟨60, _⟩ => ⟨S2x8192x8x64, .f32⟩
  | .hbm, ⟨61, _⟩ => ⟨S2x8192x512, .f32⟩
  | .hbm, ⟨62, _⟩ => ⟨S2x512x8192, .f32⟩
  | _, _ => ⟨S2x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v9 : Ref sig .tc := ⟨.hbm, 26, rfl⟩
abbrev main_cst_0 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v10 : Ref sig .tc := ⟨.hbm, 31, rfl⟩
abbrev main_call2_cst : Ref sig .tc := ⟨.hbm, 32, rfl⟩
abbrev main_call2_v0 : Ref sig .tc := ⟨.hbm, 33, rfl⟩
abbrev main_v11 : Ref sig .tc := ⟨.hbm, 34, rfl⟩
abbrev main_v12 : Ref sig .tc := ⟨.hbm, 35, rfl⟩
abbrev main_call3_v0 : Ref sig .tc := ⟨.hbm, 36, rfl⟩
abbrev main_call3_call0_cst : Ref sig .tc := ⟨.hbm, 37, rfl⟩
abbrev main_call3_call0_v0 : Ref sig .tc := ⟨.hbm, 38, rfl⟩
abbrev main_call3_call0_v1 : Ref sig .tc := ⟨.hbm, 39, rfl⟩
abbrev main_call3_call0_v2 : Ref sig .tc := ⟨.hbm, 40, rfl⟩
abbrev main_call3_call0_v3 : Ref sig .tc := ⟨.hbm, 41, rfl⟩
abbrev main_call3_call0_v4 : Ref sig .tc := ⟨.hbm, 42, rfl⟩
abbrev main_call3_call0_v5 : Ref sig .tc := ⟨.hbm, 43, rfl⟩
abbrev main_call3_call0_v6 : Ref sig .tc := ⟨.hbm, 44, rfl⟩
abbrev main_call3_call0_v7 : Ref sig .tc := ⟨.hbm, 45, rfl⟩
abbrev main_call3_call0_v8 : Ref sig .tc := ⟨.hbm, 46, rfl⟩
abbrev main_call3_call0_v9 : Ref sig .tc := ⟨.hbm, 47, rfl⟩
abbrev main_call3_call0_v10 : Ref sig .tc := ⟨.hbm, 48, rfl⟩
abbrev main_call3_call0_v11 : Ref sig .tc := ⟨.hbm, 49, rfl⟩
abbrev main_call3_v1 : Ref sig .tc := ⟨.hbm, 50, rfl⟩
abbrev main_v13 : Ref sig .tc := ⟨.hbm, 51, rfl⟩
abbrev main_v14 : Ref sig .tc := ⟨.hbm, 52, rfl⟩
abbrev main_cst_1 : Ref sig .tc := ⟨.hbm, 53, rfl⟩
abbrev main_call4_v0 : Ref sig .tc := ⟨.hbm, 54, rfl⟩
abbrev main_call4_v1 : Ref sig .tc := ⟨.hbm, 55, rfl⟩
abbrev main_call4_v2 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x8192x512 : Shape := ⟨3, ![2, 8192, 512]⟩
abbrev S2x256x4x64 : Shape := ⟨4, ![2, 256, 4, 64]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S1024x2816 : Shape := ⟨2, ![1024, 2816]⟩
abbrev S2816x1024 : Shape := ⟨2, ![2816, 1024]⟩
abbrev S2x256x256 : Shape := ⟨3, ![2, 256, 256]⟩
abbrev S2x256x512 : Shape := ⟨3, ![2, 256, 512]⟩
abbrev S1x1024 : Shape := ⟨2, ![1, 1024]⟩
abbrev S_ : Shape := ⟨0, ![]⟩
abbrev S2x512x8192 : Shape := ⟨3, ![2, 512, 8192]⟩
abbrev S1x256x1024 : Shape := ⟨3, ![1, 256, 1024]⟩
abbrev S1x512x256 : Shape := ⟨3, ![1, 512, 256]⟩
abbrev S1x256x512 : Shape := ⟨3, ![1, 256, 512]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S256x2816 : Shape := ⟨2, ![256, 2816]⟩

abbrev nBuf : Space → Nat
  | .hbm => 32
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x256x4x64, .f32⟩
  | .hbm, ⟨4, _⟩ => ⟨S2x256x4x64, .f32⟩
  | .hbm, ⟨5, _⟩ => ⟨S1024x1024, .f32⟩
  | .hbm, ⟨6, _⟩ => ⟨S1024, .f32⟩
  | .hbm, ⟨7, _⟩ => ⟨S1024x256, .f32⟩
  | .hbm, ⟨8, _⟩ => ⟨S256x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S2x256x256, .f32⟩
  | .hbm, ⟨15, _⟩ => ⟨S2x256x256, .f32⟩
  | .hbm, ⟨16, _⟩ => ⟨S2x256x512, .f32⟩
  | .hbm, ⟨17, _⟩ => ⟨S1024x1024, .bf16⟩
  | .hbm, ⟨18, _⟩ => ⟨S1x1024, .f32⟩
  | .hbm, ⟨19, _⟩ => ⟨S_, .f32⟩
  | .hbm, ⟨20, _⟩ => ⟨S1024x256, .f32⟩
  | .hbm, ⟨21, _⟩ => ⟨S1024x256, .f32⟩
  | .hbm, ⟨22, _⟩ => ⟨S1024x256, .bf16⟩
  | .hbm, ⟨23, _⟩ => ⟨S256x1024, .bf16⟩
  | .hbm, ⟨24, _⟩ => ⟨S1x1024, .f32⟩
  | .hbm, ⟨25, _⟩ => ⟨S1024x2816, .bf16⟩
  | .hbm, ⟨26, _⟩ => ⟨S1024x2816, .bf16⟩
  | .hbm, ⟨27, _⟩ => ⟨S2816x1024, .bf16⟩
  | .hbm, ⟨28, _⟩ => ⟨S1x1024, .f32⟩
  | .hbm, ⟨29, _⟩ => ⟨S2x512x8192, .f32⟩
  | .hbm, ⟨30, _⟩ => ⟨S2x512x8192, .f32⟩
  | .hbm, ⟨31, _⟩ => ⟨S2x8192x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x512x256, .f32⟩
  | .local _ .vmem, ⟨3, _⟩ => ⟨S1x512x256, .f32⟩
  | .local _ .vmem, ⟨4, _⟩ => ⟨S1x512x256, .f32⟩
  | .local _ .vmem, ⟨5, _⟩ => ⟨S1x512x256, .f32⟩
  | .local _ .vmem, ⟨6, _⟩ => ⟨S1x256x512, .f32⟩
  | .local _ .vmem, ⟨7, _⟩ => ⟨S1x256x512, .f32⟩
  | .local _ .vmem, ⟨8, _⟩ => ⟨S1024x1024, .bf16⟩
  | .local _ .vmem, ⟨9, _⟩ => ⟨S1x1024, .f32⟩
  | .local _ .vmem, ⟨10, _⟩ => ⟨S1024x256, .bf16⟩
  | .local _ .vmem, ⟨11, _⟩ => ⟨S256x1024, .bf16⟩
  | .local _ .vmem, ⟨12, _⟩ => ⟨S1x1024, .f32⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1x1024, .f32⟩
  | .local _ .vmem, ⟨17, _⟩ => ⟨S1x256x1024, .f32⟩
  | .local _ .vmem, ⟨18, _⟩ => ⟨S1x256x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S2x8192x1024 : Shape := ⟨3, ![2, 8192, 1024]⟩
abbrev S2x8192x512 : Shape := ⟨3, ![2, 8192, 512]⟩
abbrev S2x256x4x64 : Shape := ⟨4, ![2, 256, 4, 64]⟩
abbrev S1024x1024 : Shape := ⟨2, ![1024, 1024]⟩
abbrev S1024 : Shape := ⟨1, ![1024]⟩
abbrev S1024x256 : Shape := ⟨2, ![1024, 256]⟩
abbrev S256x1024 : Shape := ⟨2, ![256, 1024]⟩
abbrev S1024x2816 : Shape := ⟨2, ![1024, 2816]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x256 : Shape := ⟨3, ![2, 8192, 256]⟩
abbrev S2x8192x4x64 : Shape := ⟨4, ![2, 8192, 4, 64]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S2x8192x2816 : Shape := ⟨3, ![2, 8192, 2816]⟩

abbrev nBuf : Space → Nat
  | .hbm => 104
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S2x256x4x64, .f32⟩
  | .hbm, ⟨4, _⟩ => ⟨S2x256x4x64, .f32⟩
  | .hbm, ⟨5, _⟩ => ⟨S1024x1024, .f32⟩
  | .hbm, ⟨6, _⟩ => ⟨S1024, .f32⟩
  | .hbm, ⟨7, _⟩ => ⟨S1024x256, .f32⟩
  | .hbm, ⟨8, _⟩ => ⟨S256x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S_, .f32⟩
  | .hbm, ⟨25, _⟩ => ⟨S2x8192x1, .f32⟩
  | .hbm, ⟨26, _⟩ => ⟨S2x8192x1, .f32⟩
  | .hbm, ⟨27, _⟩ => ⟨S2x8192x1, .f32⟩
  | .hbm, ⟨28, _⟩ => ⟨S2x8192x1024, .f32⟩
  | .hbm, ⟨29, _⟩ => ⟨S2x8192x1024, .f32⟩
  | .hbm, ⟨30, _⟩ => ⟨S1x1x1024, .f32⟩
  | .hbm, ⟨31, _⟩ => ⟨S2x8192x1024, .f32⟩
  | .hbm, ⟨32, _⟩ => ⟨S2x8192x1024, .f32⟩
  | .hbm, ⟨33, _⟩ => ⟨S2x8192x256, .f32⟩
  | .hbm, ⟨34, _⟩ => ⟨S2x8192x4x64, .f32⟩
  | .hbm, ⟨35, _⟩ => ⟨S_, .f32⟩
  | .hbm, ⟨36, _⟩ => ⟨S2x8192x4x64, .f32⟩
  | .hbm, ⟨37, _⟩ => ⟨S2x8192x4x64, .f32⟩
  | .hbm, ⟨38, _⟩ => ⟨S2x4x8192x256, .f32⟩
  | .hbm, ⟨39, _⟩ => ⟨S_, .f32⟩
  | .hbm, ⟨40, _⟩ => ⟨S2x4x8192, .f32⟩
  | .hbm, ⟨41, _⟩ => ⟨S_, .f32⟩
  | .hbm, ⟨42, _⟩ => ⟨S2x4x8192, .f32⟩
  | .hbm, ⟨43, _⟩ => ⟨S2x4x8192, .f32⟩
  | .hbm, ⟨44, _⟩ => ⟨S2x4x8192x1, .f32⟩
  | .hbm, ⟨45, _⟩ => ⟨S2x4x8192x256, .f32⟩
  | .hbm, ⟨46, _⟩ => ⟨S2x4x8192x256, .f32⟩
  | .hbm, ⟨47, _⟩ => ⟨S2x4x8192x256, .f32⟩
  | .hbm, ⟨48, _⟩ => ⟨S_, .f32⟩
  | .hbm, ⟨49, _⟩ => ⟨S2x4x8192, .f32⟩
  | .hbm, ⟨50, _⟩ => ⟨S2x4x8192x1, .f32⟩
  | .hbm, ⟨51, _⟩ => ⟨S2x4x8192x256, .f32⟩
  | .hbm, ⟨52, _⟩ => ⟨S2x4x8192x256, .f32⟩
  | .hbm, ⟨53, _⟩ => ⟨S2x4x64x8192, .f32⟩
  | .hbm, ⟨54, _⟩ => ⟨S2x8192x4x64, .f32⟩
  | .hbm, ⟨55, _⟩ => ⟨S2x8192x256, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S_, .f32⟩
  | .hbm, ⟨60, _⟩ => ⟨S2x8192, .f32⟩
  | .hbm, ⟨61, _⟩ => ⟨S2x8192x1, .f32⟩
  | .hbm, ⟨62, _⟩ => ⟨S_, .f32⟩
  | .hbm, ⟨63, _⟩ => ⟨S2x8192x1, .f32⟩
  | .hbm, ⟨64, _⟩ => ⟨S2x8192x1, .f32⟩
  | .hbm, ⟨65, _⟩ => ⟨S_, .f32⟩
  | .hbm, ⟨66, _⟩ => ⟨S2x8192x1, .f32⟩
  | .hbm, ⟨67, _⟩ => ⟨S2x8192x1, .f32⟩
  | .hbm, ⟨68, _⟩ => ⟨S2x8192x1, .f32⟩
  | .hbm, ⟨69, _⟩ => ⟨S2x8192x1024, .f32⟩
  | .hbm, ⟨70, _⟩ => ⟨S2x8192x1024, .f32⟩
  | .hbm, ⟨71, _⟩ => ⟨S1x1x1024, .f32⟩
  | .hbm, ⟨72, _⟩ => ⟨S2x8192x1024, .f32⟩
  | .hbm, ⟨73, _⟩ => ⟨S2x8192x1024, .f32⟩
  | .hbm, ⟨74, _⟩ => ⟨S2x8192x2816, .f32⟩
  | .hbm, ⟨75, _⟩ => ⟨S2x8192x2816, .f32⟩
  | .hbm, ⟨76, _⟩ => ⟨S2x8192x2816, .f32⟩
  | .hbm, ⟨77, _⟩ => ⟨S_, .f32⟩
  | .hbm, ⟨78, _⟩ => ⟨S2x8192x2816, .f32⟩
  | .hbm, ⟨79, _⟩ => ⟨S2x8192x2816, .f32⟩
  | .hbm, ⟨80, _⟩ => ⟨S_, .f32⟩
  | .hbm, ⟨81, _⟩ => ⟨S2x8192x2816, .f32⟩
  | .hbm, ⟨82, _⟩ => ⟨S2x8192x2816, .f32⟩
  | .hbm, ⟨83, _⟩ => ⟨S2x8192x2816, .f32⟩
  | .hbm, ⟨84, _⟩ => ⟨S2x8192x2816, .f32⟩
  | .hbm, ⟨85, _⟩ => ⟨S2x8192x2816, .f32⟩
  | .hbm, ⟨86, _⟩ => ⟨S2x8192x1024, .f32⟩
  | .hbm, ⟨87, _⟩ => ⟨S2x8192x1024, .f32⟩
  | .hbm, ⟨88, _⟩ => ⟨S2x8192x1024, .f32⟩
  | .hbm, ⟨89, _⟩ => ⟨S_, .f32⟩
  | .hbm, ⟨90, _⟩ => ⟨S2x8192, .f32⟩
  | .hbm, ⟨91, _⟩ => ⟨S2x8192x1, .f32⟩
  | .hbm, ⟨92, _⟩ => ⟨S_, .f32⟩
  | .hbm, ⟨93, _⟩ => ⟨S2x8192x1, .f32⟩
  | .hbm, ⟨94, _⟩ => ⟨S2x8192x1, .f32⟩
  | .hbm, ⟨95, _⟩ => ⟨S_, .f32⟩
  | .hbm, ⟨96, _⟩ => ⟨S2x8192x1, .f32⟩
  | .hbm, ⟨97, _⟩ => ⟨S2x8192x1, .f32⟩
  | .hbm, ⟨98, _⟩ => ⟨S2x8192x1, .f32⟩
  | .hbm, ⟨99, _⟩ => ⟨S2x8192x1024, .f32⟩
  | .hbm, ⟨100, _⟩ => ⟨S2x8192x1024, .f32⟩
  | .hbm, ⟨101, _⟩ => ⟨S1x1x1024, .f32⟩
  | .hbm, ⟨102, _⟩ => ⟨S2x8192x1024, .f32⟩
  | .hbm, ⟨103, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_cst_0 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_cst_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_9 : Ref sig .tc := ⟨.hbm, 89, rfl⟩
abbrev main_v57 : Ref sig .tc := ⟨.hbm, 90, rfl⟩
abbrev main_v58 : Ref sig .tc := ⟨.hbm, 91, rfl⟩
abbrev main_cst_10 : Ref sig .tc := ⟨.hbm, 92, rfl⟩
abbrev main_v59 : Ref sig .tc := ⟨.hbm, 93, rfl⟩
abbrev main_v60 : Ref sig .tc := ⟨.hbm, 94, rfl⟩
abbrev main_cst_11 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩

abbrev nD : Nat := 1
abbrev τ : Topo := Topo.v7x

variable {F : FTy → Type} [FloatOps F]
-- ==== Kernel3.lean ====
abbrev S2x8192x1024 : Shape := ⟨3, ![2, 8192, 1024]⟩
abbrev S1024 : Shape := ⟨1, ![1024]⟩
abbrev S1024x2840 : Shape := ⟨2, ![1024, 2840]⟩
abbrev S1024x512 : Shape := ⟨2, ![1024, 512]⟩
abbrev S1024x128 : Shape := ⟨2, ![1024, 128]⟩
abbrev S1024x24 : Shape := ⟨2, ![1024, 24]⟩
abbrev S_ : Shape := ⟨0, ![]⟩
abbrev S1024x64 : Shape := ⟨2, ![1024, 64]⟩
abbrev S1024x2304 : Shape := ⟨2, ![1024, 2304]⟩
abbrev S1024x1024 : Shape := ⟨2, ![1024, 1024]⟩
abbrev S1024x3840 : Shape := ⟨2, ![1024, 3840]⟩
abbrev S1024x2816 : Shape := ⟨2, ![1024, 2816]⟩
abbrev S1024x1 : Shape := ⟨2, ![1024, 1]⟩
abbrev S128x1024 : Shape := ⟨2, ![128, 1024]⟩
abbrev S512x1024 : Shape := ⟨2, ![512, 1024]⟩
abbrev S1x1024 : Shape := ⟨2, ![1, 1024]⟩
abbrev S16x1024 : Shape := ⟨2, ![16, 1024]⟩
abbrev S32x1024 : Shape := ⟨2, ![32, 1024]⟩
abbrev S800x1024 : Shape := ⟨2, ![800, 1024]⟩
abbrev S2x8192x128 : Shape := ⟨3, ![2, 8192, 128]⟩
abbrev S2x8192x512 : Shape := ⟨3, ![2, 8192, 512]⟩
abbrev S2x8x8192x128 : Shape := ⟨4, ![2, 8, 8192, 128]⟩
abbrev S2x128x8192 : Shape := ⟨3, ![2, 128, 8192]⟩
abbrev S2x512x8192 : Shape := ⟨3, ![2, 512, 8192]⟩
abbrev S2x2x16x8192 : Shape := ⟨4, ![2, 2, 16, 8192]⟩
abbrev S1x512x1024 : Shape := ⟨3, ![1, 512, 1024]⟩
abbrev S1x512x128 : Shape := ⟨3, ![1, 512, 128]⟩
abbrev S1x512x512 : Shape := ⟨3, ![1, 512, 512]⟩
abbrev S1x8x512x128 : Shape := ⟨4, ![1, 8, 512, 128]⟩
abbrev S1x128x512 : Shape := ⟨3, ![1, 128, 512]⟩
abbrev S1x2x16x512 : Shape := ⟨4, ![1, 2, 16, 512]⟩
abbrev S512 : Shape := ⟨1, ![512]⟩
abbrev S512x1 : Shape := ⟨2, ![512, 1]⟩
abbrev S512x3840 : Shape := ⟨2, ![512, 3840]⟩
abbrev S512x128 : Shape := ⟨2, ![512, 128]⟩
abbrev S512x512 : Shape := ⟨2, ![512, 512]⟩
abbrev S1x1x512x128 : Shape := ⟨4, ![1, 1, 512, 128]⟩
abbrev S800x512 : Shape := ⟨2, ![800, 512]⟩
abbrev S128x512 : Shape := ⟨2, ![128, 512]⟩
abbrev S32x512 : Shape := ⟨2, ![32, 512]⟩
abbrev S2x16x512 : Shape := ⟨3, ![2, 16, 512]⟩

abbrev nBuf : Space → Nat
  | .hbm => 215
  | .vmem => 39
  | .smem => 0
  | _ => 0

abbrev hbmTy0_0 (i : Nat) : BufTy := match i % 128 with
  | 0 => ⟨S2x8192x1024, .f32⟩
  | 1 => ⟨S1024, .f32⟩
  | 2 => ⟨S1024x2840, .f32⟩
  | 3 => ⟨S1024x512, .f32⟩
  | 4 => ⟨S1024x128, .f32⟩
  | 5 => ⟨S1024x128, .f32⟩
  | 6 => ⟨S1024x128, .f32⟩
  | 7 => ⟨S1024x128, .f32⟩
  | 8 => ⟨S1024x128, .f32⟩
  | 9 => ⟨S1024x128, .f32⟩
  | 10 => ⟨S1024x24, .f32⟩
  | 11 => ⟨S1024x512, .f32⟩
  | 12 => ⟨S1024x512, .f32⟩
  | 13 => ⟨S1024x512, .f32⟩
  | 14 => ⟨S_, .f32⟩
  | 15 => ⟨S1024x64, .f32⟩
  | 16 => ⟨S1024x64, .f32⟩
  | 17 => ⟨S_, .f32⟩
  | 18 => ⟨S1024x64, .f32⟩
  | 19 => ⟨S1024x64, .f32⟩
  | 20 => ⟨S1024x64, .f32⟩
  | 21 => ⟨S_, .f32⟩
  | 22 => ⟨S1024x64, .f32⟩
  | 23 => ⟨S1024x64, .f32⟩
  | 24 => ⟨S1024x64, .f32⟩
  | 25 => ⟨S_, .f32⟩
  | 26 => ⟨S1024x64, .f32⟩
  | 27 => ⟨S1024x64, .f32⟩
  | 28 => ⟨S1024x64, .f32⟩
  | 29 => ⟨S_, .f32⟩
  | 30 => ⟨S1024x64, .f32⟩
  | 31 => ⟨S1024x64, .f32⟩
  | 32 => ⟨S1024x64, .f32⟩
  | 33 => ⟨S_, .f32⟩
  | 34 => ⟨S1024x64, .f32⟩
  | 35 => ⟨S1024x64, .f32⟩
  | 36 => ⟨S1024x64, .f32⟩
  | 37 => ⟨S_, .f32⟩
  | 38 => ⟨S1024x64, .f32⟩
  | 39 => ⟨S1024x64, .f32⟩
  | 40 => ⟨S1024x64, .f32⟩
  | 41 => ⟨S_, .f32⟩
  | 42 => ⟨S1024x64, .f32⟩
  | 43 => ⟨S1024x64, .f32⟩
  | 44 => ⟨S1024x64, .f32⟩
  | 45 => ⟨S_, .f32⟩
  | 46 => ⟨S1024x64, .f32⟩
  | 47 => ⟨S1024x64, .f32⟩
  | 48 => ⟨S1024x64, .f32⟩
  | 49 => ⟨S_, .f32⟩
  | 50 => ⟨S1024x64, .f32⟩
  | 51 => ⟨S1024x64, .f32⟩
  | 52 => ⟨S1024x64, .f32⟩
  | 53 => ⟨S_, .f32⟩
  | 54 => ⟨S1024x64, .f32⟩
  | 55 => ⟨S1024x64, .f32⟩
  | 56 => ⟨S1024x64, .f32⟩
  | 57 => ⟨S_, .f32⟩
  | 58 => ⟨S1024x64, .f32⟩
  | 59 => ⟨S1024x64, .f32⟩
  | 60 => ⟨S1024x64, .f32⟩
  | 61 => ⟨S_, .f32⟩
  | 62 => ⟨S1024x64, .f32⟩
  | 63 => ⟨S1024x64, .f32⟩
  | 64 => ⟨S1024x64, .f32⟩
  | 65 => ⟨S_, .f32⟩
  | 66 => ⟨S1024x64, .f32⟩
  | 67 => ⟨S1024x64, .f32⟩
  | 68 => ⟨S1024x64, .f32⟩
  | 69 => ⟨S_, .f32⟩
  | 70 => ⟨S1024x64, .f32⟩
  | 71 => ⟨S1024x64, .f32⟩
  | 72 => ⟨S1024x64, .f32⟩
  | 73 => ⟨S_, .f32⟩
  | 74 => ⟨S1024x64, .f32⟩
  | 75 => ⟨S1024x64, .f32⟩
  | 76 => ⟨S1024x64, .f32⟩
  | 77 => ⟨S_, .f32⟩
  | 78 => ⟨S1024x64, .f32⟩
  | 79 => ⟨S1024x64, .f32⟩
  | 80 => ⟨S1024x2304, .f32⟩
  | 81 => ⟨S1024x1024, .f32⟩
  | 82 => ⟨S1024x512, .f32⟩
  | 83 => ⟨S1024x3840, .f32⟩
  | 84 => ⟨S_, .f32⟩
  | 85 => ⟨S1024x512, .f32⟩
  | 86 => ⟨S1024x512, .f32⟩
  | 87 => ⟨S_, .f32⟩
  | 88 => ⟨S1024x512, .f32⟩
  | 89 => ⟨S1024x512, .f32⟩
  | 90 => ⟨S1024x2816, .f32⟩
  | 91 => ⟨S1024x1, .f32⟩
  | 92 => ⟨S1024, .f32⟩
  | 93 => ⟨S1024x1, .f32⟩
  | 94 => ⟨S1024, .f32⟩
  | 95 => ⟨S1024x1, .f32⟩
  | 96 => ⟨S1024, .f32⟩
  | 97 => ⟨S1024x1, .f32⟩
  | 98 => ⟨S1024, .f32⟩
  | 99 => ⟨S1024x1, .f32⟩
  | 100 => ⟨S1024, .f32⟩
  | 101 => ⟨S1024x1, .f32⟩
  | 102 => ⟨S1024, .f32⟩
  | 103 => ⟨S1024x1, .f32⟩
  | 104 => ⟨S1024, .f32⟩
  | 105 => ⟨S1024x1, .f32⟩
  | 106 => ⟨S1024, .f32⟩
  | 107 => ⟨S1024x1, .f32⟩
  | 108 => ⟨S1024, .f32⟩
  | 109 => ⟨S1024x1, .f32⟩
  | 110 => ⟨S1024, .f32⟩
  | 111 => ⟨S1024x1, .f32⟩
  | 112 => ⟨S1024, .f32⟩
  | 113 => ⟨S1024x1, .f32⟩
  | 114 => ⟨S1024, .f32⟩
  | 115 => ⟨S_, .f32⟩
  | 116 => ⟨S1024, .f32⟩
  | 117 => ⟨S_, .f32⟩
  | 118 => ⟨S1024, .f32⟩
  | 119 => ⟨S_, .f32⟩
  | 120 => ⟨S1024, .f32⟩
  | 121 => ⟨S_, .f32⟩
  | 122 => ⟨S1024, .f32⟩
  | 123 => ⟨S1024x1, .f32⟩
  | 124 => ⟨S1024, .f32⟩
  | 125 => ⟨S1024x1, .f32⟩
  | 126 => ⟨S1024, .f32⟩
  | 127 => ⟨S1024x1, .f32⟩
  | _ => ⟨S2x8192x1024, .f32⟩

abbrev hbmTy0_1 (i : Nat) : BufTy := match i % 128 with
  | 0 => ⟨S1024, .f32⟩
  | 1 => ⟨S1024x1, .f32⟩
  | 2 => ⟨S1024, .f32⟩
  | 3 => ⟨S1024x1, .f32⟩
  | 4 => ⟨S1024, .f32⟩
  | 5 => ⟨S1024x1, .f32⟩
  | 6 => ⟨S1024, .f32⟩
  | 7 => ⟨S1024x1, .f32⟩
  | 8 => ⟨S1024, .f32⟩
  | 9 => ⟨S1024x1, .f32⟩
  | 10 => ⟨S1024, .f32⟩
  | 11 => ⟨S1024x1, .f32⟩
  | 12 => ⟨S1024, .f32⟩
  | 13 => ⟨S1024x1, .f32⟩
  | 14 => ⟨S1024, .f32⟩
  | 15 => ⟨S1024x1, .f32⟩
  | 16 => ⟨S1024, .f32⟩
  | 17 => ⟨S1024x1, .f32⟩
  | 18 => ⟨S1024, .f32⟩
  | 19 => ⟨S_, .f32⟩
  | 20 => ⟨S1024, .f32⟩
  | 21 => ⟨S_, .f32⟩
  | 22 => ⟨S1024, .f32⟩
  | 23 => ⟨S_, .f32⟩
  | 24 => ⟨S1024, .f32⟩
  | 25 => ⟨S_, .f32⟩
  | 26 => ⟨S1024, .f32⟩
  | 27 => ⟨S128x1024, .f32⟩
  | 28 => ⟨S128x1024, .f32⟩
  | 29 => ⟨S512x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S16x1024, .f32⟩
  | 63 => ⟨S16x1024, .f32⟩
  | 64 => ⟨S32x1024, .f32⟩
  | 65 => ⟨S800x1024, .f32⟩
  | 66 => ⟨S1024x3840, .bf16⟩
  | 67 => ⟨S1024x2816, .bf16⟩
  | 68 => ⟨S800x1024, .bf16⟩
  | 69 => ⟨S1x1024, .f32⟩
  | 70 => ⟨S2x8192x128, .f32⟩
  | 71 => ⟨S2x8192x128, .f32⟩
  | 72 => ⟨S2x8192x128, .f32⟩
  | 73 => ⟨S2x8192x128, .f32⟩
  | 74 => ⟨S2x8192x128, .f32⟩
  | 75 => ⟨S2x8192x128, .f32⟩
  | 76 => ⟨S2x8192x512, .f32⟩
  | 77 => ⟨S2x8192x512, .f32⟩
  | 78 => ⟨S2x8x8192x128, .bf16⟩
  | 79 => ⟨S2x8x8192x128, .bf16⟩
  | 80 => ⟨S2x8192x128, .bf16⟩
  | 81 => ⟨S2x8192x128, .bf16⟩
  | 82 => ⟨S2x8192x512, .bf16⟩
  | 83 => ⟨S2x128x8192, .bf16⟩
  | 84 => ⟨S2x128x8192, .bf16⟩
  | 85 => ⟨S2x512x8192, .bf16⟩
  | 86 => ⟨S2x2x16x8192, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3840, .bf16⟩
  | .local _ .vmem, ⟨4, _⟩ => ⟨S800x1024, .bf16⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x8x512x128, .bf16⟩
  | .local _ .vmem, ⟨22, _⟩ => ⟨S1x8x512x128, .bf16⟩
  | .local _ .vmem, ⟨23, _⟩ => ⟨S1x8x512x128, .bf16⟩
  | .local _ .vmem, ⟨24, _⟩ => ⟨S1x8x512x128, .bf16⟩
  | .local _ .vmem, ⟨25, _⟩ => ⟨S1x512x128, .bf16⟩
  | .local _ .vmem, ⟨26, _⟩ => ⟨S1x512x128, .bf16⟩
  | .local _ .vmem, ⟨27, _⟩ => ⟨S1x512x128, .bf16⟩
  | .local _ .vmem, ⟨28, _⟩ => ⟨S1x512x128, .bf16⟩
  | .local _ .vmem, ⟨29, _⟩ => ⟨S1x512x512, .bf16⟩
  | .local _ .vmem, ⟨30, _⟩ => ⟨S1x512x512, .bf16⟩
  | .local _ .vmem, ⟨31, _⟩ => ⟨S1x128x512, .bf16⟩
  | .local _ .vmem, ⟨32, _⟩ => ⟨S1x128x512, .bf16⟩
  | .local _ .vmem, ⟨33, _⟩ => ⟨S1x128x512, .bf16⟩
  | .local _ .vmem, ⟨34, _⟩ => ⟨S1x128x512, .bf16⟩
  | .local _ .vmem, ⟨35, _⟩ => ⟨S1x512x512, .bf16⟩
  | .local _ .vmem, ⟨36, _⟩ => ⟨S1x512x512, .bf16⟩
  | .local _ .vmem, ⟨37, _⟩ => ⟨S1x2x16x512, .f32⟩
  | .local _ .vmem, ⟨38, _⟩ => ⟨S1x2x16x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_16 : Ref sig .tc := ⟨.hbm, 84, rfl⟩
abbrev main_v64 : Ref sig .tc := ⟨.hbm, 85, rfl⟩
abbrev main_v65 : Ref sig .tc := ⟨.hbm, 86, rfl⟩
abbrev main_cst_17 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_18 : Ref sig .tc := ⟨.hbm, 115, rfl⟩
abbrev main_v93 : Ref sig .tc := ⟨.hbm, 116, rfl⟩
abbrev main_cst_19 : Ref sig .tc := ⟨.hbm, 117, rfl⟩
abbrev main_v94 : Ref sig .tc := ⟨.hbm, 118, rfl⟩
abbrev main_cst_20 : Ref sig .tc := ⟨.hbm, 119, rfl⟩
abbrev main_v95 : Ref sig .tc := ⟨.hbm, 120, rfl⟩
abbrev main_cst_21 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_22 : Ref sig .tc := ⟨.hbm, 147, rfl⟩
abbrev main_v121 : Ref sig .tc := ⟨.hbm, 148, rfl⟩
abbrev main_cst_23 : Ref sig .tc := ⟨.hbm, 149, rfl⟩
abbrev main_v122 : Ref sig .tc := ⟨.hbm, 150, rfl⟩
abbrev main_cst_24 : Ref sig .tc := ⟨.hbm, 151, rfl⟩
abbrev main_v123 : Ref sig .tc := ⟨.hbm, 152, rfl⟩
abbrev main_cst_25 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168_0 : Ref sig .tc := ⟨.hbm, 198, rfl⟩
abbrev main_v168_1 : Ref sig .tc := ⟨.hbm, 199, rfl⟩
abbrev main_v168_2 : Ref sig .tc := ⟨.hbm, 200, rfl⟩
abbrev main_v168_3 : Ref sig .tc := ⟨.hbm, 201, rfl⟩
abbrev main_v168_4 : Ref sig .tc := ⟨.hbm, 202, rfl⟩
abbrev main_v168_5 : Ref sig .tc := ⟨.hbm, 203, rfl⟩
abbrev main_v168_6 : Ref sig .tc := ⟨.hbm, 204, rfl⟩
abbrev main_v168_7 : Ref sig .tc := ⟨.hbm, 205, rfl⟩
abbrev main_v168_8 : Ref sig .tc := ⟨.hbm, 206, rfl⟩
abbrev main_v168_9 : Ref sig .tc := ⟨.hbm, 207, rfl⟩
abbrev main_v168_10 : Ref sig .tc := ⟨.hbm, 208, rfl⟩
abbrev main_v168_11 : Ref sig .tc := ⟨.hbm, 209, rfl⟩
abbrev main_v168_12 : Ref sig .tc := ⟨.hbm, 210, rfl⟩
abbrev main_v168_13 : Ref sig .tc := ⟨.hbm, 211, rfl⟩
abbrev main_v168_14 : Ref sig .tc := ⟨.hbm, 212, rfl⟩
abbrev main_v168_15 : Ref sig .tc := ⟨.hbm, 213, rfl⟩
abbrev main_v168_16 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3840 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S800x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x2x16x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== Reference3Ideal.lean ====
abbrev S2x8192x1024 : Shape := ⟨3, ![2, 8192, 1024]⟩
abbrev S1024 : Shape := ⟨1, ![1024]⟩
abbrev S1024x2840 : Shape := ⟨2, ![1024, 2840]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x2840 : Shape := ⟨3, ![2, 8192, 2840]⟩
abbrev S2x8192x512 : Shape := ⟨3, ![2, 8192, 512]⟩
abbrev S2x8192x128 : Shape := ⟨3, ![2, 8192, 128]⟩
abbrev S2x8192x24 : Shape := ⟨3, ![2, 8192, 24]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x2840, .f32⟩
  | .hbm, ⟨3, _⟩ => ⟨S2x8192x1024, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S_, .f32⟩
  | .hbm, ⟨8, _⟩ => ⟨S2x8192x1, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S2x8192x1, .f32⟩
  | .hbm, ⟨14, _⟩ => ⟨S2x8192x1024, .f32⟩
  | .hbm, ⟨15, _⟩ => ⟨S2x8192x1024, .f32⟩
  | .hbm, ⟨16, _⟩ => ⟨S1x1x1024, .f32⟩
  | .hbm, ⟨17, _⟩ => ⟨S2x8192x1024, .f32⟩
  | .hbm, ⟨18, _⟩ => ⟨S2x8192x1024, .f32⟩
  | .hbm, ⟨19, _⟩ => ⟨S2x8192x2840, .f32⟩
  | .hbm, ⟨20, _⟩ => ⟨S2x8192x512, .f32⟩
  | .hbm, ⟨21, _⟩ => ⟨S2x8192x128, .f32⟩
  | .hbm, ⟨22, _⟩ => ⟨S2x8192x128, .f32⟩
  | .hbm, ⟨23, _⟩ => ⟨S2x8192x128, .f32⟩
  | .hbm, ⟨24, _⟩ => ⟨S2x8192x128, .f32⟩
  | .hbm, ⟨25, _⟩ => ⟨S2x8192x128, .f32⟩
  | .hbm, ⟨26, _⟩ => ⟨S2x8192x128, .f32⟩
  | .hbm, ⟨27, _⟩ => ⟨S2x8192x24, .f32⟩
  | .hbm, ⟨28, _⟩ => ⟨S2x8192x512, .f32⟩
  | .hbm, ⟨29, _⟩ => ⟨S2x8192x512, .f32⟩
  | .hbm, ⟨30, _⟩ => ⟨S2x8192x512, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel4.lean ====
abbrev S2x256x1024 : Shape := ⟨3, ![2, 256, 1024]⟩
abbrev S1024 : Shape := ⟨1, ![1024]⟩
abbrev S1024x256 : Shape := ⟨2, ![1024, 256]⟩
abbrev S1024x512 : Shape := ⟨2, ![1024, 512]⟩
abbrev S512x1024 : Shape := ⟨2, ![512, 1024]⟩
abbrev S1x1024 : Shape := ⟨2, ![1, 1024]⟩
abbrev S512x512 : Shape := ⟨2, ![512, 512]⟩
abbrev S256x1024 : Shape := ⟨2, ![256, 1024]⟩
abbrev S256x512 : Shape := ⟨2, ![256, 512]⟩
abbrev S256 : Shape := ⟨1, ![256]⟩
abbrev S256x1 : Shape := ⟨2, ![256, 1]⟩

abbrev nBuf : Space → Nat
  | .hbm => 9
  | .vmem => 6
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S1024x512, .f32⟩
  | .hbm, ⟨5, _⟩ => ⟨S1024x512, .bf16⟩
  | .hbm, ⟨6, _⟩ => ⟨S512x1024, .f32⟩
  | .hbm, ⟨7, _⟩ => ⟨S1x1024, .f32⟩
  | .hbm, ⟨8, _⟩ => ⟨S512x512, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x512, .bf16⟩
  | .local _ .vmem, ⟨4, _⟩ => ⟨S256x512, .f32⟩
  | .local _ .vmem, ⟨5, _⟩ => ⟨S256x512, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S2x256x1024 : Shape := ⟨3, ![2, 256, 1024]⟩
abbrev S1024 : Shape := ⟨1, ![1024]⟩
abbrev S1024x256 : Shape := ⟨2, ![1024, 256]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x256x256 : Shape := ⟨3, ![2, 256, 256]⟩
abbrev S2x256x512 : Shape := ⟨3, ![2, 256, 512]⟩
abbrev S512x512 : Shape := ⟨2, ![512, 512]⟩

abbrev nBuf : Space → Nat
  | .hbm => 24
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x256, .f32⟩
  | .hbm, ⟨3, _⟩ => ⟨S1024x256, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x256, .f32⟩
  | .hbm, ⟨21, _⟩ => ⟨S2x256x256, .f32⟩
  | .hbm, ⟨22, _⟩ => ⟨S2x256x512, .f32⟩
  | .hbm, ⟨23, _⟩ => ⟨S512x512, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel5.lean ====
abbrev S128x1x1024 : Shape := ⟨3, ![128, 1, 1024]⟩
abbrev S1024 : Shape := ⟨1, ![1024]⟩
abbrev S1024x2840 : Shape := ⟨2, ![1024, 2840]⟩
abbrev S1024x512 : Shape := ⟨2, ![1024, 512]⟩
abbrev S1024x128 : Shape := ⟨2, ![1024, 128]⟩
abbrev S1024x24 : Shape := ⟨2, ![1024, 24]⟩
abbrev S_ : Shape := ⟨0, ![]⟩
abbrev S1024x64 : Shape := ⟨2, ![1024, 64]⟩
abbrev S1024x2304 : Shape := ⟨2, ![1024, 2304]⟩
abbrev S1024x1024 : Shape := ⟨2, ![1024, 1024]⟩
abbrev S1024x3840 : Shape := ⟨2, ![1024, 3840]⟩
abbrev S1024x2816 : Shape := ⟨2, ![1024, 2816]⟩
abbrev S1024x1 : Shape := ⟨2, ![1024, 1]⟩
abbrev S128x1024 : Shape := ⟨2, ![128, 1024]⟩
abbrev S512x1024 : Shape := ⟨2, ![512, 1024]⟩
abbrev S1x1024 : Shape := ⟨2, ![1, 1024]⟩
abbrev S16x1024 : Shape := ⟨2, ![16, 1024]⟩
abbrev S32x1024 : Shape := ⟨2, ![32, 1024]⟩
abbrev S800x1024 : Shape := ⟨2, ![800, 1024]⟩
abbrev S1x128x1024 : Shape := ⟨3, ![1, 128, 1024]⟩
abbrev S1x128x128 : Shape := ⟨3, ![1, 128, 128]⟩
abbrev S1x128x512 : Shape := ⟨3, ![1, 128, 512]⟩
abbrev S1x512x128 : Shape := ⟨3, ![1, 512, 128]⟩
abbrev S1x2x16x128 : Shape := ⟨4, ![1, 2, 16, 128]⟩
abbrev S128 : Shape := ⟨1, ![128]⟩
abbrev S128x1 : Shape := ⟨2, ![128, 1]⟩
abbrev S128x2816 : Shape := ⟨2, ![128, 2816]⟩
abbrev S128x128 : Shape := ⟨2, ![128, 128]⟩
abbrev S128x512 : Shape := ⟨2, ![128, 512]⟩
abbrev S800x128 : Shape := ⟨2, ![800, 128]⟩
abbrev S512x128 : Shape := ⟨2, ![512, 128]⟩
abbrev S32x128 : Shape := ⟨2, ![32, 128]⟩
abbrev S2x16x128 : Shape := ⟨3, ![2, 16, 128]⟩

abbrev nBuf : Space → Nat
  | .hbm => 216
  | .vmem => 21
  | .smem => 0
  | _ => 0

abbrev hbmTy0_0 (i : Nat) : BufTy := match i % 128 with
  | 0 => ⟨S128x1x1024, .f32⟩
  | 1 => ⟨S1024, .f32⟩
  | 2 => ⟨S1024x2840, .f32⟩
  | 3 => ⟨S1024x512, .f32⟩
  | 4 => ⟨S1024x128, .f32⟩
  | 5 => ⟨S1024x128, .f32⟩
  | 6 => ⟨S1024x128, .f32⟩
  | 7 => ⟨S1024x128, .f32⟩
  | 8 => ⟨S1024x128, .f32⟩
  | 9 => ⟨S1024x128, .f32⟩
  | 10 => ⟨S1024x24, .f32⟩
  | 11 => ⟨S1024x512, .f32⟩
  | 12 => ⟨S1024x512, .f32⟩
  | 13 => ⟨S1024x512, .f32⟩
  | 14 => ⟨S_, .f32⟩
  | 15 => ⟨S1024x64, .f32⟩
  | 16 => ⟨S1024x64, .f32⟩
  | 17 => ⟨S_, .f32⟩
  | 18 => ⟨S1024x64, .f32⟩
  | 19 => ⟨S1024x64, .f32⟩
  | 20 => ⟨S1024x64, .f32⟩
  | 21 => ⟨S_, .f32⟩
  | 22 => ⟨S1024x64, .f32⟩
  | 23 => ⟨S1024x64, .f32⟩
  | 24 => ⟨S1024x64, .f32⟩
  | 25 => ⟨S_, .f32⟩
  | 26 => ⟨S1024x64, .f32⟩
  | 27 => ⟨S1024x64, .f32⟩
  | 28 => ⟨S1024x64, .f32⟩
  | 29 => ⟨S_, .f32⟩
  | 30 => ⟨S1024x64, .f32⟩
  | 31 => ⟨S1024x64, .f32⟩
  | 32 => ⟨S1024x64, .f32⟩
  | 33 => ⟨S_, .f32⟩
  | 34 => ⟨S1024x64, .f32⟩
  | 35 => ⟨S1024x64, .f32⟩
  | 36 => ⟨S1024x64, .f32⟩
  | 37 => ⟨S_, .f32⟩
  | 38 => ⟨S1024x64, .f32⟩
  | 39 => ⟨S1024x64, .f32⟩
  | 40 => ⟨S1024x64, .f32⟩
  | 41 => ⟨S_, .f32⟩
  | 42 => ⟨S1024x64, .f32⟩
  | 43 => ⟨S1024x64, .f32⟩
  | 44 => ⟨S1024x64, .f32⟩
  | 45 => ⟨S_, .f32⟩
  | 46 => ⟨S1024x64, .f32⟩
  | 47 => ⟨S1024x64, .f32⟩
  | 48 => ⟨S1024x64, .f32⟩
  | 49 => ⟨S_, .f32⟩
  | 50 => ⟨S1024x64, .f32⟩
  | 51 => ⟨S1024x64, .f32⟩
  | 52 => ⟨S1024x64, .f32⟩
  | 53 => ⟨S_, .f32⟩
  | 54 => ⟨S1024x64, .f32⟩
  | 55 => ⟨S1024x64, .f32⟩
  | 56 => ⟨S1024x64, .f32⟩
  | 57 => ⟨S_, .f32⟩
  | 58 => ⟨S1024x64, .f32⟩
  | 59 => ⟨S1024x64, .f32⟩
  | 60 => ⟨S1024x64, .f32⟩
  | 61 => ⟨S_, .f32⟩
  | 62 => ⟨S1024x64, .f32⟩
  | 63 => ⟨S1024x64, .f32⟩
  | 64 => ⟨S1024x64, .f32⟩
  | 65 => ⟨S_, .f32⟩
  | 66 => ⟨S1024x64, .f32⟩
  | 67 => ⟨S1024x64, .f32⟩
  | 68 => ⟨S1024x64, .f32⟩
  | 69 => ⟨S_, .f32⟩
  | 70 => ⟨S1024x64, .f32⟩
  | 71 => ⟨S1024x64, .f32⟩
  | 72 => ⟨S1024x64, .f32⟩
  | 73 => ⟨S_, .f32⟩
  | 74 => ⟨S1024x64, .f32⟩
  | 75 => ⟨S1024x64, .f32⟩
  | 76 => ⟨S1024x64, .f32⟩
  | 77 => ⟨S_, .f32⟩
  | 78 => ⟨S1024x64, .f32⟩
  | 79 => ⟨S1024x64, .f32⟩
  | 80 => ⟨S1024x2304, .f32⟩
  | 81 => ⟨S1024x1024, .f32⟩
  | 82 => ⟨S1024x512, .f32⟩
  | 83 => ⟨S1024x3840, .f32⟩
  | 84 => ⟨S_, .f32⟩
  | 85 => ⟨S1024x512, .f32⟩
  | 86 => ⟨S1024x512, .f32⟩
  | 87 => ⟨S_, .f32⟩
  | 88 => ⟨S1024x512, .f32⟩
  | 89 => ⟨S1024x512, .f32⟩
  | 90 => ⟨S1024x2816, .f32⟩
  | 91 => ⟨S1024x1, .f32⟩
  | 92 => ⟨S1024, .f32⟩
  | 93 => ⟨S1024x1, .f32⟩
  | 94 => ⟨S1024, .f32⟩
  | 95 => ⟨S1024x1, .f32⟩
  | 96 => ⟨S1024, .f32⟩
  | 97 => ⟨S1024x1, .f32⟩
  | 98 => ⟨S1024, .f32⟩
  | 99 => ⟨S1024x1, .f32⟩
  | 100 => ⟨S1024, .f32⟩
  | 101 => ⟨S1024x1, .f32⟩
  | 102 => ⟨S1024, .f32⟩
  | 103 => ⟨S1024x1, .f32⟩
  | 104 => ⟨S1024, .f32⟩
  | 105 => ⟨S1024x1, .f32⟩
  | 106 => ⟨S1024, .f32⟩
  | 107 => ⟨S1024x1, .f32⟩
  | 108 => ⟨S1024, .f32⟩
  | 109 => ⟨S1024x1, .f32⟩
  | 110 => ⟨S1024, .f32⟩
  | 111 => ⟨S1024x1, .f32⟩
  | 112 => ⟨S1024, .f32⟩
  | 113 => ⟨S1024x1, .f32⟩
  | 114 => ⟨S1024, .f32⟩
  | 115 => ⟨S_, .f32⟩
  | 116 => ⟨S1024, .f32⟩
  | 117 => ⟨S_, .f32⟩
  | 118 => ⟨S1024, .f32⟩
  | 119 => ⟨S_, .f32⟩
  | 120 => ⟨S1024, .f32⟩
  | 121 => ⟨S_, .f32⟩
  | 122 => ⟨S1024, .f32⟩
  | 123 => ⟨S1024x1, .f32⟩
  | 124 => ⟨S1024, .f32⟩
  | 125 => ⟨S1024x1, .f32⟩
  | 126 => ⟨S1024, .f32⟩
  | 127 => ⟨S1024x1, .f32⟩
  | _ => ⟨S128x1x1024, .f32⟩

abbrev hbmTy0_1 (i : Nat) : BufTy := match i % 128 with
  | 0 => ⟨S1024, .f32⟩
  | 1 => ⟨S1024x1, .f32⟩
  | 2 => ⟨S1024, .f32⟩
  | 3 => ⟨S1024x1, .f32⟩
  | 4 => ⟨S1024, .f32⟩
  | 5 => ⟨S1024x1, .f32⟩
  | 6 => ⟨S1024, .f32⟩
  | 7 => ⟨S1024x1, .f32⟩
  | 8 => ⟨S1024, .f32⟩
  | 9 => ⟨S1024x1, .f32⟩
  | 10 => ⟨S1024, .f32⟩
  | 11 => ⟨S1024x1, .f32⟩
  | 12 => ⟨S1024, .f32⟩
  | 13 => ⟨S1024x1, .f32⟩
  | 14 => ⟨S1024, .f32⟩
  | 15 => ⟨S1024x1, .f32⟩
  | 16 => ⟨S1024, .f32⟩
  | 17 => ⟨S1024x1, .f32⟩
  | 18 => ⟨S1024, .f32⟩
  | 19 => ⟨S_, .f32⟩
  | 20 => ⟨S1024, .f32⟩
  | 21 => ⟨S_, .f32⟩
  | 22 => ⟨S1024, .f32⟩
  | 23 => ⟨S_, .f32⟩
  | 24 => ⟨S1024, .f32⟩
  | 25 => ⟨S_, .f32⟩
  | 26 => ⟨S1024, .f32⟩
  | 27 => ⟨S128x1024, .f32⟩
  | 28 => ⟨S128x1024, .f32⟩
  | 29 => ⟨S512x1024, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | 47 => ⟨S1x1024, .f32⟩
  | 48 => ⟨S1x1024, .f32⟩
  | 49 => ⟨S1x1024, .f32⟩
  | 50 => ⟨S1x1024, .f32⟩
  | 51 => ⟨S1x1024, .f32⟩
  | 52 => ⟨S1x1024, .f32⟩
  | 53 => ⟨S1x1024, .f32⟩
  | 54 => ⟨S1x1024, .f32⟩
  | 55 => ⟨S1x1024, .f32⟩
  | 56 => ⟨S1x1024, .f32⟩
  | 57 => ⟨S1x1024, .f32⟩
  | 58 => ⟨S1x1024, .f32⟩
  | 59 => ⟨S1x1024, .f32⟩
  | 60 => ⟨S1x1024, .f32⟩
  | 61 => ⟨S1x1024, .f32⟩
  | 62 => ⟨S16x1024, .f32⟩
  | 63 => ⟨S16x1024, .f32⟩
  | 64 => ⟨S32x1024, .f32⟩
  | 65 => ⟨S800x1024, .f32⟩
  | 66 => ⟨S1024x3840, .bf16⟩
  | 67 => ⟨S1024x2816, .bf16⟩
  | 68 => ⟨S800x1024, .bf16⟩
  | 69 => ⟨S1x128x1024, .f32⟩
  | 70 => ⟨S1x1024, .f32⟩
  | 71 => ⟨S1x128x128, .f32⟩
  | 72 => ⟨S1x128x128, .f32⟩
  | 73 => ⟨S1x128x128, .f32⟩
  | 74 => ⟨S1x128x128, .f32⟩
  | 75 => ⟨S1x128x128, .f32⟩
  | 76 => ⟨S1x128x128, .f32⟩
  | 77 => ⟨S1x128x512, .f32⟩
  | 78 => ⟨S1x128x512, .f32⟩
  | 79 => ⟨S1x128x512, .bf16⟩
  | 80 => ⟨S1x128x512, .bf16⟩
  | 81 => ⟨S1x128x128, .bf16⟩
  | 82 => ⟨S1x128x128, .bf16⟩
  | 83 => ⟨S1x128x512, .bf16⟩
  | 84 => ⟨S1x128x128, .bf16⟩
  | 85 => ⟨S1x128x128, .bf16⟩
  | 86 => ⟨S1x512x128, .bf16⟩
  | 87 => ⟨S1x2x16x128, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | .local _ .vmem, ⟨0, _⟩ => ⟨S1x128x1024, .f32⟩
  | .local _ .vmem, ⟨1, _⟩ => ⟨S1x1024, .f32⟩
  | .local _ .vmem, ⟨2, _⟩ => ⟨S1024x2816, .bf16⟩
  | .local _ .vmem, ⟨3, _⟩ => ⟨S800x1024, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x512, .f32⟩
  | .local _ .vmem, ⟨11, _⟩ => ⟨S1x128x512, .f32⟩
  | .local _ .vmem, ⟨12, _⟩ => ⟨S1x128x512, .bf16⟩
  | .local _ .vmem, ⟨13, _⟩ => ⟨S1x128x512, .bf16⟩
  | .local _ .vmem, ⟨14, _⟩ => ⟨S1x128x128, .bf16⟩
  | .local _ .vmem, ⟨15, _⟩ => ⟨S1x128x128, .bf16⟩
  | .local _ .vmem, ⟨16, _⟩ => ⟨S1x128x512, .bf16⟩
  | .local _ .vmem, ⟨17, _⟩ => ⟨S1x128x128, .bf16⟩
  | .local _ .vmem, ⟨18, _⟩ => ⟨S1x128x128, .bf16⟩
  | .local _ .vmem, ⟨19, _⟩ => ⟨S1x512x128, .bf16⟩
  | .local _ .vmem, ⟨20, _⟩ => ⟨S1x2x16x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_5 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_7 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_12 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_13 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_14 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_15 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_16 : Ref sig .tc := ⟨.hbm, 84, rfl⟩
abbrev main_v64 : Ref sig .tc := ⟨.hbm, 85, rfl⟩
abbrev main_v65 : Ref sig .tc := ⟨.hbm, 86, rfl⟩
abbrev main_cst_17 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_18 : Ref sig .tc := ⟨.hbm, 115, rfl⟩
abbrev main_v93 : Ref sig .tc := ⟨.hbm, 116, rfl⟩
abbrev main_cst_19 : Ref sig .tc := ⟨.hbm, 117, rfl⟩
abbrev main_v94 : Ref sig .tc := ⟨.hbm, 118, rfl⟩
abbrev main_cst_20 : Ref sig .tc := ⟨.hbm, 119, rfl⟩
abbrev main_v95 : Ref sig .tc := ⟨.hbm, 120, rfl⟩
abbrev main_cst_21 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_cst_22 : Ref sig .tc := ⟨.hbm, 147, rfl⟩
abbrev main_v121 : Ref sig .tc := ⟨.hbm, 148, rfl⟩
abbrev main_cst_23 : Ref sig .tc := ⟨.hbm, 149, rfl⟩
abbrev main_v122 : Ref sig .tc := ⟨.hbm, 150, rfl⟩
abbrev main_cst_24 : Ref sig .tc := ⟨.hbm, 151, rfl⟩
abbrev main_v123 : Ref sig .tc := ⟨.hbm, 152, rfl⟩
abbrev main_cst_25 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_v156 : Ref sig .tc := ⟨.hbm, 186, rfl⟩
abbrev main_v157 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169_0 : Ref sig .tc := ⟨.hbm, 199, rfl⟩
abbrev main_v169_1 : Ref sig .tc := ⟨.hbm, 200, rfl⟩
abbrev main_v169_2 : Ref sig .tc := ⟨.hbm, 201, rfl⟩
abbrev main_v169_3 : Ref sig .tc := ⟨.hbm, 202, rfl⟩
abbrev main_v169_4 : Ref sig .tc := ⟨.hbm, 203, rfl⟩
abbrev main_v169_5 : Ref sig .tc := ⟨.hbm, 204, rfl⟩
abbrev main_v169_6 : Ref sig .tc := ⟨.hbm, 205, rfl⟩
abbrev main_v169_7 : Ref sig .tc := ⟨.hbm, 206, rfl⟩
abbrev main_v169_8 : Ref sig .tc := ⟨.hbm, 207, rfl⟩
abbrev main_v169_9 : Ref sig .tc := ⟨.hbm, 208, rfl⟩
abbrev main_v169_10 : Ref sig .tc := ⟨.hbm, 209, rfl⟩
abbrev main_v169_11 : Ref sig .tc := ⟨.hbm, 210, rfl⟩
abbrev main_v169_12 : Ref sig .tc := ⟨.hbm, 211, rfl⟩
abbrev main_v169_13 : Ref sig .tc := ⟨.hbm, 212, rfl⟩
abbrev main_v169_14 : Ref sig .tc := ⟨.hbm, 213, rfl⟩
abbrev main_v169_15 : Ref sig .tc := ⟨.hbm, 214, rfl⟩
abbrev main_v169_16 : Ref sig .tc := ⟨.hbm, 215, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S800x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]

abbrev stage0_12 : Fin 1 → Memref sig .tc .vmem S1x128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, true]

abbrev stage0_13 : Fin 1 → Memref sig .tc .vmem S1x128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, true]

abbrev stage0_14 : Fin 1 → Memref sig .tc .vmem S1x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true, true]

abbrev stage0_15 : Fin 1 → Memref sig .tc .vmem S1x128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, true]

abbrev stage0_16 : Fin 1 → Memref sig .tc .vmem S1x128x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true, true]

abbrev stage0_17 : Fin 1 → Memref sig .tc .vmem S1x128x128 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true, true]

abbrev stage0_18 : Fin 1 → Memref sig .tc .vmem S1x128x128 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true, true]

abbrev stage0_19 : Fin 1 → Memref sig .tc .vmem S1x512x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true, true]

abbrev stage0_20 : Fin 1 → Memref sig .tc .vmem S1x2x16x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true, true]
-- ==== Reference5Ideal.lean ====
abbrev S128x1x1024 : Shape := ⟨3, ![128, 1, 1024]⟩
abbrev S1024 : Shape := ⟨1, ![1024]⟩
abbrev S1024x2840 : Shape := ⟨2, ![1024, 2840]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x2840 : Shape := ⟨3, ![128, 1, 2840]⟩
abbrev S128x1x512 : Shape := ⟨3, ![128, 1, 512]⟩
abbrev S128x1x128 : Shape := ⟨3, ![128, 1, 128]⟩
abbrev S128x1x24 : Shape := ⟨3, ![128, 1, 24]⟩
abbrev S1x128x128 : Shape := ⟨3, ![1, 128, 128]⟩
abbrev S1x128x512 : Shape := ⟨3, ![1, 128, 512]⟩

abbrev nBuf : Space → Nat
  | .hbm => 39
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S1024, .f32⟩
  | .hbm, ⟨2, _⟩ => ⟨S1024x2840, .f32⟩
  | .hbm, ⟨3, _⟩ => ⟨S128x1x1024, .f32⟩
  | .hbm, ⟨4, _⟩ => ⟨S_, .f32⟩
  | .hbm, ⟨5, _⟩ => ⟨S128x1, .f32⟩
  | .hbm, ⟨6, _⟩ => ⟨S128x1x1, .f32⟩
  | .hbm, ⟨7, _⟩ => ⟨S_, .f32⟩
  | .hbm, ⟨8, _⟩ => ⟨S128x1x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S128x1x1, .f32⟩
  | .hbm, ⟨14, _⟩ => ⟨S128x1x1024, .f32⟩
  | .hbm, ⟨15, _⟩ => ⟨S128x1x1024, .f32⟩
  | .hbm, ⟨16, _⟩ => ⟨S1x1x1024, .f32⟩
  | .hbm, ⟨17, _⟩ => ⟨S128x1x1024, .f32⟩
  | .hbm, ⟨18, _⟩ => ⟨S128x1x1024, .f32⟩
  | .hbm, ⟨19, _⟩ => ⟨S128x1x2840, .f32⟩
  | .hbm, ⟨20, _⟩ => ⟨S128x1x512, .f32⟩
  | .hbm, ⟨21, _⟩ => ⟨S128x1x128, .f32⟩
  | .hbm, ⟨22, _⟩ => ⟨S128x1x128, .f32⟩
  | .hbm, ⟨23, _⟩ => ⟨S128x1x128, .f32⟩
  | .hbm, ⟨24, _⟩ => ⟨S128x1x128, .f32⟩
  | .hbm, ⟨25, _⟩ => ⟨S128x1x128, .f32⟩
  | .hbm, ⟨26, _⟩ => ⟨S128x1x128, .f32⟩
  | .hbm, ⟨27, _⟩ => ⟨S128x1x24, .f32⟩
  | .hbm, ⟨28, _⟩ => ⟨S128x1x512, .f32⟩
  | .hbm, ⟨29, _⟩ => ⟨S128x1x512, .f32⟩
  | .hbm, ⟨30, _⟩ => ⟨S128x1x512, .f32⟩
  | .hbm, ⟨31, _⟩ => ⟨S1x128x128, .f32⟩
  | .hbm, ⟨32, _⟩ => ⟨S1x128x128, .f32⟩
  | .hbm, ⟨33, _⟩ => ⟨S1x128x128, .f32⟩
  | .hbm, ⟨34, _⟩ => ⟨S1x128x128, .f32⟩
  | .hbm, ⟨35, _⟩ => ⟨S1x128x128, .f32⟩
  | .hbm, ⟨36, _⟩ => ⟨S1x128x128, .f32⟩
  | .hbm, ⟨37, _⟩ => ⟨S1x128x512, .f32⟩
  | .hbm, ⟨38, _⟩ => ⟨S1x128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩

abbrev nD : Nat := 1
abbrev τ : Topo := Topo.v7x

variable {F : FTy → Type} [FloatOps F]
-- ==== Kernel6.lean ====
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x256 : Shape := ⟨2, ![1024, 256]⟩
abbrev S1x1024 : Shape := ⟨2, ![1, 1024]⟩
abbrev S_ : Shape := ⟨0, ![]⟩
abbrev S128x256 : Shape := ⟨2, ![128, 256]⟩
abbrev S128 : Shape := ⟨1, ![128]⟩
abbrev S128x1 : Shape := ⟨2, ![128, 1]⟩

abbrev nBuf : Space → Nat
  | .hbm => 14
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S1024x1024, .f32⟩
  | .hbm, ⟨4, _⟩ => ⟨S1024, .f32⟩
  | .hbm, ⟨5, _⟩ => ⟨S1024x256, .f32⟩
  | .hbm, ⟨6, _⟩ => ⟨S1024x1024, .bf16⟩
  | .hbm, ⟨7, _⟩ => ⟨S1x1024, .f32⟩
  | .hbm, ⟨8, _⟩ => ⟨S_, .f32⟩
  | .hbm, ⟨9, _⟩ => ⟨S1024x256, .f32⟩
  | .hbm, ⟨10, _⟩ => ⟨S1024x256, .f32⟩
  | .hbm, ⟨11, _⟩ => ⟨S1024x256, .bf16⟩
  | .hbm, ⟨12, _⟩ => ⟨S128x1024, .f32⟩
  | .hbm, ⟨13, _⟩ => ⟨S128x256, .f32⟩
  | .local _ .vmem, ⟨0, _⟩ => ⟨S128x1024, .f32⟩
  | .local _ .vmem, ⟨1, _⟩ => ⟨S128x512, .f32⟩
  | .local _ .vmem, ⟨2, _⟩ => ⟨S128x512, .f32⟩
  | .local _ .vmem, ⟨3, _⟩ => ⟨S1024x1024, .bf16⟩
  | .local _ .vmem, ⟨4, _⟩ => ⟨S1x1024, .f32⟩
  | .local _ .vmem, ⟨5, _⟩ => ⟨S1024x256, .bf16⟩
  | .local _ .vmem, ⟨6, _⟩ => ⟨S128x1024, .f32⟩
  | .local _ .vmem, ⟨7, _⟩ => ⟨S128x256, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference6Ideal.lean ====
abbrev S128x1024 : Shape := ⟨2, ![128, 1024]⟩
abbrev S128x512 : Shape := ⟨2, ![128, 512]⟩
abbrev S1024x1024 : Shape := ⟨2, ![1024, 1024]⟩
abbrev S1024 : Shape := ⟨1, ![1024]⟩
abbrev S1024x256 : Shape := ⟨2, ![1024, 256]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x256 : Shape := ⟨2, ![128, 256]⟩

abbrev nBuf : Space → Nat
  | .hbm => 29
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x512, .f32⟩
  | .hbm, ⟨2, _⟩ => ⟨S128x512, .f32⟩
  | .hbm, ⟨3, _⟩ => ⟨S1024x1024, .f32⟩
  | .hbm, ⟨4, _⟩ => ⟨S1024, .f32⟩
  | .hbm, ⟨5, _⟩ => ⟨S1024x256, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S_, .f32⟩
  | .hbm, ⟨14, _⟩ => ⟨S128x1, .f32⟩
  | .hbm, ⟨15, _⟩ => ⟨S128x1, .f32⟩
  | .hbm, ⟨16, _⟩ => ⟨S_, .f32⟩
  | .hbm, ⟨17, _⟩ => ⟨S128x1, .f32⟩
  | .hbm, ⟨18, _⟩ => ⟨S128x1, .f32⟩
  | .hbm, ⟨19, _⟩ => ⟨S128x1, .f32⟩
  | .hbm, ⟨20, _⟩ => ⟨S128x1024, .f32⟩
  | .hbm, ⟨21, _⟩ => ⟨S128x1024, .f32⟩
  | .hbm, ⟨22, _⟩ => ⟨S1x1024, .f32⟩
  | .hbm, ⟨23, _⟩ => ⟨S128x1024, .f32⟩
  | .hbm, ⟨24, _⟩ => ⟨S128x1024, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel7.lean ====
abbrev S128x256 : Shape := ⟨2, ![128, 256]⟩
abbrev S128x256x4x64 : Shape := ⟨4, ![128, 256, 4, 64]⟩
abbrev S128x256x256 : Shape := ⟨3, ![128, 256, 256]⟩
abbrev S8x256 : Shape := ⟨2, ![8, 256]⟩
abbrev S8x256x256 : Shape := ⟨3, ![8, 256, 256]⟩
abbrev S8x1 : Shape := ⟨2, ![8, 1]⟩
abbrev S1x256 : Shape := ⟨2, ![1, 256]⟩
abbrev S1x256x256 : Shape := ⟨3, ![1, 256, 256]⟩
abbrev S256x256 : Shape := ⟨2, ![256, 256]⟩
abbrev S8 : Shape := ⟨1, ![8]⟩
abbrev S256 : Shape := ⟨1, ![256]⟩

abbrev nBuf : Space → Nat
  | .hbm => 6
  | .vmem => 8
  | .smem => 0
  | _ => 0

abbrev bufTy : (tb : Table) → Fin (tcTables nBuf tb) → BufTy
  | .hbm, ⟨0, _⟩ => ⟨S128x256, .f32⟩
  | .hbm, ⟨1, _⟩ => ⟨S128x256x4x64, .f32⟩
  | .hbm, ⟨2, _⟩ => ⟨S128x256x4x64, .f32⟩
  | .hbm, ⟨3, _⟩ => ⟨S128x256x256, .f32⟩
  | .hbm, ⟨4, _⟩ => ⟨S128x256x256, .f32⟩
  | .hbm, ⟨5, _⟩ => ⟨S128x256, .f32⟩
  | .local _ .vmem, ⟨0, _⟩ => ⟨S8x256, .f32⟩
  | .local _ .vmem, ⟨1, _⟩ => ⟨S8x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256, .f32⟩
  | .local _ .vmem, ⟨7, _⟩ => ⟨S8x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S128x256 : Shape := ⟨2, ![128, 256]⟩
abbrev S128x256x4x64 : Shape := ⟨4, ![128, 256, 4, 64]⟩
abbrev S128x1x4x64 : Shape := ⟨4, ![128, 1, 4, 64]⟩
abbrev S128x4x1x256 : Shape := ⟨4, ![128, 4, 1, 256]⟩
abbrev S_ : Shape := ⟨0, ![]⟩
abbrev S128x4x1 : Shape := ⟨3, ![128, 4, 1]⟩
abbrev S128x4x1x1 : Shape := ⟨4, ![128, 4, 1, 1]⟩
abbrev S128x4x64x1 : Shape := ⟨4, ![128, 4, 64, 1]⟩

abbrev nBuf : Space → Nat
  | .hbm => 22
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256x4x64, .f32⟩
  | .hbm, ⟨2, _⟩ => ⟨S128x256x4x64, .f32⟩
  | .hbm, ⟨3, _⟩ => ⟨S128x1x4x64, .f32⟩
  | .hbm, ⟨4, _⟩ => ⟨S128x4x1x256, .f32⟩
  | .hbm, ⟨5, _⟩ => ⟨S_, .f32⟩
  | .hbm, ⟨6, _⟩ => ⟨S128x4x1, .f32⟩
  | .hbm, ⟨7, _⟩ => ⟨S_, .f32⟩
  | .hbm, ⟨8, _⟩ => ⟨S128x4x1, .f32⟩
  | .hbm, ⟨9, _⟩ => ⟨S128x4x1, .f32⟩
  | .hbm, ⟨10, _⟩ => ⟨S128x4x1x1, .f32⟩
  | .hbm, ⟨11, _⟩ => ⟨S128x4x1x256, .f32⟩
  | .hbm, ⟨12, _⟩ => ⟨S128x4x1x256, .f32⟩
  | .hbm, ⟨13, _⟩ => ⟨S128x4x1x256, .f32⟩
  | .hbm, ⟨14, _⟩ => ⟨S_, .f32⟩
  | .hbm, ⟨15, _⟩ => ⟨S128x4x1, .f32⟩
  | .hbm, ⟨16, _⟩ => ⟨S128x4x1x1, .f32⟩
  | .hbm, ⟨17, _⟩ => ⟨S128x4x1x256, .f32⟩
  | .hbm, ⟨18, _⟩ => ⟨S128x4x1x256, .f32⟩
  | .hbm, ⟨19, _⟩ => ⟨S128x4x64x1, .f32⟩
  | .hbm, ⟨20, _⟩ => ⟨S128x1x4x64, .f32⟩
  | .hbm, ⟨21, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S128x1024 : Shape := ⟨2, ![128, 1024]⟩
abbrev S128x256 : Shape := ⟨2, ![128, 256]⟩
abbrev S256x1024 : Shape := ⟨2, ![256, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S128 : Shape := ⟨1, ![128]⟩
abbrev S128x1 : Shape := ⟨2, ![128, 1]⟩
abbrev S128x2816 : Shape := ⟨2, ![128, 2816]⟩

abbrev nBuf : Space → Nat
  | .hbm => 15
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S256x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S256x1024, .bf16⟩
  | .hbm, ⟨9, _⟩ => ⟨S1x1024, .f32⟩
  | .hbm, ⟨10, _⟩ => ⟨S1024x2816, .bf16⟩
  | .hbm, ⟨11, _⟩ => ⟨S1024x2816, .bf16⟩
  | .hbm, ⟨12, _⟩ => ⟨S2816x1024, .bf16⟩
  | .hbm, ⟨13, _⟩ => ⟨S1x1024, .f32⟩
  | .hbm, ⟨14, _⟩ => ⟨S128x1024, .f32⟩
  | .local _ .vmem, ⟨0, _⟩ => ⟨S128x1024, .f32⟩
  | .local _ .vmem, ⟨1, _⟩ => ⟨S128x256, .f32⟩
  | .local _ .vmem, ⟨2, _⟩ => ⟨S256x1024, .bf16⟩
  | .local _ .vmem, ⟨3, _⟩ => ⟨S1x1024, .f32⟩
  | .local _ .vmem, ⟨4, _⟩ => ⟨S1024x2816, .bf16⟩
  | .local _ .vmem, ⟨5, _⟩ => ⟨S1024x2816, .bf16⟩
  | .local _ .vmem, ⟨6, _⟩ => ⟨S2816x1024, .bf16⟩
  | .local _ .vmem, ⟨7, _⟩ => ⟨S1x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference8Ideal.lean ====
abbrev S128x1024 : Shape := ⟨2, ![128, 1024]⟩
abbrev S128x256 : Shape := ⟨2, ![128, 256]⟩
abbrev S256x1024 : Shape := ⟨2, ![256, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x2816 : Shape := ⟨2, ![128, 2816]⟩

abbrev nBuf : Space → Nat
  | .hbm => 56
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x256, .f32⟩
  | .hbm, ⟨2, _⟩ => ⟨S256x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128, .f32⟩
  | .hbm, ⟨13, _⟩ => ⟨S128x1, .f32⟩
  | .hbm, ⟨14, _⟩ => ⟨S_, .f32⟩
  | .hbm, ⟨15, _⟩ => ⟨S128x1, .f32⟩
  | .hbm, ⟨16, _⟩ => ⟨S128x1, .f32⟩
  | .hbm, ⟨17, _⟩ => ⟨S_, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x1024, .f32⟩
  | .hbm, ⟨22, _⟩ => ⟨S128x1024, .f32⟩
  | .hbm, ⟨23, _⟩ => ⟨S1x1024, .f32⟩
  | .hbm, ⟨24, _⟩ => ⟨S128x1024, .f32⟩
  | .hbm, ⟨25, _⟩ => ⟨S128x1024, .f32⟩
  | .hbm, ⟨26, _⟩ => ⟨S128x2816, .f32⟩
  | .hbm, ⟨27, _⟩ => ⟨S128x2816, .f32⟩
  | .hbm, ⟨28, _⟩ => ⟨S128x2816, .f32⟩
  | .hbm, ⟨29, _⟩ => ⟨S_, .f32⟩
  | .hbm, ⟨30, _⟩ => ⟨S128x2816, .f32⟩
  | .hbm, ⟨31, _⟩ => ⟨S128x2816, .f32⟩
  | .hbm, ⟨32, _⟩ => ⟨S_, .f32⟩
  | .hbm, ⟨33, _⟩ => ⟨S128x2816, .f32⟩
  | .hbm, ⟨34, _⟩ => ⟨S128x2816, .f32⟩
  | .hbm, ⟨35, _⟩ => ⟨S128x2816, .f32⟩
  | .hbm, ⟨36, _⟩ => ⟨S128x2816, .f32⟩
  | .hbm, ⟨37, _⟩ => ⟨S128x2816, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128, .f32⟩
  | .hbm, ⟨43, _⟩ => ⟨S128x1, .f32⟩
  | .hbm, ⟨44, _⟩ => ⟨S_, .f32⟩
  | .hbm, ⟨45, _⟩ => ⟨S128x1, .f32⟩
  | .hbm, ⟨46, _⟩ => ⟨S128x1, .f32⟩
  | .hbm, ⟨47, _⟩ => ⟨S_, .f32⟩
  | .hbm, ⟨48, _⟩ => ⟨S128x1, .f32⟩
  | .hbm, ⟨49, _⟩ => ⟨S128x1, .f32⟩
  | .hbm, ⟨50, _⟩ => ⟨S128x1, .f32⟩
  | .hbm, ⟨51, _⟩ => ⟨S128x1024, .f32⟩
  | .hbm, ⟨52, _⟩ => ⟨S128x1024, .f32⟩
  | .hbm, ⟨53, _⟩ => ⟨S1x1024, .f32⟩
  | .hbm, ⟨54, _⟩ => ⟨S128x1024, .f32⟩
  | .hbm, ⟨55, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_cst_2 : Ref sig .tc := ⟨.hbm, 41, rfl⟩
abbrev main_v22 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Proof.SbTile.lean ====
/-
  The stick-breaking attention kernel, one tile at a time, over any float values.

  A grid point is one batch entry and one block of 128 queries. The kernel walks the key blocks from the block of the
  queries down to block 0. A tile is one key block against the queries of two heads (a "pair": 128 keys by 256 columns,
  the first 128 columns the queries under the first head, the rest under the second). The state between tiles is the
  carry — for each pair and column the sum of the softplus values met so far — and the accumulator.

  This module names what a tile computes (`spT`, `wT`, `accT`, `carT`), the blocks of the windows it reads (`qP`, `kP`,
  `vP`, `cP`, `aP`), and what a whole trip makes of the state (`stepC`, `stepA`); the lemmas below read the state back
  from the list of blocks the kernel stored.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.WritesUnit
public import Idealize.ShloMosaic.Lib.ValueIdxCoords
public import Idealize.ShloMosaic.Lib.Claim
public import Idealize.ShloMosaic.Lib.Ring
public import Idealize.ShloMosaic.Lib.Tactic

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic Idealize.ShloMosaic.ValueIdx

variable {F : FTy → Type} [FloatOps F] [Named F]

/-! ### One tile -/

/-- The zero tile. -/
def zeroT : FVec F S128x256 .f32 := broadcast S128x256 (Scalar.ofBits .f32 0x00000000#32)

/-- The scores: a block of keys against the queries of two heads. -/
def zT (q : Vec F S1x2x128x128 .bf16) (k : Vec F S1x128x128 .bf16) : FVec F S128x256 .f32 :=
  matmul dot_S128x128_S256x128_S128x256_1_1_0_0_n_n none (shapeCast S128x128 k shapeCasts_S1x128x128_S128x128 : FVec F S128x128 .bf16)
    (shapeCast S256x128 (shapeCast S2x128x128 q shapeCasts_S1x2x128x128_S2x128x128 : FVec F S2x128x128 .bf16) shapeCasts_S2x128x128_S256x128
      : FVec F S256x128 .bf16) (constant S128x256 .f32 0x00000000#32)

/-- `log (1 + exp (-|z|))`. -/
def lgT (z : FVec F S128x256 .f32) : FVec F S128x256 .f32 := log1p (exp (subf zeroT (absf z)))

/-- The softplus of the scores, -/
def spT (z : FVec F S128x256 .f32) : FVec F S128x256 .f32 := addf (maximumf z zeroT) (lgT z)

/-- and the logarithm of their sigmoid. -/
def lsT (z : FVec F S128x256 .f32) : FVec F S128x256 .f32 := subf (minimumf z zeroT) (lgT z)

/-- A tile kept where the mask holds, zero elsewhere. -/
def keepT (m : IVec S128x256 1) (x : FVec F S128x256 .f32) : FVec F S128x256 .f32 := select m x zeroT

/-- The weights: the exponential of the log-sigmoid minus the softplus values of all later keys, those in earlier tiles
    through the carry `c`, those in this one through the product with the triangle `u` of a high and a low part. -/
def wT (u : FVec F S128x128 .bf16) (ls sp : FVec F S128x256 .f32) (c : Vec F S1x1x256 .f32) : FVec F S128x256 .f32 :=
  exp (subf ls (addf (broadcastTo S128x256 (shapeCast S1x256 c shapeCasts_S1x1x256_S1x256 : FVec F S1x256 .f32) broadcasts_S1x256_S128x256)
    (addf (matmul dot_S128x128_S128x256_S128x256_1_0_0_1_n_n none u (truncf .bf16 sp bitsLt_bf16_f32) (constant S128x256 .f32 0x00000000#32))
      (matmul dot_S128x128_S128x256_S128x256_1_0_0_1_n_n none u
        (truncf .bf16 (subf sp (extf .f32 (truncf .bf16 sp bitsLt_bf16_f32) bitsLt_bf16_f32)) bitsLt_bf16_f32) (constant S128x256 .f32 0x00000000#32)))))

/-- The weights as the second product takes them. -/
def rT (w : FVec F S128x256 .f32) : FVec F S128x256 .bf16 := truncf .bf16 w bitsLt_bf16_f32

/-- A head's values times its weights, added to its block of the accumulator: the first head of the pair, -/
def accL (v : Vec F S1x128x128 .bf16) (a : FVec F S128x256 .bf16) (A : Vec F S64x128 .f32) : FVec F S64x128 .f32 :=
  shapeCast S64x128 (addf A (matmul dot_S64x128_S128x128_S64x128_1_0_0_1_n_n none
    (extractStridedSlice S64x128 ![0, 0] (shapeCast S128x128 v shapeCasts_S1x128x128_S128x128 : FVec F S128x128 .bf16) slices_S128x128_o0_0_S64x128)
    (extractStridedSlice S128x128 ![0, 0] a slices_S128x256_o0_0_S128x128) (constant S64x128 .f32 0x00000000#32)) : FVec F S64x128 .f32)
    shapeCasts_S64x128_S64x128

/-- and the second. -/
def accR (v : Vec F S1x128x128 .bf16) (a : FVec F S128x256 .bf16) (A : Vec F S64x128 .f32) : FVec F S64x128 .f32 :=
  shapeCast S64x128 (addf A (matmul dot_S64x128_S128x128_S64x128_1_0_0_1_n_n none
    (extractStridedSlice S64x128 ![64, 0] (shapeCast S128x128 v shapeCasts_S1x128x128_S128x128 : FVec F S128x128 .bf16) slices_S128x128_o64_0_S64x128)
    (extractStridedSlice S128x128 ![0, 128] a slices_S128x256_o0_128_S128x128) (constant S64x128 .f32 0x00000000#32)) : FVec F S64x128 .f32)
    shapeCasts_S64x128_S64x128

/-- The carry after a tile: the column sums of its softplus values added. -/
def carT (sp : FVec F S128x256 .f32) (c : Vec F S1x1x256 .f32) : FVec F S1x1x256 .f32 :=
  shapeCast S1x1x256 (addf (shapeCast S1x256 c shapeCasts_S1x1x256_S1x256 : FVec F S1x256 .f32)
    (shapeCast S1x256 (multiReduction .add [0] S256 sp 0x00000000#32 reduces_S128x256_S256 (.inl rfl) rfl : FVec F S256 .f32) shapeCasts_S256_S1x256)
      : FVec F S1x256 .f32) shapeCasts_S1x256_S1x1x256

/-! ### The blocks a tile reads -/

/-- The queries of pair `p`. -/
def qP (x : Vec F S1x8x128x128 .bf16) (p : Fin 4) : Vec F S1x2x128x128 .bf16 :=
  fun y => x (ix4 0 ⟨2 * p.val + (y 1).val, by have : (y 1).val < 2 := (y 1).isLt; omega⟩ (y 2) (y 3))

/-- Key block `j` of pair `p` (the remainder only makes the coordinate one of the array's for every `j`). -/
def kP (x : Vec F S1x8192x512 .bf16) (j : ℕ) (p : Fin 4) : Vec F S1x128x128 .bf16 :=
  fun y => x (ix3 0 ⟨(128 * j + (y 1).val) % 8192, Nat.mod_lt _ (by omega)⟩
    ⟨128 * p.val + (y 2).val, by have : (y 2).val < 128 := (y 2).isLt; omega⟩)

/-- The values (transposed) of key block `j`, pair `p`. -/
def vP (x : Vec F S1x512x8192 .bf16) (j : ℕ) (p : Fin 4) : Vec F S1x128x128 .bf16 :=
  fun y => x (ix3 0 ⟨128 * p.val + (y 1).val, by have : (y 1).val < 128 := (y 1).isLt; omega⟩
    ⟨(128 * j + (y 2).val) % 8192, Nat.mod_lt _ (by omega)⟩)

/-- The carry of pair `p`. -/
def cP (C : Vec F S4x1x256 .f32) (p : Fin 4) : Vec F S1x1x256 .f32 := fun y => C (ix3 p 0 (y 2))

/-- The accumulator of pair `p`, its first head's half -/
def aPL (A : Vec F S4x64x256 .f32) (p : Fin 4) : Vec F S64x128 .f32 :=
  fun y => A (ix3 p (y 0) ⟨(y 1).val, by have : (y 1).val < 128 := (y 1).isLt; omega⟩)

/-- and its second's. -/
def aPR (A : Vec F S4x64x256 .f32) (p : Fin 4) : Vec F S64x128 .f32 :=
  fun y => A (ix3 p (y 0) ⟨128 + (y 1).val, by have : (y 1).val < 128 := (y 1).isLt; omega⟩)

/-! ### The state put together from its blocks -/

/-- The carry made of four rows. -/
def joinC (P : Fin 4 → Vec F S1x1x256 .f32) : Vec F S4x1x256 .f32 := fun y => P (y 0) (ix3 0 0 (y 2))

/-- The accumulator made of eight halves. -/
def joinA (L R : Fin 4 → Vec F S64x128 .f32) : Vec F S4x64x256 .f32 := fun y =>
  if h : (y 2).val < 128 then L (y 0) (ix2 (y 1) ⟨(y 2).val, h⟩)
  else R (y 0) (ix2 (y 1) ⟨(y 2).val - 128, by have : (y 2).val < 256 := (y 2).isLt; omega⟩)

/-- The carry after a tile whose softplus values are `sp`, pair by pair. -/
def stepC (sp : Fin 4 → FVec F S128x256 .f32) (C : Vec F S4x1x256 .f32) : Vec F S4x1x256 .f32 :=
  joinC fun p => carT (sp p) (cP C p)

/-- The accumulator after a tile of values `v` and weights `a`. -/
def stepA (v : Fin 4 → Vec F S1x128x128 .bf16) (a : Fin 4 → FVec F S128x256 .bf16) (A : Vec F S4x64x256 .f32) : Vec F S4x64x256 .f32 :=
  joinA (fun p => accL (v p) (a p) (aPL A p)) (fun p => accR (v p) (a p) (aPR A p))

/-! ### A trip of the walk -/

/-- The scores of pair `p` at key block `j`. -/
def zP (x2 : Vec F S1x8x128x128 .bf16) (x3 : Vec F S1x8192x512 .bf16) (j : ℕ) (p : Fin 4) : FVec F S128x256 .f32 := zT (qP x2 p) (kP x3 j p)

/-- The carry after key block `j`, a block before the queries' own. -/
def loopC (x2 : Vec F S1x8x128x128 .bf16) (x3 : Vec F S1x8192x512 .bf16) (j : ℕ) (C : Vec F S4x1x256 .f32) : Vec F S4x1x256 .f32 :=
  stepC (fun p => spT (zP x2 x3 j p)) C

/-- The accumulator after it. -/
def loopA (u : FVec F S128x128 .bf16) (x2 : Vec F S1x8x128x128 .bf16) (x3 : Vec F S1x8192x512 .bf16) (x4 : Vec F S1x512x8192 .bf16) (j : ℕ)
    (C : Vec F S4x1x256 .f32) (A : Vec F S4x64x256 .f32) : Vec F S4x64x256 .f32 :=
  stepA (vP x4 j) (fun p => rT (wT u (lsT (zP x2 x3 j p)) (spT (zP x2 x3 j p)) (cP C p))) A

/-- The carry after the queries' own key block, under the mask `m`. -/
def diagC (m : IVec S128x256 1) (x2 : Vec F S1x8x128x128 .bf16) (x3 : Vec F S1x8192x512 .bf16) (j : ℕ) (C : Vec F S4x1x256 .f32) : Vec F S4x1x256 .f32 :=
  stepC (fun p => keepT m (spT (zP x2 x3 j p))) C

/-- The accumulator after it. -/
def diagA (u : FVec F S128x128 .bf16) (m : IVec S128x256 1) (x2 : Vec F S1x8x128x128 .bf16) (x3 : Vec F S1x8192x512 .bf16) (x4 : Vec F S1x512x8192 .bf16) (j : ℕ)
    (C : Vec F S4x1x256 .f32) (A : Vec F S4x64x256 .f32) : Vec F S4x64x256 .f32 :=
  stepA (vP x4 j) (fun p => rT (keepT m (wT u (lsT (zP x2 x3 j p)) (keepT m (spT (zP x2 x3 j p))) (cP C p)))) A

/-- Whether the walk goes on after the carry `C`: its least entry is below the threshold. -/
def aliveOf (C : Vec F S4x1x256 .f32) : BitVec 1 := Scalar.cmpf .olt (k0_pay81 C) (Named.named κ "dead" 0x42DC0000#32)

/-- The carry and the accumulator after the walk over key blocks `n - 1` down to `0`, left early when `al` says so. -/
def walk (u : FVec F S128x128 .bf16) (x2 : Vec F S1x8x128x128 .bf16) (x3 : Vec F S1x8192x512 .bf16) (x4 : Vec F S1x512x8192 .bf16) :
    ℕ → BitVec 1 → Vec F S4x1x256 .f32 → Vec F S4x64x256 .f32 → Vec F S4x1x256 .f32 × Vec F S4x64x256 .f32
  | 0, _, C, A => (C, A)
  | n + 1, al, C, A =>
    if al = 1#1 then walk u x2 x3 x4 n (aliveOf (loopC x2 x3 n C)) (loopC x2 x3 n C) (loopA u x2 x3 x4 n C A) else (C, A)

/-! ### Reading the state back from the stored blocks -/

section ReadBack

variable {sig' : RefSig} {κ' : Kind} {sp' : Space}

/-- The rectangle of one row of the carry. -/
abbrev rC (p : ℕ) (h : ∀ a, (![p, 0, 0] : Fin 3 → ℕ) a + S1x1x256.size a ≤ S4x1x256.size a) : Rect S4x1x256 :=
  Rect.unit ![p, 0, 0] S1x1x256.size h

/-- The rectangle of a half of a pair of the accumulator. -/
abbrev rA (p o : ℕ) (h1 : ∀ a, (![p, 0, 0] : Fin 3 → ℕ) a + S1x64x256.size a ≤ S4x64x256.size a)
    (h2 : ∀ a, (![0, o] : Fin 2 → ℕ) a + S64x128.size a ≤ S64x256.size a)
    (h3 : (![1, 64, 256] : Fin 3 → ℕ) 0 = 1) (h4 : ∀ i : Fin 2, (![1, 64, 256] : Fin 3 → ℕ) i.succ = (![64, 256] : Fin 2 → ℕ) i)
    (h5 : ∀ a, (Rect.unit (s := S4x64x256) ![p, 0, 0] S1x64x256.size h1).stride a = 1) : Rect S4x64x256 :=
  (Rect.unit (s := S4x64x256) ![p, 0, 0] S1x64x256.size h1).within ((Rect.unit (s := S64x256) ![0, o] S64x128.size h2).consLift ![1, 64, 256] h3 h4) h5

theorem rA_emb (p o : ℕ) (h1 h2 h3 h4 h5) (x : (rA p o h1 h2 h3 h4 h5).shape.Idx) :
    ((rA p o h1 h2 h3 h4 h5).emb x 0).val = p ∧ ((rA p o h1 h2 h3 h4 h5).emb x 1).val = (x 1).val
      ∧ ((rA p o h1 h2 h3 h4 h5).emb x 2).val = o + (x 2).val := by
  have h0 : (x 0).val < 1 := (x 0).isLt
  refine ⟨?_, ?_, ?_⟩
  · show p + 0 + 1 * (x 0).val = p
    omega
  · show 0 + 0 + 1 * (x 1).val = (x 1).val
    omega
  · show 0 + o + 1 * (x 2).val = o + (x 2).val
    omega

theorem rA_mem (p o : ℕ) (h1 h2 h3 h4 h5) (y : S4x64x256.Idx) (hp : (y 0).val = p) (ho : o ≤ (y 2).val) (ho' : (y 2).val < o + 128) :
    y ∈ (rA p o h1 h2 h3 h4 h5).set := by
  rw [← Rect.map_emb_univ, Finset.mem_map]
  refine ⟨(ix3 0 (y 1) ⟨(y 2).val - o, by omega⟩ : (⟨3, ![1, 64, 128]⟩ : Shape).Idx), Finset.mem_univ _, ?_⟩
  obtain ⟨e0, e1, e2⟩ := rA_emb p o h1 h2 h3 h4 h5 (ix3 0 (y 1) ⟨(y 2).val - o, by omega⟩ : (⟨3, ![1, 64, 128]⟩ : Shape).Idx)
  funext a
  apply Fin.ext
  fin_cases a
  · exact e0.trans hp.symm
  · exact e1
  · refine e2.trans ?_
    show o + ((y 2).val - o) = (y 2).val
    omega

theorem rA_pay (p o : ℕ) (h1 h2 h3 h4 h5) (w : Vec F S64x128 .f32) (hR) (x : (rA p o h1 h2 h3 h4 h5).shape.Idx) :
    Rect.payAlong (r := Rect.unit (s := S64x256) ![0, o] S64x128.size h2) (R := rA p o h1 h2 h3 h4 h5) hR w x
      = w (ix2 ⟨(x 1).val, (x 1).isLt⟩ ⟨(x 2).val, (x 2).isLt⟩) :=
  Rect.payAlong_consLift (Rect.unit (s := S64x256) ![0, o] S64x128.size h2) ![1, 64, 256] h3 h4 w hR x _ fun i => by
    fin_cases i <;> rfl

theorem read_carry (v : View sig' κ' sp' S4x1x256 .f32) (f : v.ty.Contents (Elt F)) (P0 P1 P2 P3 : Vec F S1x1x256 .f32)
    (P : Fin 4 → Vec F S1x1x256 .f32) (e0 : P0 = P 0) (e1 : P1 = P 1) (e2 : P2 = P 2) (e3 : P3 = P 3)
    (h0 h1 h2 h3) (L : List (View.Piece (Elt F) S4x1x256 .f32)) :
    v.read (Elt F) (v.writes (Elt F) f (⟨rC 3 h3, P3⟩ :: ⟨rC 2 h2, P2⟩ :: ⟨rC 1 h1, P1⟩ :: ⟨rC 0 h0, P0⟩ :: L)) = joinC P := by
  subst e0 e1 e2 e3
  show v.read (Elt F) (v.writes (Elt F) f ([⟨rC 3 h3, P 3⟩, ⟨rC 2 h2, P 2⟩, ⟨rC 1 h1, P 1⟩, ⟨rC 0 h0, P 0⟩] ++ L)) = joinC P
  rw [View.writes_append]
  funext y
  have hy1 : (y 1).val < 1 := (y 1).isLt
  have hy2 : (y 2).val < 256 := (y 2).isLt
  have key : ∀ (p : Fin 4) (h) (x : (rC p.val h).shape.Idx), P p x = joinC P ((rC p.val h).emb x) := by
    intro p h x
    have hx0 : (x 0).val < 1 := (x 0).isLt
    have hx1 : (x 1).val < 1 := (x 1).isLt
    have hp : ((rC p.val h).emb x 0) = p := Fin.ext (by show p.val + 1 * (x 0).val = p.val; omega)
    show P p x = P ((rC p.val h).emb x 0) _
    rw [hp]
    refine congrArg (P p) (funext fun a => Fin.ext ?_)
    fin_cases a
    · show (x 0).val = 0; omega
    · show (x 1).val = 0; omega
    · show (x 2).val = 0 + 1 * (x 2).val; omega
  have cov : ∀ (p : ℕ) (h), (y 0).val = p → y ∈ (rC p h).set := by
    intro p h hp
    rw [Rect.mem_set_unit]
    intro a
    fin_cases a
    · show p ≤ (y 0).val ∧ (y 0).val < p + 1; omega
    · show 0 ≤ (y 1).val ∧ (y 1).val < 0 + 1; omega
    · show 0 ≤ (y 2).val ∧ (y 2).val < 0 + 256; omega
  refine View.read_writes_apply_of_pieces v _ (joinC P) _ ?_ y ?_
  · simp only [List.forall_mem_cons]
    exact ⟨key 3 h3, key 2 h2, key 1 h1, key 0 h0, by simp⟩
  · have h4 : (y 0).val < 4 := (y 0).isLt
    rcases (by omega : (y 0).val = 0 ∨ (y 0).val = 1 ∨ (y 0).val = 2 ∨ (y 0).val = 3) with e | e | e | e
    · exact ⟨_, .tail _ (.tail _ (.tail _ (.head _))), cov 0 h0 e⟩
    · exact ⟨_, .tail _ (.tail _ (.head _)), cov 1 h1 e⟩
    · exact ⟨_, .tail _ (.head _), cov 2 h2 e⟩
    · exact ⟨_, .head _, cov 3 h3 e⟩

/-- The carry read whole after its four rows were stored. -/
theorem cov_carry [∀ e, Nonempty (Elt F e)] (v : View sig' κ' sp' S4x1x256 .f32) (P0 P1 P2 P3 : Vec F S1x1x256 .f32)
    (P : Fin 4 → Vec F S1x1x256 .f32) (e0 : P0 = P 0) (e1 : P1 = P 1) (e2 : P2 = P 2) (e3 : P3 = P 3)
    (h0 h1 h2 h3 h) (L : List (View.Piece (Elt F) S4x1x256 .f32)) :
    v.readCov (⟨rC 3 h3, P3⟩ :: ⟨rC 2 h2, P2⟩ :: ⟨rC 1 h1, P1⟩ :: ⟨rC 0 h0, P0⟩ :: L)
      (Rect.unit (s := S4x1x256) ![0, 0, 0] S4x1x256.size h).toLoadRect = joinC P := by
  unfold View.readCov
  funext y
  rw [View.readAt_apply, read_carry v _ P0 P1 P2 P3 P e0 e1 e2 e3]
  refine congrArg (joinC P) (funext fun a => Fin.ext ?_)
  fin_cases a
  · show 0 + 1 * (y 0).val = (y 0).val; omega
  · show 0 + 1 * (y 1).val = (y 1).val; omega
  · show 0 + 1 * (y 2).val = (y 2).val; omega

theorem read_acc (v : View sig' κ' sp' S4x64x256 .f32) (f : v.ty.Contents (Elt F)) (L0 L1 L2 L3 R0 R1 R2 R3 : Vec F S64x128 .f32)
    (A B : Fin 4 → Vec F S64x128 .f32) (e0 : L0 = A 0) (e1 : L1 = A 1) (e2 : L2 = A 2) (e3 : L3 = A 3)
    (d0 : R0 = B 0) (d1 : R1 = B 1) (d2 : R2 = B 2) (d3 : R3 = B 3)
    (a1 a2 a3 a4 a5 b1 b2 b3 b4 b5 c1 c2 c3 c4 c5 g1 g2 g3 g4 g5 i1 i2 i3 i4 i5 j1 j2 j3 j4 j5 k1 k2 k3 k4 k5 l1 l2 l3 l4 l5)
    (q0 q1 q2 q3 s0 s1 s2 s3) (L : List (View.Piece (Elt F) S4x64x256 .f32)) :
    v.read (Elt F) (v.writes (Elt F) f
      (⟨rA 3 128 a1 a2 a3 a4 a5, Rect.payAlong (r := Rect.unit (s := S64x256) ![0, 128] S64x128.size a2) s3 R3⟩
        :: ⟨rA 3 0 b1 b2 b3 b4 b5, Rect.payAlong (r := Rect.unit (s := S64x256) ![0, 0] S64x128.size b2) q3 L3⟩
        :: ⟨rA 2 128 c1 c2 c3 c4 c5, Rect.payAlong (r := Rect.unit (s := S64x256) ![0, 128] S64x128.size c2) s2 R2⟩
        :: ⟨rA 2 0 g1 g2 g3 g4 g5, Rect.payAlong (r := Rect.unit (s := S64x256) ![0, 0] S64x128.size g2) q2 L2⟩
        :: ⟨rA 1 128 i1 i2 i3 i4 i5, Rect.payAlong (r := Rect.unit (s := S64x256) ![0, 128] S64x128.size i2) s1 R1⟩
        :: ⟨rA 1 0 j1 j2 j3 j4 j5, Rect.payAlong (r := Rect.unit (s := S64x256) ![0, 0] S64x128.size j2) q1 L1⟩
        :: ⟨rA 0 128 k1 k2 k3 k4 k5, Rect.payAlong (r := Rect.unit (s := S64x256) ![0, 128] S64x128.size k2) s0 R0⟩
        :: ⟨rA 0 0 l1 l2 l3 l4 l5, Rect.payAlong (r := Rect.unit (s := S64x256) ![0, 0] S64x128.size l2) q0 L0⟩ :: L)) = joinA A B := by
  subst e0 e1 e2 e3 d0 d1 d2 d3
  have keyL : ∀ (p : Fin 4) (h1 h2 h3 h4 h5 hR) (x : (rA p.val 0 h1 h2 h3 h4 h5).shape.Idx),
      Rect.payAlong (r := Rect.unit (s := S64x256) ![0, 0] S64x128.size h2) (R := rA p.val 0 h1 h2 h3 h4 h5) hR (A p) x
        = joinA A B ((rA p.val 0 h1 h2 h3 h4 h5).emb x) := by
    intro p h1 h2 h3 h4 h5 hR x
    obtain ⟨e0, e1, e2⟩ := rA_emb p.val 0 h1 h2 h3 h4 h5 x
    have hx2 : (x 2).val < 128 := (x 2).isLt
    rw [rA_pay, joinA, dif_pos (by rw [e2]; omega)]
    have hp : ((rA p.val 0 h1 h2 h3 h4 h5).emb x 0) = p := Fin.ext e0
    rw [hp]
    refine congrArg (A p) (funext fun a => Fin.ext ?_)
    fin_cases a
    · exact e1.symm
    · exact (e2.trans (Nat.zero_add _)).symm
  have keyR : ∀ (p : Fin 4) (h1 h2 h3 h4 h5 hR) (x : (rA p.val 128 h1 h2 h3 h4 h5).shape.Idx),
      Rect.payAlong (r := Rect.unit (s := S64x256) ![0, 128] S64x128.size h2) (R := rA p.val 128 h1 h2 h3 h4 h5) hR (B p) x
        = joinA A B ((rA p.val 128 h1 h2 h3 h4 h5).emb x) := by
    intro p h1 h2 h3 h4 h5 hR x
    obtain ⟨e0, e1, e2⟩ := rA_emb p.val 128 h1 h2 h3 h4 h5 x
    have hx2 : (x 2).val < 128 := (x 2).isLt
    rw [rA_pay, joinA, dif_neg (by rw [e2]; omega)]
    have hp : ((rA p.val 128 h1 h2 h3 h4 h5).emb x 0) = p := Fin.ext e0
    rw [hp]
    refine congrArg (B p) (funext fun a => Fin.ext ?_)
    fin_cases a
    · exact e1.symm
    · show (x 2).val = ((rA p.val 128 h1 h2 h3 h4 h5).emb x 2).val - 128
      rw [e2]; omega
  rw [show ∀ a b c d e f g h : View.Piece (Elt F) S4x64x256 .f32, a :: b :: c :: d :: e :: f :: g :: h :: L = [a, b, c, d, e, f, g, h] ++ L from
    fun _ _ _ _ _ _ _ _ => rfl, View.writes_append]
  funext y
  refine View.read_writes_apply_of_pieces v _ (joinA A B) _ ?_ y ?_
  · simp only [List.forall_mem_cons]
    exact ⟨keyR 3 _ _ _ _ _ _, keyL 3 _ _ _ _ _ _, keyR 2 _ _ _ _ _ _, keyL 2 _ _ _ _ _ _, keyR 1 _ _ _ _ _ _, keyL 1 _ _ _ _ _ _,
      keyR 0 _ _ _ _ _ _, keyL 0 _ _ _ _ _ _, by simp⟩
  · have h4 : (y 0).val < 4 := (y 0).isLt
    have h5 : (y 2).val < 256 := (y 2).isLt
    rcases (by omega : (y 0).val = 0 ∨ (y 0).val = 1 ∨ (y 0).val = 2 ∨ (y 0).val = 3) with e | e | e | e <;>
      rcases (by omega : (y 2).val < 128 ∨ 128 ≤ (y 2).val) with d | d
    · exact ⟨_, .tail _ (.tail _ (.tail _ (.tail _ (.tail _ (.tail _ (.tail _ (.head _))))))), rA_mem 0 0 l1 l2 l3 l4 l5 y e (by omega) (by omega)⟩
    · exact ⟨_, .tail _ (.tail _ (.tail _ (.tail _ (.tail _ (.tail _ (.head _)))))), rA_mem 0 128 k1 k2 k3 k4 k5 y e (by omega) (by omega)⟩
    · exact ⟨_, .tail _ (.tail _ (.tail _ (.tail _ (.tail _ (.head _))))), rA_mem 1 0 j1 j2 j3 j4 j5 y e (by omega) (by omega)⟩
    · exact ⟨_, .tail _ (.tail _ (.tail _ (.tail _ (.head _)))), rA_mem 1 128 i1 i2 i3 i4 i5 y e (by omega) (by omega)⟩
    · exact ⟨_, .tail _ (.tail _ (.tail _ (.head _))), rA_mem 2 0 g1 g2 g3 g4 g5 y e (by omega) (by omega)⟩
    · exact ⟨_, .tail _ (.tail _ (.head _)), rA_mem 2 128 c1 c2 c3 c4 c5 y e (by omega) (by omega)⟩
    · exact ⟨_, .tail _ (.head _), rA_mem 3 0 b1 b2 b3 b4 b5 y e (by omega) (by omega)⟩
    · exact ⟨_, .head _, rA_mem 3 128 a1 a2 a3 a4 a5 y e (by omega) (by omega)⟩

/-- A half of a pair, loaded. -/
theorem load_half (v : View sig' κ' sp' S4x64x256 .f32) (f : v.ty.Contents (Elt F)) (p o : ℕ) (hp : p < 4) (ho : o + 128 ≤ 256) (h1 h2 h3 h4 h5 hR) :
    LoadRect.valAlong (lr := (Rect.unit (s := S64x256) ![0, o] S64x128.size h2).toLoadRect) hR
      (View.readAt (Elt F) v ((Rect.unit (s := S4x64x256) ![p, 0, 0] S1x64x256.size h1).withinL
        ((Rect.unit (s := S64x256) ![0, o] S64x128.size h2).toLoadRect.consLift ![1, 64, 256] h3 h4) h5) f)
    = fun y : S64x128.Idx => v.read (Elt F) f (ix3 ⟨p, hp⟩ (y 0) ⟨o + (y 1).val, by have : (y 1).val < 128 := (y 1).isLt; omega⟩) := by
  funext y
  show View.readAt (Elt F) v _ f (Shape.reshapeEquiv hR y) = _
  rw [View.readAt_apply]
  refine congrArg (v.read (Elt F) f) (funext fun a => Fin.ext ?_)
  have hx : Shape.reshapeEquiv hR y = Fin.cons ⟨0, Nat.one_pos⟩ y := Shape.reshapeEquiv_cons_one (d := S64x128.size) _ _
  rw [hx]
  fin_cases a
  · show p + 0 + 1 * 0 = p
    omega
  · show 0 + 0 + 1 * (y 0).val = (y 0).val
    omega
  · show 0 + o + 1 * (y 1).val = o + (y 1).val
    omega

theorem load_left (v : View sig' κ' sp' S4x64x256 .f32) (f : v.ty.Contents (Elt F)) (p : Fin 4) (o : ℕ) (ho : o = p.val) (h1 h2 h3 h4 h5 hR) :
    LoadRect.valAlong (lr := (Rect.unit (s := S64x256) ![0, 0] S64x128.size h2).toLoadRect) hR
      (View.readAt (Elt F) v ((Rect.unit (s := S4x64x256) ![o, 0, 0] S1x64x256.size h1).withinL
        ((Rect.unit (s := S64x256) ![0, 0] S64x128.size h2).toLoadRect.consLift ![1, 64, 256] h3 h4) h5) f)
    = aPL (v.read (Elt F) f) p := by
  subst ho
  rw [load_half v f p.val 0 p.isLt (by omega)]
  funext y
  exact congrArg (v.read (Elt F) f) (funext fun a => Fin.ext (by
    fin_cases a
    · rfl
    · rfl
    · exact Nat.zero_add _))

theorem load_right (v : View sig' κ' sp' S4x64x256 .f32) (f : v.ty.Contents (Elt F)) (p : Fin 4) (o : ℕ) (ho : o = p.val) (h1 h2 h3 h4 h5 hR) :
    LoadRect.valAlong (lr := (Rect.unit (s := S64x256) ![0, 128] S64x128.size h2).toLoadRect) hR
      (View.readAt (Elt F) v ((Rect.unit (s := S4x64x256) ![o, 0, 0] S1x64x256.size h1).withinL
        ((Rect.unit (s := S64x256) ![0, 128] S64x128.size h2).toLoadRect.consLift ![1, 64, 256] h3 h4) h5) f)
    = aPR (v.read (Elt F) f) p := by
  subst ho
  exact load_half v f p.val 128 p.isLt (by omega) h1 h2 h3 h4 h5 hR

theorem load_carry (v : View sig' κ' sp' S4x1x256 .f32) (f : v.ty.Contents (Elt F)) (p : Fin 4) (o : ℕ) (ho : o = p.val) (h) :
    View.readAt (Elt F) v (Rect.unit (s := S4x1x256) ![o, 0, 0] S1x1x256.size h).toLoadRect f = cP (v.read (Elt F) f) p := by
  subst ho
  funext y
  rw [View.readAt_apply]
  have h0 : (y 0).val < 1 := (y 0).isLt
  have h1 : (y 1).val < 1 := (y 1).isLt
  refine congrArg (v.read (Elt F) f) (funext fun a => Fin.ext ?_)
  fin_cases a
  · show p.val + 1 * (y 0).val = p.val; omega
  · show 0 + 1 * (y 1).val = 0; omega
  · show 0 + 1 * (y 2).val = (y 2).val; omega

theorem load_q (v : View sig' κ' sp' S1x8x128x128 .bf16) (f : v.ty.Contents (Elt F)) (p : Fin 4) (o : ℕ) (ho : o = 2 * p.val) (h) :
    View.readAt (Elt F) v (Rect.unit (s := S1x8x128x128) ![0, o, 0, 0] S1x2x128x128.size h).toLoadRect f = qP (v.read (Elt F) f) p := by
  subst ho
  funext y
  rw [View.readAt_apply]
  have h0 : (y 0).val < 1 := (y 0).isLt
  refine congrArg (v.read (Elt F) f) (funext fun a => Fin.ext ?_)
  fin_cases a
  · show 0 + 1 * (y 0).val = 0; omega
  · show 2 * p.val + 1 * (y 1).val = 2 * p.val + (y 1).val; omega
  · show 0 + 1 * (y 2).val = (y 2).val; omega
  · show 0 + 1 * (y 3).val = (y 3).val; omega

theorem load_k (v : View sig' κ' sp' S1x8192x512 .bf16) (f : v.ty.Contents (Elt F)) (j : ℕ) (hj : j < 64) (p : Fin 4) (off : Fin 3 → ℕ)
    (ho : off = ![0, 128 * j, 128 * p.val]) (h) :
    View.readAt (Elt F) v (Rect.unit (s := S1x8192x512) off S1x128x128.size h).toLoadRect f = kP (v.read (Elt F) f) j p := by
  subst ho
  funext y
  rw [View.readAt_apply]
  have h0 : (y 0).val < 1 := (y 0).isLt
  have h1 : (y 1).val < 128 := (y 1).isLt
  refine congrArg (v.read (Elt F) f) (funext fun a => Fin.ext ?_)
  fin_cases a
  · show 0 + 1 * (y 0).val = 0; omega
  · show 128 * j + 1 * (y 1).val = (128 * j + (y 1).val) % 8192; omega
  · show 128 * p.val + 1 * (y 2).val = 128 * p.val + (y 2).val; omega

theorem load_v (v : View sig' κ' sp' S1x512x8192 .bf16) (f : v.ty.Contents (Elt F)) (j : ℕ) (hj : j < 64) (p : Fin 4) (off : Fin 3 → ℕ)
    (ho : off = ![0, 128 * p.val, 128 * j]) (h) :
    View.readAt (Elt F) v (Rect.unit (s := S1x512x8192) off S1x128x128.size h).toLoadRect f = vP (v.read (Elt F) f) j p := by
  subst ho
  funext y
  rw [View.readAt_apply]
  have h0 : (y 0).val < 1 := (y 0).isLt
  have h2 : (y 2).val < 128 := (y 2).isLt
  refine congrArg (v.read (Elt F) f) (funext fun a => Fin.ext ?_)
  fin_cases a
  · show 0 + 1 * (y 0).val = 0; omega
  · show 128 * p.val + 1 * (y 1).val = 128 * p.val + (y 1).val; omega
  · show 128 * j + 1 * (y 2).val = (128 * j + (y 2).val) % 8192; omega

/-! Loads of the first tile: the state was stored whole (`Z`), then some of its blocks, none of them the one loaded. -/

theorem rC_set (q : ℕ) (h) (y : S4x1x256.Idx) (hy : y ∈ (rC q h).set) : (y 0).val = q := by
  rw [Rect.mem_set_unit] at hy
  have h0 : q ≤ (y 0).val ∧ (y 0).val < q + 1 := hy 0
  omega

theorem rA_set (q o : ℕ) (h1 h2 h3 h4 h5) (y : S4x64x256.Idx) (hy : y ∈ (rA q o h1 h2 h3 h4 h5).set) :
    (y 0).val = q ∧ o ≤ (y 2).val ∧ (y 2).val < o + 128 := by
  obtain ⟨x, rfl⟩ := (rA q o h1 h2 h3 h4 h5).exists_idx_of_mem hy
  obtain ⟨e0, e1, e2⟩ := rA_emb q o h1 h2 h3 h4 h5 x
  have hx : (x 2).val < 128 := (x 2).isLt
  exact ⟨e0, (Nat.le_add_right o _).trans_eq e2.symm, e2.trans_lt (Nat.add_lt_add_left hx o)⟩

theorem cov_row [∀ e, Nonempty (Elt F e)] (v : View sig' κ' sp' S4x1x256 .f32) (p : Fin 4) (o : ℕ) (ho : o = p.val) (h hw)
    (Z : Vec F S4x1x256 .f32) (pre L : List (View.Piece (Elt F) S4x1x256 .f32))
    (hL : L = pre ++ [⟨Rect.unit (s := S4x1x256) ![0, 0, 0] S4x1x256.size hw, Z⟩])
    (hpre : ∀ pc ∈ pre, ∃ q, q ≠ p.val ∧ ∀ y ∈ pc.1.set, (y 0).val = q) :
    v.readCov L (Rect.unit (s := S4x1x256) ![o, 0, 0] S1x1x256.size h).toLoadRect = cP Z p := by
  subst ho hL
  funext y
  unfold View.readCov
  rw [View.readAt_apply, View.writes_append, View.read_writes_apply_of_forall_not_mem]
  · have h0 : (y 0).val < 1 := (y 0).isLt
    have h1 : (y 1).val < 1 := (y 1).isLt
    refine View.read_writes_cons_unit_of_mem v _ hw Z [] _ (ix3 p 0 (y 2)) rfl fun a => ?_
    fin_cases a
    · show p.val + 1 * (y 0).val = 0 + p.val; omega
    · show 0 + 1 * (y 1).val = 0 + 0; omega
    · show 0 + 1 * (y 2).val = 0 + (y 2).val; omega
  · intro pc hpc hmem
    obtain ⟨q, hq, hy⟩ := hpre pc hpc
    have h0 : (y 0).val < 1 := (y 0).isLt
    have := hy _ hmem
    have h2 : p.val + 1 * (y 0).val = q := this
    omega

theorem cov_half [∀ e, Nonempty (Elt F e)] (v : View sig' κ' sp' S4x64x256 .f32) (p : Fin 4) (o : ℕ) (ho : o + 128 ≤ 256) (h1 h2 h3 h4 h5 hR hw)
    (Z : Vec F S4x64x256 .f32) (pre L : List (View.Piece (Elt F) S4x64x256 .f32))
    (hL : L = pre ++ [⟨Rect.unit (s := S4x64x256) ![0, 0, 0] S4x64x256.size hw, Z⟩])
    (hpre : ∀ pc ∈ pre, ∃ q o', (q ≠ p.val ∨ o' + 128 ≤ o ∨ o + 128 ≤ o') ∧ ∀ y ∈ pc.1.set, (y 0).val = q ∧ o' ≤ (y 2).val ∧ (y 2).val < o' + 128) :
    LoadRect.valAlong (lr := (Rect.unit (s := S64x256) ![0, o] S64x128.size h2).toLoadRect) hR
      (v.readCov L ((Rect.unit (s := S4x64x256) ![p.val, 0, 0] S1x64x256.size h1).withinL
        ((Rect.unit (s := S64x256) ![0, o] S64x128.size h2).toLoadRect.consLift ![1, 64, 256] h3 h4) h5))
    = fun y : S64x128.Idx => Z (ix3 p (y 0) ⟨o + (y 1).val, by have : (y 1).val < 128 := (y 1).isLt; omega⟩) := by
  subst hL
  unfold View.readCov
  rw [load_half v _ p.val o p.isLt ho]
  funext y
  have hy1 : (y 1).val < 128 := (y 1).isLt
  rw [View.writes_append, View.read_writes_apply_of_forall_not_mem]
  · refine View.read_writes_cons_unit_of_mem v _ hw Z [] _ _ rfl fun a => ?_
    fin_cases a
    · exact (Nat.zero_add _).symm
    · exact (Nat.zero_add _).symm
    · exact (Nat.zero_add _).symm
  · intro pc hpc hmem
    obtain ⟨q, o', hq, hy⟩ := hpre pc hpc
    obtain ⟨e0, e1, e2⟩ := hy _ hmem
    have e0' : p.val = q := e0
    have e1' : o' ≤ o + (y 1).val := e1
    have e2' : o + (y 1).val < o' + 128 := e2
    omega

theorem cov_left [∀ e, Nonempty (Elt F e)] (v : View sig' κ' sp' S4x64x256 .f32) (p : Fin 4) (o : ℕ) (ho : o = p.val) (h1 h2 h3 h4 h5 hR hw)
    (Z : Vec F S4x64x256 .f32) (pre L : List (View.Piece (Elt F) S4x64x256 .f32))
    (hL : L = pre ++ [⟨Rect.unit (s := S4x64x256) ![0, 0, 0] S4x64x256.size hw, Z⟩])
    (hpre : ∀ pc ∈ pre, ∃ q o', (q ≠ p.val ∨ o' + 128 ≤ 0 ∨ 0 + 128 ≤ o') ∧ ∀ y ∈ pc.1.set, (y 0).val = q ∧ o' ≤ (y 2).val ∧ (y 2).val < o' + 128) :
    LoadRect.valAlong (lr := (Rect.unit (s := S64x256) ![0, 0] S64x128.size h2).toLoadRect) hR
      (v.readCov L ((Rect.unit (s := S4x64x256) ![o, 0, 0] S1x64x256.size h1).withinL
        ((Rect.unit (s := S64x256) ![0, 0] S64x128.size h2).toLoadRect.consLift ![1, 64, 256] h3 h4) h5))
    = aPL Z p := by
  subst ho
  rw [cov_half v p 0 (by omega) h1 h2 h3 h4 h5 hR hw Z pre L hL hpre]
  funext y
  exact congrArg Z (funext fun a => Fin.ext (by
    fin_cases a
    · rfl
    · rfl
    · exact Nat.zero_add _))

theorem cov_right [∀ e, Nonempty (Elt F e)] (v : View sig' κ' sp' S4x64x256 .f32) (p : Fin 4) (o : ℕ) (ho : o = p.val) (h1 h2 h3 h4 h5 hR hw)
    (Z : Vec F S4x64x256 .f32) (pre L : List (View.Piece (Elt F) S4x64x256 .f32))
    (hL : L = pre ++ [⟨Rect.unit (s := S4x64x256) ![0, 0, 0] S4x64x256.size hw, Z⟩])
    (hpre : ∀ pc ∈ pre, ∃ q o', (q ≠ p.val ∨ o' + 128 ≤ 128 ∨ 128 + 128 ≤ o') ∧ ∀ y ∈ pc.1.set, (y 0).val = q ∧ o' ≤ (y 2).val ∧ (y 2).val < o' + 128) :
    LoadRect.valAlong (lr := (Rect.unit (s := S64x256) ![0, 128] S64x128.size h2).toLoadRect) hR
      (v.readCov L ((Rect.unit (s := S4x64x256) ![o, 0, 0] S1x64x256.size h1).withinL
        ((Rect.unit (s := S64x256) ![0, 128] S64x128.size h2).toLoadRect.consLift ![1, 64, 256] h3 h4) h5))
    = aPR Z p := by
  subst ho
  exact cov_half v p 128 (by omega) h1 h2 h3 h4 h5 hR hw Z pre L hL hpre

theorem cov_row0 [∀ e, Nonempty (Elt F e)] (v : View sig' κ' sp' S4x1x256 .f32) (h hw) (Z : Vec F S4x1x256 .f32) :
    v.readCov [⟨Rect.unit (s := S4x1x256) ![0, 0, 0] S4x1x256.size hw, Z⟩]
      (Rect.unit (s := S4x1x256) ![0, 0, 0] S1x1x256.size h).toLoadRect = cP Z 0 :=
  cov_row v 0 0 rfl h hw Z [] _ rfl (by simp)

theorem cov_left0 [∀ e, Nonempty (Elt F e)] (v : View sig' κ' sp' S4x64x256 .f32) (h1 h2 h3 h4 h5 hR hw) (Z : Vec F S4x64x256 .f32) :
    LoadRect.valAlong (lr := (Rect.unit (s := S64x256) ![0, 0] S64x128.size h2).toLoadRect) hR
      (v.readCov [⟨Rect.unit (s := S4x64x256) ![0, 0, 0] S4x64x256.size hw, Z⟩]
        ((Rect.unit (s := S4x64x256) ![0, 0, 0] S1x64x256.size h1).withinL
        ((Rect.unit (s := S64x256) ![0, 0] S64x128.size h2).toLoadRect.consLift ![1, 64, 256] h3 h4) h5))
    = aPL Z 0 :=
  cov_left v 0 0 rfl h1 h2 h3 h4 h5 hR hw Z [] _ rfl (by simp)

theorem cov_row1 [∀ e, Nonempty (Elt F e)] (v : View sig' κ' sp' S4x1x256 .f32) (h hw h0) (P0 : Vec F S1x1x256 .f32) (Z : Vec F S4x1x256 .f32) :
    v.readCov (⟨rC 0 h0, P0⟩ :: [⟨Rect.unit (s := S4x1x256) ![0, 0, 0] S4x1x256.size hw, Z⟩])
      (Rect.unit (s := S4x1x256) ![1, 0, 0] S1x1x256.size h).toLoadRect = cP Z 1 := by
  refine cov_row v 1 1 rfl h hw Z [⟨rC 0 h0, P0⟩] _ rfl ?_
  simp only [List.forall_mem_cons]
  exact ⟨⟨0, by decide, rC_set 0 h0⟩, by simp⟩

theorem cov_row2 [∀ e, Nonempty (Elt F e)] (v : View sig' κ' sp' S4x1x256 .f32) (h hw h0 h1) (P0 P1 : Vec F S1x1x256 .f32) (Z : Vec F S4x1x256 .f32) :
    v.readCov (⟨rC 1 h1, P1⟩ :: ⟨rC 0 h0, P0⟩ :: [⟨Rect.unit (s := S4x1x256) ![0, 0, 0] S4x1x256.size hw, Z⟩])
      (Rect.unit (s := S4x1x256) ![2, 0, 0] S1x1x256.size h).toLoadRect = cP Z 2 := by
  refine cov_row v 2 2 rfl h hw Z [⟨rC 1 h1, P1⟩, ⟨rC 0 h0, P0⟩] _ rfl ?_
  simp only [List.forall_mem_cons]
  exact ⟨⟨1, by decide, rC_set 1 h1⟩, ⟨0, by decide, rC_set 0 h0⟩, by simp⟩

theorem cov_row3 [∀ e, Nonempty (Elt F e)] (v : View sig' κ' sp' S4x1x256 .f32) (h hw h0 h1 h2) (P0 P1 P2 : Vec F S1x1x256 .f32) (Z : Vec F S4x1x256 .f32) :
    v.readCov (⟨rC 2 h2, P2⟩ :: ⟨rC 1 h1, P1⟩ :: ⟨rC 0 h0, P0⟩ :: [⟨Rect.unit (s := S4x1x256) ![0, 0, 0] S4x1x256.size hw, Z⟩])
      (Rect.unit (s := S4x1x256) ![3, 0, 0] S1x1x256.size h).toLoadRect = cP Z 3 := by
  refine cov_row v 3 3 rfl h hw Z [⟨rC 2 h2, P2⟩, ⟨rC 1 h1, P1⟩, ⟨rC 0 h0, P0⟩] _ rfl ?_
  simp only [List.forall_mem_cons]
  exact ⟨⟨2, by decide, rC_set 2 h2⟩, ⟨1, by decide, rC_set 1 h1⟩, ⟨0, by decide, rC_set 0 h0⟩, by simp⟩

theorem cov_right0 [∀ e, Nonempty (Elt F e)] (v : View sig' κ' sp' S4x64x256 .f32) (h1 h2 h3 h4 h5 hR hw a0 b0 c0 d0 e0 s0)
    (P0 : Vec F S64x128 .f32) (Z : Vec F S4x64x256 .f32) :
    LoadRect.valAlong (lr := (Rect.unit (s := S64x256) ![0, 128] S64x128.size h2).toLoadRect) hR
      (v.readCov (⟨rA 0 0 a0 b0 c0 d0 e0, Rect.payAlong (r := Rect.unit (s := S64x256) ![0, 0] S64x128.size b0) s0 P0⟩ :: [⟨Rect.unit (s := S4x64x256) ![0, 0, 0] S4x64x256.size hw, Z⟩])
        ((Rect.unit (s := S4x64x256) ![0, 0, 0] S1x64x256.size h1).withinL
        ((Rect.unit (s := S64x256) ![0, 128] S64x128.size h2).toLoadRect.consLift ![1, 64, 256] h3 h4) h5))
    = aPR Z 0 := by
  refine cov_right v 0 0 rfl h1 h2 h3 h4 h5 hR hw Z [⟨rA 0 0 a0 b0 c0 d0 e0, Rect.payAlong (r := Rect.unit (s := S64x256) ![0, 0] S64x128.size b0) s0 P0⟩] _ rfl ?_
  simp only [List.forall_mem_cons]
  exact ⟨⟨0, 0, by decide, rA_set 0 0 a0 b0 c0 d0 e0⟩, by simp⟩

theorem cov_left1 [∀ e, Nonempty (Elt F e)] (v : View sig' κ' sp' S4x64x256 .f32) (h1 h2 h3 h4 h5 hR hw a0 b0 c0 d0 e0 s0 a1 b1 c1 d1 e1 s1)
    (P0 P1 : Vec F S64x128 .f32) (Z : Vec F S4x64x256 .f32) :
    LoadRect.valAlong (lr := (Rect.unit (s := S64x256) ![0, 0] S64x128.size h2).toLoadRect) hR
      (v.readCov (⟨rA 0 128 a0 b0 c0 d0 e0, Rect.payAlong (r := Rect.unit (s := S64x256) ![0, 128] S64x128.size b0) s0 P0⟩ :: ⟨rA 0 0 a1 b1 c1 d1 e1, Rect.payAlong (r := Rect.unit (s := S64x256) ![0, 0] S64x128.size b1) s1 P1⟩ :: [⟨Rect.unit (s := S4x64x256) ![0, 0, 0] S4x64x256.size hw, Z⟩])
        ((Rect.unit (s := S4x64x256) ![1, 0, 0] S1x64x256.size h1).withinL
        ((Rect.unit (s := S64x256) ![0, 0] S64x128.size h2).toLoadRect.consLift ![1, 64, 256] h3 h4) h5))
    = aPL Z 1 := by
  refine cov_left v 1 1 rfl h1 h2 h3 h4 h5 hR hw Z [⟨rA 0 128 a0 b0 c0 d0 e0, Rect.payAlong (r := Rect.unit (s := S64x256) ![0, 128] S64x128.size b0) s0 P0⟩, ⟨rA 0 0 a1 b1 c1 d1 e1, Rect.payAlong (r := Rect.unit (s := S64x256) ![0, 0] S64x128.size b1) s1 P1⟩] _ rfl ?_
  simp only [List.forall_mem_cons]
  exact ⟨⟨0, 128, by decide, rA_set 0 128 a0 b0 c0 d0 e0⟩, ⟨0, 0, by decide, rA_set 0 0 a1 b1 c1 d1 e1⟩, by simp⟩

theorem cov_right1 [∀ e, Nonempty (Elt F e)] (v : View sig' κ' sp' S4x64x256 .f32) (h1 h2 h3 h4 h5 hR hw a0 b0 c0 d0 e0 s0 a1 b1 c1 d1 e1 s1 a2 b2 c2 d2 e2 s2)
    (P0 P1 P2 : Vec F S64x128 .f32) (Z : Vec F S4x64x256 .f32) :
    LoadRect.valAlong (lr := (Rect.unit (s := S64x256) ![0, 128] S64x128.size h2).toLoadRect) hR
      (v.readCov (⟨rA 1 0 a0 b0 c0 d0 e0, Rect.payAlong (r := Rect.unit (s := S64x256) ![0, 0] S64x128.size b0) s0 P0⟩ :: ⟨rA 0 128 a1 b1 c1 d1 e1, Rect.payAlong (r := Rect.unit (s := S64x256) ![0, 128] S64x128.size b1) s1 P1⟩ :: ⟨rA 0 0 a2 b2 c2 d2 e2, Rect.payAlong (r := Rect.unit (s := S64x256) ![0, 0] S64x128.size b2) s2 P2⟩ :: [⟨Rect.unit (s := S4x64x256) ![0, 0, 0] S4x64x256.size hw, Z⟩])
        ((Rect.unit (s := S4x64x256) ![1, 0, 0] S1x64x256.size h1).withinL
        ((Rect.unit (s := S64x256) ![0, 128] S64x128.size h2).toLoadRect.consLift ![1, 64, 256] h3 h4) h5))
    = aPR Z 1 := by
  refine cov_right v 1 1 rfl h1 h2 h3 h4 h5 hR hw Z [⟨rA 1 0 a0 b0 c0 d0 e0, Rect.payAlong (r := Rect.unit (s := S64x256) ![0, 0] S64x128.size b0) s0 P0⟩, ⟨rA 0 128 a1 b1 c1 d1 e1, Rect.payAlong (r := Rect.unit (s := S64x256) ![0, 128] S64x128.size b1) s1 P1⟩, ⟨rA 0 0 a2 b2 c2 d2 e2, Rect.payAlong (r := Rect.unit (s := S64x256) ![0, 0] S64x128.size b2) s2 P2⟩] _ rfl ?_
  simp only [List.forall_mem_cons]
  exact ⟨⟨1, 0, by decide, rA_set 1 0 a0 b0 c0 d0 e0⟩, ⟨0, 128, by decide, rA_set 0 128 a1 b1 c1 d1 e1⟩, ⟨0, 0, by decide, rA_set 0 0 a2 b2 c2 d2 e2⟩, by simp⟩

theorem cov_left2 [∀ e, Nonempty (Elt F e)] (v : View sig' κ' sp' S4x64x256 .f32) (h1 h2 h3 h4 h5 hR hw a0 b0 c0 d0 e0 s0 a1 b1 c1 d1 e1 s1 a2 b2 c2 d2 e2 s2 a3 b3 c3 d3 e3 s3)
    (P0 P1 P2 P3 : Vec F S64x128 .f32) (Z : Vec F S4x64x256 .f32) :
    LoadRect.valAlong (lr := (Rect.unit (s := S64x256) ![0, 0] S64x128.size h2).toLoadRect) hR
      (v.readCov (⟨rA 1 128 a0 b0 c0 d0 e0, Rect.payAlong (r := Rect.unit (s := S64x256) ![0, 128] S64x128.size b0) s0 P0⟩ :: ⟨rA 1 0 a1 b1 c1 d1 e1, Rect.payAlong (r := Rect.unit (s := S64x256) ![0, 0] S64x128.size b1) s1 P1⟩ :: ⟨rA 0 128 a2 b2 c2 d2 e2, Rect.payAlong (r := Rect.unit (s := S64x256) ![0, 128] S64x128.size b2) s2 P2⟩ :: ⟨rA 0 0 a3 b3 c3 d3 e3, Rect.payAlong (r := Rect.unit (s := S64x256) ![0, 0] S64x128.size b3) s3 P3⟩ :: [⟨Rect.unit (s := S4x64x256) ![0, 0, 0] S4x64x256.size hw, Z⟩])
        ((Rect.unit (s := S4x64x256) ![2, 0, 0] S1x64x256.size h1).withinL
        ((Rect.unit (s := S64x256) ![0, 0] S64x128.size h2).toLoadRect.consLift ![1, 64, 256] h3 h4) h5))
    = aPL Z 2 := by
  refine cov_left v 2 2 rfl h1 h2 h3 h4 h5 hR hw Z [⟨rA 1 128 a0 b0 c0 d0 e0, Rect.payAlong (r := Rect.unit (s := S64x256) ![0, 128] S64x128.size b0) s0 P0⟩, ⟨rA 1 0 a1 b1 c1 d1 e1, Rect.payAlong (r := Rect.unit (s := S64x256) ![0, 0] S64x128.size b1) s1 P1⟩, ⟨rA 0 128 a2 b2 c2 d2 e2, Rect.payAlong (r := Rect.unit (s := S64x256) ![0, 128] S64x128.size b2) s2 P2⟩, ⟨rA 0 0 a3 b3 c3 d3 e3, Rect.payAlong (r := Rect.unit (s := S64x256) ![0, 0] S64x128.size b3) s3 P3⟩] _ rfl ?_
  simp only [List.forall_mem_cons]
  exact ⟨⟨1, 128, by decide, rA_set 1 128 a0 b0 c0 d0 e0⟩, ⟨1, 0, by decide, rA_set 1 0 a1 b1 c1 d1 e1⟩, ⟨0, 128, by decide, rA_set 0 128 a2 b2 c2 d2 e2⟩, ⟨0, 0, by decide, rA_set 0 0 a3 b3 c3 d3 e3⟩, by simp⟩

theorem cov_right2 [∀ e, Nonempty (Elt F e)] (v : View sig' κ' sp' S4x64x256 .f32) (h1 h2 h3 h4 h5 hR hw a0 b0 c0 d0 e0 s0 a1 b1 c1 d1 e1 s1 a2 b2 c2 d2 e2 s2 a3 b3 c3 d3 e3 s3 a4 b4 c4 d4 e4 s4)
    (P0 P1 P2 P3 P4 : Vec F S64x128 .f32) (Z : Vec F S4x64x256 .f32) :
    LoadRect.valAlong (lr := (Rect.unit (s := S64x256) ![0, 128] S64x128.size h2).toLoadRect) hR
      (v.readCov (⟨rA 2 0 a0 b0 c0 d0 e0, Rect.payAlong (r := Rect.unit (s := S64x256) ![0, 0] S64x128.size b0) s0 P0⟩ :: ⟨rA 1 128 a1 b1 c1 d1 e1, Rect.payAlong (r := Rect.unit (s := S64x256) ![0, 128] S64x128.size b1) s1 P1⟩ :: ⟨rA 1 0 a2 b2 c2 d2 e2, Rect.payAlong (r := Rect.unit (s := S64x256) ![0, 0] S64x128.size b2) s2 P2⟩ :: ⟨rA 0 128 a3 b3 c3 d3 e3, Rect.payAlong (r := Rect.unit (s := S64x256) ![0, 128] S64x128.size b3) s3 P3⟩ :: ⟨rA 0 0 a4 b4 c4 d4 e4, Rect.payAlong (r := Rect.unit (s := S64x256) ![0, 0] S64x128.size b4) s4 P4⟩ :: [⟨Rect.unit (s := S4x64x256) ![0, 0, 0] S4x64x256.size hw, Z⟩])
        ((Rect.unit (s := S4x64x256) ![2, 0, 0] S1x64x256.size h1).withinL
        ((Rect.unit (s := S64x256) ![0, 128] S64x128.size h2).toLoadRect.consLift ![1, 64, 256] h3 h4) h5))
    = aPR Z 2 := by
  refine cov_right v 2 2 rfl h1 h2 h3 h4 h5 hR hw Z [⟨rA 2 0 a0 b0 c0 d0 e0, Rect.payAlong (r := Rect.unit (s := S64x256) ![0, 0] S64x128.size b0) s0 P0⟩, ⟨rA 1 128 a1 b1 c1 d1 e1, Rect.payAlong (r := Rect.unit (s := S64x256) ![0, 128] S64x128.size b1) s1 P1⟩, ⟨rA 1 0 a2 b2 c2 d2 e2, Rect.payAlong (r := Rect.unit (s := S64x256) ![0, 0] S64x128.size b2) s2 P2⟩, ⟨rA 0 128 a3 b3 c3 d3 e3, Rect.payAlong (r := Rect.unit (s := S64x256) ![0, 128] S64x128.size b3) s3 P3⟩, ⟨rA 0 0 a4 b4 c4 d4 e4, Rect.payAlong (r := Rect.unit (s := S64x256) ![0, 0] S64x128.size b4) s4 P4⟩] _ rfl ?_
  simp only [List.forall_mem_cons]
  exact ⟨⟨2, 0, by decide, rA_set 2 0 a0 b0 c0 d0 e0⟩, ⟨1, 128, by decide, rA_set 1 128 a1 b1 c1 d1 e1⟩, ⟨1, 0, by decide, rA_set 1 0 a2 b2 c2 d2 e2⟩, ⟨0, 128, by decide, rA_set 0 128 a3 b3 c3 d3 e3⟩, ⟨0, 0, by decide, rA_set 0 0 a4 b4 c4 d4 e4⟩, by simp⟩

theorem cov_left3 [∀ e, Nonempty (Elt F e)] (v : View sig' κ' sp' S4x64x256 .f32) (h1 h2 h3 h4 h5 hR hw a0 b0 c0 d0 e0 s0 a1 b1 c1 d1 e1 s1 a2 b2 c2 d2 e2 s2 a3 b3 c3 d3 e3 s3 a4 b4 c4 d4 e4 s4 a5 b5 c5 d5 e5 s5)
    (P0 P1 P2 P3 P4 P5 : Vec F S64x128 .f32) (Z : Vec F S4x64x256 .f32) :
    LoadRect.valAlong (lr := (Rect.unit (s := S64x256) ![0, 0] S64x128.size h2).toLoadRect) hR
      (v.readCov (⟨rA 2 128 a0 b0 c0 d0 e0, Rect.payAlong (r := Rect.unit (s := S64x256) ![0, 128] S64x128.size b0) s0 P0⟩ :: ⟨rA 2 0 a1 b1 c1 d1 e1, Rect.payAlong (r := Rect.unit (s := S64x256) ![0, 0] S64x128.size b1) s1 P1⟩ :: ⟨rA 1 128 a2 b2 c2 d2 e2, Rect.payAlong (r := Rect.unit (s := S64x256) ![0, 128] S64x128.size b2) s2 P2⟩ :: ⟨rA 1 0 a3 b3 c3 d3 e3, Rect.payAlong (r := Rect.unit (s := S64x256) ![0, 0] S64x128.size b3) s3 P3⟩ :: ⟨rA 0 128 a4 b4 c4 d4 e4, Rect.payAlong (r := Rect.unit (s := S64x256) ![0, 128] S64x128.size b4) s4 P4⟩ :: ⟨rA 0 0 a5 b5 c5 d5 e5, Rect.payAlong (r := Rect.unit (s := S64x256) ![0, 0] S64x128.size b5) s5 P5⟩ :: [⟨Rect.unit (s := S4x64x256) ![0, 0, 0] S4x64x256.size hw, Z⟩])
        ((Rect.unit (s := S4x64x256) ![3, 0, 0] S1x64x256.size h1).withinL
        ((Rect.unit (s := S64x256) ![0, 0] S64x128.size h2).toLoadRect.consLift ![1, 64, 256] h3 h4) h5))
    = aPL Z 3 := by
  refine cov_left v 3 3 rfl h1 h2 h3 h4 h5 hR hw Z [⟨rA 2 128 a0 b0 c0 d0 e0, Rect.payAlong (r := Rect.unit (s := S64x256) ![0, 128] S64x128.size b0) s0 P0⟩, ⟨rA 2 0 a1 b1 c1 d1 e1, Rect.payAlong (r := Rect.unit (s := S64x256) ![0, 0] S64x128.size b1) s1 P1⟩, ⟨rA 1 128 a2 b2 c2 d2 e2, Rect.payAlong (r := Rect.unit (s := S64x256) ![0, 128] S64x128.size b2) s2 P2⟩, ⟨rA 1 0 a3 b3 c3 d3 e3, Rect.payAlong (r := Rect.unit (s := S64x256) ![0, 0] S64x128.size b3) s3 P3⟩, ⟨rA 0 128 a4 b4 c4 d4 e4, Rect.payAlong (r := Rect.unit (s := S64x256) ![0, 128] S64x128.size b4) s4 P4⟩, ⟨rA 0 0 a5 b5 c5 d5 e5, Rect.payAlong (r := Rect.unit (s := S64x256) ![0, 0] S64x128.size b5) s5 P5⟩] _ rfl ?_
  simp only [List.forall_mem_cons]
  exact ⟨⟨2, 128, by decide, rA_set 2 128 a0 b0 c0 d0 e0⟩, ⟨2, 0, by decide, rA_set 2 0 a1 b1 c1 d1 e1⟩, ⟨1, 128, by decide, rA_set 1 128 a2 b2 c2 d2 e2⟩, ⟨1, 0, by decide, rA_set 1 0 a3 b3 c3 d3 e3⟩, ⟨0, 128, by decide, rA_set 0 128 a4 b4 c4 d4 e4⟩, ⟨0, 0, by decide, rA_set 0 0 a5 b5 c5 d5 e5⟩, by simp⟩

theorem cov_right3 [∀ e, Nonempty (Elt F e)] (v : View sig' κ' sp' S4x64x256 .f32) (h1 h2 h3 h4 h5 hR hw a0 b0 c0 d0 e0 s0 a1 b1 c1 d1 e1 s1 a2 b2 c2 d2 e2 s2 a3 b3 c3 d3 e3 s3 a4 b4 c4 d4 e4 s4 a5 b5 c5 d5 e5 s5 a6 b6 c6 d6 e6 s6)
    (P0 P1 P2 P3 P4 P5 P6 : Vec F S64x128 .f32) (Z : Vec F S4x64x256 .f32) :
    LoadRect.valAlong (lr := (Rect.unit (s := S64x256) ![0, 128] S64x128.size h2).toLoadRect) hR
      (v.readCov (⟨rA 3 0 a0 b0 c0 d0 e0, Rect.payAlong (r := Rect.unit (s := S64x256) ![0, 0] S64x128.size b0) s0 P0⟩ :: ⟨rA 2 128 a1 b1 c1 d1 e1, Rect.payAlong (r := Rect.unit (s := S64x256) ![0, 128] S64x128.size b1) s1 P1⟩ :: ⟨rA 2 0 a2 b2 c2 d2 e2, Rect.payAlong (r := Rect.unit (s := S64x256) ![0, 0] S64x128.size b2) s2 P2⟩ :: ⟨rA 1 128 a3 b3 c3 d3 e3, Rect.payAlong (r := Rect.unit (s := S64x256) ![0, 128] S64x128.size b3) s3 P3⟩ :: ⟨rA 1 0 a4 b4 c4 d4 e4, Rect.payAlong (r := Rect.unit (s := S64x256) ![0, 0] S64x128.size b4) s4 P4⟩ :: ⟨rA 0 128 a5 b5 c5 d5 e5, Rect.payAlong (r := Rect.unit (s := S64x256) ![0, 128] S64x128.size b5) s5 P5⟩ :: ⟨rA 0 0 a6 b6 c6 d6 e6, Rect.payAlong (r := Rect.unit (s := S64x256) ![0, 0] S64x128.size b6) s6 P6⟩ :: [⟨Rect.unit (s := S4x64x256) ![0, 0, 0] S4x64x256.size hw, Z⟩])
        ((Rect.unit (s := S4x64x256) ![3, 0, 0] S1x64x256.size h1).withinL
        ((Rect.unit (s := S64x256) ![0, 128] S64x128.size h2).toLoadRect.consLift ![1, 64, 256] h3 h4) h5))
    = aPR Z 3 := by
  refine cov_right v 3 3 rfl h1 h2 h3 h4 h5 hR hw Z [⟨rA 3 0 a0 b0 c0 d0 e0, Rect.payAlong (r := Rect.unit (s := S64x256) ![0, 0] S64x128.size b0) s0 P0⟩, ⟨rA 2 128 a1 b1 c1 d1 e1, Rect.payAlong (r := Rect.unit (s := S64x256) ![0, 128] S64x128.size b1) s1 P1⟩, ⟨rA 2 0 a2 b2 c2 d2 e2, Rect.payAlong (r := Rect.unit (s := S64x256) ![0, 0] S64x128.size b2) s2 P2⟩, ⟨rA 1 128 a3 b3 c3 d3 e3, Rect.payAlong (r := Rect.unit (s := S64x256) ![0, 128] S64x128.size b3) s3 P3⟩, ⟨rA 1 0 a4 b4 c4 d4 e4, Rect.payAlong (r := Rect.unit (s := S64x256) ![0, 0] S64x128.size b4) s4 P4⟩, ⟨rA 0 128 a5 b5 c5 d5 e5, Rect.payAlong (r := Rect.unit (s := S64x256) ![0, 128] S64x128.size b5) s5 P5⟩, ⟨rA 0 0 a6 b6 c6 d6 e6, Rect.payAlong (r := Rect.unit (s := S64x256) ![0, 0] S64x128.size b6) s6 P6⟩] _ rfl ?_
  simp only [List.forall_mem_cons]
  exact ⟨⟨3, 0, by decide, rA_set 3 0 a0 b0 c0 d0 e0⟩, ⟨2, 128, by decide, rA_set 2 128 a1 b1 c1 d1 e1⟩, ⟨2, 0, by decide, rA_set 2 0 a2 b2 c2 d2 e2⟩, ⟨1, 128, by decide, rA_set 1 128 a3 b3 c3 d3 e3⟩, ⟨1, 0, by decide, rA_set 1 0 a4 b4 c4 d4 e4⟩, ⟨0, 128, by decide, rA_set 0 128 a5 b5 c5 d5 e5⟩, ⟨0, 0, by decide, rA_set 0 0 a6 b6 c6 d6 e6⟩, by simp⟩

end ReadBack

end Cert.KernelIdeal.Sb

end
-- ==== Proof.SbLoop.lean ====
/-
  The walk over the key blocks before the queries' own: what its label does, for any number of blocks still to come.
-/
module

public import proofs.«01_k».proof.Proof.SbTile

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic Idealize.ShloMosaic.ValueIdx

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### The counter -/

/-- The counter with `n` blocks still to come: the next block's number, `-1` when none is left. -/
def ctr : ℕ → BitVec 32
  | 0 => BitVec.ofInt 32 (-1)
  | n + 1 => BitVec.ofNat 32 n

theorem ctr_step : ∀ n : Fin 64, Scalar.subi (ctr (n.val + 1)) 1#32 = ctr n.val := by decide +kernel
theorem ctr_zero_test : Scalar.cmpi .sge (ctr 0) 0#32 = 0#1 := by decide +kernel
theorem ctr_succ_test : ∀ n : Fin 64, Scalar.cmpi .sge (ctr (n.val + 1)) 0#32 = 1#1 := by decide +kernel

theorem off9_ctr : ∀ n : Fin 64, k0_off9 (ctr (n.val + 1)) = ![0, 128 * n.val, 0] := by decide +kernel
theorem off10_ctr : ∀ n : Fin 64, k0_off10 (ctr (n.val + 1)) = ![0, 0, 128 * n.val] := by decide +kernel
theorem off11_ctr : ∀ n : Fin 64, k0_off11 (ctr (n.val + 1)) = ![0, 128 * n.val, 128] := by decide +kernel
theorem off12_ctr : ∀ n : Fin 64, k0_off12 (ctr (n.val + 1)) = ![0, 128, 128 * n.val] := by decide +kernel
theorem off13_ctr : ∀ n : Fin 64, k0_off13 (ctr (n.val + 1)) = ![0, 128 * n.val, 256] := by decide +kernel
theorem off14_ctr : ∀ n : Fin 64, k0_off14 (ctr (n.val + 1)) = ![0, 256, 128 * n.val] := by decide +kernel
theorem off15_ctr : ∀ n : Fin 64, k0_off15 (ctr (n.val + 1)) = ![0, 128 * n.val, 384] := by decide +kernel
theorem off16_ctr : ∀ n : Fin 64, k0_off16 (ctr (n.val + 1)) = ![0, 384, 128 * n.val] := by decide +kernel

/-- The counter's check: the block's rows are inside the windows. -/
theorem chk_ctr : ∀ n : Fin 64, k0_chk1 (ctr (n.val + 1)) := by decide +kernel

/-! ### The label's specification -/

section Label

variable (c : Dev nD) (i : grid0.Coords)
  (arg2 : Memref sig .tc .vmem S1x8x128x128 .bf16) (harg2 : arg2.IsWhole) (arg3 : Memref sig .tc .vmem S1x8192x512 .bf16) (harg3 : arg3.IsWhole)
  (arg4 : Memref sig .tc .vmem S1x512x8192 .bf16) (harg4 : arg4.IsWhole) (arg6 : Memref sig .tc .vmem S4x1x256 .f32) (harg6 : arg6.IsWhole)
  (arg7 : Memref sig .tc .vmem S4x64x256 .f32) (harg7 : arg7.IsWhole) (u : FVec F S128x128 .bf16)
  (x2 : Vec F S1x8x128x128 .bf16) (x3 : Vec F S1x8192x512 .bf16) (x4 : Vec F S1x512x8192 .bf16)

/-- What the walk holds: the three windows at their blocks, the carry and the accumulator. -/
def held (C : Vec F S4x1x256 .f32) (A : Vec F S4x64x256 .f32) : sProp 𝕄 :=
  iprop(owns (c : Thread nD τ) arg2 fullShare x2 ∗ owns (c : Thread nD τ) arg3 fullShare x3 ∗ owns (c : Thread nD τ) arg4 fullShare x4
    ∗ owns (c : Thread nD τ) arg6 fullShare C ∗ owns (c : Thread nD τ) arg7 fullShare A)

/-- With `n` blocks to come from the state `C`, `A`: take the state, give it back as the walk leaves it. -/
def spec (n : ℕ) (al : BitVec 1) (C : Vec F S4x1x256 .f32) (A : Vec F S4x64x256 .f32) : sWPT 𝕄 (BitVec 32 × BitVec 1) := do
  sWPT.consume (held c arg2 arg3 arg4 arg6 arg7 x2 x3 x4 C A)
  let r ← sWPT.arbitrary
  sWPT.produce (held c arg2 arg3 arg4 arg6 arg7 x2 x3 x4 (walk u x2 x3 x4 n al C A).1 (walk u x2 x3 x4 n al C A).2)
  pure r

theorem spec_apply (n : ℕ) (al : BitVec 1) (C : Vec F S4x1x256 .f32) (A : Vec F S4x64x256 .f32) (K : BitVec 32 × BitVec 1 → sProp 𝕄) :
    spec c arg2 arg3 arg4 arg6 arg7 u x2 x3 x4 n al C A K
      = iprop(held c arg2 arg3 arg4 arg6 arg7 x2 x3 x4 C A ∗ ∀ r : BitVec 32 × BitVec 1,
          (held c arg2 arg3 arg4 arg6 arg7 x2 x3 x4 (walk u x2 x3 x4 n al C A).1 (walk u x2 x3 x4 n al C A).2 -∗ K r)) := rfl

/-- The walk's test fails: the state is given back as it is. -/
theorem stop (n : ℕ) (E : Set ℕ) (arg8 : BitVec 32) (al : BitVec 1) (hno : ¬ Scalar.andi (Scalar.cmpi .sge arg8 0#32) al = 1#1)
    (C : Vec F S4x1x256 .f32) (A : Vec F S4x64x256 .f32) (hw : walk u x2 x3 x4 n al C A = (C, A)) (K : BitVec 32 × BitVec 1 → sProp 𝕄) :
    spec c arg2 arg3 arg4 arg6 arg7 u x2 x3 x4 n al C A K
      ⊢ wp frame (wpE (defs₀ (F := F)) Variants.nat (c : Thread nD τ) (some n)) E
          (cc0_while1 i arg2 harg2 arg3 harg3 arg4 harg4 arg6 harg6 u arg7 harg7 arg8 al) K := by
  rw [spec_apply, hw]
  unfold cc0_while1
  simp only [hno, ↓reduceIte, Prog.pure_eq_ret]
  iintro ⟨H, Hk⟩
  rw [wp_ret]; imodintro
  iapply Hk
  iexact H

set_option maxHeartbeats 1000000 in
set_option sl_exec.resultNames true in
set_option sl_exec.squeezeSlice true in
theorem spec_le (E : Set ℕ) : ∀ n, n ≤ 64 → ∀ al C A K, spec c arg2 arg3 arg4 arg6 arg7 u x2 x3 x4 n al C A K
      ⊢ wp frame (wpE (defs₀ (F := F)) Variants.nat (c : Thread nD τ) (some n)) E
          (defs₀ (F := F) .tc 1 ⟨i, arg2, harg2, arg3, harg3, arg4, harg4, arg6, harg6, u, arg7, harg7, ctr n, al⟩) K := by
  intro n
  induction n with
  | zero =>
    intro _ al C A K
    exact stop c i arg2 harg2 arg3 harg3 arg4 harg4 arg6 harg6 arg7 harg7 u x2 x3 x4 0 E (ctr 0) al
      (by rw [ctr_zero_test]; exact (by decide : ∀ b : BitVec 1, ¬ Scalar.andi 0#1 b = 1#1) al) C A rfl K
  | succ n ih =>
    intro hn al C A K
    by_cases hal : al = 1#1
    swap
    · refine stop c i arg2 harg2 arg3 harg3 arg4 harg4 arg6 harg6 arg7 harg7 u x2 x3 x4 (n + 1) E (ctr (n + 1)) al ?_ C A (by rw [walk, if_neg hal]) K
      rw [ctr_succ_test ⟨n, by omega⟩]
      have : al = 0#1 := by revert hal; revert al; decide
      subst this; decide
    have hwk : walk u x2 x3 x4 (n + 1) al C A = walk u x2 x3 x4 n (aliveOf (loopC x2 x3 n C)) (loopC x2 x3 n C) (loopA u x2 x3 x4 n C A) := by
      rw [walk, if_pos hal]
    rw [spec_apply, hwk]
    have hn' : n < 64 := by omega
    have hgo : Scalar.andi (Scalar.cmpi .sge (ctr (n + 1)) 0#32) al = 1#1 := by rw [ctr_succ_test ⟨n, hn'⟩, hal]; decide
    have hchk : k0_chk1 (ctr (n + 1)) := chk_ctr ⟨n, hn'⟩
    show _ ⊢ wp frame (wpE (defs₀ (F := F)) Variants.nat (c : Thread nD τ) (some (n + 1))) E
      (cc0_while1 i arg2 harg2 arg3 harg3 arg4 harg4 arg6 harg6 u arg7 harg7 (ctr (n + 1)) al) K
    have o9 := off9_ctr ⟨n, hn'⟩
    have o10 := off10_ctr ⟨n, hn'⟩
    have o11 := off11_ctr ⟨n, hn'⟩
    have o12 := off12_ctr ⟨n, hn'⟩
    have o13 := off13_ctr ⟨n, hn'⟩
    have o14 := off14_ctr ⟨n, hn'⟩
    have o15 := off15_ctr ⟨n, hn'⟩
    have o16 := off16_ctr ⟨n, hn'⟩
    have hstep := ctr_step ⟨n, hn'⟩
    generalize ctr (n + 1) = arg8 at *
    simp only [cc0_while1_eq_skeleton]; unfold cc0_while1_skel
    simp only [k0_part11_eq_skeleton, k0_part12_eq_skeleton, k0_part13_eq_skeleton, k0_part14_eq_skeleton, k0_part15_eq_skeleton,
      k0_part16_eq_skeleton, k0_part17_eq_skeleton, k0_part18_eq_skeleton]
    simp only [hgo, ↓reduceIte]
    unfold held owns
    iintro ⟨⟨⟨%f2, %hf2, H2⟩, ⟨%f3, %hf3, H3⟩, ⟨%f4, %hf4, H4⟩, ⟨%f6, %hf6, H6⟩, ⟨%f7, %hf7, H7⟩⟩, Hk⟩
    subst hf2 hf3 hf4 hf6 hf7
    sl_exec
    sl_unfold_run_names
    rw [hstep, cov_carry (P := fun p => carT (spT (zP (arg2.view.read (Elt F) f2) (arg3.view.read (Elt F) f3) n p)) (cP (arg6.view.read (Elt F) f6) p))
      (e0 := ?_) (e1 := ?_) (e2 := ?_) (e3 := ?_)]
    rotate_left
    · rw [load_q _ _ 0 0 rfl, load_k _ _ n hn' 0 _ o9, load_carry _ _ 0 0 rfl]; rfl
    · rw [load_q _ _ 1 2 rfl, load_k _ _ n hn' 1 _ o11, load_carry _ _ 1 1 rfl]; rfl
    · rw [load_q _ _ 2 4 rfl, load_k _ _ n hn' 2 _ o13, load_carry _ _ 2 2 rfl]; rfl
    · rw [load_q _ _ 3 6 rfl, load_k _ _ n hn' 3 _ o15, load_carry _ _ 3 3 rfl]; rfl
    iapply (wp_call_spec Variants.nat (c : Thread nD τ) (some (n + 1)) E
      (spec c arg2 arg3 arg4 arg6 arg7 u (arg2.view.read (Elt F) f2) (arg3.view.read (Elt F) f3) (arg4.view.read (Elt F) f4) n
        (aliveOf (loopC (arg2.view.read (Elt F) f2) (arg3.view.read (Elt F) f3) n (arg6.view.read (Elt F) f6)))
        (loopC (arg2.view.read (Elt F) f2) (arg3.view.read (Elt F) f3) n (arg6.view.read (Elt F) f6))
        (loopA u (arg2.view.read (Elt F) f2) (arg3.view.read (Elt F) f3) (arg4.view.read (Elt F) f4) n (arg6.view.read (Elt F) f6) (arg7.view.read (Elt F) f7))) n
      (fun w hw => by cases hw; exact Nat.lt_succ_self n) (ih (by omega) _ _ _))
    rw [spec_apply]; unfold held owns
    isplitl [H2 H3 H4 H6 H7]
    · isplitl [H2]; · iexists _; isplitr; swap; · iexact H2
                      ipureintro; rfl
      isplitl [H3]; · iexists _; isplitr; swap; · iexact H3
                      ipureintro; rfl
      isplitl [H4]; · iexists _; isplitr; swap; · iexact H4
                      ipureintro; rfl
      isplitl [H6]
      · iexists _; isplitr; swap; · iexact H6
        ipureintro
        refine read_carry _ _ _ _ _ _ (fun p => carT (spT (zP (arg2.view.read (Elt F) f2) (arg3.view.read (Elt F) f3) n p)) (cP (arg6.view.read (Elt F) f6) p))
          ?_ ?_ ?_ ?_ _ _ _ _ _
        · rw [load_q _ _ 0 0 rfl, load_k _ _ n hn' 0 _ o9, load_carry _ _ 0 0 rfl]; rfl
        · rw [load_q _ _ 1 2 rfl, load_k _ _ n hn' 1 _ o11, load_carry _ _ 1 1 rfl]; rfl
        · rw [load_q _ _ 2 4 rfl, load_k _ _ n hn' 2 _ o13, load_carry _ _ 2 2 rfl]; rfl
        · rw [load_q _ _ 3 6 rfl, load_k _ _ n hn' 3 _ o15, load_carry _ _ 3 3 rfl]; rfl
      · iexists _; isplitr; swap; · iexact H7
        ipureintro
        refine (read_acc _ _ _ _ _ _ _ _ _ _
          (fun p => accL (vP (arg4.view.read (Elt F) f4) n p) (rT (wT u (lsT (zP (arg2.view.read (Elt F) f2) (arg3.view.read (Elt F) f3) n p))
            (spT (zP (arg2.view.read (Elt F) f2) (arg3.view.read (Elt F) f3) n p)) (cP (arg6.view.read (Elt F) f6) p))) (aPL (arg7.view.read (Elt F) f7) p))
          (fun p => accR (vP (arg4.view.read (Elt F) f4) n p) (rT (wT u (lsT (zP (arg2.view.read (Elt F) f2) (arg3.view.read (Elt F) f3) n p))
            (spT (zP (arg2.view.read (Elt F) f2) (arg3.view.read (Elt F) f3) n p)) (cP (arg6.view.read (Elt F) f6) p))) (aPR (arg7.view.read (Elt F) f7) p))
          ?_ ?_ ?_ ?_ ?_ ?_ ?_ ?_ _ _ _ _ _ _ _ _ _ _ _ _ _ _ _ _ _ _ _ _ _ _ _ _ _ _ _ _ _ _ _ _ _ _ _ _ _ _ _ _ _ _ _ _ _ _ _ _ _)
        · rw [load_q _ _ 0 0 rfl, load_k _ _ n hn' 0 _ o9, load_v _ _ n hn' 0 _ o10, load_carry _ _ 0 0 rfl]
          exact congrArg (accL _ _) (load_left arg7.view f7 0 0 rfl _ _ _ _ _ _)
        · rw [load_q _ _ 1 2 rfl, load_k _ _ n hn' 1 _ o11, load_v _ _ n hn' 1 _ o12, load_carry _ _ 1 1 rfl]
          exact congrArg (accL _ _) (load_left arg7.view f7 1 1 rfl _ _ _ _ _ _)
        · rw [load_q _ _ 2 4 rfl, load_k _ _ n hn' 2 _ o13, load_v _ _ n hn' 2 _ o14, load_carry _ _ 2 2 rfl]
          exact congrArg (accL _ _) (load_left arg7.view f7 2 2 rfl _ _ _ _ _ _)
        · rw [load_q _ _ 3 6 rfl, load_k _ _ n hn' 3 _ o15, load_v _ _ n hn' 3 _ o16, load_carry _ _ 3 3 rfl]
          exact congrArg (accL _ _) (load_left arg7.view f7 3 3 rfl _ _ _ _ _ _)
        · rw [load_q _ _ 0 0 rfl, load_k _ _ n hn' 0 _ o9, load_v _ _ n hn' 0 _ o10, load_carry _ _ 0 0 rfl]
          exact congrArg (accR _ _) (load_right arg7.view f7 0 0 rfl _ _ _ _ _ _)
        · rw [load_q _ _ 1 2 rfl, load_k _ _ n hn' 1 _ o11, load_v _ _ n hn' 1 _ o12, load_carry _ _ 1 1 rfl]
          exact congrArg (accR _ _) (load_right arg7.view f7 1 1 rfl _ _ _ _ _ _)
        · rw [load_q _ _ 2 4 rfl, load_k _ _ n hn' 2 _ o13, load_v _ _ n hn' 2 _ o14, load_carry _ _ 2 2 rfl]
          exact congrArg (accR _ _) (load_right arg7.view f7 2 2 rfl _ _ _ _ _ _)
        · rw [load_q _ _ 3 6 rfl, load_k _ _ n hn' 3 _ o15, load_v _ _ n hn' 3 _ o16, load_carry _ _ 3 3 rfl]
          exact congrArg (accR _ _) (load_right arg7.view f7 3 3 rfl _ _ _ _ _ _)
    · iintro %r H
      rw [wp_ret]; imodintro
      iapply Hk
      iexact H

end Label

end Cert.KernelIdeal.Sb

end
-- ==== Proof.SbBody.lean ====
/-
  The kernel's body at one grid point: the state cleared, the queries' own key block under the mask, the walk over the
  blocks before it, the accumulator stored.
-/
module

public import proofs.«01_k».proof.Proof.SbLoop
public import Idealize.ShloMosaic.Lib.Pointwise

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The output block: head `2 p + h` of the accumulator in rows `128 p + 64 h` to `128 p + 64 h + 63`. -/
def outT (A : Vec F S4x64x256 .f32) : Vec F S1x512x128 .f32 := fun y =>
  A (ix3 ⟨(y 1).val / 128, by have : (y 1).val < 512 := (y 1).isLt; omega⟩ ⟨(y 1).val % 64, by omega⟩
    ⟨128 * ((y 1).val % 128 / 64) + (y 2).val, by have : (y 2).val < 128 := (y 2).isLt; omega⟩)

/-- What a grid point leaves in the output block: the walk from the state after the queries' own block. -/
def pointT (j : ℕ) (x2 : Vec F S1x8x128x128 .bf16) (x3 : Vec F S1x8192x512 .bf16) (x4 : Vec F S1x512x8192 .bf16) : Vec F S1x512x128 .f32 :=
  outT (walk k0_pay2 x2 x3 x4 j (aliveOf (diagC k0_pay3 x2 x3 j k0_pay4)) (diagC k0_pay3 x2 x3 j k0_pay4)
    (diagA k0_pay2 k0_pay3 x2 x3 x4 j k0_pay4 k0_pay5)).2

theorem pay_out (l r : Vec F S1x64x128 .f32) (a : Fin 1) (b : Fin 128) (d : Fin 128) :
    k0_pay42 l r (ix3 a b d) = if h : b.val < 64 then l (ix3 0 ⟨b.val, h⟩ d) else r (ix3 0 ⟨b.val - 64, by omega⟩ d) := by
  unfold k0_pay42
  pointwise

/-- The rectangle of one pair's rows of the output block. -/
abbrev rO (o : ℕ) (h : ∀ a, (![0, o, 0] : Fin 3 → ℕ) a + S1x128x128.size a ≤ S1x512x128.size a) : Rect S1x512x128 :=
  Rect.unit ![0, o, 0] S1x128x128.size h

/-- A pair's rows, stored from the two halves of the accumulator. -/
theorem out_piece (v : View sig .tc .vmem S4x64x256 .f32) (f : v.ty.Contents (Elt F)) (p : Fin 4) (o : ℕ) (ho : o = 128 * p.val) (q : ℕ) (hq : q = p.val) (h h1 h2)
    (x : (rO o h).shape.Idx) :
    k0_pay42 (View.readAt (Elt F) v (Rect.unit (s := S4x64x256) ![q, 0, 0] S1x64x128.size h1).toLoadRect f)
      (View.readAt (Elt F) v (Rect.unit (s := S4x64x256) ![q, 0, 128] S1x64x128.size h2).toLoadRect f) x
    = outT (v.read (Elt F) f) ((rO o h).emb x) := by
  subst ho hq
  have hx0 : (x 0).val < 1 := (x 0).isLt
  have hx1 : (x 1).val < 128 := (x 1).isLt
  have hx2 : (x 2).val < 128 := (x 2).isLt
  have e1 : ((rO (128 * p.val) h).emb x 1).val = 128 * p.val + (x 1).val := by
    show 128 * p.val + 1 * (x 1).val = _; omega
  have e2 : ((rO (128 * p.val) h).emb x 2).val = (x 2).val := by
    show 0 + 1 * (x 2).val = _; omega
  refine (congrArg _ (show x = (ix3 ⟨(x 0).val, hx0⟩ ⟨(x 1).val, hx1⟩ ⟨(x 2).val, hx2⟩ : S1x128x128.Idx) from
    funext fun a => by fin_cases a <;> rfl)).trans ((pay_out _ _ _ _ _).trans ?_)
  unfold outT
  split
  · rename_i hlt
    have hlt' : (x 1).val < 64 := hlt
    rw [View.readAt_apply]
    refine congrArg (v.read (Elt F) f) (funext fun a => Fin.ext ?_)
    fin_cases a
    · show p.val + 1 * 0 = ((rO (128 * p.val) h).emb x 1).val / 128
      rw [e1]; omega
    · show 0 + 1 * (x 1).val = ((rO (128 * p.val) h).emb x 1).val % 64
      rw [e1]; omega
    · show 0 + 1 * (x 2).val = 128 * (((rO (128 * p.val) h).emb x 1).val % 128 / 64) + ((rO (128 * p.val) h).emb x 2).val
      rw [e1, e2]; omega
  · rename_i hlt
    have hlt' : ¬ (x 1).val < 64 := hlt
    rw [View.readAt_apply]
    refine congrArg (v.read (Elt F) f) (funext fun a => Fin.ext ?_)
    fin_cases a
    · show p.val + 1 * 0 = ((rO (128 * p.val) h).emb x 1).val / 128
      rw [e1]; omega
    · show 0 + 1 * ((x 1).val - 64) = ((rO (128 * p.val) h).emb x 1).val % 64
      rw [e1]; omega
    · show 128 + 1 * (x 2).val = 128 * (((rO (128 * p.val) h).emb x 1).val % 128 / 64) + ((rO (128 * p.val) h).emb x 2).val
      rw [e1, e2]; omega

theorem read_out (v : View sig .tc .vmem S4x64x256 .f32) (f : v.ty.Contents (Elt F)) (w : View sig .tc .vmem S1x512x128 .f32) (g : w.ty.Contents (Elt F))
    (h0 h1 h2 h3 a0 a1 a2 a3 b0 b1 b2 b3) :
    w.read (Elt F) (w.writes (Elt F) g
      [⟨rO 384 h3, k0_pay42 (View.readAt (Elt F) v (Rect.unit (s := S4x64x256) ![3, 0, 0] S1x64x128.size a3).toLoadRect f)
          (View.readAt (Elt F) v (Rect.unit (s := S4x64x256) ![3, 0, 128] S1x64x128.size b3).toLoadRect f)⟩,
       ⟨rO 256 h2, k0_pay42 (View.readAt (Elt F) v (Rect.unit (s := S4x64x256) ![2, 0, 0] S1x64x128.size a2).toLoadRect f)
          (View.readAt (Elt F) v (Rect.unit (s := S4x64x256) ![2, 0, 128] S1x64x128.size b2).toLoadRect f)⟩,
       ⟨rO 128 h1, k0_pay42 (View.readAt (Elt F) v (Rect.unit (s := S4x64x256) ![1, 0, 0] S1x64x128.size a1).toLoadRect f)
          (View.readAt (Elt F) v (Rect.unit (s := S4x64x256) ![1, 0, 128] S1x64x128.size b1).toLoadRect f)⟩,
       ⟨rO 0 h0, k0_pay42 (View.readAt (Elt F) v (Rect.unit (s := S4x64x256) ![0, 0, 0] S1x64x128.size a0).toLoadRect f)
          (View.readAt (Elt F) v (Rect.unit (s := S4x64x256) ![0, 0, 128] S1x64x128.size b0).toLoadRect f)⟩])
    = outT (v.read (Elt F) f) := by
  funext y
  have hy0 : (y 0).val < 1 := (y 0).isLt
  have hy1 : (y 1).val < 512 := (y 1).isLt
  have hy2 : (y 2).val < 128 := (y 2).isLt
  have cov : ∀ (o : ℕ) (h), o ≤ (y 1).val → (y 1).val < o + 128 → y ∈ (rO o h).set := by
    intro o h hl hu
    rw [Rect.mem_set_unit]
    intro a
    fin_cases a
    · show 0 ≤ (y 0).val ∧ (y 0).val < 0 + 1; omega
    · show o ≤ (y 1).val ∧ (y 1).val < o + 128; omega
    · show 0 ≤ (y 2).val ∧ (y 2).val < 0 + 128; omega
  refine View.read_writes_apply_of_pieces w g (outT (v.read (Elt F) f)) _ ?_ y ?_
  · simp only [List.forall_mem_cons]
    exact ⟨out_piece v f 3 384 rfl 3 rfl h3 _ _, out_piece v f 2 256 rfl 2 rfl h2 _ _, out_piece v f 1 128 rfl 1 rfl h1 _ _,
      out_piece v f 0 0 rfl 0 rfl h0 _ _, by simp⟩
  · rcases (by omega : (y 1).val < 128 ∨ (128 ≤ (y 1).val ∧ (y 1).val < 256) ∨ (256 ≤ (y 1).val ∧ (y 1).val < 384) ∨ 384 ≤ (y 1).val) with e | e | e | e
    · exact ⟨_, .tail _ (.tail _ (.tail _ (.head _))), cov 0 h0 (by omega) (by omega)⟩
    · exact ⟨_, .tail _ (.tail _ (.head _)), cov 128 h1 (by omega) (by omega)⟩
    · exact ⟨_, .tail _ (.head _), cov 256 h2 (by omega) (by omega)⟩
    · exact ⟨_, .head _, cov 384 h3 (by omega) (by omega)⟩

theorem first_ctr : ∀ j : Fin 64, Scalar.subi (BitVec.ofNat 32 j.val) 1#32 = ctr j.val := by decide +kernel

set_option maxHeartbeats 1000000 in
set_option sl_exec.resultNames true in
set_option sl_exec.squeezeSlice true in
theorem sound_kernel (c : Dev nD) (E : Set ℕ) (i : grid0.Coords)
    (arg2 : Memref sig .tc .vmem S1x8x128x128 .bf16) (harg2 : arg2.IsWhole) (arg3 : Memref sig .tc .vmem S1x8192x512 .bf16) (harg3 : arg3.IsWhole)
    (arg4 : Memref sig .tc .vmem S1x512x8192 .bf16) (harg4 : arg4.IsWhole) (arg5 : Memref sig .tc .vmem S1x512x128 .f32) (harg5 : arg5.IsWhole)
    (arg6 : Memref sig .tc .vmem S4x1x256 .f32) (harg6 : arg6.IsWhole) (arg7 : Memref sig .tc .vmem S4x64x256 .f32) (harg7 : arg7.IsWhole)
    (x2 : Vec F S1x8x128x128 .bf16) (x3 : Vec F S1x8192x512 .bf16) (x4 : Vec F S1x512x8192 .bf16) (x5 : Vec F S1x512x128 .f32)
    (x6 : Vec F S4x1x256 .f32) (x7 : Vec F S4x64x256 .f32) (K : PUnit → sProp 𝕄) :
    iprop((owns (c : Thread nD τ) arg2 fullShare x2 ∗ owns (c : Thread nD τ) arg3 fullShare x3 ∗ owns (c : Thread nD τ) arg4 fullShare x4
       ∗ owns (c : Thread nD τ) arg5 fullShare x5 ∗ owns (c : Thread nD τ) arg6 fullShare x6 ∗ owns (c : Thread nD τ) arg7 fullShare x7)
      ∗ ((owns (c : Thread nD τ) arg2 fullShare x2 ∗ owns (c : Thread nD τ) arg3 fullShare x3 ∗ owns (c : Thread nD τ) arg4 fullShare x4
       ∗ owns (c : Thread nD τ) arg5 fullShare (pointT (i 1).val x2 x3 x4) ∗ (∃ y6, owns (c : Thread nD τ) arg6 fullShare y6)
       ∗ (∃ y7, owns (c : Thread nD τ) arg7 fullShare y7)) -∗ K ⟨⟩))
    ⊢ wp frame (wpE (defs₀ (F := F)) Variants.nat (c : Thread nD τ) none) E
      (cc0_sb_prompt i arg2 harg2 arg3 harg3 arg4 harg4 arg5 harg5 arg6 harg6 arg7 harg7) K := by
  have hi : (i 1).val < 64 := (i 1).isLt
  simp only [cc0_sb_prompt_eq_skeleton]; unfold cc0_sb_prompt_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton]
  unfold owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩⟩, Hk⟩
  subst hf2 hf3 hf4 hf5 hf6 hf7
  sl_exec
  sl_unfold_run_names
  rw [cov_carry (P := fun p => carT (keepT k0_pay3 (spT (zP (arg2.view.read (Elt F) f2) (arg3.view.read (Elt F) f3) (i 1).val p))) (cP k0_pay4 p)) (e0 := ?_) (e1 := ?_) (e2 := ?_) (e3 := ?_)]
  rotate_left
  · rw [cov_row0, load_q _ _ 0 0 rfl, load_k _ _ (i 1).val hi 0 _ (k0_off1_eq i)]; rfl
  · rw [cov_row1, load_q _ _ 1 2 rfl, load_k _ _ (i 1).val hi 1 _ (k0_off3_eq i)]; rfl
  · rw [cov_row2, load_q _ _ 2 4 rfl, load_k _ _ (i 1).val hi 2 _ (k0_off5_eq i)]; rfl
  · rw [cov_row3, load_q _ _ 3 6 rfl, load_k _ _ (i 1).val hi 3 _ (k0_off7_eq i)]; rfl
  rw [first_ctr ⟨(i 1).val, hi⟩]
  iapply (wp_call_spec Variants.nat (c : Thread nD τ) none E
    (spec c arg2 arg3 arg4 arg6 arg7 k0_pay2 (arg2.view.read (Elt F) f2) (arg3.view.read (Elt F) f3) (arg4.view.read (Elt F) f4) (i 1).val (aliveOf (diagC k0_pay3 (arg2.view.read (Elt F) f2) (arg3.view.read (Elt F) f3) (i 1).val k0_pay4)) (diagC k0_pay3 (arg2.view.read (Elt F) f2) (arg3.view.read (Elt F) f3) (i 1).val k0_pay4)
      (diagA k0_pay2 k0_pay3 (arg2.view.read (Elt F) f2) (arg3.view.read (Elt F) f3) (arg4.view.read (Elt F) f4) (i 1).val k0_pay4 k0_pay5)) (i 1).val (fun w hw => nomatch hw)
    (spec_le c i arg2 harg2 arg3 harg3 arg4 harg4 arg6 harg6 arg7 harg7 k0_pay2 (arg2.view.read (Elt F) f2) (arg3.view.read (Elt F) f3) (arg4.view.read (Elt F) f4) E (i 1).val (by omega) _ _ _))
  rw [spec_apply]; unfold held owns
  isplitl [H2 H3 H4 H6 H7]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H6]
    · iexists _; isplitr; swap; · iexact H6
      ipureintro
      refine read_carry _ _ _ _ _ _ (fun p => carT (keepT k0_pay3 (spT (zP (arg2.view.read (Elt F) f2) (arg3.view.read (Elt F) f3) (i 1).val p))) (cP k0_pay4 p)) ?_ ?_ ?_ ?_ _ _ _ _ _
      · rw [cov_row0, load_q _ _ 0 0 rfl, load_k _ _ (i 1).val hi 0 _ (k0_off1_eq i)]; rfl
      · rw [cov_row1, load_q _ _ 1 2 rfl, load_k _ _ (i 1).val hi 1 _ (k0_off3_eq i)]; rfl
      · rw [cov_row2, load_q _ _ 2 4 rfl, load_k _ _ (i 1).val hi 2 _ (k0_off5_eq i)]; rfl
      · rw [cov_row3, load_q _ _ 3 6 rfl, load_k _ _ (i 1).val hi 3 _ (k0_off7_eq i)]; rfl
    · iexists _; isplitr; swap; · iexact H7
      ipureintro
      refine (read_acc _ _ _ _ _ _ _ _ _ _
        (fun p => accL (vP (arg4.view.read (Elt F) f4) (i 1).val p) (rT (keepT k0_pay3 (wT k0_pay2 (lsT (zP (arg2.view.read (Elt F) f2) (arg3.view.read (Elt F) f3) (i 1).val p)) (keepT k0_pay3 (spT (zP (arg2.view.read (Elt F) f2) (arg3.view.read (Elt F) f3) (i 1).val p))) (cP k0_pay4 p)))) (aPL k0_pay5 p))
        (fun p => accR (vP (arg4.view.read (Elt F) f4) (i 1).val p) (rT (keepT k0_pay3 (wT k0_pay2 (lsT (zP (arg2.view.read (Elt F) f2) (arg3.view.read (Elt F) f3) (i 1).val p)) (keepT k0_pay3 (spT (zP (arg2.view.read (Elt F) f2) (arg3.view.read (Elt F) f3) (i 1).val p))) (cP k0_pay4 p)))) (aPR k0_pay5 p))
        ?_ ?_ ?_ ?_ ?_ ?_ ?_ ?_ _ _ _ _ _ _ _ _ _ _ _ _ _ _ _ _ _ _ _ _ _ _ _ _ _ _ _ _ _ _ _ _ _ _ _ _ _ _ _ _ _ _ _ _ _ _ _ _ _)
      · rw [cov_row0, load_q _ _ 0 0 rfl, load_k _ _ (i 1).val hi 0 _ (k0_off1_eq i), load_v _ _ (i 1).val hi 0 _ (k0_off2_eq i)]
        exact congrArg (accL _ _) (cov_left0 arg7.view _ _ _ _ _ _ _ k0_pay5)
      · rw [cov_row1, load_q _ _ 1 2 rfl, load_k _ _ (i 1).val hi 1 _ (k0_off3_eq i), load_v _ _ (i 1).val hi 1 _ (k0_off4_eq i)]
        exact congrArg (accL _ _) (cov_left1 arg7.view _ _ _ _ _ _ _ _ _ _ _ _ _ _ _ _ _ _ _ _ _ k0_pay5)
      · rw [cov_row2, load_q _ _ 2 4 rfl, load_k _ _ (i 1).val hi 2 _ (k0_off5_eq i), load_v _ _ (i 1).val hi 2 _ (k0_off6_eq i)]
        exact congrArg (accL _ _) (cov_left2 arg7.view _ _ _ _ _ _ _ _ _ _ _ _ _ _ _ _ _ _ _ _ _ _ _ _ _ _ _ _ _ _ _ _ _ _ _ k0_pay5)
      · rw [cov_row3, load_q _ _ 3 6 rfl, load_k _ _ (i 1).val hi 3 _ (k0_off7_eq i), load_v _ _ (i 1).val hi 3 _ (k0_off8_eq i)]
        exact congrArg (accL _ _) (cov_left3 arg7.view _ _ _ _ _ _ _ _ _ _ _ _ _ _ _ _ _ _ _ _ _ _ _ _ _ _ _ _ _ _ _ _ _ _ _ _ _ _ _ _ _ _ _ _ _ _ _ _ _ k0_pay5)
      · rw [cov_row0, load_q _ _ 0 0 rfl, load_k _ _ (i 1).val hi 0 _ (k0_off1_eq i), load_v _ _ (i 1).val hi 0 _ (k0_off2_eq i)]
        exact congrArg (accR _ _) (cov_right0 arg7.view _ _ _ _ _ _ _ _ _ _ _ _ _ _ k0_pay5)
      · rw [cov_row1, load_q _ _ 1 2 rfl, load_k _ _ (i 1).val hi 1 _ (k0_off3_eq i), load_v _ _ (i 1).val hi 1 _ (k0_off4_eq i)]
        exact congrArg (accR _ _) (cov_right1 arg7.view _ _ _ _ _ _ _ _ _ _ _ _ _ _ _ _ _ _ _ _ _ _ _ _ _ _ _ _ k0_pay5)
      · rw [cov_row2, load_q _ _ 2 4 rfl, load_k _ _ (i 1).val hi 2 _ (k0_off5_eq i), load_v _ _ (i 1).val hi 2 _ (k0_off6_eq i)]
        exact congrArg (accR _ _) (cov_right2 arg7.view _ _ _ _ _ _ _ _ _ _ _ _ _ _ _ _ _ _ _ _ _ _ _ _ _ _ _ _ _ _ _ _ _ _ _ _ _ _ _ _ _ _ k0_pay5)
      · rw [cov_row3, load_q _ _ 3 6 rfl, load_k _ _ (i 1).val hi 3 _ (k0_off7_eq i), load_v _ _ (i 1).val hi 3 _ (k0_off8_eq i)]
        exact congrArg (accR _ _) (cov_right3 arg7.view _ _ _ _ _ _ _ _ _ _ _ _ _ _ _ _ _ _ _ _ _ _ _ _ _ _ _ _ _ _ _ _ _ _ _ _ _ _ _ _ _ _ _ _ _ _ _ _ _ _ _ _ _ _ _ _ k0_pay5)
  iintro %r ⟨⟨%g2, %hg2, H2⟩, ⟨%g3, %hg3, H3⟩, ⟨%g4, %hg4, H4⟩, ⟨%g6, %hg6, H6⟩, ⟨%g7, %hg7, H7⟩⟩
  sl_exec
  sl_unfold_run_names
  rw [wp_ret]; imodintro
  iapply Hk
  isplitl [H2]
  · iexists _; isplitr; swap; · iexact H2
    ipureintro; exact hg2
  isplitl [H3]
  · iexists _; isplitr; swap; · iexact H3
    ipureintro; exact hg3
  isplitl [H4]
  · iexists _; isplitr; swap; · iexact H4
    ipureintro; exact hg4
  isplitl [H5]
  · iexists _; isplitr; swap; · iexact H5
    ipureintro
    exact (read_out arg7.view g7 arg5.view f5 _ _ _ _ _ _ _ _ _ _ _ _).trans (congrArg outT hg7)
  isplitl [H6]
  · iexists _; iexists _; isplitr; swap; · iexact H6
    ipureintro; rfl
  · iexists _; iexists _; isplitr; swap; · iexact H7
    ipureintro; rfl

end Cert.KernelIdeal.Sb

end
-- ==== Proof.SbFrame.lean ====
/-
  The attention call's launch: the body at every grid point, the run of the program, and what it leaves.
-/
module

public import proofs.«01_k».proof.Proof.SbBody

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers when the attention call is entered. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

/-- Window `w`'s block at point `t`, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => pointT ((grid0.coords t) 1).val (iblk m c 0 t) (iblk m c 1 t) (iblk m c 2 t)
  Φ _ := Pipeline.ΦA spec0 c
  q _ := fullShare
  owed _ := 0

theorem A_eq (c : Dev nD) (w : Fin (cfg0 (F := F)).W) : (dats m 0 c).A w = V m c (Pipeline.arrRef spec0 w) := by
  dsimp only [dats]

theorem after0_0 (c : Dev nD) (t : Fin (cfg0 (F := F)).N) : (dats m 0 c).after 0 t = iblk m c 0 t := by dsimp only [dats]; rfl
theorem after0_1 (c : Dev nD) (t : Fin (cfg0 (F := F)).N) : (dats m 0 c).after 1 t = iblk m c 1 t := by dsimp only [dats]; rfl
theorem after0_2 (c : Dev nD) (t : Fin (cfg0 (F := F)).N) : (dats m 0 c).after 2 t = iblk m c 2 t := by dsimp only [dats]; rfl
theorem after0_3 (c : Dev nD) (t : Fin (cfg0 (F := F)).N) :
    (dats m 0 c).after 3 t = pointT ((grid0.coords t) 1).val (iblk m c 0 t) (iblk m c 1 t) (iblk m c 2 t) := by dsimp only [dats]; rfl

theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 800000 in
theorem sound_body (c : Dev nD) (t : Fin (cfg0 (F := F)).N) :
    bodyPre m c t ⊢ wp Idealize.ShloMosaic.frame (wpE (defs₀ (F := F)) Variants.nat c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold Pipeline.ΦA
  rw [scopedRest0_eq]
  iintro ⟨⟨⟨⟨%f6, H6⟩, ⟨%f7, H7⟩⟩, Hp⟩, Ho, ⟨%d0, H0⟩, ⟨%d1, H1⟩, ⟨%d2, H2⟩, ⟨%d3, H3⟩⟩
  iapply (sound_kernel c Set.univ (grid0.coords t) _ _ _ _ _ _ _ _ (Memref.whole cc0_scratch0) (Memref.isWhole_whole _) (Memref.whole cc0_scratch1)
    (Memref.isWhole_whole _) (iblk m c 0 t) (iblk m c 1 t) (iblk m c 2 t) ((dats m 0 c).before 3 t d3) f6 f7 _)
  isplitl [H0 H1 H2 H3 H6 H7]
  · isplitl [H0]; · iexact H0
    isplitl [H1]; · iexact H1
    isplitl [H2]; · iexact H2
    isplitl [H3]; · iexact H3
    isplitl [H6]
    · rw [owns_whole]; iexact H6
    · rw [owns_whole]; iexact H7
  · iintro ⟨H0, H1, H2, H3, ⟨%y6, H6⟩, ⟨%y7, H7⟩⟩
    isplitl [H6 H7 Hp]
    · isplitl [H6 H7]
      · isplitl [H6]
        · iexists y6; rw [← owns_whole (c : Thread nD τ) cc0_scratch0 fullShare y6]; iexact H6
        · iexists y7; rw [← owns_whole (c : Thread nD τ) cc0_scratch1 fullShare y7]; iexact H7
      · iexact Hp
    isplitl [Ho]; · iexact Ho
    isplitl [H0]; · iexact H0
    isplitl [H1]; · iexact H1
    isplitl [H2]; · iexact H2
    iexact H3

theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs₀_row]
  exact triple_restated (sound_body m c t) rfl .rfl fun _ => .rfl

set_option backward.isDefEq.respectTransparency.types false in
set_option maxHeartbeats 800000 in
/-- The run: it ends, with every array at what the points left in it and every counter at zero. -/
theorem run_main_quiescent : θ_run defs (onTc (τ := τ) (main (F := F))) ⟨m, fun _ => 0, ρ⟩
    (fun r => (Pipeline.FramePost cfgs (dats m) 0 (V m)) r ∧ r.2.sem = fun _ => 0) :=
  Pipeline.θ_run_frame (Q' := _) cfgs (dats m) (0 : Fin 1) launch0 defs₀ Variants.nat m ρ main
    (hbody := fun c => (body_obligation m c).loose) (hshare := fun c => (dats m 0 c).share_full fun _ => rfl)
    (howed := fun _ _ => rfl) (V := V m) (hmain := hmain m Variants.nat) (hA := A_eq m) (hΦ := fun _ _ => rfl)

/-- The result array holds what the points left; the arguments are as launched; the counters are zero. -/
theorem run : θ_run defs (onTc (τ := τ) (main (F := F))) ⟨m, fun _ => 0, ρ⟩ (fun r => (∀ c : Dev nD,
      r.2.mem ((c.tc : Thread nD τ).loc main_v17) = (dats m 0 c).arrAt 3 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 3,
      ((h.1 c).2 main_arg0 (Pipeline.mem_restRefs_of main_arg0 (by decide) (show ∀ w : Fin 4, (spec0 w).arr.view.ref ≠ main_arg0 by decide))).trans (V_main_arg0 m c),
      ((h.1 c).2 main_arg1 (Pipeline.mem_restRefs_of main_arg1 (by decide) (show ∀ w : Fin 4, (spec0 w).arr.view.ref ≠ main_arg1 by decide))).trans (V_main_arg1 m c),
      ((h.1 c).2 main_arg2 (Pipeline.mem_restRefs_of main_arg2 (by decide) (show ∀ w : Fin 4, (spec0 w).arr.view.ref ≠ main_arg2 by decide))).trans (V_main_arg2 m c)⟩, h.2⟩) (run_main_quiescent m ρ)

/-- The frame: the arguments are as launched and the counters are zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.KernelIdeal.Sb

end
-- ==== Proof.SbIdeal.lean ====
/-
  One tile over the extended reals, entry by entry.
-/
module

public import proofs.«01_k».proof.Proof.SbTile
public import Idealize.ShloMosaic.Lib.Pointwise

@[expose] public section

set_option maxRecDepth 16384

noncomputable section

namespace Cert.KernelIdeal.Sb

open Cert.KernelIdeal Cert.KernelIdeal.Gen
open Idealize.ShloMosaic Idealize.ShloMosaic.TcCoe

/-! ### The real functions -/

/-- The softplus of a real number, in the form the tiles compute it, -/
def spR (x : ℝ) : ℝ := max x 0 + Real.log (1 + Real.exp (-|x|))

/-- and the logarithm of its sigmoid. -/
def lsR (x : ℝ) : ℝ := min x 0 - Real.log (1 + Real.exp (-|x|))

/-- A finite sum of reals is the same sum of extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The logarithm term over the extended reals. -/
theorem lg_coe (x : ℝ) : Ideal.log1p (Ideal.exp (0 - max (x : EReal) (-(x : EReal)))) = ((Real.log (1 + Real.exp (-|x|)) : ℝ) : EReal) := by
  have e : (0 : EReal) - max (x : EReal) (-(x : EReal)) = ((-|x| : ℝ) : EReal) := by
    rw [← EReal.coe_neg, ← EReal.coe_strictMono.monotone.map_max, ← EReal.coe_zero, ← EReal.coe_sub, zero_sub]; rfl
  rw [e]
  show Ideal.log (1 + ((Real.exp (-|x|) : ℝ) : EReal)) = _
  rw [← EReal.coe_one, ← EReal.coe_add]
  show (if 1 + Real.exp (-|x|) ≤ 0 then (⊥ : EReal) else ((Real.log (1 + Real.exp (-|x|)) : ℝ) : EReal)) = _
  rw [if_neg (by have := Real.exp_pos (-|x|); linarith)]

/-! ### The scores -/

/-- The score of key `a` for the query at position `i` of head `h` of batch `b`: their scaled product. -/
def scoreR (q k : FVec Ideal S2x8192x8x64 .f32) (b : Fin 2) (h : Fin 8) (i : Fin 8192) (a : ℕ) : ℝ :=
  ∑ d : Fin 64, ((q (ix4 b i h d) : EReal).toReal * 2⁻¹ ^ 3) * (k (ix4 b ⟨a % 8192, Nat.mod_lt _ (by omega)⟩ h d) : EReal).toReal

/-- The scale the programs print. -/
theorem scale_eq : Ideal.ofBits .f32 0x3E000000#32 = ((2⁻¹ ^ 3 : ℝ) : EReal) := by
  simp [Ideal.ofBits, Ideal.ieee]
  rw [← EReal.coe_mul]
  norm_num

/-- For finite queries and keys the sum of scaled products is the score. -/
theorem scoreR_eq (q k : FVec Ideal S2x8192x8x64 .f32) (hq : ∀ y, ∃ x : ℝ, q y = (x : EReal)) (hk : ∀ y, ∃ x : ℝ, k y = (x : EReal))
    (b : Fin 2) (h : Fin 8) (i : Fin 8192) (a : ℕ) :
    ((scoreR q k b h i a : ℝ) : EReal)
      = ∑ d : Fin 64, ((q (ix4 b i h d) : EReal) * Ideal.ofBits .f32 0x3E000000#32) * k (ix4 b ⟨a % 8192, Nat.mod_lt _ (by omega)⟩ h d) := by
  unfold scoreR
  rw [coe_sum]
  refine Finset.sum_congr rfl fun d _ => ?_
  obtain ⟨x, hx⟩ := hq (ix4 b i h d)
  obtain ⟨y, hy⟩ := hk (ix4 b ⟨a % 8192, Nat.mod_lt _ (by omega)⟩ h d)
  rw [hx, hy, scale_eq, EReal.toReal_coe, EReal.toReal_coe, EReal.coe_mul, EReal.coe_mul]

/-! ### The operations of a tile -/

theorem zT_apply (q : Vec Ideal S1x2x128x128 .bf16) (k : Vec Ideal S1x128x128 .bf16) (s : Fin 128) (l : Fin 256) :
    zT q k (ix2 s l) = ∑ d : Fin 128, (k (ix3 0 s d) : EReal) * q (ix4 0 ⟨l.val / 128, by omega⟩ ⟨l.val % 128, by omega⟩ d) := by
  unfold zT
  pointwise

theorem spT_apply (z : FVec Ideal S128x256 .f32) (s : Fin 128) (l : Fin 256) (x : ℝ) (h : z (ix2 s l) = ((x : ℝ) : EReal)) :
    spT z (ix2 s l) = ((spR x : ℝ) : EReal) := by
  unfold spT lgT zeroT
  pointwise
  show max (z (ix2 s l) : EReal) 0 + Ideal.log1p (Ideal.exp (0 - max (z (ix2 s l) : EReal) (-(z (ix2 s l) : EReal)))) = _
  rw [h, lg_coe, ← EReal.coe_zero, ← EReal.coe_strictMono.monotone.map_max, ← EReal.coe_add]
  rfl

theorem lsT_apply (z : FVec Ideal S128x256 .f32) (s : Fin 128) (l : Fin 256) (x : ℝ) (h : z (ix2 s l) = ((x : ℝ) : EReal)) :
    lsT z (ix2 s l) = ((lsR x : ℝ) : EReal) := by
  unfold lsT lgT zeroT
  pointwise
  show min (z (ix2 s l) : EReal) 0 - Ideal.log1p (Ideal.exp (0 - max (z (ix2 s l) : EReal) (-(z (ix2 s l) : EReal)))) = _
  rw [h, lg_coe, ← EReal.coe_zero, ← EReal.coe_strictMono.monotone.map_min, ← EReal.coe_sub]
  rfl

theorem keepT_apply (m : IVec S128x256 1) (x : FVec Ideal S128x256 .f32) (s : Fin 128) (l : Fin 256) :
    keepT m x (ix2 s l) = if m (ix2 s l) = 1#1 then (x (ix2 s l) : EReal) else 0 := by
  unfold keepT zeroT
  pointwise
  rfl

/-- The high part carries the whole value, so the low part's product is zero wherever the softplus values are finite. -/
theorem wT_apply (u : FVec Ideal S128x128 .bf16) (ls sp : FVec Ideal S128x256 .f32) (c : Vec Ideal S1x1x256 .f32) (s : Fin 128) (l : Fin 256)
    (m : Fin 128 → ℝ) (t : Fin 128 → ℝ) (x y : ℝ) (hsp : ∀ s', sp (ix2 s' l) = ((m s' : ℝ) : EReal)) (hu : ∀ s', u (ix2 s s') = ((t s' : ℝ) : EReal))
    (hls : ls (ix2 s l) = ((x : ℝ) : EReal)) (hc : c (ix3 0 0 l) = ((y : ℝ) : EReal)) :
    wT u ls sp c (ix2 s l) = ((Real.exp (x - (y + ∑ s', t s' * m s')) : ℝ) : EReal) := by
  unfold wT
  pointwise
  show Ideal.exp ((ls (ix2 s l) : EReal) - ((c (ix3 0 0 l) : EReal) + ((∑ a, (u (ix2 s a) : EReal) * sp (ix2 a l))
    + ∑ a, (u (ix2 s a) : EReal) * ((sp (ix2 a l) : EReal) - sp (ix2 a l))))) = _
  have e1 : (∑ a, (u (ix2 s a) : EReal) * sp (ix2 a l)) = ((∑ s', t s' * m s' : ℝ) : EReal) := by
    rw [coe_sum]
    refine Finset.sum_congr rfl fun a _ => ?_
    rw [hu, hsp, ← EReal.coe_mul]
  have e2 : (∑ a, (u (ix2 s a) : EReal) * ((sp (ix2 a l) : EReal) - sp (ix2 a l))) = 0 := by
    refine Finset.sum_eq_zero fun a _ => ?_
    rw [hsp, ← EReal.coe_sub, sub_self, EReal.coe_zero, mul_zero]
  rw [e1, e2, add_zero, hls, hc, ← EReal.coe_add, ← EReal.coe_sub]
  rfl

theorem accL_apply (v : Vec Ideal S1x128x128 .bf16) (a : FVec Ideal S128x256 .bf16) (A : Vec Ideal S64x128 .f32) (d : Fin 64) (r : Fin 128) :
    accL v a A (ix2 d r) = (A (ix2 d r) : EReal) + ∑ s : Fin 128, (v (ix3 0 ⟨d.val, by omega⟩ s) : EReal) * a (ix2 s ⟨r.val, by omega⟩) := by
  unfold accL
  pointwise

theorem accR_apply (v : Vec Ideal S1x128x128 .bf16) (a : FVec Ideal S128x256 .bf16) (A : Vec Ideal S64x128 .f32) (d : Fin 64) (r : Fin 128) :
    accR v a A (ix2 d r) = (A (ix2 d r) : EReal) + ∑ s : Fin 128, (v (ix3 0 ⟨64 + d.val, by omega⟩ s) : EReal) * a (ix2 s ⟨128 + r.val, by omega⟩) := by
  unfold accR
  pointwise

theorem carT_apply (sp : FVec Ideal S128x256 .f32) (c : Vec Ideal S1x1x256 .f32) (l : Fin 256) :
    carT sp c (ix3 0 0 l) = (c (ix3 0 0 l) : EReal) + ∑ s : Fin 128, (sp (ix2 s l) : EReal) := by
  unfold carT
  pointwise

/-! ### The constant operands -/

theorem sgt_small (a b : ℕ) (ha : a < 512) (hb : b < 512) :
    IntOp.cmpi .sgt (BitVec.ofNat 32 a) (BitVec.ofNat 32 b) = if b < a then 1#1 else 0#1 := by
  unfold IntOp.cmpi
  simp only [BitVec.slt, BitVec.toInt_ofNat', gt_iff_lt]
  have e : ∀ n : ℕ, n < 512 → (n : Int).bmod (2 ^ 32) = n := fun n hn => by rw [Int.bmod_def]; norm_num; omega
  rw [e a ha, e b hb]
  by_cases h : b < a <;> simp [h]

theorem slt_small (a b : ℕ) (ha : a < 512) (hb : b < 512) :
    IntOp.cmpi .slt (BitVec.ofNat 32 a) (BitVec.ofNat 32 b) = if a < b then 1#1 else 0#1 := by
  unfold IntOp.cmpi
  simp only [BitVec.slt, BitVec.toInt_ofNat']
  have e : ∀ n : ℕ, n < 512 → (n : Int).bmod (2 ^ 32) = n := fun n hn => by rw [Int.bmod_def]; norm_num; omega
  rw [e a ha, e b hb]
  by_cases h : a < b <;> simp [h]

theorem tri_apply (s s' : Fin 128) : k0_pay2 (F := Ideal) (ix2 s s') = (((if s.val < s'.val then 1 else 0) : ℝ) : EReal) := by
  unfold k0_pay2
  pointwise
  rw [sgt_small _ _ (by omega) (by omega)]
  split
  · show (((BitVec.setWidth 32 1#1).toInt : ℝ) : EReal) = _
    simp
  · show (((BitVec.setWidth 32 0#1).toInt : ℝ) : EReal) = _
    simp

theorem mask_apply (s : Fin 128) (l : Fin 256) : k0_pay3 (ix2 s l) = if s.val < l.val % 128 then 1#1 else 0#1 := by
  unfold k0_pay3
  pointwise
  split
  · rw [slt_small _ _ (by omega) (by omega), Nat.mod_eq_of_lt (by assumption)]
  · rw [slt_small _ _ (by omega) (by omega), show l.val % 128 = l.val - 128 by omega]

theorem zeroC_apply (y : S4x1x256.Idx) : k0_pay4 (F := Ideal) y = (0 : EReal) := by
  unfold k0_pay4
  idx_vars y
  pointwise

theorem zeroA_apply (y : S4x64x256.Idx) : k0_pay5 (F := Ideal) y = (0 : EReal) := by
  unfold k0_pay5
  idx_vars y
  pointwise

/-- The least entry of a carry of finite entries is below the threshold: over the extended reals that is `+∞`. -/
theorem alive (C : Vec Ideal S4x1x256 .f32) (h : ∀ p l, (C (ix3 p 0 l) : EReal) < ⊤) : aliveOf C = 1#1 := by
  have e : (k0_pay81 C : EReal) < ⊤ := by
    unfold k0_pay81
    pointwise
    rw [Finset.fold_min_lt]
    refine .inr ⟨ix4 0 0 0 0, ?_, h _ _⟩
    rw [Finset.mem_filter]
    exact ⟨Finset.mem_univ _, by decide⟩
  unfold aliveOf
  show Ideal.cmp .olt (k0_pay81 C) (⊤ : EReal) = 1#1
  unfold Ideal.cmp
  simp [e]

end Cert.KernelIdeal.Sb

end
-- ==== Proof.SbWalk.lean ====
/-
  The walk over the key blocks, over the extended reals: the carry and the accumulator after the key blocks `n` up to
  the queries' own are the partial sums over those keys.
-/
module

public import proofs.«01_k».proof.Proof.SbIdeal
public import Idealize.ShloMosaic.Lib.Pointwise.IndexBridge

@[expose] public section

set_option maxRecDepth 16384

noncomputable section

namespace Cert.KernelIdeal.Sb

open Cert.KernelIdeal Cert.KernelIdeal.Gen
open Idealize.ShloMosaic Idealize.ShloMosaic.TcCoe

/-! ### Sums over a tile of positions -/

theorem tile_sum {M : Type} [AddCommMonoid M] (f : ℕ → M) (j T : ℕ) (h : 128 * (j + 1) ≤ T) :
    ∑ a ∈ Finset.Ico (128 * (j + 1)) T, f a + ∑ s : Fin 128, f (128 * j + s.val) = ∑ a ∈ Finset.Ico (128 * j) T, f a := by
  rw [← Finset.sum_Ico_consecutive f (by omega : 128 * j ≤ 128 * (j + 1)) h, add_comm]
  congr 1
  rw [Finset.sum_Ico_eq_sum_range, show 128 * (j + 1) - 128 * j = 128 by omega, Finset.sum_range]

theorem later_sum (f : ℕ → ℝ) (j T : ℕ) (s : Fin 128) (h : 128 * (j + 1) ≤ T) :
    ∑ a ∈ Finset.Ico (128 * (j + 1)) T, f a + ∑ s' : Fin 128, (if s.val < s'.val then 1 else 0) * f (128 * j + s'.val)
      = ∑ a ∈ Finset.Ico (128 * j + s.val + 1) T, f a := by
  have hs := s.isLt
  rw [← Finset.sum_Ico_consecutive f (by omega : 128 * j + s.val + 1 ≤ 128 * (j + 1)) h, add_comm]
  congr 1
  have e : ∑ s' : Fin 128, (if s.val < s'.val then 1 else 0) * f (128 * j + s'.val)
      = ∑ a ∈ Finset.Ico (128 * j) (128 * (j + 1)), if 128 * j + s.val < a then f a else 0 := by
    rw [Finset.sum_Ico_eq_sum_range, show 128 * (j + 1) - 128 * j = 128 by omega, Finset.sum_range]
    refine Finset.sum_congr rfl fun a _ => ?_
    by_cases h : s.val < a.val
    · rw [if_pos h, if_pos (by omega), one_mul]
    · rw [if_neg h, if_neg (by omega), zero_mul]
  rw [e, ← Finset.sum_filter]
  refine Finset.sum_congr ?_ fun _ _ => rfl
  ext a
  simp only [Finset.mem_filter, Finset.mem_Ico]
  omega

/-! ### The weights of a query's keys -/

/-- The softplus of the score of key `a`, kept for the keys before position `i`. -/
def keep (i : ℕ) (Z : ℕ → ℝ) (a : ℕ) : ℝ := if a < i then spR (Z a) else 0

/-- The weight of key `a` for the query at position `i`: the sigmoid of its score, times one minus the sigmoid of the
    score of every later key before `i`; zero from `i` on. -/
def wgt (i T : ℕ) (Z : ℕ → ℝ) (a : ℕ) : ℝ := if a < i then Real.exp (lsR (Z a) - ∑ b ∈ Finset.Ico (a + 1) T, keep i Z b) else 0

/-- The keys from `i` on add nothing, so the end of the sum does not matter. -/
theorem wgt_end (i T T' : ℕ) (h : i ≤ T) (h' : T ≤ T') (Z : ℕ → ℝ) (a : ℕ) : wgt i T Z a = wgt i T' Z a := by
  unfold wgt
  split
  · next ha =>
    congr 2
    rw [← Finset.sum_Ico_consecutive _ (by omega : a + 1 ≤ T) h', left_eq_add]
    refine Finset.sum_eq_zero fun b hb => ?_
    rw [Finset.mem_Ico] at hb
    exact if_neg (by omega)
  · rfl

/-! ### One tile -/

theorem stepC_apply (sp : Fin 4 → FVec Ideal S128x256 .f32) (C : Vec Ideal S4x1x256 .f32) (p : Fin 4) (l : Fin 256) :
    stepC sp C (ix3 p 0 l) = (C (ix3 p 0 l) : EReal) + ∑ s : Fin 128, (sp p (ix2 s l) : EReal) := by
  have e : stepC sp C (ix3 p 0 l) = carT (sp p) (cP C p) (ix3 0 0 l) := by simp only [ix3_eq_valueIdx]; rfl
  rw [e, carT_apply]
  congr 1

theorem stepA_apply (v : Fin 4 → Vec Ideal S1x128x128 .bf16) (a : Fin 4 → FVec Ideal S128x256 .bf16) (A : Vec Ideal S4x64x256 .f32) (p : Fin 4)
    (d : Fin 64) (l : Fin 256) :
    stepA v a A (ix3 p d l) = (A (ix3 p d l) : EReal)
      + ∑ s : Fin 128, (v p (ix3 0 ⟨64 * (l.val / 128) + d.val, by omega⟩ s) : EReal) * a p (ix2 s l) := by
  by_cases h : l.val < 128
  · have e : stepA v a A (ix3 p d l) = accL (v p) (a p) (aPL A p) (ix2 d ⟨l.val, h⟩) := by
      simp only [ix3_eq_valueIdx, ix2_eq_valueIdx]; exact dif_pos h
    rw [e, accL_apply]
    refine congrArg₂ (· + ·) ?_ ?_
    · simp only [ix3_eq_valueIdx, ix2_eq_valueIdx]; rfl
    · refine Finset.sum_congr rfl fun s _ => ?_
      congr 3
      exact Fin.ext (by show d.val = 64 * (l.val / 128) + d.val; omega)
  · have e : stepA v a A (ix3 p d l) = accR (v p) (a p) (aPR A p) (ix2 d ⟨l.val - 128, by omega⟩) := by
      simp only [ix3_eq_valueIdx, ix2_eq_valueIdx]; exact dif_neg h
    have el : (⟨128 + (l.val - 128), by omega⟩ : Fin 256) = l := Fin.ext (by show 128 + (l.val - 128) = l.val; omega)
    rw [e, accR_apply]
    refine congrArg₂ (· + ·) ?_ ?_
    · rw [ix3_eq_valueIdx, ix2_eq_valueIdx]
      exact congrArg (fun x => A (ValueIdx.ix3 p d x)) el
    · refine Finset.sum_congr rfl fun s _ => ?_
      rw [el]
      congr 3
      exact Fin.ext (by show 64 + d.val = 64 * (l.val / 128) + d.val; omega)

theorem cP_apply (C : Vec Ideal S4x1x256 .f32) (p : Fin 4) (l : Fin 256) : cP C p (ix3 0 0 l) = C (ix3 p 0 l) := by
  simp only [ix3_eq_valueIdx]; rfl

/-- The value of key `a`, coordinate `d`, of the head of lane `l` of pair `p`. -/
def valOf (x4 : Vec Ideal S1x512x8192 .bf16) (p : Fin 4) (d : Fin 64) (l : Fin 256) (a : ℕ) : EReal :=
  x4 (ix3 0 ⟨128 * p.val + (64 * (l.val / 128) + d.val), by omega⟩ ⟨a % 8192, Nat.mod_lt _ (by omega)⟩)

theorem vP_apply (x4 : Vec Ideal S1x512x8192 .bf16) (j : ℕ) (p : Fin 4) (d : Fin 64) (l : Fin 256) (s : Fin 128) :
    vP x4 j p (ix3 0 ⟨64 * (l.val / 128) + d.val, by omega⟩ s) = valOf x4 p d l (128 * j + s.val) := by
  unfold valOf
  simp only [ix3_eq_valueIdx]; rfl

/-- The carry and the accumulator after the key blocks from `n` to `J`: partial sums over the keys from `128 n` to `128 (J + 1)`. -/
structure After (x4 : Vec Ideal S1x512x8192 .bf16) (J : ℕ) (Z : Fin 4 → Fin 256 → ℕ → ℝ) (n : ℕ) (C : Vec Ideal S4x1x256 .f32)
    (A : Vec Ideal S4x64x256 .f32) : Prop where
  car : ∀ p l, C (ix3 p 0 l) = ((∑ a ∈ Finset.Ico (128 * n) (128 * (J + 1)), keep (128 * J + l.val % 128) (Z p l) a : ℝ) : EReal)
  acc : ∀ p d l, A (ix3 p d l) = ∑ a ∈ Finset.Ico (128 * n) (128 * (J + 1)),
    valOf x4 p d l a * ((wgt (128 * J + l.val % 128) (128 * (J + 1)) (Z p l) a : ℝ) : EReal)

section

variable (x2 : Vec Ideal S1x8x128x128 .bf16) (x3 : Vec Ideal S1x8192x512 .bf16) (x4 : Vec Ideal S1x512x8192 .bf16) (J : ℕ)
  (Z : Fin 4 → Fin 256 → ℕ → ℝ)

/-- A tile of softplus values and of weights takes the partial sums one block further. -/
theorem after_tile (j : ℕ) (hj : j ≤ J) (C : Vec Ideal S4x1x256 .f32) (A : Vec Ideal S4x64x256 .f32) (h : After x4 J Z (j + 1) C A)
    (sp : Fin 4 → FVec Ideal S128x256 .f32) (w : Fin 4 → FVec Ideal S128x256 .bf16)
    (hsp : ∀ p s l, sp p (ix2 s l) = ((keep (128 * J + l.val % 128) (Z p l) (128 * j + s.val) : ℝ) : EReal))
    (hw : ∀ p s l, w p (ix2 s l) = ((wgt (128 * J + l.val % 128) (128 * (J + 1)) (Z p l) (128 * j + s.val) : ℝ) : EReal)) :
    After x4 J Z j (stepC sp C) (stepA (vP x4 j) w A) where
  car p l := by
    rw [stepC_apply, h.car, ← tile_sum _ j _ (by omega), EReal.coe_add, coe_sum Finset.univ]
    congr 1
    exact Finset.sum_congr rfl fun s _ => hsp p s l
  acc p d l := by
    rw [stepA_apply, h.acc, ← tile_sum _ j _ (by omega)]
    congr 1
    refine Finset.sum_congr rfl fun s _ => ?_
    rw [vP_apply, hw]

variable (hz : ∀ p j s l, j < 64 → zP x2 x3 j p (ix2 s l) = ((Z p l (128 * j + s.val) : ℝ) : EReal))

include hz in
/-- The weights of a tile from its softplus values and the carry before it. -/
theorem weight_tile (j : ℕ) (hj : j ≤ J) (hJ : J < 64) (C : Vec Ideal S4x1x256 .f32) (A : Vec Ideal S4x64x256 .f32) (h : After x4 J Z (j + 1) C A)
    (sp : Fin 4 → FVec Ideal S128x256 .f32)
    (hsp : ∀ p s l, sp p (ix2 s l) = ((keep (128 * J + l.val % 128) (Z p l) (128 * j + s.val) : ℝ) : EReal)) (p : Fin 4) (s : Fin 128) (l : Fin 256) :
    wT k0_pay2 (lsT (zP x2 x3 j p)) (sp p) (cP C p) (ix2 s l)
      = ((Real.exp (lsR (Z p l (128 * j + s.val)) - ∑ b ∈ Finset.Ico (128 * j + s.val + 1) (128 * (J + 1)), keep (128 * J + l.val % 128) (Z p l) b) : ℝ) : EReal) := by
  rw [wT_apply k0_pay2 _ _ _ s l (fun s' => keep (128 * J + l.val % 128) (Z p l) (128 * j + s'.val)) (fun s' => if s.val < s'.val then 1 else 0)
    (lsR (Z p l (128 * j + s.val))) _ (fun s' => hsp p s' l) (fun s' => tri_apply s s') (lsT_apply _ s l _ (hz p j s l (by omega)))
    ((cP_apply C p l).trans (h.car p l)), later_sum _ j _ s (by omega)]

include hz in
/-- A trip of the walk. -/
theorem after_trip (j : ℕ) (hj : j < J) (hJ : J < 64) (C : Vec Ideal S4x1x256 .f32) (A : Vec Ideal S4x64x256 .f32) (h : After x4 J Z (j + 1) C A) :
    After x4 J Z j (loopC x2 x3 j C) (loopA k0_pay2 x2 x3 x4 j C A) := by
  have hsp : ∀ (p : Fin 4) (s : Fin 128) (l : Fin 256), spT (zP x2 x3 j p) (ix2 s l)
      = ((keep (128 * J + l.val % 128) (Z p l) (128 * j + s.val) : ℝ) : EReal) := fun p s l => by
    rw [spT_apply _ s l _ (hz p j s l (by omega)), keep, if_pos (by omega)]
  refine after_tile x4 J Z j (by omega) C A h _ _ hsp fun p s l => ?_
  show wT k0_pay2 (lsT (zP x2 x3 j p)) (spT (zP x2 x3 j p)) (cP C p) (ix2 s l) = _
  rw [weight_tile x2 x3 x4 J Z hz j (by omega) hJ C A h (fun p => spT (zP x2 x3 j p)) hsp p s l, wgt, if_pos (by omega)]

include hz in
/-- The queries' own block, from nothing. -/
theorem after_diag (hJ : J < 64) :
    After x4 J Z J (diagC k0_pay3 x2 x3 J (k0_pay4 (F := Ideal))) (diagA k0_pay2 k0_pay3 x2 x3 x4 J (k0_pay4 (F := Ideal)) (k0_pay5 (F := Ideal))) := by
  have h0 : After x4 J Z (J + 1) (k0_pay4 (F := Ideal)) (k0_pay5 (F := Ideal)) :=
    ⟨fun p l => by rw [Finset.Ico_self, Finset.sum_empty, EReal.coe_zero]; exact zeroC_apply _,
     fun p d l => by rw [Finset.Ico_self, Finset.sum_empty]; exact zeroA_apply _⟩
  have hsp : ∀ (p : Fin 4) (s : Fin 128) (l : Fin 256), keepT k0_pay3 (spT (zP x2 x3 J p)) (ix2 s l)
      = ((keep (128 * J + l.val % 128) (Z p l) (128 * J + s.val) : ℝ) : EReal) := fun p s l => by
    rw [keepT_apply, mask_apply, spT_apply _ s l _ (hz p J s l hJ), keep]
    by_cases h : s.val < l.val % 128
    · rw [if_pos h, if_pos rfl, if_pos (by omega)]
    · rw [if_neg h, if_neg (by decide), if_neg (by omega), EReal.coe_zero]
  refine after_tile x4 J Z J le_rfl _ _ h0 _ _ hsp fun p s l => ?_
  show keepT k0_pay3 (wT k0_pay2 (lsT (zP x2 x3 J p)) (keepT k0_pay3 (spT (zP x2 x3 J p))) (cP (k0_pay4 (F := Ideal)) p)) (ix2 s l) = _
  rw [keepT_apply, mask_apply, wgt]
  by_cases h : s.val < l.val % 128
  · rw [if_pos h, if_pos rfl, if_pos (by omega),
      weight_tile x2 x3 x4 J Z hz J le_rfl hJ _ _ h0 (fun p => keepT k0_pay3 (spT (zP x2 x3 J p))) hsp p s l]
  · rw [if_neg h, if_neg (by decide), if_neg (by omega), EReal.coe_zero]

include hz in
/-- The whole walk: no carry of finite entries ends it early. -/
theorem after_walk (hJ : J < 64) (n : ℕ) (hn : n ≤ J) (C : Vec Ideal S4x1x256 .f32) (A : Vec Ideal S4x64x256 .f32) (h : After x4 J Z n C A) :
    After x4 J Z 0 (walk k0_pay2 x2 x3 x4 n (aliveOf C) C A).1 (walk k0_pay2 x2 x3 x4 n (aliveOf C) C A).2 := by
  induction n generalizing C A with
  | zero => exact h
  | succ n ih =>
    have e : aliveOf C = 1#1 := alive C fun p l => by rw [h.car]; exact EReal.coe_lt_top _
    rw [walk, if_pos e]
    exact ih (by omega) _ _ (after_trip x2 x3 x4 J Z hz n (by omega) hJ C A h)

include hz in
/-- The accumulator at the end of a grid point. -/
theorem acc_walk (hJ : J < 64) (p : Fin 4) (d : Fin 64) (l : Fin 256) :
    (walk k0_pay2 x2 x3 x4 J (aliveOf (diagC k0_pay3 x2 x3 J (k0_pay4 (F := Ideal)))) (diagC k0_pay3 x2 x3 J (k0_pay4 (F := Ideal)))
        (diagA k0_pay2 k0_pay3 x2 x3 x4 J (k0_pay4 (F := Ideal)) (k0_pay5 (F := Ideal)))).2 (ix3 p d l)
      = ∑ a : Fin 8192, valOf x4 p d l a.val * ((wgt (128 * J + l.val % 128) 8192 (Z p l) a.val : ℝ) : EReal) := by
  have hl : l.val % 128 < 128 := Nat.mod_lt _ (by omega)
  rw [(after_walk x2 x3 x4 J Z hz hJ J le_rfl _ _ (after_diag x2 x3 x4 J Z hz hJ)).acc p d l, ← Finset.sum_range
    (fun a => valOf x4 p d l a * ((wgt (128 * J + l.val % 128) 8192 (Z p l) a : ℝ) : EReal)), ← Nat.Ico_zero_eq_range,
    ← Finset.sum_Ico_consecutive _ (by omega : 0 ≤ 128 * (J + 1)) (by omega : 128 * (J + 1) ≤ 8192), mul_zero]
  rw [show ∑ a ∈ Finset.Ico (128 * (J + 1)) 8192, valOf x4 p d l a * ((wgt (128 * J + l.val % 128) 8192 (Z p l) a : ℝ) : EReal) = 0 from
    Finset.sum_eq_zero fun a ha => by
      rw [Finset.mem_Ico] at ha
      rw [wgt, if_neg (by omega), EReal.coe_zero, mul_zero], add_zero]
  exact Finset.sum_congr rfl fun a _ => by rw [wgt_end _ _ _ (by omega) (by omega : 128 * (J + 1) ≤ 8192)]

end

end Cert.KernelIdeal.Sb

end
-- ==== Proof.SbArray.lean ====
/-
  The attention call's result array over the extended reals, from its arguments.
-/
module

public import proofs.«01_k».proof.Proof.SbFrame
public import proofs.«01_k».proof.Proof.SbWalk
public import Idealize.ShloMosaic.Lib.Pipeline.ValueKit

@[expose] public section

set_option maxRecDepth 16384

noncomputable section

namespace Cert.KernelIdeal.Sb

open Cert.KernelIdeal Cert.KernelIdeal.Gen
open Idealize.ShloMosaic Idealize.ShloMosaic.TcCoe
open Idealize.ShloMosaic.Pipeline (Dat)

variable (m : (ℓ : Loc nD τ sig) → Buf (Elt Ideal) ℓ)

/-- The windows' block indices, -/
theorem idx : ∀ t : Fin (cfg0 (F := Ideal)).N, win0_0.index t = ![(grid0.coords t 0).val, 0, (grid0.coords t 1).val, 0]
    ∧ win0_1.index t = ![(grid0.coords t 0).val, 0, 0] ∧ win0_2.index t = ![(grid0.coords t 0).val, 0, 0]
    ∧ win0_3.index t = ![(grid0.coords t 0).val, 0, (grid0.coords t 1).val] :=
  (by decide +kernel : ∀ t : Fin grid0.N, _)

/-! ### The arguments as the program passes them to the call -/

/-- The head of pair `p` that lane half `e` of a 256-lane tile belongs to. -/
def headOf (p : Fin 4) (e : Fin 2) : Fin 8 := ⟨2 * p.val + e.val, by omega⟩

/-- A head's 64 lanes in its half of a pair's 128, zeros in the other. -/
theorem pad_eq (X : FVec Ideal S2x8192x8x64 .f32) (w : EReal) (b : Fin 2) (p : Fin 4) (e : Fin 2) (i : Fin 8192) (d : Fin 128) :
    (if h : (headOf p e).val % 2 < 1 then
        if h' : d.val < 64 then (X (ix4 b i ⟨(headOf p e).val / 2 * 2 + (headOf p e).val % 2, by omega⟩ ⟨d.val, h'⟩) : EReal) * w else 0
      else if h' : d.val < 64 then 0
        else (X (ix4 b i ⟨(headOf p e).val / 2 * 2 + (1 + ((headOf p e).val % 2 - 1)), by omega⟩ ⟨d.val - 64, by omega⟩) : EReal) * w)
      = if d.val / 64 = e.val then (X (ix4 b i (headOf p e) ⟨d.val % 64, by omega⟩) : EReal) * w else 0 := by
  have he : e.val = 0 ∨ e.val = 1 := by omega
  have hh : (headOf p e).val = 2 * p.val + e.val := rfl
  rcases he with h0 | h1
  · rw [dif_pos (by omega)]
    by_cases hd : d.val < 64
    · rw [dif_pos hd, if_pos (by omega)]
      congr 3
      · exact Fin.ext (by show (headOf p e).val / 2 * 2 + (headOf p e).val % 2 = (headOf p e).val; omega)
      · exact Fin.ext (by show d.val = d.val % 64; omega)
    · rw [dif_neg hd, if_neg (by omega)]
  · rw [dif_neg (by omega)]
    by_cases hd : d.val < 64
    · rw [dif_pos hd, if_neg (by omega)]
    · rw [dif_neg hd, if_pos (by omega)]
      congr 3
      · exact Fin.ext (by show (headOf p e).val / 2 * 2 + (1 + ((headOf p e).val % 2 - 1)) = (headOf p e).val; omega)
      · exact Fin.ext (by show d.val - 64 = d.val % 64; omega)

/-- The queries as the call takes them: scaled and padded. -/
theorem V_q (c : Dev nD) (b : Fin 2) (p : Fin 4) (e : Fin 2) (i : Fin 8192) (d : Fin 128) :
    (V m c main_v11 : FVec Ideal S2x8x8192x128 .bf16) (ix4 b (headOf p e) i d)
      = if d.val / 64 = e.val then (show EReal from (m ((c : Thread nD τ).loc main_arg0) : FVec Ideal S2x8192x8x64 .f32) (ix4 b i (headOf p e) ⟨d.val % 64, by omega⟩))
          * Ideal.ofBits .f32 0x3E000000#32 else 0 := by
  entry_read
  pointwise
  exact pad_eq (m ((c : Thread nD τ).loc main_arg0)) _ b p e i d

theorem V_k (c : Dev nD) (b : Fin 2) (a : Fin 8192) (e : Fin 512) :
    (V m c main_v13 : FVec Ideal S2x8192x512 .bf16) (ix3 b a e)
      = (m ((c : Thread nD τ).loc main_arg1) : FVec Ideal S2x8192x8x64 .f32) (ix4 b a ⟨e.val / 64, by omega⟩ ⟨e.val % 64, by omega⟩) := by
  entry_read
  pointwise

theorem V_v (c : Dev nD) (b : Fin 2) (e : Fin 512) (a : Fin 8192) :
    (V m c main_v16 : FVec Ideal S2x512x8192 .bf16) (ix3 b e a)
      = (m ((c : Thread nD τ).loc main_arg2) : FVec Ideal S2x8192x8x64 .f32) (ix4 b a ⟨e.val / 64, by omega⟩ ⟨e.val % 64, by omega⟩) := by
  entry_read
  pointwise

/-! ### The blocks of a grid point -/

theorem coord0 (t : Fin (cfg0 (F := Ideal)).N) : (grid0.coords t 0).val < 2 := (grid0.coords t 0).isLt
theorem coord1 (t : Fin (cfg0 (F := Ideal)).N) : (grid0.coords t 1).val < 64 := (grid0.coords t 1).isLt

/-- The batch of a grid point. -/
def bat (t : Fin (cfg0 (F := Ideal)).N) : Fin 2 := ⟨(grid0.coords t 0).val, coord0 t⟩

/-- The position of query `r` of a grid point's block. -/
def pos (t : Fin (cfg0 (F := Ideal)).N) (r : Fin 128) : Fin 8192 :=
  ⟨128 * (grid0.coords t 1).val + r.val, by have := coord1 t; omega⟩

theorem read_q (t : Fin (cfg0 (F := Ideal)).N) (X : FVec Ideal S2x8x8192x128 .bf16) (h : Fin 8) (r : Fin 128) (d : Fin 128) :
    ((win0_0.blk t).view.read (Elt Ideal) X : Vec Ideal S1x8x128x128 .bf16) (ix4 0 h r d) = X (ix4 (bat t) h (pos t r) d) := by
  unfold bat pos; blk_ext [idx t]

theorem read_k (t : Fin (cfg0 (F := Ideal)).N) (X : FVec Ideal S2x8192x512 .bf16) (a : Fin 8192) (e : Fin 512) :
    ((win0_1.blk t).view.read (Elt Ideal) X : Vec Ideal S1x8192x512 .bf16) (ix3 0 a e) = X (ix3 (bat t) a e) := by
  unfold bat; blk_ext [idx t]

theorem read_v (t : Fin (cfg0 (F := Ideal)).N) (X : FVec Ideal S2x512x8192 .bf16) (e : Fin 512) (a : Fin 8192) :
    ((win0_2.blk t).view.read (Elt Ideal) X : Vec Ideal S1x512x8192 .bf16) (ix3 0 e a) = X (ix3 (bat t) e a) := by
  unfold bat; blk_ext [idx t]

theorem emb_out (t : Fin (cfg0 (F := Ideal)).N) (r : Fin 512) (l : Fin 128) :
    (win0_3.blk t).view.emb (ix3 0 r l : S1x512x128.Idx) = (ix3 (bat t) r (pos t l) : S2x512x8192.Idx) := by
  unfold bat pos; blk_ext [idx t]

theorem blk_q (c : Dev nD) (t : Fin (cfg0 (F := Ideal)).N) (h : Fin 8) (r : Fin 128) (d : Fin 128) :
    (iblk m c 0 t : Vec Ideal S1x8x128x128 .bf16) (ix4 0 h r d) = (V m c main_v11 : FVec Ideal S2x8x8192x128 .bf16) (ix4 (bat t) h (pos t r) d) :=
  read_q t (V m c main_v11) h r d

theorem blk_k (c : Dev nD) (t : Fin (cfg0 (F := Ideal)).N) (a : Fin 8192) (e : Fin 512) :
    (iblk m c 1 t : Vec Ideal S1x8192x512 .bf16) (ix3 0 a e) = (V m c main_v13 : FVec Ideal S2x8192x512 .bf16) (ix3 (bat t) a e) :=
  read_k t (V m c main_v13) a e

theorem blk_v (c : Dev nD) (t : Fin (cfg0 (F := Ideal)).N) (e : Fin 512) (a : Fin 8192) :
    (iblk m c 2 t : Vec Ideal S1x512x8192 .bf16) (ix3 0 e a) = (V m c main_v16 : FVec Ideal S2x512x8192 .bf16) (ix3 (bat t) e a) :=
  read_v t (V m c main_v16) e a

/-! ### The scores -/

theorem kP_apply (x : Vec Ideal S1x8192x512 .bf16) (j : ℕ) (p : Fin 4) (s : Fin 128) (d : Fin 128) :
    kP x j p (ix3 0 s d) = x (ix3 0 ⟨(128 * j + s.val) % 8192, Nat.mod_lt _ (by omega)⟩ ⟨128 * p.val + d.val, by omega⟩) := by
  simp only [ix3_eq_valueIdx]; rfl

theorem qP_apply (x : Vec Ideal S1x8x128x128 .bf16) (p : Fin 4) (e : Fin 2) (r d : Fin 128) :
    qP x p (ix4 0 e r d) = x (ix4 0 (headOf p e) r d) := by
  simp only [ix4_eq_valueIdx]; rfl

/-- The zero lanes add nothing to a product over a pair's lanes. -/
theorem pad_sum (e : Fin 2) (f : Fin 128 → EReal) (g : Fin 64 → EReal)
    (h : ∀ d : Fin 128, f d = if d.val / 64 = e.val then g ⟨d.val % 64, by omega⟩ else 0) : ∑ d, f d = ∑ d, g d := by
  have he : e.val = 0 ∨ e.val = 1 := by omega
  rw [Fin.sum_univ_two_halves 64 64 rfl]
  rcases he with h0 | h1
  · rw [Finset.sum_eq_zero (s := Finset.univ) (f := fun k : Fin 64 => f ⟨64 + k.val, _⟩) fun d _ => by
      rw [h, if_neg (by show ¬(64 + d.val) / 64 = e.val; omega)], add_zero]
    refine Finset.sum_congr rfl fun d _ => ?_
    rw [h, if_pos (by show d.val / 64 = e.val; omega)]
    exact congrArg g (Fin.ext (by show d.val % 64 = d.val; omega))
  · rw [Finset.sum_eq_zero (s := Finset.univ) (f := fun k : Fin 64 => f ⟨k.val, _⟩) fun d _ => by
      rw [h, if_neg (by show ¬d.val / 64 = e.val; omega)], zero_add]
    refine Finset.sum_congr rfl fun d _ => ?_
    rw [h, if_pos (by show (64 + d.val) / 64 = e.val; omega)]
    exact congrArg g (Fin.ext (by show (64 + d.val) % 64 = d.val; omega))

/-- The scores of a pair's two heads, from the blocks. -/
theorem score (c : Dev nD) (t : Fin (cfg0 (F := Ideal)).N) (Q K : FVec Ideal S2x8192x8x64 .f32)
    (eQ : Q = m ((c : Thread nD τ).loc main_arg0)) (eK : K = m ((c : Thread nD τ).loc main_arg1))
    (hQ : ∀ y, ∃ x : ℝ, Q y = (x : EReal)) (hK : ∀ y, ∃ x : ℝ, K y = (x : EReal)) (p : Fin 4) (j : ℕ) (s : Fin 128) (l : Fin 256) :
    zP (iblk m c 0 t) (iblk m c 1 t) j p (ix2 s l)
      = ((scoreR Q K (bat t) (headOf p ⟨l.val / 128, by omega⟩) (pos t ⟨l.val % 128, by omega⟩) (128 * j + s.val) : ℝ) : EReal) := by
  unfold zP
  rw [zT_apply, scoreR_eq Q K hQ hK]
  refine pad_sum ⟨l.val / 128, by omega⟩ _ _ fun d => ?_
  rw [kP_apply, qP_apply, blk_k, blk_q, V_q, V_k, ← eQ, ← eK]
  by_cases hd : d.val / 64 = l.val / 128
  · rw [if_pos hd, if_pos hd, mul_comm]
    congr 2
    refine congrArg₂ (fun h d' => ix4 (bat t) _ h d') (Fin.ext ?_) (Fin.ext ?_)
    · show (128 * p.val + d.val) / 64 = 2 * p.val + l.val / 128; omega
    · show (128 * p.val + d.val) % 64 = d.val % 64; omega
  · rw [if_neg hd, if_neg hd, mul_zero]

/-! ### The result array -/

/-- What the call computes: every query's weighted sum of the values of its head, heads and their coordinates along the
    rows, positions along the columns. -/
def attn (Q K W : FVec Ideal S2x8192x8x64 .f32) : FVec Ideal S2x512x8192 .f32 := fun y =>
  ∑ a : Fin 8192, (W (ix4 (y 0) a ⟨(y 1).val / 64, by have : (y 1).val < 512 := (y 1).isLt; omega⟩ ⟨(y 1).val % 64, by omega⟩) : EReal)
    * ((wgt (y 2).val 8192 (scoreR Q K (y 0) ⟨(y 1).val / 64, by have : (y 1).val < 512 := (y 1).isLt; omega⟩ (y 2)) a.val : ℝ) : EReal)

theorem outT_apply (A : Vec Ideal S4x64x256 .f32) (r : Fin 512) (l : Fin 128) :
    outT A (ix3 0 r l) = A (ix3 ⟨r.val / 128, by omega⟩ ⟨r.val % 64, by omega⟩ ⟨128 * (r.val % 128 / 64) + l.val, by omega⟩) := by
  simp only [ix3_eq_valueIdx]; rfl

theorem point (c : Dev nD) (t : Fin (cfg0 (F := Ideal)).N) (Q K W : FVec Ideal S2x8192x8x64 .f32)
    (eQ : Q = m ((c : Thread nD τ).loc main_arg0)) (eK : K = m ((c : Thread nD τ).loc main_arg1)) (eW : W = m ((c : Thread nD τ).loc main_arg2))
    (hQ : ∀ y, ∃ x : ℝ, Q y = (x : EReal)) (hK : ∀ y, ∃ x : ℝ, K y = (x : EReal)) (r : Fin 512) (l : Fin 128) :
    pointT ((grid0.coords t) 1).val (iblk m c 0 t) (iblk m c 1 t) (iblk m c 2 t) (ix3 0 r l) = attn Q K W (ix3 (bat t) r (pos t l)) := by
  unfold pointT
  rw [outT_apply, acc_walk (iblk m c 0 t) (iblk m c 1 t) (iblk m c 2 t) ((grid0.coords t) 1).val
    (fun p l a => scoreR Q K (bat t) (headOf p ⟨l.val / 128, by omega⟩) (pos t ⟨l.val % 128, by omega⟩) a)
    (fun p j s l _ => score m c t Q K eQ eK hQ hK p j s l) (coord1 t)]
  unfold attn
  refine Finset.sum_congr rfl fun a _ => ?_
  have e1 : (128 * (r.val % 128 / 64) + l.val) % 128 = l.val := by omega
  have e2 : (128 * (r.val % 128 / 64) + l.val) / 128 = r.val % 128 / 64 := by omega
  refine congrArg₂ (· * ·) ?_ ?_
  · unfold valOf
    rw [blk_v, V_v, ← eW]
    blk_ext [e1, e2]
  · have h1 : headOf ⟨r.val / 128, by omega⟩ ⟨(128 * (r.val % 128 / 64) + l.val) / 128, by omega⟩ = ⟨r.val / 64, by omega⟩ :=
      Fin.ext (by show 2 * (r.val / 128) + (128 * (r.val % 128 / 64) + l.val) / 128 = r.val / 64; omega)
    have h2 : (⟨(128 * (r.val % 128 / 64) + l.val) % 128, by omega⟩ : Fin 128) = l := Fin.ext e1
    show ((wgt (128 * (grid0.coords t 1).val + (128 * (r.val % 128 / 64) + l.val) % 128) 8192
      (scoreR Q K (bat t) (headOf ⟨r.val / 128, _⟩ ⟨(128 * (r.val % 128 / 64) + l.val) / 128, _⟩) (pos t ⟨(128 * (r.val % 128 / 64) + l.val) % 128, _⟩)) a.val : ℝ) : EReal) = _
    rw [h1, h2, e1]
    rfl

/-- The result array: every block holds its queries' sums. -/
theorem final (c : Dev nD) (Q K W : FVec Ideal S2x8192x8x64 .f32)
    (eQ : Q = m ((c : Thread nD τ).loc main_arg0)) (eK : K = m ((c : Thread nD τ).loc main_arg1)) (eW : W = m ((c : Thread nD τ).loc main_arg2))
    (hQ : ∀ y, ∃ x : ℝ, Q y = (x : EReal)) (hK : ∀ y, ∃ x : ℝ, K y = (x : EReal)) :
    (dats m 0 c).arrAt 3 (cfg0 (F := Ideal)).N = attn Q K W := by
  refine (dats m 0 c).arrAt_eq_of_covers 3 _ (by decide +kernel) fun t _ y => ?_
  blk_simp
  rw [after0_3]
  have hy : ∀ y : S1x512x128.Idx, pointT ((grid0.coords t) 1).val (iblk m c 0 t) (iblk m c 1 t) (iblk m c 2 t) y
      = attn Q K W ((win0_3.blk t).view.emb y) := fun y => by
    idx_vars y
    obtain rfl : y0 = 0 := Subsingleton.elim _ _
    rw [point m c t Q K W eQ eK eW hQ hK]
    exact congrArg (attn Q K W) (emb_out t y1 y2).symm
  exact hy y

end Cert.KernelIdeal.Sb

end
-- ==== Proof.SbReference.lean ====
/-
  The attention's reference over the extended reals, read at an index.
-/
module

public import proofs.«01_k».proof.Proof.Gen.ReferenceIdeal.Run
public import proofs.«01_k».proof.Proof.SbWalk

@[expose] public section

set_option maxRecDepth 16384

noncomputable section

namespace Cert.ReferenceIdeal.Sb

open Cert.ReferenceIdeal Cert.ReferenceIdeal.Gen
open Idealize.ShloMosaic Idealize.ShloMosaic.TcCoe
open Cert.KernelIdeal.Sb (spR lsR keep wgt scoreR scoreR_eq coe_sum lg_coe)

/-! ### The reference's parts -/

/-- The scores. -/
def zH (Q K : FVec Ideal S2x8192x8x64 .f32) : FVec Ideal S2x8x8192x8192 .f32 :=
  Host.dotGeneral dot_S2x8192x8x64_S2x8192x8x64_S2x8x8192x8192_3_3_1_1_02_02 none
    (mulf Q (broadcastInDim S2x8192x8x64 ![] bcast_S_S2x8192x8x64 (constant S_ .f32 0x3E000000#32))) K

/-- The array of zeros. -/
def zeroH : FVec Ideal S2x8x8192x8192 .f32 := broadcastInDim S2x8x8192x8192 ![] bcast_S_S2x8x8192x8192 (constant S_ .f32 0x00000000#32)

/-- The softplus. -/
def spH (z : FVec Ideal S2x8x8192x8192 .f32) : FVec Ideal S2x8x8192x8192 .f32 :=
  select (cmpf .une (subf z zeroH) (subf z zeroH)) (addf z zeroH)
    (addf (maximumf z zeroH) (Host.log1p (Host.exp (Host.negf (Host.absf (subf z zeroH))))))

/-- The keys before each query. -/
def maskH : IVec S2x8x8192x8192 1 :=
  broadcastInDim S2x8x8192x8192 ![2, 3] bcast_S8192x8192_S2x8x8192x8192_2_3
    (cmpi .slt (broadcastInDim S8192x8192 ![0, 1] bcast_S1x8192_S8192x8192_0_1 (broadcastInDim S1x8192 ![1] bcast_S8192_S1x8192_1 (iotaInDim S8192 32 0)))
      (broadcastInDim S8192x8192 ![0, 1] bcast_S8192x1_S8192x8192_0_1 (broadcastInDim S8192x1 ![0] bcast_S8192_S8192x1_0 (iotaInDim S8192 32 0))))

/-- The softplus values kept under the mask. -/
def keepH (z : FVec Ideal S2x8x8192x8192 .f32) : FVec Ideal S2x8x8192x8192 .f32 :=
  select maskH (spH z) (broadcastInDim S2x8x8192x8192 ![] bcast_S_S2x8x8192x8192 (id (constant S_ .f32 0x00000000#32)))

/-- The sums of all entries from each key on. -/
def sumH (x : FVec Ideal S2x8x8192x8192 .f32) : FVec Ideal S2x8x8192x8192 .f32 :=
  Host.reduceWindowAdd ![1, 1, 1, 8192] ![1, 1, 1, 1] ![0, 0, 0, 0] ![0, 0, 0, 8191] x (broadcastInDim S_ ![] bcast_S_S_ (constant S_ .f32 0x00000000#32))
    reduceWindows_S2x8x8192x8192_S2x8x8192x8192_w1s1p0_0_w1s1p0_0_w1s1p0_0_w8192s1p0_8191 h_S_

/-- The weights. -/
def wH (z : FVec Ideal S2x8x8192x8192 .f32) : FVec Ideal S2x8x8192x8192 .f32 :=
  Host.exp (select maskH (subf (Host.negf (spH (Host.negf z))) (subf (sumH (keepH z)) (keepH z)))
    (broadcastInDim S2x8x8192x8192 ![] bcast_S_S2x8x8192x8192 (id (constant S_ .f32 0xFF800000#32))))

/-- The result. -/
def outH (Q K W : FVec Ideal S2x8192x8x64 .f32) : FVec Ideal S2x512x8192 .f32 :=
  transpose S2x512x8192 [0, 2, 1] (shapeCast S2x8192x512 (transpose S2x8192x8x64 [0, 3, 1, 2]
    (Host.dotGeneral dot_S2x8192x8x64_S2x8x8192x8192_S2x8x64x8192_1_3_3_2_02_01 none W (wH (zH Q K)) : FVec Ideal S2x8x64x8192 .f32)
    transposes_S2x8x64x8192_S2x8192x8x64_0_3_1_2) shapeCasts_S2x8192x8x64_S2x8192x512) transposes_S2x8192x512_S2x512x8192_0_2_1

theorem res_eq (m : (ℓ : Loc nD τ sig) → Buf (Elt Ideal) ℓ) (c : Dev nD) :
    Value.res_out0 m c = outH (m ((c.tc : Thread nD τ).loc main_arg0)) (m ((c.tc : Thread nD τ).loc main_arg1)) (m ((c.tc : Thread nD τ).loc main_arg2)) := by
  unfold Value.res_out0 Value.res_main_v20 outH wH sumH keepH maskH spH zeroH zH
  rfl

/-! ### At an index -/

theorem slt_pos (a b : ℕ) (ha : a < 8192) (hb : b < 8192) :
    IntOp.cmpi .slt (BitVec.ofNat 32 a) (BitVec.ofNat 32 b) = if a < b then 1#1 else 0#1 := by
  unfold IntOp.cmpi
  simp only [BitVec.slt, BitVec.toInt_ofNat']
  have e : ∀ n : ℕ, n < 8192 → (n : Int).bmod (2 ^ 32) = n := fun n hn => by rw [Int.bmod_def]; norm_num; omega
  rw [e a ha, e b hb]
  by_cases h : a < b <;> simp [h]

theorem maskH_apply (b : Fin 2) (h : Fin 8) (i a : Fin 8192) : maskH (ix4 b h i a) = if a.val < i.val then 1#1 else 0#1 := by
  unfold maskH
  pointwise
  exact slt_pos _ _ a.isLt i.isLt

theorem zH_apply (Q K : FVec Ideal S2x8192x8x64 .f32) (hQ : ∀ y, ∃ x : ℝ, Q y = (x : EReal)) (hK : ∀ y, ∃ x : ℝ, K y = (x : EReal))
    (b : Fin 2) (h : Fin 8) (i a : Fin 8192) : zH Q K (ix4 b h i a) = ((scoreR Q K b h i a.val : ℝ) : EReal) := by
  have ea : (⟨a.val % 8192, Nat.mod_lt _ (by norm_num)⟩ : Fin 8192) = a := Fin.ext (Nat.mod_eq_of_lt a.isLt)
  rw [scoreR_eq Q K hQ hK, ea]
  unfold zH
  pointwise

theorem spH_apply (z : FVec Ideal S2x8x8192x8192 .f32) (b : Fin 2) (h : Fin 8) (i a : Fin 8192) (x : ℝ) (hx : z (ix4 b h i a) = (x : EReal)) :
    spH z (ix4 b h i a) = ((spR x : ℝ) : EReal) := by
  unfold spH zeroH
  pointwise
  rw [hx, if_neg (fun h => h rfl)]
  have e := lg_coe x
  rw [zero_sub] at e
  refine (congrArg (max (x : EReal) 0 + ·) e).trans ?_
  rw [← EReal.coe_zero, ← EReal.coe_strictMono.monotone.map_max, ← EReal.coe_add]
  rfl

/-- The logarithm of the sigmoid is the softplus of the opposite, with its sign changed. -/
theorem neg_sp (x : ℝ) : -spR (-x) = lsR x := by
  unfold spR lsR
  rw [abs_neg]
  have e : max (-x) 0 = -min x 0 := by
    have := max_neg_neg x 0
    rwa [neg_zero] at this
  rw [e]
  ring

theorem keepH_apply (z : FVec Ideal S2x8x8192x8192 .f32) (b : Fin 2) (h : Fin 8) (i a : Fin 8192) (Z : ℕ → ℝ) (hx : z (ix4 b h i a) = (Z a.val : EReal)) :
    keepH z (ix4 b h i a) = ((keep i.val Z a.val : ℝ) : EReal) := by
  unfold keepH
  pointwise
  rw [maskH_apply, spH_apply z b h i a _ hx]
  unfold keep
  by_cases hai : a.val < i.val
  · rw [if_pos hai, if_pos hai]; rfl
  · rw [if_neg hai, if_neg hai]
    show (Ideal.ofBits .f32 0x00000000#32 : EReal) = _
    simp [Ideal.ofBits, Ideal.ieee]

/-- A fold that adds is a sum. -/
theorem foldl_sum {N : ℕ} (g : Fin N → EReal) : (List.finRange N).foldl (fun r n => r + g n) 0 = ∑ n, g n := by
  have e : ∀ (l : List (Fin N)) (v : EReal), l.foldl (fun r n => r + g n) v = v + (l.map g).sum := fun l => by
    induction l with
    | nil => intro v; simp
    | cons n l ih => intro v; rw [List.foldl_cons, ih, List.map_cons, List.sum_cons, add_assoc]
  rw [e, zero_add, Fin.sum_univ_def]

/-- A window along the last axis only. -/
abbrev Win (T : ℕ) : Shape := ⟨4, ![1, 1, 1, T]⟩

theorem win_numel (T : ℕ) : (Win T).numel = T := by
  unfold Shape.numel
  rw [Fin.prod_univ_four]
  show 1 * 1 * 1 * T = T
  omega

theorem win_first (T : ℕ) (n : Fin (Win T).numel) (e : Fin 4) (he : e ≠ 3) : ((Win T).rowMajor.symm n e).val = 0 := by
  have h : ((Win T).rowMajor.symm n e).val < ![1, 1, 1, T] e := ((Win T).rowMajor.symm n e).isLt
  match e, he, h with
  | ⟨0, _⟩, _, h => exact Nat.lt_one_iff.mp h
  | ⟨1, _⟩, _, h => exact Nat.lt_one_iff.mp h
  | ⟨2, _⟩, _, h => exact Nat.lt_one_iff.mp h
  | ⟨3, _⟩, he, _ => exact absurd rfl he

/-- The place of the `n`-th entry of the window. -/
theorem win_last (T : ℕ) (n : Fin (Win T).numel) : ((Win T).rowMajor.symm n 3).val = n.val := by
  have e := rowMajor_val4 (d := ![1, 1, 1, T]) ((Win T).rowMajor.symm n) _ _ _ rfl rfl rfl
  have e' : ((Win T).rowMajor ((Win T).rowMajor.symm n)).val = n.val := congrArg Fin.val ((Win T).rowMajor.apply_symm_apply n)
  rw [win_first T n 0 (by decide), win_first T n 1 (by decide), win_first T n 2 (by decide), Nat.zero_mul, Nat.zero_mul, Nat.zero_mul, Nat.zero_add] at e
  exact e.symm.trans e'

/-- A window sum along the last axis, padded at the end by one less than the axis, sums every entry from its place on. -/
theorem window_sum {A B C T T1 : ℕ} (x : (⟨4, ![A, B, C, T]⟩ : Shape).Idx → EReal) (f : ℕ → EReal) (init : S_.Idx → EReal)
    (h : (⟨4, ![A, B, C, T]⟩ : Shape).ReduceWindows (![1, 1, 1, T] : Fin 4 → ℕ) ![1, 1, 1, 1] ![0, 0, 0, 0] ![0, 0, 0, T1] ⟨4, ![A, B, C, T]⟩) (hu : 0 < S_.numel)
    (h0 : init (Shape.Idx.first hu) = 0) (b : Fin A) (c : Fin B) (i : Fin C) (a : Fin T) (hx : ∀ a : Fin T, x (ix4 b c i a) = f a.val) :
    Host.reduceWindow (α := EReal) (· + ·) ![1, 1, 1, T] ![1, 1, 1, 1] ![0, 0, 0, 0] ![0, 0, 0, T1] x init h hu (ix4 b c i a)
      = ∑ n ∈ Finset.range T, if a.val + n < T then f (a.val + n) else 0 := by
  refine Eq.trans ?_ ((foldl_sum fun n : Fin (Win T).numel => if a.val + n.val < T then f (a.val + n.val) else 0).trans ?_)
  · unfold Host.reduceWindow
    rw [h0]
    refine congrArg (fun g => (List.finRange (Win T).numel).foldl g (0 : EReal)) ?_
    funext r n
    refine congrArg (r + ·) ?_
    have hb := b.isLt
    have hc := c.isLt
    have hi := i.isLt
    have w0 := win_first T n 0 (by decide)
    have w1 := win_first T n 1 (by decide)
    have w2 := win_first T n 2 (by decide)
    have w3 := win_last T n
    dsimp only
    split
    · next hin =>
      have h3 : 0 ≤ a.val * 1 + ((Win T).rowMajor.symm n 3).val ∧ a.val * 1 + ((Win T).rowMajor.symm n 3).val - 0 < T := hin 3
      rw [w3] at h3
      rw [if_pos (by omega)]
      refine (congrArg x (funext fun e => Fin.ext ?_)).trans (hx ⟨a.val + n.val, by omega⟩)
      match e with
      | ⟨0, _⟩ =>
        show b.val * 1 + ((Win T).rowMajor.symm n 0).val - 0 = b.val
        omega
      | ⟨1, _⟩ =>
        show c.val * 1 + ((Win T).rowMajor.symm n 1).val - 0 = c.val
        omega
      | ⟨2, _⟩ =>
        show i.val * 1 + ((Win T).rowMajor.symm n 2).val - 0 = i.val
        omega
      | ⟨3, _⟩ =>
        show a.val * 1 + ((Win T).rowMajor.symm n 3).val - 0 = a.val + n.val
        omega
    · next hin =>
      rw [if_neg fun hle => hin fun e => by
        match e with
        | ⟨0, _⟩ =>
          show 0 ≤ b.val * 1 + ((Win T).rowMajor.symm n 0).val ∧ b.val * 1 + ((Win T).rowMajor.symm n 0).val - 0 < A
          omega
        | ⟨1, _⟩ =>
          show 0 ≤ c.val * 1 + ((Win T).rowMajor.symm n 1).val ∧ c.val * 1 + ((Win T).rowMajor.symm n 1).val - 0 < B
          omega
        | ⟨2, _⟩ =>
          show 0 ≤ i.val * 1 + ((Win T).rowMajor.symm n 2).val ∧ i.val * 1 + ((Win T).rowMajor.symm n 2).val - 0 < C
          omega
        | ⟨3, _⟩ =>
          show 0 ≤ a.val * 1 + ((Win T).rowMajor.symm n 3).val ∧ a.val * 1 + ((Win T).rowMajor.symm n 3).val - 0 < T
          omega]
  · rw [Fin.sum_univ_eq_sum_range (fun n : ℕ => if a.val + n < T then f (a.val + n) else 0), win_numel]

/-- The suffix sum of a row of reals. -/
theorem suffix_sum (f : ℕ → ℝ) (a N : ℕ) (ha : a ≤ N) :
    ∑ n ∈ Finset.range N, (if a + n < N then ((f (a + n) : ℝ) : EReal) else 0) = ((∑ n ∈ Finset.Ico a N, f n : ℝ) : EReal) := by
  rw [coe_sum, Finset.sum_Ico_eq_sum_range, ← Finset.sum_filter]
  refine Finset.sum_congr ?_ fun n _ => rfl
  ext n
  simp only [Finset.mem_filter, Finset.mem_range]
  omega

theorem sumH_apply (x : FVec Ideal S2x8x8192x8192 .f32) (b : Fin 2) (h : Fin 8) (i a : Fin 8192) (f : ℕ → ℝ)
    (hx : ∀ a : Fin 8192, x (ix4 b h i a) = (f a.val : EReal)) :
    sumH x (ix4 b h i a) = ((∑ n ∈ Finset.Ico a.val 8192, f n : ℝ) : EReal) := by
  unfold sumH Host.reduceWindowAdd
  rw [Ideal.hostReduceWindowAdd_def]
  unfold Ideal.hostReduceWindowAdd
  have h0 : (Ideal.ofBits .f32 0x00000000#32 : EReal) = 0 := by simp [Ideal.ofBits, Ideal.ieee]
  exact (window_sum (A := 2) (B := 8) (C := 8192) (T := 8192) (T1 := 8191) x (fun n => (f n : EReal)) _
    reduceWindows_S2x8x8192x8192_S2x8x8192x8192_w1s1p0_0_w1s1p0_0_w1s1p0_0_w8192s1p0_8191 h_S_ h0 b h i a hx).trans (suffix_sum f a.val 8192 a.isLt.le)

theorem wH_apply (z : FVec Ideal S2x8x8192x8192 .f32) (b : Fin 2) (h : Fin 8) (i a : Fin 8192) (Z : ℕ → ℝ) (hx : ∀ a : Fin 8192, z (ix4 b h i a) = (Z a.val : EReal)) :
    wH z (ix4 b h i a) = ((wgt i.val 8192 Z a.val : ℝ) : EReal) := by
  have en : Host.negf z (ix4 b h i a) = ((-Z a.val : ℝ) : EReal) := by
    show -(z (ix4 b h i a) : EReal) = _
    rw [hx a, EReal.coe_neg]
  unfold wH
  pointwise
  rw [maskH_apply, spH_apply _ b h i a _ en, sumH_apply (keepH z) b h i a (keep i.val Z) (fun a => keepH_apply z b h i a Z (hx a)),
    keepH_apply z b h i a Z (hx a), ← EReal.coe_neg, neg_sp, ← EReal.coe_sub, ← EReal.coe_sub]
  unfold wgt
  by_cases hai : a.val < i.val
  · rw [if_pos hai, if_pos hai]
    show ((Real.exp _ : ℝ) : EReal) = _
    rw [Finset.sum_eq_sum_Ico_succ_bot a.isLt]
    congr 3
    ring
  · rw [if_neg hai, if_neg hai]
    have e : (Ideal.ofBits .f32 0xFF800000#32 : EReal) = ⊥ := by simp [Ideal.ofBits, Ideal.ieee]
    show Ideal.exp (Ideal.ofBits .f32 0xFF800000#32) = _
    rw [e]
    rfl

/-- The reference's result at an index. -/
theorem outH_apply (Q K W : FVec Ideal S2x8192x8x64 .f32) (hQ : ∀ y, ∃ x : ℝ, Q y = (x : EReal)) (hK : ∀ y, ∃ x : ℝ, K y = (x : EReal))
    (b : Fin 2) (r : Fin 512) (i : Fin 8192) :
    outH Q K W (ix3 b r i) = ∑ a : Fin 8192, (W (ix4 b a ⟨r.val / 64, by omega⟩ ⟨r.val % 64, by omega⟩) : EReal)
      * ((wgt i.val 8192 (scoreR Q K b ⟨r.val / 64, by omega⟩ i) a.val : ℝ) : EReal) := by
  unfold outH
  pointwise
  exact Finset.sum_congr rfl fun a _ => congrArg (_ * ·) (wH_apply _ b _ i a _ fun a => zH_apply Q K hQ hK b _ i a)

end Cert.ReferenceIdeal.Sb

end
-- ==== Proof.SbAlgebraic.lean ====
/-
  The attention call equals its reference over the extended reals, wherever every query and key is a real number.
-/
module

public import proofs.«01_k».proof.Defs
public import proofs.«01_k».proof.Proof.SbArray
public import proofs.«01_k».proof.Proof.SbReference
public import Idealize.ShloMosaic.Lib.ReduceAll

@[expose] public section

noncomputable section

namespace Cert.Proof

open Idealize.ShloMosaic Idealize.ShloMosaic.TcCoe Idealize.SL.Sem

/-- The side conditions of the precondition's operations. -/
theorem pre_facts : Cert.Pre_finite.Facts := ⟨by decide, by decide, by decide⟩

/-- A value whose absolute value is below infinity is a real number. -/
theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | coe r => exact ⟨r, rfl⟩
  | bot => simp [Ideal.cmp] at h
  | top => simp [Ideal.cmp] at h

/-- What the precondition says: every query and key is a real number. -/
theorem finite_of_pre (Q K W : FVec Ideal Cert.Pre_finite.S2x8192x8x64 .f32)
    (h : (haveI := pre_facts; Cert.Pre_finite.fn (F := Ideal) Q K W) = fun _ => 1#1) :
    (∀ y, ∃ x : ℝ, Q y = (x : EReal)) ∧ ∀ y, ∃ x : ℝ, K y = (x : EReal) := by
  haveI := pre_facts
  have h' := congrFun h ix0
  unfold Cert.Pre_finite.fn at h'
  obtain ⟨hq, hk⟩ := IntOp.andi_eq_one.1 h'
  exact ⟨fun y => real_of_lt _ (Host.reduce_andi_all _ _ _ _ ix0 hq y), fun y => real_of_lt _ (Host.reduce_andi_all _ _ _ _ ix0 hk y)⟩

/-- The reference computes the attention. -/
theorem outH_eq (Q K W : FVec Ideal Cert.ReferenceIdeal.S2x8192x8x64 .f32) (hQ : ∀ y, ∃ x : ℝ, Q y = (x : EReal)) (hK : ∀ y, ∃ x : ℝ, K y = (x : EReal)) :
    Cert.ReferenceIdeal.Sb.outH Q K W = Cert.KernelIdeal.Sb.attn Q K W := by
  funext y
  idx_vars y
  exact Cert.ReferenceIdeal.Sb.outH_apply Q K W hQ hK y0 y1 y2

theorem algebraic : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hargs
  refine ⟨fun c => Cert.KernelIdeal.Sb.attn (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.Sb.run m g)
    obtain ⟨hQ, hK⟩ := finite_of_pre _ _ _ (hpre c)
    exact ⟨(h.1 c).1.trans (Cert.KernelIdeal.Sb.final m c _ _ _ rfl rfl rfl hQ hK), (h.1 c).2⟩
  · refine (θ_run Cert.ReferenceIdeal.defs _ _).mono (fun r h c => ?_) (Cert.ReferenceIdeal.Value.run m' g')
    obtain ⟨hQ, hK⟩ := finite_of_pre _ _ _ (hpre c)
    obtain ⟨e0, e1, e2⟩ := hargs c
    refine ⟨(h c).1.trans ?_, (h c).2⟩
    refine (Cert.ReferenceIdeal.Sb.res_eq m' c).trans ?_
    rw [e0, e1, e2]
    exact outH_eq _ _ _ hQ hK

end Cert.Proof

end
-- ==== Proof.TailRow.lean ====
/-
  One token's row of the tail, over the extended reals: what both the kernel and the reference compute for it.
-/
module

public import Idealize.ShloMosaic.Lib.Pointwise

@[expose] public section

noncomputable section

namespace Cert.Tail

open Idealize.ShloMosaic Idealize.ShloMosaic.TcCoe

/-- The row after the output projection: its first half comes from one attention, its second half from the other. -/
def projR (x : Fin 1024 → EReal) (on ob : Fin 512 → EReal) (w : Fin 1024 → Fin 1024 → EReal) (j : Fin 1024) : EReal :=
  x j + (∑ k : Fin 512, on k * w ⟨k.val, by omega⟩ j + ∑ k : Fin 512, ob k * w ⟨512 + k.val, by omega⟩ j)

/-- The row over the root of its mean square, times the gain. -/
def normR (h g : Fin 1024 → EReal) (j : Fin 1024) : EReal :=
  h j * Ideal.rsqrt (Ideal.div (∑ k, h k * h k) (Ideal.ofBits .f32 1149239296#32) + Ideal.ofBits .f32 897988541#32) * g j

/-- The score of head `h` against memory token `m`. -/
def scoreR (u : Fin 1024 → EReal) (w : Fin 1024 → Fin 256 → EReal) (mk : Fin 256 → Fin 4 → Fin 64 → EReal) (h : Fin 4) (m : Fin 256) : EReal :=
  ∑ d : Fin 64, (∑ k, u k * w k ⟨h.val * 64 + d.val, by omega⟩) * Ideal.ofBits .f32 1040187392#32 * mk m h d

/-- The exponential of a score less the greatest one. -/
def expR (S : Fin 256 → EReal) (m : Fin 256) : EReal :=
  Ideal.exp (S m - (Finset.univ : Finset (Fin 256)).fold max ⊥ S)

/-- The weights of the memory tokens. -/
def probR (S : Fin 256 → EReal) (m : Fin 256) : EReal :=
  Ideal.div (expR S m) (∑ x, expR S x)

/-- A lane of the heads' outputs: lane `j` belongs to head `j / 64`. -/
def headR (p : Fin 4 → Fin 256 → EReal) (mv : Fin 256 → Fin 4 → Fin 64 → EReal) (j : Fin 256) : EReal :=
  ∑ m, p ⟨j.val / 64, by omega⟩ m * mv m ⟨j.val / 64, by omega⟩ ⟨j.val % 64, by omega⟩

/-- The row after the cross-attention. -/
def crossR (h : Fin 1024 → EReal) (o : Fin 256 → EReal) (w : Fin 256 → Fin 1024 → EReal) (j : Fin 1024) : EReal :=
  h j + ∑ x, o x * w x j

/-- A matrix applied to a row. -/
def matR {N : Nat} (u : Fin 1024 → EReal) (w : Fin 1024 → Fin N → EReal) (x : Fin N) : EReal :=
  ∑ k, u k * w k x

/-- The row after the feed-forward layer. -/
def ffnR (h u : Fin 1024 → EReal) (a : Fin 2816 → EReal) (wu : Fin 1024 → Fin 2816 → EReal) (wd : Fin 2816 → Fin 1024 → EReal) (j : Fin 1024) : EReal :=
  h j + ∑ x, a x * Ideal.logistic (a x) * matR u wu x * wd x j

/-- The weights of every head's memory tokens, of a row. -/
def weightsR (h gc : Fin 1024 → EReal) (wq : Fin 1024 → Fin 256 → EReal) (mk : Fin 256 → Fin 4 → Fin 64 → EReal) (i : Fin 4) : Fin 256 → EReal :=
  probR (scoreR (normR h gc) wq mk i)

/-- The row after the cross-attention, from the row before it. -/
def memR (h gc : Fin 1024 → EReal) (wq : Fin 1024 → Fin 256 → EReal) (mk mv : Fin 256 → Fin 4 → Fin 64 → EReal) (wo : Fin 256 → Fin 1024 → EReal) : Fin 1024 → EReal :=
  crossR h (headR (weightsR h gc wq mk) mv) wo

/-- The tail's row, from the row after the cross-attention. -/
def lastR (h gf : Fin 1024 → EReal) (wg wu : Fin 1024 → Fin 2816 → EReal) (wd : Fin 2816 → Fin 1024 → EReal) (gl : Fin 1024 → EReal) : Fin 1024 → EReal :=
  normR (ffnR h (normR h gf) (matR (normR h gf) wg) wu wd) gl

/-- The word of minus infinity. -/
theorem word_bot : Ideal.ofBits .f32 4286578688#32 = ⊥ := by simp [Ideal.ofBits, Ideal.ieee]

end Cert.Tail

end
-- ==== Proof.TailHeads.lean ====
/-
  The tail kernel's cross-attention over the extended reals: the heads are taken one after another out of the same 256 lanes, each by a mask.
-/
module

public import proofs.«01_k».proof.Proof.Gen.Kernel2Ideal.Value
public import proofs.«01_k».proof.Proof.TailRow
public import Idealize.ShloMosaic.Lib.Pointwise
public import Idealize.ShloMosaic.Lib.Pipeline.ValueKit

@[expose] public section

set_option maxRecDepth 16384

noncomputable section

namespace Cert.Kernel2Ideal.Tail

open Cert.Kernel2Ideal Cert.Kernel2Ideal.Gen Cert.Tail
open Idealize.ShloMosaic Idealize.ShloMosaic.TcCoe

/-! ### Masks -/

/-- The lane's head number is `j / 64`. -/
theorem lane_apply (j : Fin 256) : k0_pay6 (ix2 0 j) = BitVec.ofNat 32 (j.val / 64) := by
  unfold k0_pay6
  pointwise
  revert j
  decide +kernel

theorem cmp_head (a h : Fin 4) : IntOp.cmpi .eq (BitVec.ofNat 32 a.val) (BitVec.ofNat 32 h.val) = if a = h then 1#1 else 0#1 := by
  revert a h
  decide

/-- A selection by a lane's head. -/
theorem select_head (a h : Fin 4) (x y : EReal) :
    Scalar.select (IntOp.cmpi .eq (BitVec.ofNat 32 a.val) (BitVec.ofNat 32 h.val)) x y = if a = h then x else y := by
  rw [cmp_head]
  split
  · rfl
  · rfl

/-- A sum over the lanes masked to a head is the sum over the head's lanes. -/
theorem sum_mask (f : Fin 256 → EReal) (h : Fin 4) :
    ∑ x : Fin 256, Scalar.select (IntOp.cmpi .eq (BitVec.ofNat 32 (x.val / 64)) (BitVec.ofNat 32 h.val)) (f x) 0
      = ∑ d : Fin 64, f ⟨h.val * 64 + d.val, by omega⟩ := by
  have e1 : ∀ x : Fin 256, Scalar.select (IntOp.cmpi .eq (BitVec.ofNat 32 (x.val / 64)) (BitVec.ofNat 32 h.val)) (f x) 0
      = if (⟨x.val / 64, by omega⟩ : Fin 4) = h then f x else 0 := fun x => select_head ⟨x.val / 64, by omega⟩ h (f x) 0
  rw [Finset.sum_congr rfl fun x _ => e1 x]
  refine (Equiv.sum_comp (finProdFinEquiv : Fin 4 × Fin 64 ≃ Fin 256) (fun x : Fin 256 => if (⟨x.val / 64, by omega⟩ : Fin 4) = h then f x else 0)).symm.trans ?_
  rw [Fintype.sum_prod_type]
  rw [Finset.sum_eq_single h]
  · refine Finset.sum_congr rfl fun d _ => ?_
    have ev : (finProdFinEquiv (h, d) : Fin (4 * 64)).val = h.val * 64 + d.val := by rw [finProdFinEquiv_apply_val]; show d.val + 64 * h.val = _; omega
    rw [if_pos (Fin.ext (by show (finProdFinEquiv (h, d) : Fin (4 * 64)).val / 64 = h.val; omega))]
    exact congrArg f (Fin.ext ev)
  · intro a _ ha
    refine Finset.sum_eq_zero fun d _ => ?_
    have ev : (finProdFinEquiv (a, d) : Fin (4 * 64)).val = a.val * 64 + d.val := by rw [finProdFinEquiv_apply_val]; show d.val + 64 * a.val = _; omega
    rw [if_neg]
    intro e
    exact ha (Fin.ext (by have := congrArg Fin.val e; have h2 : (finProdFinEquiv (a, d) : Fin (4 * 64)).val / 64 = h.val := this; omega))
  · intro hh
    exact absurd (Finset.mem_univ h) hh

/-! ### One head -/

/-- The scores of the head numbered `n`. -/
def scoreK (n : BitVec 32) (lane : IVec S1x256 32) (qx : FVec Ideal S256x256 .f32) (mk : FVec Ideal S256x256 .bf16) : FVec Ideal S256x256 .f32 :=
  matmul dot_S256x256_S256x256_S256x256_1_1_0_0_n_n none
    (truncf .bf16 (select (broadcastTo S256x256 (shapeCast S1x256 (cmpi .eq lane (broadcast S1x256 n)) shapeCasts_S1x256_S1x256) broadcasts_S1x256_S256x256)
      qx (broadcast S256x256 (Scalar.ofBits (F := Ideal) .f32 0x00000000#32))) bitsLt_bf16_f32) mk (constant S256x256 .f32 0x00000000#32)

/-- The exponentials of the scores less their maximum. -/
def expK (s : FVec Ideal S256x256 .f32) : FVec Ideal S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

/-- The weights of the memory tokens. -/
def probK (e : FVec Ideal S256x256 .f32) : FVec Ideal S256x256 .f32 :=
  divf e (broadcastTo S256x256 (shapeCast S256x1 (multiReduction .add [1] S256 e 0x00000000#32 reduces_S256x256_S256 (.inl rfl) rfl)
    shapeCasts_S256_S256x1) broadcasts_S256x1_S256x256)

/-- A head's weights. -/
def weightK (n : BitVec 32) (lane : IVec S1x256 32) (qx : FVec Ideal S256x256 .f32) (mk : FVec Ideal S256x256 .bf16) : FVec Ideal S256x256 .f32 :=
  probK (expK (scoreK n lane qx mk))

/-- The outputs with the head's lanes filled in. -/
def fillK (n : BitVec 32) (lane : IVec S1x256 32) (p : FVec Ideal S256x256 .f32) (mv : FVec Ideal S256x256 .bf16) (o : FVec Ideal S256x256 .f32) : FVec Ideal S256x256 .f32 :=
  select (broadcastTo S256x256 (shapeCast S1x256 (cmpi .eq lane (broadcast S1x256 n)) shapeCasts_S1x256_S1x256) broadcasts_S1x256_S256x256)
    (matmul dot_S256x256_S256x256_S256x256_1_0_0_1_n_n none (truncf .bf16 p bitsLt_bf16_f32) mv (constant S256x256 .f32 0x00000000#32)) o

theorem pay8_eq (qx : FVec Ideal S256x256 .f32) (mkv : FVec Ideal S256x512 .bf16) :
    k0_pay8 qx mkv = weightK 0#32 k0_pay6 qx (k0_pay4 mkv) := rfl

theorem pay11_eq (qx : FVec Ideal S256x256 .f32) (mk : FVec Ideal S256x256 .bf16) (lane : IVec S1x256 32) :
    k0_pay11 qx mk lane = weightK 2#32 lane qx mk := rfl

theorem pay10_eq (qx : FVec Ideal S256x256 .f32) (mk mv : FVec Ideal S256x256 .bf16) (lane : IVec S1x256 32) (o p : FVec Ideal S256x256 .f32) :
    k0_pay10 qx mk mv lane o p k0_pay9 = fillK 1#32 lane (weightK 1#32 lane qx mk) mv (fillK 0#32 lane p mv o) := rfl

theorem pay12_eq (qx : FVec Ideal S256x256 .f32) (mk mv : FVec Ideal S256x256 .bf16) (lane : IVec S1x256 32) (o p : FVec Ideal S256x256 .f32) :
    k0_pay12 qx mk mv lane o p = fillK 3#32 lane (weightK 3#32 lane qx mk) mv (fillK 2#32 lane p mv o) := rfl

theorem scoreK_apply (n : BitVec 32) (lane : IVec S1x256 32) (qx : FVec Ideal S256x256 .f32) (mk : FVec Ideal S256x256 .bf16) (r m : Fin 256) :
    scoreK n lane qx mk (ix2 r m) = ∑ x : Fin 256, Scalar.select (IntOp.cmpi .eq (lane (ix2 0 x)) n) (qx (ix2 r x) * mk (ix2 m x)) (0 : EReal) := by
  unfold scoreK
  pointwise

theorem expK_apply (s : FVec Ideal S256x256 .f32) (r m : Fin 256) : expK s (ix2 r m) = expR (fun k => s (ix2 r k)) m := by
  unfold expK expR
  pointwise
  rw [word_bot]

theorem probK_apply (e : FVec Ideal S256x256 .f32) (r m : Fin 256) : probK e (ix2 r m) = Ideal.div (e (ix2 r m)) (∑ x, e (ix2 r x)) := by
  unfold probK
  pointwise

theorem fillK_apply (n : BitVec 32) (lane : IVec S1x256 32) (p : FVec Ideal S256x256 .f32) (mv : FVec Ideal S256x256 .bf16) (o : FVec Ideal S256x256 .f32) (r j : Fin 256) :
    fillK n lane p mv o (ix2 r j) = Scalar.select (IntOp.cmpi .eq (lane (ix2 0 j)) n) (∑ m : Fin 256, p (ix2 r m) * mv (ix2 m j)) (o (ix2 r j)) := by
  unfold fillK
  pointwise

/-- The masked scores of head `h` are sums over its own lanes. -/
theorem scoreK_head (h : Fin 4) (qx : FVec Ideal S256x256 .f32) (mk : FVec Ideal S256x256 .bf16) (r m : Fin 256) :
    scoreK (BitVec.ofNat 32 h.val) k0_pay6 qx mk (ix2 r m)
      = ∑ d : Fin 64, (show EReal from qx (ix2 r ⟨h.val * 64 + d.val, by omega⟩)) * mk (ix2 m ⟨h.val * 64 + d.val, by omega⟩) := by
  rw [scoreK_apply]
  simp only [lane_apply]
  exact sum_mask (fun x => (show EReal from qx (ix2 r x)) * mk (ix2 m x)) h

/-- A head's weights, from its scores. -/
theorem weightK_apply (h : Fin 4) (qx : FVec Ideal S256x256 .f32) (mk : FVec Ideal S256x256 .bf16) (r m : Fin 256) :
    weightK (BitVec.ofNat 32 h.val) k0_pay6 qx mk (ix2 r m)
      = probR (fun m => ∑ d : Fin 64, (show EReal from qx (ix2 r ⟨h.val * 64 + d.val, by omega⟩)) * mk (ix2 m ⟨h.val * 64 + d.val, by omega⟩)) m := by
  have es : (fun m => scoreK (BitVec.ofNat 32 h.val) k0_pay6 qx mk (ix2 r m))
      = fun m => ∑ d : Fin 64, (show EReal from qx (ix2 r ⟨h.val * 64 + d.val, by omega⟩)) * mk (ix2 m ⟨h.val * 64 + d.val, by omega⟩) :=
    funext fun m => scoreK_head h qx mk r m
  unfold weightK
  rw [probK_apply, ← es]
  simp only [expK_apply]
  rfl

/-- The heads' outputs: every lane holds its own head's. -/
theorem heads_apply (qx : FVec Ideal S256x256 .f32) (mkv : FVec Ideal S256x512 .bf16) (mv : FVec Ideal S256x256 .bf16) (r j : Fin 256) :
    k0_pay12 qx (k0_pay4 mkv) mv k0_pay6 (k0_pay10 qx (k0_pay4 mkv) mv k0_pay6 (k0_pay7 (F := Ideal)) (k0_pay8 qx mkv) k0_pay9) (k0_pay11 qx (k0_pay4 mkv) k0_pay6) (ix2 r j)
      = ∑ m : Fin 256, (show EReal from weightK (BitVec.ofNat 32 (j.val / 64)) k0_pay6 qx (k0_pay4 mkv) (ix2 r m)) * mv (ix2 m j) := by
  rw [pay12_eq, pay10_eq, pay11_eq, pay8_eq]
  generalize k0_pay4 mkv = mk
  rw [fillK_apply, fillK_apply, fillK_apply, fillK_apply]
  obtain ⟨a, ha⟩ : ∃ a : Fin 4, a.val = j.val / 64 := ⟨⟨j.val / 64, by omega⟩, rfl⟩
  simp only [lane_apply, ← ha]
  refine (select_head a 3 _ _).trans ?_
  rw [show (2#32 : BitVec 32) = BitVec.ofNat 32 (2 : Fin 4).val from rfl, select_head,
    show (1#32 : BitVec 32) = BitVec.ofNat 32 (1 : Fin 4).val from rfl, select_head,
    show (0#32 : BitVec 32) = BitVec.ofNat 32 (0 : Fin 4).val from rfl, select_head]
  have hc : a = 0 ∨ a = 1 ∨ a = 2 ∨ a = 3 := by omega
  obtain rfl | rfl | rfl | rfl := hc <;> rfl

end Cert.Kernel2Ideal.Tail

end
-- ==== Proof.TailTile.lean ====
/-
  The tail kernel's tile over the extended reals: every row of it is the tail's row.
-/
module

public import proofs.«01_k».proof.Proof.TailHeads

@[expose] public section

set_option maxRecDepth 16384

noncomputable section

namespace Cert.Kernel2Ideal.Tail

open Cert.Kernel2Ideal Cert.Kernel2Ideal.Gen Cert.Tail
open Idealize.ShloMosaic Idealize.ShloMosaic.TcCoe

/-! ### The scale of the queries -/

/-- The scale is a nonnegative real number. -/
theorem scale_real : ∃ s : ℝ, 0 ≤ s ∧ Ideal.ofBits .f32 1040187392#32 = (s : EReal) := by
  refine ⟨_, ?_, by simp [Ideal.ofBits, Ideal.ieee]; norm_cast⟩
  positivity

/-- A sum with scaled terms is the scaled sum. -/
theorem sum_scale {N : Nat} (f : Fin N → EReal) : ∑ k, f k * Ideal.ofBits .f32 1040187392#32 = (∑ k, f k) * Ideal.ofBits .f32 1040187392#32 := by
  obtain ⟨s, hs, e⟩ := scale_real
  rw [e]
  have h : ∀ T : Finset (Fin N), ∑ k ∈ T, f k * (s : EReal) = (∑ k ∈ T, f k) * (s : EReal) := by
    intro T
    classical
    induction T using Finset.induction_on with
    | empty => simp
    | insert a T ha ih =>
      rw [Finset.sum_insert ha, Finset.sum_insert ha, ih]
      exact (EReal.right_distrib_of_nonneg_of_ne_top (by exact_mod_cast hs) (EReal.coe_ne_top s) _ _).symm
  exact h Finset.univ

/-! ### The tile -/

theorem pay1_apply (x1 x2 : Vec Ideal S1x512x256 .f32) (x0 : Vec Ideal S1x256x1024 .f32) (x4 : Vec Ideal S1024x1024 .bf16) (r : Fin 256) (j : Fin 1024) :
    k0_pay1 x1 x2 x0 x4 (ix2 r j) = projR (fun k => x0 (ix3 0 r k)) (fun k => x1 (ix3 0 k r)) (fun k => x2 (ix3 0 k r)) (fun k l => x4 (ix2 k l)) j := by
  unfold k0_pay1 projR
  pointwise

theorem pay2_apply (x1 x2 : Vec Ideal S1x512x256 .f32) (x0 : Vec Ideal S1x256x1024 .f32) (x4 : Vec Ideal S1024x1024 .bf16) (x5 : Vec Ideal S1x1024 .f32)
    (x6 : Vec Ideal S1024x256 .bf16) (r j : Fin 256) :
    k0_pay2 x1 x2 x0 x4 x5 x6 (ix2 r j) = matR (normR (fun k => k0_pay1 x1 x2 x0 x4 (ix2 r k)) (fun k => x5 (ix2 0 k))) (fun k l => x6 (ix2 k l)) j := by
  unfold k0_pay2
  generalize k0_pay1 x1 x2 x0 x4 = h
  pointwise
  rfl

theorem pay4_apply (x3 : Vec Ideal S1x256x512 .f32) (a j : Fin 256) : k0_pay4 (k0_pay3 x3) (ix2 a j) = x3 (ix3 0 a ⟨j.val, by omega⟩) := by
  unfold k0_pay4 k0_pay3
  pointwise

theorem pay5_apply (x3 : Vec Ideal S1x256x512 .f32) (a j : Fin 256) : k0_pay5 (k0_pay3 x3) (ix2 a j) = x3 (ix3 0 a ⟨256 + j.val, by omega⟩) := by
  unfold k0_pay5 k0_pay3
  pointwise

theorem pay13_apply (x : Vec Ideal S256x1024 .bf16) (k : Fin 256) (l : Fin 1024) : k0_pay13 x (ix2 k l) = x (ix2 k l) := by
  unfold k0_pay13
  pointwise

theorem pay14_apply (x : Vec Ideal S1x1024 .f32) (l : Fin 1024) : k0_pay14 x (ix2 0 l) = x (ix2 0 l) := by
  unfold k0_pay14
  pointwise

theorem pay15_apply (x : Vec Ideal S1024x2816 .bf16) (k : Fin 1024) (l : Fin 2816) : k0_pay15 x (ix2 k l) = x (ix2 k l) := by
  unfold k0_pay15
  pointwise

theorem pay16_apply (x : Vec Ideal S1024x2816 .bf16) (k : Fin 1024) (l : Fin 2816) : k0_pay16 x (ix2 k l) = x (ix2 k l) := by
  unfold k0_pay16
  pointwise

theorem pay17_apply (x : Vec Ideal S2816x1024 .bf16) (k : Fin 2816) (l : Fin 1024) : k0_pay17 x (ix2 k l) = x (ix2 k l) := by
  unfold k0_pay17
  pointwise

theorem pay18_apply (h : FVec Ideal S256x1024 .f32) (o : FVec Ideal S256x256 .f32) (wo : FVec Ideal S256x1024 .bf16) (g : FVec Ideal S1x1024 .f32)
    (wg wu : FVec Ideal S1024x2816 .bf16) (wd : FVec Ideal S2816x1024 .bf16) (gl : Vec Ideal S1x1024 .f32) (r : Fin 256) (j : Fin 1024) :
    k0_pay18 h o wo g wg wu wd gl (ix3 0 r j)
      = lastR (crossR (fun k => h (ix2 r k)) (fun x => o (ix2 r x)) (fun k l => wo (ix2 k l))) (fun k => g (ix2 0 k)) (fun k l => wg (ix2 k l)) (fun k l => wu (ix2 k l))
          (fun k l => wd (ix2 k l)) (fun k => gl (ix2 0 k)) j := by
  unfold k0_pay18
  pointwise
  rfl

/-- The heads' outputs of a row, from the row before the cross-attention. -/
theorem heads_row (qx : FVec Ideal S256x256 .f32) (x3 : Vec Ideal S1x256x512 .f32) (H gc : Fin 1024 → EReal) (wq : Fin 1024 → Fin 256 → EReal)
    (mk mv : Fin 256 → Fin 4 → Fin 64 → EReal) (r : Fin 256)
    (hq : ∀ j, qx (ix2 r j) = matR (normR H gc) (fun k l => wq k l * Ideal.ofBits .f32 1040187392#32) j)
    (hk : ∀ a (j : Fin 256), x3 (ix3 0 a ⟨j.val, by omega⟩) = mk a ⟨j.val / 64, by omega⟩ ⟨j.val % 64, by omega⟩)
    (hv : ∀ a (j : Fin 256), x3 (ix3 0 a ⟨256 + j.val, by omega⟩) = mv a ⟨j.val / 64, by omega⟩ ⟨j.val % 64, by omega⟩) :
    (fun j => k0_pay12 qx (k0_pay4 (k0_pay3 x3)) (k0_pay5 (k0_pay3 x3)) k0_pay6 (k0_pay10 qx (k0_pay4 (k0_pay3 x3)) (k0_pay5 (k0_pay3 x3)) k0_pay6 (k0_pay7 (F := Ideal))
        (k0_pay8 qx (k0_pay3 x3)) k0_pay9) (k0_pay11 qx (k0_pay4 (k0_pay3 x3)) k0_pay6) (ix2 r j))
      = headR (weightsR H gc wq mk) mv := by
  funext j
  refine (heads_apply qx (k0_pay3 x3) (k0_pay5 (k0_pay3 x3)) r j).trans ?_
  unfold headR
  refine Finset.sum_congr rfl fun a _ => congrArg₂ (· * ·) ?_ ((pay5_apply x3 a j).trans (hv a j))
  refine (weightK_apply ⟨j.val / 64, by omega⟩ qx (k0_pay4 (k0_pay3 x3)) r a).trans ?_
  unfold weightsR
  refine congrArg (fun S => probR S a) (funext fun b => ?_)
  unfold scoreR
  refine Finset.sum_congr rfl fun d _ => congrArg₂ (· * ·) ?_ ?_
  · refine (hq _).trans ?_
    unfold matR
    refine Eq.trans (Finset.sum_congr rfl fun k _ => (mul_assoc _ _ _).symm) (sum_scale _)
  · refine (pay4_apply x3 b _).trans ((hk b _).trans ?_)
    exact congrArg₂ (mk b) (Fin.ext (by show (j.val / 64 * 64 + d.val) / 64 = j.val / 64; omega)) (Fin.ext (by show (j.val / 64 * 64 + d.val) % 64 = d.val; omega))

end Cert.Kernel2Ideal.Tail

end
-- ==== Proof.TailArray.lean ====
/-
  The tail kernel's arrays over the extended reals: what the host hands to the call, and the blocks of a grid point.
-/
module

public import proofs.«01_k».proof.Proof.Gen.Kernel2Ideal.Value
public import Idealize.ShloMosaic.Lib.Pointwise
public import Idealize.ShloMosaic.Lib.Pipeline.ValueKit

@[expose] public section

set_option maxRecDepth 16384

noncomputable section

namespace Cert.Kernel2Ideal.Tail

open Cert.Kernel2Ideal Cert.Kernel2Ideal.Gen
open Idealize.ShloMosaic Idealize.ShloMosaic.TcCoe

variable (m : (ℓ : Loc nD τ sig) → Buf (Elt Ideal) ℓ)

/-! ### The host's arrays -/

theorem V_on (c : Dev nD) (b : Fin 2) (k : Fin 512) (r : Fin 8192) :
    (V m c main_v14 : FVec Ideal S2x512x8192 .f32) (ix3 b k r) = (m ((c : Thread nD τ).loc main_arg1) : FVec Ideal S2x8192x512 .f32) (ix3 b r k) := by
  entry_read
  pointwise

theorem V_ob (c : Dev nD) (b : Fin 2) (k : Fin 512) (r : Fin 8192) :
    (V m c main_v15 : FVec Ideal S2x512x8192 .f32) (ix3 b k r) = (m ((c : Thread nD τ).loc main_arg2) : FVec Ideal S2x8192x512 .f32) (ix3 b r k) := by
  entry_read
  pointwise

theorem V_mk (c : Dev nD) (b : Fin 2) (a j : Fin 256) :
    (V m c main_v2 : FVec Ideal S2x256x512 .f32) (ix3 b a ⟨j.val, by omega⟩)
      = (m ((c : Thread nD τ).loc main_arg3) : FVec Ideal S2x256x4x64 .f32) (ix4 b a ⟨j.val / 64, by omega⟩ ⟨j.val % 64, by omega⟩) := by
  entry_read
  pointwise

theorem V_mv (c : Dev nD) (b : Fin 2) (a j : Fin 256) :
    (V m c main_v2 : FVec Ideal S2x256x512 .f32) (ix3 b a ⟨256 + j.val, by omega⟩)
      = (m ((c : Thread nD τ).loc main_arg4) : FVec Ideal S2x256x4x64 .f32) (ix4 b a ⟨j.val / 64, by omega⟩ ⟨j.val % 64, by omega⟩) := by
  entry_read
  pointwise

theorem V_out (c : Dev nD) (k l : Fin 1024) :
    (V m c main_v3 : FVec Ideal S1024x1024 .bf16) (ix2 k l) = (m ((c : Thread nD τ).loc main_arg5) : FVec Ideal S1024x1024 .f32) (ix2 k l) := by
  entry_read
  pointwise

theorem V_gc (c : Dev nD) (k : Fin 1024) :
    (V m c main_v4 : FVec Ideal S1x1024 .f32) (ix2 0 k) = (m ((c : Thread nD τ).loc main_arg6) : FVec Ideal S1024 .f32) (ix1 k) := by
  entry_read
  pointwise

theorem V_wq (c : Dev nD) (k : Fin 1024) (l : Fin 256) :
    (V m c main_v7 : FVec Ideal S1024x256 .bf16) (ix2 k l)
      = (show EReal from (m ((c : Thread nD τ).loc main_arg7) : FVec Ideal S1024x256 .f32) (ix2 k l)) * Ideal.ofBits .f32 1040187392#32 := by
  entry_read
  pointwise

theorem V_wo (c : Dev nD) (k : Fin 256) (l : Fin 1024) :
    (V m c main_v8 : FVec Ideal S256x1024 .bf16) (ix2 k l) = (m ((c : Thread nD τ).loc main_arg8) : FVec Ideal S256x1024 .f32) (ix2 k l) := by
  entry_read
  pointwise

theorem V_gf (c : Dev nD) (k : Fin 1024) :
    (V m c main_v9 : FVec Ideal S1x1024 .f32) (ix2 0 k) = (m ((c : Thread nD τ).loc main_arg9) : FVec Ideal S1024 .f32) (ix1 k) := by
  entry_read
  pointwise

theorem V_wg (c : Dev nD) (k : Fin 1024) (l : Fin 2816) :
    (V m c main_v10 : FVec Ideal S1024x2816 .bf16) (ix2 k l) = (m ((c : Thread nD τ).loc main_arg10) : FVec Ideal S1024x2816 .f32) (ix2 k l) := by
  entry_read
  pointwise

theorem V_wu (c : Dev nD) (k : Fin 1024) (l : Fin 2816) :
    (V m c main_v11 : FVec Ideal S1024x2816 .bf16) (ix2 k l) = (m ((c : Thread nD τ).loc main_arg11) : FVec Ideal S1024x2816 .f32) (ix2 k l) := by
  entry_read
  pointwise

theorem V_wd (c : Dev nD) (k : Fin 2816) (l : Fin 1024) :
    (V m c main_v12 : FVec Ideal S2816x1024 .bf16) (ix2 k l) = (m ((c : Thread nD τ).loc main_arg12) : FVec Ideal S2816x1024 .f32) (ix2 k l) := by
  entry_read
  pointwise

theorem V_gl (c : Dev nD) (k : Fin 1024) :
    (V m c main_v13 : FVec Ideal S1x1024 .f32) (ix2 0 k) = (m ((c : Thread nD τ).loc main_arg13) : FVec Ideal S1024 .f32) (ix1 k) := by
  entry_read
  pointwise

/-! ### The blocks of a grid point -/

/-- Where the windows of a grid point lie. -/
theorem idx : ∀ t : Fin cfg0.N, win0_0.index t = ![(grid0.coords t 0).val, (grid0.coords t 1).val, 0]
    ∧ win0_1.index t = ![(grid0.coords t 0).val, 0, (grid0.coords t 1).val]
    ∧ win0_2.index t = ![(grid0.coords t 0).val, 0, (grid0.coords t 1).val]
    ∧ win0_3.index t = ![(grid0.coords t 0).val, 0, 0]
    ∧ win0_13.index t = ![(grid0.coords t 0).val, (grid0.coords t 1).val, 0] :=
  (by decide +kernel : ∀ t : Fin grid0.N, _)

/-- The windows of the weights hold the whole array at every point. -/
theorem idx_whole : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

theorem coord0 (t : Fin cfg0.N) : (grid0.coords t 0).val < 2 := (grid0.coords t 0).isLt
theorem coord1 (t : Fin cfg0.N) : (grid0.coords t 1).val < 32 := (grid0.coords t 1).isLt

/-- The batch of a grid point. -/
def bat (t : Fin cfg0.N) : Fin 2 := ⟨(grid0.coords t 0).val, coord0 t⟩

/-- The position of row `r` of a grid point's block. -/
def pos (t : Fin cfg0.N) (r : Fin 256) : Fin 8192 :=
  ⟨256 * (grid0.coords t 1).val + r.val, by have := coord1 t; omega⟩

theorem read_x (t : Fin cfg0.N) (X : FVec Ideal S2x8192x1024 .f32) (r : Fin 256) (k : Fin 1024) :
    ((win0_0.blk t).view.read (Elt Ideal) X : Vec Ideal S1x256x1024 .f32) (ix3 0 r k) = X (ix3 (bat t) (pos t r) k) := by
  unfold bat pos; blk_ext [idx t]

theorem read_on (t : Fin cfg0.N) (X : FVec Ideal S2x512x8192 .f32) (k : Fin 512) (r : Fin 256) :
    ((win0_1.blk t).view.read (Elt Ideal) X : Vec Ideal S1x512x256 .f32) (ix3 0 k r) = X (ix3 (bat t) k (pos t r)) := by
  unfold bat pos; blk_ext [idx t]

theorem read_ob (t : Fin cfg0.N) (X : FVec Ideal S2x512x8192 .f32) (k : Fin 512) (r : Fin 256) :
    ((win0_2.blk t).view.read (Elt Ideal) X : Vec Ideal S1x512x256 .f32) (ix3 0 k r) = X (ix3 (bat t) k (pos t r)) := by
  unfold bat pos; blk_ext [idx t]

theorem read_mkv (t : Fin cfg0.N) (X : FVec Ideal S2x256x512 .f32) (a : Fin 256) (e : Fin 512) :
    ((win0_3.blk t).view.read (Elt Ideal) X : Vec Ideal S1x256x512 .f32) (ix3 0 a e) = X (ix3 (bat t) a e) := by
  unfold bat; blk_ext [idx t]

theorem emb_out (t : Fin cfg0.N) (r : Fin 256) (k : Fin 1024) :
    (win0_13.blk t).view.emb (ix3 0 r k : S1x256x1024.Idx) = (ix3 (bat t) (pos t r) k : S2x8192x1024.Idx) := by
  unfold bat pos; blk_ext [idx t]

theorem read4 (t : Fin cfg0.N) (X : FVec Ideal S1024x1024 .bf16) (k l : Fin 1024) :
    ((win0_4.blk t).view.read (Elt Ideal) X : Vec Ideal S1024x1024 .bf16) (ix2 k l) = X (ix2 k l) := by
  blk_ext [idx_whole t]

theorem read5 (t : Fin cfg0.N) (X : FVec Ideal S1x1024 .f32) (l : Fin 1024) :
    ((win0_5.blk t).view.read (Elt Ideal) X : Vec Ideal S1x1024 .f32) (ix2 0 l) = X (ix2 0 l) := by
  blk_ext [idx_whole t]

theorem read6 (t : Fin cfg0.N) (X : FVec Ideal S1024x256 .bf16) (k : Fin 1024) (l : Fin 256) :
    ((win0_6.blk t).view.read (Elt Ideal) X : Vec Ideal S1024x256 .bf16) (ix2 k l) = X (ix2 k l) := by
  blk_ext [idx_whole t]

theorem read7 (t : Fin cfg0.N) (X : FVec Ideal S256x1024 .bf16) (k : Fin 256) (l : Fin 1024) :
    ((win0_7.blk t).view.read (Elt Ideal) X : Vec Ideal S256x1024 .bf16) (ix2 k l) = X (ix2 k l) := by
  blk_ext [idx_whole t]

theorem read8 (t : Fin cfg0.N) (X : FVec Ideal S1x1024 .f32) (l : Fin 1024) :
    ((win0_8.blk t).view.read (Elt Ideal) X : Vec Ideal S1x1024 .f32) (ix2 0 l) = X (ix2 0 l) := by
  blk_ext [idx_whole t]

theorem read9 (t : Fin cfg0.N) (X : FVec Ideal S1024x2816 .bf16) (k : Fin 1024) (l : Fin 2816) :
    ((win0_9.blk t).view.read (Elt Ideal) X : Vec Ideal S1024x2816 .bf16) (ix2 k l) = X (ix2 k l) := by
  blk_ext [idx_whole t]

theorem read10 (t : Fin cfg0.N) (X : FVec Ideal S1024x2816 .bf16) (k : Fin 1024) (l : Fin 2816) :
    ((win0_10.blk t).view.read (Elt Ideal) X : Vec Ideal S1024x2816 .bf16) (ix2 k l) = X (ix2 k l) := by
  blk_ext [idx_whole t]

theorem read11 (t : Fin cfg0.N) (X : FVec Ideal S2816x1024 .bf16) (k : Fin 2816) (l : Fin 1024) :
    ((win0_11.blk t).view.read (Elt Ideal) X : Vec Ideal S2816x1024 .bf16) (ix2 k l) = X (ix2 k l) := by
  blk_ext [idx_whole t]

theorem read12 (t : Fin cfg0.N) (X : FVec Ideal S1x1024 .f32) (l : Fin 1024) :
    ((win0_12.blk t).view.read (Elt Ideal) X : Vec Ideal S1x1024 .f32) (ix2 0 l) = X (ix2 0 l) := by
  blk_ext [idx_whole t]

end Cert.Kernel2Ideal.Tail

end
-- ==== Proof.TailFinal.lean ====
/-
  The tail kernel's result over the extended reals: every row of the array is the tail's row.
-/
module

public import proofs.«01_k».proof.Proof.TailTile
public import proofs.«01_k».proof.Proof.TailArray

@[expose] public section

set_option maxRecDepth 16384

noncomputable section

namespace Cert.Kernel2Ideal.Tail

open Cert.Kernel2Ideal Cert.Kernel2Ideal.Gen Cert.Tail
open Idealize.ShloMosaic Idealize.ShloMosaic.TcCoe

/-- What a grid point writes, from its blocks. -/
theorem out_apply (x0 : Vec Ideal S1x256x1024 .f32) (x1 x2 : Vec Ideal S1x512x256 .f32) (x3 : Vec Ideal S1x256x512 .f32) (x4 : Vec Ideal S1024x1024 .bf16)
    (x5 : Vec Ideal S1x1024 .f32) (x6 : Vec Ideal S1024x256 .bf16) (x7 : Vec Ideal S256x1024 .bf16) (x8 : Vec Ideal S1x1024 .f32) (x9 x10 : Vec Ideal S1024x2816 .bf16)
    (x11 : Vec Ideal S2816x1024 .bf16) (x12 : Vec Ideal S1x1024 .f32) (y : S1x256x1024.Idx) :
    out0_13 x0 x1 x2 x3 x4 x5 x6 x7 x8 x9 x10 x11 x12 y
      = k0_pay18 (k0_pay1 x1 x2 x0 x4)
          (k0_pay12 (k0_pay2 x1 x2 x0 x4 x5 x6) (k0_pay4 (k0_pay3 x3)) (k0_pay5 (k0_pay3 x3)) k0_pay6
            (k0_pay10 (k0_pay2 x1 x2 x0 x4 x5 x6) (k0_pay4 (k0_pay3 x3)) (k0_pay5 (k0_pay3 x3)) k0_pay6 (k0_pay7 (F := Ideal))
              (k0_pay8 (k0_pay2 x1 x2 x0 x4 x5 x6) (k0_pay3 x3)) k0_pay9)
            (k0_pay11 (k0_pay2 x1 x2 x0 x4 x5 x6) (k0_pay4 (k0_pay3 x3)) k0_pay6))
          (k0_pay13 x7) (k0_pay14 x8) (k0_pay15 x9) (k0_pay16 x10) (k0_pay17 x11) x12 y := by
  unfold_out out0_13
  frame_out

/-- A row of what a grid point writes is the tail's row. -/
theorem tile_row (x0 : Vec Ideal S1x256x1024 .f32) (x1 x2 : Vec Ideal S1x512x256 .f32) (x3 : Vec Ideal S1x256x512 .f32) (x4 : Vec Ideal S1024x1024 .bf16)
    (x5 : Vec Ideal S1x1024 .f32) (x6 : Vec Ideal S1024x256 .bf16) (x7 : Vec Ideal S256x1024 .bf16) (x8 : Vec Ideal S1x1024 .f32) (x9 x10 : Vec Ideal S1024x2816 .bf16)
    (x11 : Vec Ideal S2816x1024 .bf16) (x12 : Vec Ideal S1x1024 .f32) (r : Fin 256)
    (X : Fin 1024 → EReal) (ON OB : Fin 512 → EReal) (MK MV : Fin 256 → Fin 4 → Fin 64 → EReal) (W : Fin 1024 → Fin 1024 → EReal) (GC : Fin 1024 → EReal)
    (WQ : Fin 1024 → Fin 256 → EReal) (WO : Fin 256 → Fin 1024 → EReal) (GF : Fin 1024 → EReal) (WG WU : Fin 1024 → Fin 2816 → EReal) (WD : Fin 2816 → Fin 1024 → EReal)
    (LG : Fin 1024 → EReal)
    (h0 : ∀ k, x0 (ix3 0 r k) = X k) (h1 : ∀ k, x1 (ix3 0 k r) = ON k) (h2 : ∀ k, x2 (ix3 0 k r) = OB k)
    (hk : ∀ a (j : Fin 256), x3 (ix3 0 a ⟨j.val, by omega⟩) = MK a ⟨j.val / 64, by omega⟩ ⟨j.val % 64, by omega⟩)
    (hv : ∀ a (j : Fin 256), x3 (ix3 0 a ⟨256 + j.val, by omega⟩) = MV a ⟨j.val / 64, by omega⟩ ⟨j.val % 64, by omega⟩)
    (h4 : ∀ k l, x4 (ix2 k l) = W k l) (h5 : ∀ k, x5 (ix2 0 k) = GC k)
    (h6 : ∀ k l, x6 (ix2 k l) = WQ k l * Ideal.ofBits .f32 1040187392#32) (h7 : ∀ k l, x7 (ix2 k l) = WO k l) (h8 : ∀ k, x8 (ix2 0 k) = GF k)
    (h9 : ∀ k l, x9 (ix2 k l) = WG k l) (h10 : ∀ k l, x10 (ix2 k l) = WU k l) (h11 : ∀ k l, x11 (ix2 k l) = WD k l) (h12 : ∀ k, x12 (ix2 0 k) = LG k) (j : Fin 1024) :
    out0_13 x0 x1 x2 x3 x4 x5 x6 x7 x8 x9 x10 x11 x12 (ix3 0 r j) = lastR (memR (projR X ON OB W) GC WQ MK MV WO) GF WG WU WD LG j := by
  have e1 : (fun k => k0_pay1 x1 x2 x0 x4 (ix2 r k)) = projR X ON OB W := by
    funext k
    refine (pay1_apply x1 x2 x0 x4 r k).trans ?_
    rw [funext h0, funext h1, funext h2, show (fun k l => x4 (ix2 k l)) = W from funext fun k => funext (h4 k)]
  have eq : ∀ j, k0_pay2 x1 x2 x0 x4 x5 x6 (ix2 r j) = matR (normR (projR X ON OB W) GC) (fun k l => WQ k l * Ideal.ofBits .f32 1040187392#32) j := by
    intro j
    refine (pay2_apply x1 x2 x0 x4 x5 x6 r j).trans ?_
    rw [e1, funext h5, show (fun k l => x6 (ix2 k l)) = fun k l => WQ k l * Ideal.ofBits .f32 1040187392#32 from funext fun k => funext (h6 k)]
  refine (out_apply x0 x1 x2 x3 x4 x5 x6 x7 x8 x9 x10 x11 x12 _).trans ((pay18_apply _ _ _ _ _ _ _ x12 r j).trans ?_)
  rw [e1, heads_row (k0_pay2 x1 x2 x0 x4 x5 x6) x3 (projR X ON OB W) GC WQ MK MV r eq hk hv]
  rw [show (fun k l => k0_pay13 x7 (ix2 k l)) = WO from funext fun k => funext fun l => (pay13_apply x7 k l).trans (h7 k l),
    show (fun k => k0_pay14 x8 (ix2 0 k)) = GF from funext fun k => (pay14_apply x8 k).trans (h8 k),
    show (fun k l => k0_pay15 x9 (ix2 k l)) = WG from funext fun k => funext fun l => (pay15_apply x9 k l).trans (h9 k l),
    show (fun k l => k0_pay16 x10 (ix2 k l)) = WU from funext fun k => funext fun l => (pay16_apply x10 k l).trans (h10 k l),
    show (fun k l => k0_pay17 x11 (ix2 k l)) = WD from funext fun k => funext fun l => (pay17_apply x11 k l).trans (h11 k l),
    funext h12]
  rfl

/-- The tail's array: each row is the tail's row. -/
def tailA (x : FVec Ideal S2x8192x1024 .f32) (on ob : FVec Ideal S2x8192x512 .f32) (mk mv : FVec Ideal S2x256x4x64 .f32) (w : FVec Ideal S1024x1024 .f32)
    (gc : FVec Ideal S1024 .f32) (wq : FVec Ideal S1024x256 .f32) (wo : FVec Ideal S256x1024 .f32) (gf : FVec Ideal S1024 .f32)
    (wg wu : FVec Ideal S1024x2816 .f32) (wd : FVec Ideal S2816x1024 .f32) (gl : FVec Ideal S1024 .f32) : FVec Ideal S2x8192x1024 .f32 := fun y =>
  lastR (memR (projR (fun k => x (ix3 (y 0) (y 1) k)) (fun k => on (ix3 (y 0) (y 1) k)) (fun k => ob (ix3 (y 0) (y 1) k)) (fun k l => w (ix2 k l)))
      (fun k => gc (ix1 k)) (fun k l => wq (ix2 k l)) (fun m i d => mk (ix4 (y 0) m i d)) (fun m i d => mv (ix4 (y 0) m i d)) (fun k l => wo (ix2 k l)))
    (fun k => gf (ix1 k)) (fun k l => wg (ix2 k l)) (fun k l => wu (ix2 k l)) (fun k l => wd (ix2 k l)) (fun k => gl (ix1 k)) (y 2)

theorem tailA_congr {x x' : FVec Ideal S2x8192x1024 .f32} {on on' ob ob' : FVec Ideal S2x8192x512 .f32} {mk mk' mv mv' : FVec Ideal S2x256x4x64 .f32}
    {w w' : FVec Ideal S1024x1024 .f32} {gc gc' : FVec Ideal S1024 .f32} {wq wq' : FVec Ideal S1024x256 .f32} {wo wo' : FVec Ideal S256x1024 .f32}
    {gf gf' : FVec Ideal S1024 .f32} {wg wg' wu wu' : FVec Ideal S1024x2816 .f32} {wd wd' : FVec Ideal S2816x1024 .f32} {gl gl' : FVec Ideal S1024 .f32}
    (e0 : x = x') (e1 : on = on') (e2 : ob = ob') (e3 : mk = mk') (e4 : mv = mv') (e5 : w = w') (e6 : gc = gc') (e7 : wq = wq') (e8 : wo = wo') (e9 : gf = gf')
    (e10 : wg = wg') (e11 : wu = wu') (e12 : wd = wd') (e13 : gl = gl') :
    tailA x on ob mk mv w gc wq wo gf wg wu wd gl = tailA x' on' ob' mk' mv' w' gc' wq' wo' gf' wg' wu' wd' gl' := by
  subst e0 e1 e2 e3 e4 e5 e6 e7 e8 e9 e10 e11 e12 e13
  rfl

variable (m : (ℓ : Loc nD τ sig) → Buf (Elt Ideal) ℓ)

/-- The tail's array of the arguments as launched. -/
def result (c : Dev nD) : FVec Ideal S2x8192x1024 .f32 :=
  tailA (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13))

theorem point (c : Dev nD) (t : Fin cfg0.N) (r : Fin 256) (j : Fin 1024) :
    out0_13 (iblk m c 0 t) (iblk m c 1 t) (iblk m c 2 t) (iblk m c 3 t) (iblk m c 4 t) (iblk m c 5 t) (iblk m c 6 t) (iblk m c 7 t) (iblk m c 8 t) (iblk m c 9 t)
      (iblk m c 10 t) (iblk m c 11 t) (iblk m c 12 t) (ix3 0 r j) = result m c (ix3 (bat t) (pos t r) j) := by
  refine (tile_row (iblk m c 0 t) (iblk m c 1 t) (iblk m c 2 t) (iblk m c 3 t) (iblk m c 4 t) (iblk m c 5 t) (iblk m c 6 t) (iblk m c 7 t) (iblk m c 8 t) (iblk m c 9 t)
    (iblk m c 10 t) (iblk m c 11 t) (iblk m c 12 t) r _ _ _
    (fun a i d => (m ((c : Thread nD τ).loc main_arg3) : FVec Ideal S2x256x4x64 .f32) (ix4 (bat t) a i d))
    (fun a i d => (m ((c : Thread nD τ).loc main_arg4) : FVec Ideal S2x256x4x64 .f32) (ix4 (bat t) a i d)) _ _
    (fun k l => (m ((c : Thread nD τ).loc main_arg7) : FVec Ideal S1024x256 .f32) (ix2 k l)) _ _ _ _ _ _
    (fun k => (read_x t (V m c main_arg0) r k).trans (congrFun (V_main_arg0 m c) _))
    (fun k => (read_on t (V m c main_v14) k r).trans (V_on m c (bat t) k (pos t r)))
    (fun k => (read_ob t (V m c main_v15) k r).trans (V_ob m c (bat t) k (pos t r)))
    (fun a j => (read_mkv t (V m c main_v2) a _).trans (V_mk m c (bat t) a j))
    (fun a j => (read_mkv t (V m c main_v2) a _).trans (V_mv m c (bat t) a j))
    (fun k l => (read4 t (V m c main_v3) k l).trans (V_out m c k l))
    (fun k => (read5 t (V m c main_v4) k).trans (V_gc m c k))
    (fun k l => (read6 t (V m c main_v7) k l).trans (V_wq m c k l))
    (fun k l => (read7 t (V m c main_v8) k l).trans (V_wo m c k l))
    (fun k => (read8 t (V m c main_v9) k).trans (V_gf m c k))
    (fun k l => (read9 t (V m c main_v10) k l).trans (V_wg m c k l))
    (fun k l => (read10 t (V m c main_v11) k l).trans (V_wu m c k l))
    (fun k l => (read11 t (V m c main_v12) k l).trans (V_wd m c k l))
    (fun k => (read12 t (V m c main_v13) k).trans (V_gl m c k)) j).trans ?_
  rfl

/-- The result array: every block holds its rows. -/
theorem final (c : Dev nD) : (dats m 0 c).arrAt 13 cfg0.N = result m c := by
  refine (dats m 0 c).arrAt_eq_of_covers 13 _ (by decide +kernel) fun t _ y => ?_
  blk_simp
  rw [after0_13]
  have hy : ∀ y : S1x256x1024.Idx, out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) y = result m c ((win0_13.blk t).view.emb y) := fun y => by
    idx_vars y
    obtain rfl : y0 = 0 := Subsingleton.elim _ _
    exact (point m c t y1 y2).trans (congrArg (result m c) (emb_out t y1 y2).symm)
  exact hy y

end Cert.Kernel2Ideal.Tail

end
-- ==== Proof.TailReference.lean ====
/-
  The tail's reference over the extended reals, read at an index.
-/
module

public import proofs.«01_k».proof.Proof.Gen.Reference2Ideal.Run
public import proofs.«01_k».proof.Proof.TailRow
public import Idealize.ShloMosaic.Lib.Pointwise
public import Idealize.ShloMosaic.Lib.KernelVsHost

@[expose] public section

set_option maxRecDepth 16384

noncomputable section

namespace Cert.Reference2Ideal.Tail

open Cert.Reference2Ideal Cert.Reference2Ideal.Gen
open Idealize.ShloMosaic Idealize.ShloMosaic.TcCoe

/-! ### The reference's parts -/

/-- The residual stream after the output projection. -/
def projH (x : FVec Ideal S2x8192x1024 .f32) (on ob : FVec Ideal S2x8192x512 .f32) (w : FVec Ideal S1024x1024 .f32) : FVec Ideal S2x8192x1024 .f32 :=
  addf x (Host.dotGeneral dot_S2x8192x1024_S1024x1024_S2x8192x1024_2_0_01_1_n_n none
    (concatenate S2x8192x1024 2 [⟨S2x8192x512, on⟩, ⟨S2x8192x512, ob⟩] concatenates_S2x8192x512_S2x8192x512_S2x8192x1024_d2) w)

/-- The norm of each row. -/
def normH (h : FVec Ideal S2x8192x1024 .f32) (g : FVec Ideal S1024 .f32) : FVec Ideal S2x8192x1024 .f32 :=
  mulf (mulf h (broadcastInDim S2x8192x1024 ![0, 1, 2] bcast_S2x8192x1_S2x8192x1024_0_1_2
      (Host.rsqrt (addf (Host.divf (broadcastInDim S2x8192x1 ![0, 1] bcast_S2x8192_S2x8192x1_0_1
        (Host.reduceAdd (mulf h h) (constant S_ .f32 0x00000000#32) reducesTo_S2x8192x1024_S2x8192_d2 h_S_))
        (broadcastInDim S2x8192x1 ![] bcast_S_S2x8192x1 (constant S_ .f32 0x44800000#32)))
        (broadcastInDim S2x8192x1 ![] bcast_S_S2x8192x1 (constant S_ .f32 0x358637BD#32))))))
    (broadcastInDim S2x8192x1024 ![0, 1, 2] bcast_S1x1x1024_S2x8192x1024_0_1_2 (broadcastInDim S1x1x1024 ![2] bcast_S1024_S1x1x1024_2 g))

/-- The scores of the cross-attention. -/
def scoreH (u : FVec Ideal S2x8192x1024 .f32) (w : FVec Ideal S1024x256 .f32) (mk : FVec Ideal S2x256x4x64 .f32) : FVec Ideal S2x4x8192x256 .f32 :=
  Host.dotGeneral dot_S2x8192x4x64_S2x256x4x64_S2x4x8192x256_3_3_1_1_02_02 none
    (mulf (shapeCast S2x8192x4x64 (Host.dotGeneral dot_S2x8192x1024_S1024x256_S2x8192x256_2_0_01_1_n_n none u w : FVec Ideal S2x8192x256 .f32) shapeCasts_S2x8192x256_S2x8192x4x64)
      (broadcastInDim S2x8192x4x64 ![] bcast_S_S2x8192x4x64 (constant S_ .f32 0x3E000000#32))) mk

/-- The greatest score of every row. -/
def maxH (s : FVec Ideal S2x4x8192x256 .f32) : FVec Ideal S2x4x8192 .f32 :=
  Host.reduce FloatOps.maximumf s (constant S_ .f32 0xFF800000#32) reducesTo_S2x4x8192x256_S2x4x8192_d3 h_S_

/-- The exponentials of the scores less their maximum. -/
def expH (s : FVec Ideal S2x4x8192x256 .f32) (t : FVec Ideal S2x4x8192 .f32) : FVec Ideal S2x4x8192x256 .f32 :=
  Host.exp (subf s (broadcastInDim S2x4x8192x256 ![0, 1, 2, 3] bcast_S2x4x8192x1_S2x4x8192x256_0_1_2_3
    (broadcastInDim S2x4x8192x1 ![0, 1, 2] bcast_S2x4x8192_S2x4x8192x1_0_1_2
      (maximumf (broadcastInDim S2x4x8192 ![] bcast_S_S2x4x8192 (constant S_ .f32 0xFF800000#32)) t))))

/-- The weights of the memory tokens. -/
def probH (e : FVec Ideal S2x4x8192x256 .f32) : FVec Ideal S2x4x8192x256 .f32 :=
  Host.divf e (broadcastInDim S2x4x8192x256 ![0, 1, 2, 3] bcast_S2x4x8192x1_S2x4x8192x256_0_1_2_3
    (broadcastInDim S2x4x8192x1 ![0, 1, 2] bcast_S2x4x8192_S2x4x8192x1_0_1_2
      (Host.reduceAdd e (constant S_ .f32 0x00000000#32) reducesTo_S2x4x8192x256_S2x4x8192_d3 h_S_)))

/-- The residual stream after the cross-attention. -/
def crossH (h : FVec Ideal S2x8192x1024 .f32) (p : FVec Ideal S2x4x8192x256 .f32) (mv : FVec Ideal S2x256x4x64 .f32) (w : FVec Ideal S256x1024 .f32) : FVec Ideal S2x8192x1024 .f32 :=
  addf h (Host.dotGeneral dot_S2x8192x256_S256x1024_S2x8192x1024_2_0_01_1_n_n none
    (shapeCast S2x8192x256 (transpose S2x8192x4x64 [0, 3, 1, 2]
      (Host.dotGeneral dot_S2x256x4x64_S2x4x8192x256_S2x4x64x8192_1_3_3_2_02_01 none mv p : FVec Ideal S2x4x64x8192 .f32)
      transposes_S2x4x64x8192_S2x8192x4x64_0_3_1_2) shapeCasts_S2x8192x4x64_S2x8192x256) w)

/-- The gate of the feed-forward layer. -/
def gateH (u : FVec Ideal S2x8192x1024 .f32) (w : FVec Ideal S1024x2816 .f32) : FVec Ideal S2x8192x2816 .f32 :=
  Host.dotGeneral dot_S2x8192x1024_S1024x2816_S2x8192x2816_2_0_01_1_n_n none u w

/-- The residual stream after the feed-forward layer. -/
def ffnH (h u : FVec Ideal S2x8192x1024 .f32) (a : FVec Ideal S2x8192x2816 .f32) (wu : FVec Ideal S1024x2816 .f32) (wd : FVec Ideal S2816x1024 .f32) : FVec Ideal S2x8192x1024 .f32 :=
  addf h (Host.dotGeneral dot_S2x8192x2816_S2816x1024_S2x8192x1024_2_0_01_1_n_n none
    (mulf (mulf a (Host.divf (broadcastInDim S2x8192x2816 ![] bcast_S_S2x8192x2816 (constant S_ .f32 0x3F800000#32))
        (addf (broadcastInDim S2x8192x2816 ![] bcast_S_S2x8192x2816 (constant S_ .f32 0x3F800000#32)) (Host.exp (Host.negf a)))))
      (Host.dotGeneral dot_S2x8192x1024_S1024x2816_S2x8192x2816_2_0_01_1_n_n none u wu : FVec Ideal S2x8192x2816 .f32)) wd)

/-! ### The parts at an index -/

open Cert.Tail

theorem projH_apply (x : FVec Ideal S2x8192x1024 .f32) (on ob : FVec Ideal S2x8192x512 .f32) (w : FVec Ideal S1024x1024 .f32) (b : Fin 2) (r : Fin 8192) (j : Fin 1024) :
    projH x on ob w (ix3 b r j) = projR (fun k => x (ix3 b r k)) (fun k => on (ix3 b r k)) (fun k => ob (ix3 b r k)) (fun k l => w (ix2 k l)) j := by
  unfold projH
  pointwise
  rfl

theorem normH_apply (x : FVec Ideal S2x8192x1024 .f32) (g : FVec Ideal S1024 .f32) (b : Fin 2) (r : Fin 8192) (j : Fin 1024) :
    normH x g (ix3 b r j) = normR (fun k => x (ix3 b r k)) (fun k => g (ix1 k)) j := by
  unfold normH
  pointwise
  rfl

theorem scoreH_apply (u : FVec Ideal S2x8192x1024 .f32) (w : FVec Ideal S1024x256 .f32) (mk : FVec Ideal S2x256x4x64 .f32) (b : Fin 2) (h : Fin 4) (r : Fin 8192) (j : Fin 256) :
    scoreH u w mk (ix4 b h r j) = scoreR (fun k => u (ix3 b r k)) (fun k l => w (ix2 k l)) (fun m i d => mk (ix4 b m i d)) h j := by
  unfold scoreH
  pointwise
  rfl

/-- The host's maximum over the last axis, at any sizes. -/
theorem max_last {n0 n1 n2 n3 : Nat} (s : FVec Ideal ⟨4, ![n0, n1, n2, n3]⟩ .f32)
    (h : Shape.ReducesTo ⟨4, ![n0, n1, n2, n3]⟩ [3] ⟨3, ![n0, n1, n2]⟩) (hu : 0 < S_.numel) (b : Fin n0) (i : Fin n1) (r : Fin n2) :
    Host.reduce FloatOps.maximumf s (constant S_ .f32 0xFF800000#32) h hu (ix3 b i r)
      = (Finset.univ : Finset (Fin n3)).fold max ⊥ (fun k => s (ix4 b i r k)) := by
  have h' : Shape.Reduces ⟨4, ![n0, n1, n2, n3]⟩ [3] ⟨3, ![n0, n1, n2]⟩ := ⟨rfl, Nat.succ_pos 2, h.2⟩
  refine (congrFun (hostReduce_maximumf_eq_multiReduction s 0xFF800000#32 h hu h' (Or.inl rfl) rfl) _).trans ?_
  pointwise
  rw [word_bot]

theorem maxH_apply (s : FVec Ideal S2x4x8192x256 .f32) (b : Fin 2) (h : Fin 4) (r : Fin 8192) :
    maxH s (ix3 b h r) = (Finset.univ : Finset (Fin 256)).fold max ⊥ (fun k => s (ix4 b h r k)) := by
  unfold maxH
  exact max_last (n0 := 2) (n1 := 4) (n2 := 8192) (n3 := 256) s reducesTo_S2x4x8192x256_S2x4x8192_d3 h_S_ b h r

theorem expH_of_max (s : FVec Ideal S2x4x8192x256 .f32) (t : FVec Ideal S2x4x8192 .f32) (b : Fin 2) (h : Fin 4) (r : Fin 8192) (j : Fin 256) (M : EReal)
    (e : t (ix3 b h r) = M) : expH s t (ix4 b h r j) = Ideal.exp (s (ix4 b h r j) - M) := by
  unfold expH
  pointwise
  rw [e, word_bot, max_eq_right bot_le]

theorem expH_apply (s : FVec Ideal S2x4x8192x256 .f32) (b : Fin 2) (h : Fin 4) (r : Fin 8192) (j : Fin 256) :
    expH s (maxH s) (ix4 b h r j) = expR (fun k => s (ix4 b h r k)) j :=
  expH_of_max s (maxH s) b h r j _ (maxH_apply s b h r)

theorem probH_apply (e : FVec Ideal S2x4x8192x256 .f32) (b : Fin 2) (h : Fin 4) (r : Fin 8192) (j : Fin 256) :
    probH e (ix4 b h r j) = Ideal.div (e (ix4 b h r j)) (∑ x, e (ix4 b h r x)) := by
  unfold probH
  pointwise

theorem crossH_apply (h : FVec Ideal S2x8192x1024 .f32) (p : FVec Ideal S2x4x8192x256 .f32) (mv : FVec Ideal S2x256x4x64 .f32) (w : FVec Ideal S256x1024 .f32) (b : Fin 2) (r : Fin 8192) (j : Fin 1024) :
    crossH h p mv w (ix3 b r j) = crossR (fun k => h (ix3 b r k)) (headR (fun i m => p (ix4 b i r m)) (fun m i d => mv (ix4 b m i d))) (fun k l => w (ix2 k l)) j := by
  unfold crossH crossR headR
  pointwise
  exact congrArg _ (Finset.sum_congr rfl fun x _ => congrArg (· * _) (Finset.sum_congr rfl fun k _ => mul_comm _ _))

theorem gateH_apply (u : FVec Ideal S2x8192x1024 .f32) (w : FVec Ideal S1024x2816 .f32) (b : Fin 2) (r : Fin 8192) (j : Fin 2816) :
    gateH u w (ix3 b r j) = matR (fun k => u (ix3 b r k)) (fun k l => w (ix2 k l)) j := by
  unfold gateH
  pointwise
  rfl

theorem word_one : Ideal.ofBits .f32 1065353216#32 = 1 := by
  simp [Ideal.ofBits, Ideal.ieee]
  norm_cast
  norm_num

theorem ffnH_apply (h u : FVec Ideal S2x8192x1024 .f32) (a : FVec Ideal S2x8192x2816 .f32) (wu : FVec Ideal S1024x2816 .f32) (wd : FVec Ideal S2816x1024 .f32) (b : Fin 2) (r : Fin 8192) (j : Fin 1024) :
    ffnH h u a wu wd (ix3 b r j) = ffnR (fun k => h (ix3 b r k)) (fun k => u (ix3 b r k)) (fun k => a (ix3 b r k)) (fun k l => wu (ix2 k l)) (fun k l => wd (ix2 k l)) j := by
  unfold ffnH
  pointwise
  rfl

end Cert.Reference2Ideal.Tail

end
-- ==== Proof.TailResult.lean ====
/-
  The tail's reference over the extended reals: its result, row by row.
-/
module

public import proofs.«01_k».proof.Proof.TailReference

@[expose] public section

set_option maxRecDepth 16384

noncomputable section

namespace Cert.Reference2Ideal.Tail

open Cert.Reference2Ideal Cert.Reference2Ideal.Gen Cert.Tail
open Idealize.ShloMosaic Idealize.ShloMosaic.TcCoe

/-- The residual stream after the cross-attention, from the one before it. -/
def memH (h : FVec Ideal S2x8192x1024 .f32) (mk mv : FVec Ideal S2x256x4x64 .f32) (g : FVec Ideal S1024 .f32)
    (wq : FVec Ideal S1024x256 .f32) (wo : FVec Ideal S256x1024 .f32) : FVec Ideal S2x8192x1024 .f32 :=
  crossH h (probH (expH (scoreH (normH h g) wq mk) (maxH (scoreH (normH h g) wq mk)))) mv wo

/-- The tail's result, from the residual stream after the cross-attention. -/
def lastH (h : FVec Ideal S2x8192x1024 .f32) (g : FVec Ideal S1024 .f32) (wg wu : FVec Ideal S1024x2816 .f32) (wd : FVec Ideal S2816x1024 .f32)
    (gl : FVec Ideal S1024 .f32) : FVec Ideal S2x8192x1024 .f32 :=
  normH (ffnH h (normH h g) (gateH (normH h g) wg) wu wd) gl

theorem memH_row (h : FVec Ideal S2x8192x1024 .f32) (mk mv : FVec Ideal S2x256x4x64 .f32) (g : FVec Ideal S1024 .f32)
    (wq : FVec Ideal S1024x256 .f32) (wo : FVec Ideal S256x1024 .f32) (b : Fin 2) (r : Fin 8192) :
    (fun k => memH h mk mv g wq wo (ix3 b r k))
      = memR (fun k => h (ix3 b r k)) (fun k => g (ix1 k)) (fun k l => wq (ix2 k l)) (fun m i d => mk (ix4 b m i d)) (fun m i d => mv (ix4 b m i d)) (fun k l => wo (ix2 k l)) := by
  have eu : (fun k => normH h g (ix3 b r k)) = normR (fun k => h (ix3 b r k)) (fun k => g (ix1 k)) := funext fun k => normH_apply h g b r k
  unfold memH memR
  generalize normH h g = u at eu ⊢
  have es : ∀ i, (fun m => scoreH u wq mk (ix4 b i r m)) = scoreR (normR (fun k => h (ix3 b r k)) (fun k => g (ix1 k))) (fun k l => wq (ix2 k l)) (fun m i d => mk (ix4 b m i d)) i := by
    intro i
    rw [← eu]
    exact funext fun m => scoreH_apply u wq mk b i r m
  generalize scoreH u wq mk = s at es ⊢
  have ee : ∀ i, (fun m => expH s (maxH s) (ix4 b i r m)) = expR (scoreR (normR (fun k => h (ix3 b r k)) (fun k => g (ix1 k))) (fun k l => wq (ix2 k l)) (fun m i d => mk (ix4 b m i d)) i) := by
    intro i
    rw [← es i]
    exact funext fun m => expH_apply s b i r m
  generalize expH s (maxH s) = e at ee ⊢
  have ep : (fun i m => probH e (ix4 b i r m)) = weightsR (fun k => h (ix3 b r k)) (fun k => g (ix1 k)) (fun k l => wq (ix2 k l)) (fun m i d => mk (ix4 b m i d)) := by
    funext i m
    refine (probH_apply e b i r m).trans ?_
    have e1 : ∀ x, e (ix4 b i r x) = expR (scoreR (normR (fun k => h (ix3 b r k)) (fun k => g (ix1 k))) (fun k l => wq (ix2 k l)) (fun m i d => mk (ix4 b m i d)) i) x := fun x => congrFun (ee i) x
    simp only [e1]
    rfl
  generalize probH e = p at ep ⊢
  rw [← ep]
  exact funext fun k => crossH_apply h p mv wo b r k

theorem lastH_row (h : FVec Ideal S2x8192x1024 .f32) (g : FVec Ideal S1024 .f32) (wg wu : FVec Ideal S1024x2816 .f32) (wd : FVec Ideal S2816x1024 .f32)
    (gl : FVec Ideal S1024 .f32) (b : Fin 2) (r : Fin 8192) (j : Fin 1024) :
    lastH h g wg wu wd gl (ix3 b r j)
      = lastR (fun k => h (ix3 b r k)) (fun k => g (ix1 k)) (fun k l => wg (ix2 k l)) (fun k l => wu (ix2 k l)) (fun k l => wd (ix2 k l)) (fun k => gl (ix1 k)) j := by
  have eu : (fun k => normH h g (ix3 b r k)) = normR (fun k => h (ix3 b r k)) (fun k => g (ix1 k)) := funext fun k => normH_apply h g b r k
  unfold lastH lastR
  rw [← eu]
  generalize normH h g = u
  have ea : (fun k => gateH u wg (ix3 b r k)) = matR (fun k => u (ix3 b r k)) (fun k l => wg (ix2 k l)) := funext fun k => gateH_apply u wg b r k
  rw [← ea]
  generalize gateH u wg = a
  have ef : (fun k => ffnH h u a wu wd (ix3 b r k)) = ffnR (fun k => h (ix3 b r k)) (fun k => u (ix3 b r k)) (fun k => a (ix3 b r k)) (fun k l => wu (ix2 k l)) (fun k l => wd (ix2 k l)) :=
    funext fun k => ffnH_apply h u a wu wd b r k
  rw [← ef]
  exact normH_apply _ _ b r j

/-- The tail: from the embedding, both attentions, the memory tokens and the weights. -/
def tailH (x : FVec Ideal S2x8192x1024 .f32) (on ob : FVec Ideal S2x8192x512 .f32) (mk mv : FVec Ideal S2x256x4x64 .f32) (w : FVec Ideal S1024x1024 .f32)
    (gc : FVec Ideal S1024 .f32) (wq : FVec Ideal S1024x256 .f32) (wo : FVec Ideal S256x1024 .f32) (gf : FVec Ideal S1024 .f32)
    (wg wu : FVec Ideal S1024x2816 .f32) (wd : FVec Ideal S2816x1024 .f32) (gl : FVec Ideal S1024 .f32) : FVec Ideal S2x8192x1024 .f32 :=
  lastH (memH (projH x on ob w) mk mv gc wq wo) gf wg wu wd gl

theorem tailH_apply (x : FVec Ideal S2x8192x1024 .f32) (on ob : FVec Ideal S2x8192x512 .f32) (mk mv : FVec Ideal S2x256x4x64 .f32) (w : FVec Ideal S1024x1024 .f32)
    (gc : FVec Ideal S1024 .f32) (wq : FVec Ideal S1024x256 .f32) (wo : FVec Ideal S256x1024 .f32) (gf : FVec Ideal S1024 .f32)
    (wg wu : FVec Ideal S1024x2816 .f32) (wd : FVec Ideal S2816x1024 .f32) (gl : FVec Ideal S1024 .f32) (b : Fin 2) (r : Fin 8192) (j : Fin 1024) :
    tailH x on ob mk mv w gc wq wo gf wg wu wd gl (ix3 b r j)
      = lastR (memR (projR (fun k => x (ix3 b r k)) (fun k => on (ix3 b r k)) (fun k => ob (ix3 b r k)) (fun k l => w (ix2 k l)))
          (fun k => gc (ix1 k)) (fun k l => wq (ix2 k l)) (fun m i d => mk (ix4 b m i d)) (fun m i d => mv (ix4 b m i d)) (fun k l => wo (ix2 k l)))
        (fun k => gf (ix1 k)) (fun k l => wg (ix2 k l)) (fun k l => wu (ix2 k l)) (fun k l => wd (ix2 k l)) (fun k => gl (ix1 k)) j := by
  have eh : (fun k => projH x on ob w (ix3 b r k)) = projR (fun k => x (ix3 b r k)) (fun k => on (ix3 b r k)) (fun k => ob (ix3 b r k)) (fun k l => w (ix2 k l)) :=
    funext fun k => projH_apply x on ob w b r k
  unfold tailH
  generalize projH x on ob w = h at eh ⊢
  refine (lastH_row _ gf wg wu wd gl b r j).trans ?_
  rw [memH_row, eh]

variable (V0 : Valuation τ sig (Elt Ideal))

theorem res_v2 : Value.res_main_v2 V0 = projH (V0 (Proc.devRef .tc main_arg0)) (V0 (Proc.devRef .tc main_arg1)) (V0 (Proc.devRef .tc main_arg2)) (V0 (Proc.devRef .tc main_arg5)) := by
  unfold Value.res_main_v2 projH
  rfl

theorem res_v20 : Value.res_main_v20 V0 = scoreH (normH (Value.res_main_v2 V0) (V0 (Proc.devRef .tc main_arg6))) (V0 (Proc.devRef .tc main_arg7)) (V0 (Proc.devRef .tc main_arg3)) := by
  unfold Value.res_main_v20 scoreH normH
  rfl

theorem res_v27 : Value.res_main_v27 V0 = expH (Value.res_main_v20 V0) (maxH (Value.res_main_v20 V0)) := by
  unfold Value.res_main_v27 expH maxH
  rfl

theorem res_v36 : Value.res_main_v36 V0 = crossH (Value.res_main_v2 V0) (probH (Value.res_main_v27 V0)) (V0 (Proc.devRef .tc main_arg4)) (V0 (Proc.devRef .tc main_arg8)) := by
  unfold Value.res_main_v36 crossH probH
  rfl

theorem res_v36_mem : Value.res_main_v36 V0 = memH (Value.res_main_v2 V0) (V0 (Proc.devRef .tc main_arg3)) (V0 (Proc.devRef .tc main_arg4))
    (V0 (Proc.devRef .tc main_arg6)) (V0 (Proc.devRef .tc main_arg7)) (V0 (Proc.devRef .tc main_arg8)) := by
  rw [res_v36, res_v27, res_v20]
  rfl

theorem res_v49 : Value.res_main_v49 V0 = normH (Value.res_main_v36 V0) (V0 (Proc.devRef .tc main_arg9)) := by
  unfold Value.res_main_v49 normH
  rfl

theorem res_v55 : Value.res_main_v55 V0 = ffnH (Value.res_main_v36 V0) (Value.res_main_v49 V0) (gateH (Value.res_main_v49 V0) (V0 (Proc.devRef .tc main_arg10)))
    (V0 (Proc.devRef .tc main_arg11)) (V0 (Proc.devRef .tc main_arg12)) := by
  unfold Value.res_main_v55 Value.res_main_v50 ffnH gateH
  rfl

/-- The last norm of the reference is that of the whole tail. -/
theorem res_last : normH (Value.res_main_v55 V0) (V0 (Proc.devRef .tc main_arg13))
    = tailH (V0 (Proc.devRef .tc main_arg0)) (V0 (Proc.devRef .tc main_arg1)) (V0 (Proc.devRef .tc main_arg2)) (V0 (Proc.devRef .tc main_arg3))
      (V0 (Proc.devRef .tc main_arg4)) (V0 (Proc.devRef .tc main_arg5)) (V0 (Proc.devRef .tc main_arg6)) (V0 (Proc.devRef .tc main_arg7))
      (V0 (Proc.devRef .tc main_arg8)) (V0 (Proc.devRef .tc main_arg9)) (V0 (Proc.devRef .tc main_arg10)) (V0 (Proc.devRef .tc main_arg11))
      (V0 (Proc.devRef .tc main_arg12)) (V0 (Proc.devRef .tc main_arg13)) := by
  rw [res_v55, res_v49, res_v36_mem, res_v2]
  rfl

/-- The tail of the arguments as launched is what the reference leaves. -/
theorem res_final (m : (ℓ : Loc nD τ sig) → Buf (Elt Ideal) ℓ) (c : Dev nD) :
    mulf (mulf (Value.res_main_v55 (StableHlo.launchContents m c)) (broadcastInDim S2x8192x1024 ![0, 1, 2] bcast_S2x8192x1_S2x8192x1024_0_1_2
      (Host.rsqrt (addf (Host.divf (broadcastInDim S2x8192x1 ![0, 1] bcast_S2x8192_S2x8192x1_0_1
        (Host.reduceAdd (mulf (Value.res_main_v55 (StableHlo.launchContents m c)) (Value.res_main_v55 (StableHlo.launchContents m c)))
          (constant S_ .f32 0x00000000#32) reducesTo_S2x8192x1024_S2x8192_d2 h_S_))
        (broadcastInDim S2x8192x1 ![] bcast_S_S2x8192x1 (constant S_ .f32 0x44800000#32)))
        (broadcastInDim S2x8192x1 ![] bcast_S_S2x8192x1 (constant S_ .f32 0x358637BD#32))))))
      (broadcastInDim S2x8192x1024 ![0, 1, 2] bcast_S1x1x1024_S2x8192x1024_0_1_2 (broadcastInDim S1x1x1024 ![2] bcast_S1024_S1x1x1024_2
        ((StableHlo.launchContents m c) (Proc.devRef .tc main_arg13))))
      = tailH (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) :=
  Eq.trans (by unfold normH; rfl) (res_last (StableHlo.launchContents m c))

end Cert.Reference2Ideal.Tail

end
-- ==== Proof.TailAlgebraic.lean ====
/-
  The tail call equals its reference over the extended reals, for all arguments.
-/
module

public import proofs.«01_k».proof.Defs
public import proofs.«01_k».proof.Proof.TailFinal
public import proofs.«01_k».proof.Proof.TailResult

@[expose] public section

noncomputable section

namespace Cert.Proof

open Idealize.ShloMosaic Idealize.ShloMosaic.TcCoe Idealize.SL.Sem

/-- The reference's array is the tail's array. -/
theorem tail_eq (x : FVec Ideal Cert.Reference2Ideal.S2x8192x1024 .f32) (on ob : FVec Ideal Cert.Reference2Ideal.S2x8192x512 .f32)
    (mk mv : FVec Ideal Cert.Reference2Ideal.S2x256x4x64 .f32) (w : FVec Ideal Cert.Reference2Ideal.S1024x1024 .f32) (gc : FVec Ideal Cert.Reference2Ideal.S1024 .f32)
    (wq : FVec Ideal Cert.Reference2Ideal.S1024x256 .f32) (wo : FVec Ideal Cert.Reference2Ideal.S256x1024 .f32) (gf : FVec Ideal Cert.Reference2Ideal.S1024 .f32)
    (wg wu : FVec Ideal Cert.Reference2Ideal.S1024x2816 .f32) (wd : FVec Ideal Cert.Reference2Ideal.S2816x1024 .f32) (gl : FVec Ideal Cert.Reference2Ideal.S1024 .f32) :
    Cert.Reference2Ideal.Tail.tailH x on ob mk mv w gc wq wo gf wg wu wd gl = Cert.Kernel2Ideal.Tail.tailA x on ob mk mv w gc wq wo gf wg wu wd gl := by
  funext y
  idx_vars y
  exact Cert.Reference2Ideal.Tail.tailH_apply x on ob mk mv w gc wq wo gf wg wu wd gl y0 y1 y2

theorem algebraic_tail :
    Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Tail.result m c, ?_, ?_⟩
  · refine (θ_run Cert.Kernel2Ideal.defs _ _).mono (fun r h c => ?_) (Cert.Kernel2Ideal.Value.run_blocks m g)
    exact ⟨(h c).1.trans (Cert.Kernel2Ideal.Tail.final m c), (h c).2⟩
  · refine (θ_run Cert.Reference2Ideal.defs _ _).mono (fun r h c => ?_) (Cert.Reference2Ideal.Value.run m' g')
    obtain ⟨e0, e1, e2, e3, e4, e5, e6, e7, e8, e9, e10, e11, e12, e13⟩ := hargs c
    refine ⟨(h c).1.trans ?_, (h c).2⟩
    refine (Cert.Reference2Ideal.Tail.res_final m' c).trans ((tail_eq _ _ _ _ _ _ _ _ _ _ _ _ _ _).trans ?_)
    exact Cert.Kernel2Ideal.Tail.tailA_congr e0 e1 e2 e3 e4 e5 e6 e7 e8 e9 e10 e11 e12 e13

end Cert.Proof

end
-- ==== Proof.ProjRow.lean ====
/-
  A normalised row through one column of a matrix: equal rows, gains and columns give equal entries.
-/
module

public import proofs.«01_k».proof.Proof.TailRow

@[expose] public section

noncomputable section

namespace Cert.Tail

theorem entry_congr {X X' G G' : Fin 1024 → EReal} {N M : Nat} {A : Fin 1024 → Fin N → EReal} {B : Fin 1024 → Fin M → EReal} {i : Fin N} {j : Fin M}
    (hx : ∀ k, X k = X' k) (hg : ∀ k, G k = G' k) (hw : ∀ k, A k i = B k j) : matR (normR X G) A i = matR (normR X' G') B j := by
  obtain rfl : X = X' := funext hx
  obtain rfl : G = G' := funext hg
  exact Finset.sum_congr rfl fun k _ => congrArg (normR X G k * ·) (hw k)

end Cert.Tail

end
-- ==== Proof.ProjArray.lean ====
/-
  The prompt projection's arrays over the extended reals: what the host hands to the call, and the blocks of a grid point.
-/
module

public import proofs.«01_k».proof.Proof.Gen.Kernel3Ideal.Frame
public import Idealize.ShloMosaic.Lib.Pointwise
public import Idealize.ShloMosaic.Lib.StableHlo.RunRead
public import Idealize.ShloMosaic.Lib.Pipeline.ValueKit

@[expose] public section

set_option maxRecDepth 16384
set_option maxHeartbeats 8000000

noncomputable section

namespace Cert.Kernel3Ideal.Proj

open Cert.Kernel3Ideal Cert.Kernel3Ideal.Gen
open Idealize.ShloMosaic Idealize.ShloMosaic.TcCoe

variable (m : (ℓ : Loc nD τ sig) → Buf (Elt Ideal) ℓ)

theorem V_g (c : Dev nD) (k : Fin 1024) :
    (V m c main_v167 : FVec Ideal S1x1024 .f32) (ix2 0 k) = (m ((c : Thread nD τ).loc main_arg1) : FVec Ideal S1024 .f32) (ix1 k) := by
  after_reads_simp
  pointwise

/-- Equal columns of the projection's matrix. -/
theorem same_col (X : FVec Ideal S1024x2840 .f32) (k : Fin 1024) {a b : Fin 2840} (h : a.val = b.val) : X (ix2 k a) = X (ix2 k b) :=
  congrArg (fun q => X (ix2 k q)) (Fin.ext h)

/-- The columns of the cache and of the first queries, side by side. -/
def cols (a0 a1 a2 a3 a4 a5 : FVec Ideal S1024x128 .f32) (a6 a7 : FVec Ideal S1024x512 .f32) (a8 a9 a10 a11 a12 a13 a14 a15 : FVec Ideal S1024x64 .f32) :
    FVec Ideal S1024x2304 .f32 :=
  concatenate S1024x2304 1 [⟨S1024x128, a0⟩, ⟨S1024x128, a1⟩, ⟨S1024x128, a2⟩, ⟨S1024x128, a3⟩, ⟨S1024x128, a4⟩, ⟨S1024x128, a5⟩, ⟨S1024x512, a6⟩, ⟨S1024x512, a7⟩, ⟨S1024x64, a8⟩, ⟨S1024x64, a9⟩, ⟨S1024x64, a10⟩, ⟨S1024x64, a11⟩, ⟨S1024x64, a12⟩, ⟨S1024x64, a13⟩, ⟨S1024x64, a14⟩, ⟨S1024x64, a15⟩] concatenates_S1024x128_S1024x128_S1024x128_S1024x128_S1024x128_S1024x128_S1024x512_S1024x512_S1024x64_S1024x64_S1024x64_S1024x64_S1024x64_S1024x64_S1024x64_S1024x64_S1024x2304_d1

theorem cols0 (a0 a1 a2 a3 a4 a5 : FVec Ideal S1024x128 .f32) (a6 a7 : FVec Ideal S1024x512 .f32) (a8 a9 a10 a11 a12 a13 a14 a15 : FVec Ideal S1024x64 .f32)
    (k : Fin 1024) (q : Nat) (h' : q < 128) :
    cols a0 a1 a2 a3 a4 a5 a6 a7 a8 a9 a10 a11 a12 a13 a14 a15 (ix2 k ⟨q, by omega⟩) = a0 (ix2 k ⟨q - 0, by omega⟩) := by
  refine concatenate_apply_piece (t := S1024x2304) 1 _ _ _ 0 ?_ S1024x128 a0 ?_ rfl 0 ?_ (ix2 k ⟨q - 0, by omega⟩) ?_ ?_
  · show _ < 16
    decide
  · rfl
  · rfl
  · intro b hb
    match b with
    | 0 => rfl
    | 1 => exact absurd rfl hb
  · show 0 + (q - 0) = q
    omega

theorem cols1 (a0 a1 a2 a3 a4 a5 : FVec Ideal S1024x128 .f32) (a6 a7 : FVec Ideal S1024x512 .f32) (a8 a9 a10 a11 a12 a13 a14 a15 : FVec Ideal S1024x64 .f32)
    (k : Fin 1024) (q : Nat) (h : 128 ≤ q) (h' : q < 256) :
    cols a0 a1 a2 a3 a4 a5 a6 a7 a8 a9 a10 a11 a12 a13 a14 a15 (ix2 k ⟨q, by omega⟩) = a1 (ix2 k ⟨q - 128, by omega⟩) := by
  refine concatenate_apply_piece (t := S1024x2304) 1 _ _ _ 1 ?_ S1024x128 a1 ?_ rfl 128 ?_ (ix2 k ⟨q - 128, by omega⟩) ?_ ?_
  · show _ < 16
    decide
  · rfl
  · rfl
  · intro b hb
    match b with
    | 0 => rfl
    | 1 => exact absurd rfl hb
  · show 128 + (q - 128) = q
    omega

theorem cols2 (a0 a1 a2 a3 a4 a5 : FVec Ideal S1024x128 .f32) (a6 a7 : FVec Ideal S1024x512 .f32) (a8 a9 a10 a11 a12 a13 a14 a15 : FVec Ideal S1024x64 .f32)
    (k : Fin 1024) (q : Nat) (h : 256 ≤ q) (h' : q < 384) :
    cols a0 a1 a2 a3 a4 a5 a6 a7 a8 a9 a10 a11 a12 a13 a14 a15 (ix2 k ⟨q, by omega⟩) = a2 (ix2 k ⟨q - 256, by omega⟩) := by
  refine concatenate_apply_piece (t := S1024x2304) 1 _ _ _ 2 ?_ S1024x128 a2 ?_ rfl 256 ?_ (ix2 k ⟨q - 256, by omega⟩) ?_ ?_
  · show _ < 16
    decide
  · rfl
  · rfl
  · intro b hb
    match b with
    | 0 => rfl
    | 1 => exact absurd rfl hb
  · show 256 + (q - 256) = q
    omega

theorem cols3 (a0 a1 a2 a3 a4 a5 : FVec Ideal S1024x128 .f32) (a6 a7 : FVec Ideal S1024x512 .f32) (a8 a9 a10 a11 a12 a13 a14 a15 : FVec Ideal S1024x64 .f32)
    (k : Fin 1024) (q : Nat) (h : 384 ≤ q) (h' : q < 512) :
    cols a0 a1 a2 a3 a4 a5 a6 a7 a8 a9 a10 a11 a12 a13 a14 a15 (ix2 k ⟨q, by omega⟩) = a3 (ix2 k ⟨q - 384, by omega⟩) := by
  refine concatenate_apply_piece (t := S1024x2304) 1 _ _ _ 3 ?_ S1024x128 a3 ?_ rfl 384 ?_ (ix2 k ⟨q - 384, by omega⟩) ?_ ?_
  · show _ < 16
    decide
  · rfl
  · rfl
  · intro b hb
    match b with
    | 0 => rfl
    | 1 => exact absurd rfl hb
  · show 384 + (q - 384) = q
    omega

theorem cols4 (a0 a1 a2 a3 a4 a5 : FVec Ideal S1024x128 .f32) (a6 a7 : FVec Ideal S1024x512 .f32) (a8 a9 a10 a11 a12 a13 a14 a15 : FVec Ideal S1024x64 .f32)
    (k : Fin 1024) (q : Nat) (h : 512 ≤ q) (h' : q < 640) :
    cols a0 a1 a2 a3 a4 a5 a6 a7 a8 a9 a10 a11 a12 a13 a14 a15 (ix2 k ⟨q, by omega⟩) = a4 (ix2 k ⟨q - 512, by omega⟩) := by
  refine concatenate_apply_piece (t := S1024x2304) 1 _ _ _ 4 ?_ S1024x128 a4 ?_ rfl 512 ?_ (ix2 k ⟨q - 512, by omega⟩) ?_ ?_
  · show _ < 16
    decide
  · rfl
  · rfl
  · intro b hb
    match b with
    | 0 => rfl
    | 1 => exact absurd rfl hb
  · show 512 + (q - 512) = q
    omega

theorem cols5 (a0 a1 a2 a3 a4 a5 : FVec Ideal S1024x128 .f32) (a6 a7 : FVec Ideal S1024x512 .f32) (a8 a9 a10 a11 a12 a13 a14 a15 : FVec Ideal S1024x64 .f32)
    (k : Fin 1024) (q : Nat) (h : 640 ≤ q) (h' : q < 768) :
    cols a0 a1 a2 a3 a4 a5 a6 a7 a8 a9 a10 a11 a12 a13 a14 a15 (ix2 k ⟨q, by omega⟩) = a5 (ix2 k ⟨q - 640, by omega⟩) := by
  refine concatenate_apply_piece (t := S1024x2304) 1 _ _ _ 5 ?_ S1024x128 a5 ?_ rfl 640 ?_ (ix2 k ⟨q - 640, by omega⟩) ?_ ?_
  · show _ < 16
    decide
  · rfl
  · rfl
  · intro b hb
    match b with
    | 0 => rfl
    | 1 => exact absurd rfl hb
  · show 640 + (q - 640) = q
    omega

theorem cols6 (a0 a1 a2 a3 a4 a5 : FVec Ideal S1024x128 .f32) (a6 a7 : FVec Ideal S1024x512 .f32) (a8 a9 a10 a11 a12 a13 a14 a15 : FVec Ideal S1024x64 .f32)
    (k : Fin 1024) (q : Nat) (h : 768 ≤ q) (h' : q < 1280) :
    cols a0 a1 a2 a3 a4 a5 a6 a7 a8 a9 a10 a11 a12 a13 a14 a15 (ix2 k ⟨q, by omega⟩) = a6 (ix2 k ⟨q - 768, by omega⟩) := by
  refine concatenate_apply_piece (t := S1024x2304) 1 _ _ _ 6 ?_ S1024x512 a6 ?_ rfl 768 ?_ (ix2 k ⟨q - 768, by omega⟩) ?_ ?_
  · show _ < 16
    decide
  · rfl
  · rfl
  · intro b hb
    match b with
    | 0 => rfl
    | 1 => exact absurd rfl hb
  · show 768 + (q - 768) = q
    omega

theorem cols7 (a0 a1 a2 a3 a4 a5 : FVec Ideal S1024x128 .f32) (a6 a7 : FVec Ideal S1024x512 .f32) (a8 a9 a10 a11 a12 a13 a14 a15 : FVec Ideal S1024x64 .f32)
    (k : Fin 1024) (q : Nat) (h : 1280 ≤ q) (h' : q < 1792) :
    cols a0 a1 a2 a3 a4 a5 a6 a7 a8 a9 a10 a11 a12 a13 a14 a15 (ix2 k ⟨q, by omega⟩) = a7 (ix2 k ⟨q - 1280, by omega⟩) := by
  refine concatenate_apply_piece (t := S1024x2304) 1 _ _ _ 7 ?_ S1024x512 a7 ?_ rfl 1280 ?_ (ix2 k ⟨q - 1280, by omega⟩) ?_ ?_
  · show _ < 16
    decide
  · rfl
  · rfl
  · intro b hb
    match b with
    | 0 => rfl
    | 1 => exact absurd rfl hb
  · show 1280 + (q - 1280) = q
    omega

theorem V_w0 (c : Dev nD) (k : Fin 1024) (q : Nat) (h' : q < 128) :
    (V m c main_v164 : FVec Ideal S1024x3840 .bf16) (ix2 k ⟨q, by omega⟩)
      = (m ((c : Thread nD τ).loc main_arg2) : FVec Ideal S1024x2840 .f32) (ix2 k ⟨512 + q, by omega⟩) := by
  after_reads_simp
  pointwise
  refine (dif_pos (by omega)).trans ?_
  after_reads_simp
  refine (cols0 _ _ _ _ _ _ _ _ _ _ _ _ _ _ _ _ k q h').trans ?_
  pointwise
  after_reads_simp
  pointwise

theorem V_w1 (c : Dev nD) (k : Fin 1024) (q : Nat) (h : 128 ≤ q) (h' : q < 256) :
    (V m c main_v164 : FVec Ideal S1024x3840 .bf16) (ix2 k ⟨q, by omega⟩)
      = (m ((c : Thread nD τ).loc main_arg2) : FVec Ideal S1024x2840 .f32) (ix2 k ⟨512 + q, by omega⟩) := by
  after_reads_simp
  pointwise
  refine (dif_pos (by omega)).trans ?_
  after_reads_simp
  refine (cols1 _ _ _ _ _ _ _ _ _ _ _ _ _ _ _ _ k q h h').trans ?_
  pointwise
  after_reads_simp
  pointwise
  exact same_col (m ((c : Thread nD τ).loc main_arg2)) k (by dsimp only; omega)

theorem V_w2 (c : Dev nD) (k : Fin 1024) (q : Nat) (h : 256 ≤ q) (h' : q < 384) :
    (V m c main_v164 : FVec Ideal S1024x3840 .bf16) (ix2 k ⟨q, by omega⟩)
      = (m ((c : Thread nD τ).loc main_arg2) : FVec Ideal S1024x2840 .f32) (ix2 k ⟨512 + q, by omega⟩) := by
  after_reads_simp
  pointwise
  refine (dif_pos (by omega)).trans ?_
  after_reads_simp
  refine (cols2 _ _ _ _ _ _ _ _ _ _ _ _ _ _ _ _ k q h h').trans ?_
  pointwise
  after_reads_simp
  pointwise
  exact same_col (m ((c : Thread nD τ).loc main_arg2)) k (by dsimp only; omega)

theorem V_w3 (c : Dev nD) (k : Fin 1024) (q : Nat) (h : 384 ≤ q) (h' : q < 512) :
    (V m c main_v164 : FVec Ideal S1024x3840 .bf16) (ix2 k ⟨q, by omega⟩)
      = (m ((c : Thread nD τ).loc main_arg2) : FVec Ideal S1024x2840 .f32) (ix2 k ⟨512 + q, by omega⟩) := by
  after_reads_simp
  pointwise
  refine (dif_pos (by omega)).trans ?_
  after_reads_simp
  refine (cols3 _ _ _ _ _ _ _ _ _ _ _ _ _ _ _ _ k q h h').trans ?_
  pointwise
  after_reads_simp
  pointwise
  exact same_col (m ((c : Thread nD τ).loc main_arg2)) k (by dsimp only; omega)

theorem V_w4 (c : Dev nD) (k : Fin 1024) (q : Nat) (h : 512 ≤ q) (h' : q < 640) :
    (V m c main_v164 : FVec Ideal S1024x3840 .bf16) (ix2 k ⟨q, by omega⟩)
      = (m ((c : Thread nD τ).loc main_arg2) : FVec Ideal S1024x2840 .f32) (ix2 k ⟨512 + q, by omega⟩) := by
  after_reads_simp
  pointwise
  refine (dif_pos (by omega)).trans ?_
  after_reads_simp
  refine (cols4 _ _ _ _ _ _ _ _ _ _ _ _ _ _ _ _ k q h h').trans ?_
  pointwise
  after_reads_simp
  pointwise
  exact same_col (m ((c : Thread nD τ).loc main_arg2)) k (by dsimp only; omega)

theorem V_w5 (c : Dev nD) (k : Fin 1024) (q : Nat) (h : 640 ≤ q) (h' : q < 768) :
    (V m c main_v164 : FVec Ideal S1024x3840 .bf16) (ix2 k ⟨q, by omega⟩)
      = (m ((c : Thread nD τ).loc main_arg2) : FVec Ideal S1024x2840 .f32) (ix2 k ⟨512 + q, by omega⟩) := by
  after_reads_simp
  pointwise
  refine (dif_pos (by omega)).trans ?_
  after_reads_simp
  refine (cols5 _ _ _ _ _ _ _ _ _ _ _ _ _ _ _ _ k q h h').trans ?_
  pointwise
  after_reads_simp
  pointwise
  exact same_col (m ((c : Thread nD τ).loc main_arg2)) k (by dsimp only; omega)

theorem V_w6 (c : Dev nD) (k : Fin 1024) (q : Nat) (h : 768 ≤ q) (h' : q < 1280) :
    (V m c main_v164 : FVec Ideal S1024x3840 .bf16) (ix2 k ⟨q, by omega⟩)
      = (m ((c : Thread nD τ).loc main_arg2) : FVec Ideal S1024x2840 .f32) (ix2 k ⟨1048 + q, by omega⟩) := by
  after_reads_simp
  pointwise
  refine (dif_pos (by omega)).trans ?_
  after_reads_simp
  refine (cols6 _ _ _ _ _ _ _ _ _ _ _ _ _ _ _ _ k q h h').trans ?_
  pointwise
  after_reads_simp
  pointwise
  exact same_col (m ((c : Thread nD τ).loc main_arg2)) k (by dsimp only; omega)

theorem V_w7 (c : Dev nD) (k : Fin 1024) (q : Nat) (h : 1280 ≤ q) (h' : q < 1792) :
    (V m c main_v164 : FVec Ideal S1024x3840 .bf16) (ix2 k ⟨q, by omega⟩)
      = (m ((c : Thread nD τ).loc main_arg2) : FVec Ideal S1024x2840 .f32) (ix2 k ⟨1048 + q, by omega⟩) := by
  after_reads_simp
  pointwise
  refine (dif_pos (by omega)).trans ?_
  after_reads_simp
  refine (cols7 _ _ _ _ _ _ _ _ _ _ _ _ _ _ _ _ k q h h').trans ?_
  pointwise
  after_reads_simp
  pointwise
  exact same_col (m ((c : Thread nD τ).loc main_arg2)) k (by dsimp only; omega)

/-! ### The blocks of a grid point -/

/-- Where the windows of a grid point lie. -/
theorem idx : ∀ t : Fin cfg0.N, win0_0.index t = ![(grid0.coords t 0).val, (grid0.coords t 1).val, 0]
    ∧ win0_1.index t = ![0, 0] ∧ win0_2.index t = ![0, 0]
    ∧ win0_4.index t = ![(grid0.coords t 0).val, (grid0.coords t 1).val, 0]
    ∧ win0_5.index t = ![(grid0.coords t 0).val, (grid0.coords t 1).val, 0]
    ∧ win0_6.index t = ![(grid0.coords t 0).val, (grid0.coords t 1).val, 0]
    ∧ win0_7.index t = ![(grid0.coords t 0).val, (grid0.coords t 1).val, 0]
    ∧ win0_8.index t = ![(grid0.coords t 0).val, (grid0.coords t 1).val, 0]
    ∧ win0_9.index t = ![(grid0.coords t 0).val, (grid0.coords t 1).val, 0]
    ∧ win0_10.index t = ![(grid0.coords t 0).val, (grid0.coords t 1).val, 0]
    ∧ win0_11.index t = ![(grid0.coords t 0).val, (grid0.coords t 1).val, 0] :=
  (by decide +kernel : ∀ t : Fin grid0.N, _)

theorem coord0 (t : Fin cfg0.N) : (grid0.coords t 0).val < 2 := (grid0.coords t 0).isLt
theorem coord1 (t : Fin cfg0.N) : (grid0.coords t 1).val < 16 := (grid0.coords t 1).isLt

/-- The batch of a grid point. -/
def bat (t : Fin cfg0.N) : Fin 2 := ⟨(grid0.coords t 0).val, coord0 t⟩

/-- The position of row `r` of a grid point's block. -/
def pos (t : Fin cfg0.N) (r : Fin 512) : Fin 8192 :=
  ⟨512 * (grid0.coords t 1).val + r.val, by have := coord1 t; omega⟩

theorem read_x (t : Fin cfg0.N) (X : FVec Ideal S2x8192x1024 .f32) (r : Fin 512) (k : Fin 1024) :
    ((win0_0.blk t).view.read (Elt Ideal) X : Vec Ideal S1x512x1024 .f32) (ix3 0 r k) = X (ix3 (bat t) (pos t r) k) := by
  unfold bat pos; blk_ext [idx t]

theorem read_g (t : Fin cfg0.N) (X : FVec Ideal S1x1024 .f32) (k : Fin 1024) :
    ((win0_1.blk t).view.read (Elt Ideal) X : Vec Ideal S1x1024 .f32) (ix2 0 k) = X (ix2 0 k) := by
  blk_ext [idx t]

theorem read_w (t : Fin cfg0.N) (X : FVec Ideal S1024x3840 .bf16) (k : Fin 1024) (l : Fin 3840) :
    ((win0_2.blk t).view.read (Elt Ideal) X : Vec Ideal S1024x3840 .bf16) (ix2 k l) = X (ix2 k l) := by
  blk_ext [idx t]

theorem emb4 (t : Fin cfg0.N) (r : Fin 512) (j : Fin 128) :
    (win0_4.blk t).view.emb (ix3 0 r j : S1x512x128.Idx) = (ix3 (bat t) (pos t r) j : S2x8192x128.Idx) := by
  unfold bat pos; blk_ext [idx t]

theorem emb5 (t : Fin cfg0.N) (r : Fin 512) (j : Fin 128) :
    (win0_5.blk t).view.emb (ix3 0 r j : S1x512x128.Idx) = (ix3 (bat t) (pos t r) j : S2x8192x128.Idx) := by
  unfold bat pos; blk_ext [idx t]

theorem emb6 (t : Fin cfg0.N) (r : Fin 512) (j : Fin 128) :
    (win0_6.blk t).view.emb (ix3 0 r j : S1x512x128.Idx) = (ix3 (bat t) (pos t r) j : S2x8192x128.Idx) := by
  unfold bat pos; blk_ext [idx t]

theorem emb7 (t : Fin cfg0.N) (r : Fin 512) (j : Fin 128) :
    (win0_7.blk t).view.emb (ix3 0 r j : S1x512x128.Idx) = (ix3 (bat t) (pos t r) j : S2x8192x128.Idx) := by
  unfold bat pos; blk_ext [idx t]

theorem emb8 (t : Fin cfg0.N) (r : Fin 512) (j : Fin 128) :
    (win0_8.blk t).view.emb (ix3 0 r j : S1x512x128.Idx) = (ix3 (bat t) (pos t r) j : S2x8192x128.Idx) := by
  unfold bat pos; blk_ext [idx t]

theorem emb9 (t : Fin cfg0.N) (r : Fin 512) (j : Fin 128) :
    (win0_9.blk t).view.emb (ix3 0 r j : S1x512x128.Idx) = (ix3 (bat t) (pos t r) j : S2x8192x128.Idx) := by
  unfold bat pos; blk_ext [idx t]

theorem emb10 (t : Fin cfg0.N) (r : Fin 512) (j : Fin 512) :
    (win0_10.blk t).view.emb (ix3 0 r j : S1x512x512.Idx) = (ix3 (bat t) (pos t r) j : S2x8192x512.Idx) := by
  unfold bat pos; blk_ext [idx t]

theorem emb11 (t : Fin cfg0.N) (r : Fin 512) (j : Fin 512) :
    (win0_11.blk t).view.emb (ix3 0 r j : S1x512x512.Idx) = (ix3 (bat t) (pos t r) j : S2x8192x512.Idx) := by
  unfold bat pos; blk_ext [idx t]

end Cert.Kernel3Ideal.Proj

end
-- ==== Proof.ProjFinal.lean ====
/-
  The prompt projection's cache results over the extended reals: every row is the normalised row through the columns of the projection.
-/
module

public import proofs.«01_k».proof.Proof.ProjRow
public import proofs.«01_k».proof.Proof.ProjArray
public import Idealize.ShloMosaic.Lib.Pipeline.ValueKit

@[expose] public section

set_option maxRecDepth 16384
set_option maxHeartbeats 4000000

noncomputable section

namespace Cert.Kernel3Ideal.Proj

open Cert.Kernel3Ideal Cert.Kernel3Ideal.Gen Cert.Tail
open Idealize.ShloMosaic Idealize.ShloMosaic.TcCoe Idealize.SL.Sem

/-! ### What a grid point writes -/

theorem product_apply (x0 : Vec Ideal S1x512x1024 .f32) (x1 : Vec Ideal S1x1024 .f32) (x2 : Vec Ideal S1024x3840 .bf16) (r : Fin 512) (j : Fin 3840) :
    k0_pay5 x0 x1 x2 (ix2 r j) = matR (normR (fun k => x0 (ix3 0 r k)) (fun k => x1 (ix2 0 k))) (fun k l => x2 (ix2 k l)) j := by
  unfold k0_pay5 k0_pay4
  pointwise
  rfl

theorem pay_0 (x0 : Vec Ideal S1x512x1024 .f32) (x1 : Vec Ideal S1x1024 .f32) (x2 : Vec Ideal S1024x3840 .bf16) (r : Fin 512) (j : Fin 128) :
    k0_pay6 x0 x1 x2 (ix3 0 r j) = k0_pay5 x0 x1 x2 (ix2 r ⟨0 + j.val, by omega⟩) := by
  unfold k0_pay6
  generalize k0_pay5 x0 x1 x2 = z
  pointwise

theorem out_0 (x0 : Vec Ideal S1x512x1024 .f32) (x1 : Vec Ideal S1x1024 .f32) (x2 : Vec Ideal S1024x3840 .bf16) (x3 : Vec Ideal S800x1024 .bf16) (y : S1x512x128.Idx) :
    out0_4 x0 x1 x2 x3 y = k0_pay6 x0 x1 x2 y := by
  unfold_out out0_4
  frame_out

theorem tile_0 (x0 : Vec Ideal S1x512x1024 .f32) (x1 : Vec Ideal S1x1024 .f32) (x2 : Vec Ideal S1024x3840 .bf16) (x3 : Vec Ideal S800x1024 .bf16) (r : Fin 512) (j : Fin 128) :
    out0_4 x0 x1 x2 x3 (ix3 0 r j)
      = matR (normR (fun k => x0 (ix3 0 r k)) (fun k => x1 (ix2 0 k))) (fun k l => x2 (ix2 k l)) ⟨0 + j.val, by omega⟩ :=
  (out_0 x0 x1 x2 x3 _).trans ((pay_0 x0 x1 x2 r j).trans (product_apply x0 x1 x2 r _))

theorem pay_1 (x0 : Vec Ideal S1x512x1024 .f32) (x1 : Vec Ideal S1x1024 .f32) (x2 : Vec Ideal S1024x3840 .bf16) (r : Fin 512) (j : Fin 128) :
    k0_pay7 x0 x1 x2 (ix3 0 r j) = k0_pay5 x0 x1 x2 (ix2 r ⟨128 + j.val, by omega⟩) := by
  unfold k0_pay7
  generalize k0_pay5 x0 x1 x2 = z
  pointwise

theorem out_1 (x0 : Vec Ideal S1x512x1024 .f32) (x1 : Vec Ideal S1x1024 .f32) (x2 : Vec Ideal S1024x3840 .bf16) (x3 : Vec Ideal S800x1024 .bf16) (y : S1x512x128.Idx) :
    out0_5 x0 x1 x2 x3 y = k0_pay7 x0 x1 x2 y := by
  unfold_out out0_5
  frame_out

theorem tile_1 (x0 : Vec Ideal S1x512x1024 .f32) (x1 : Vec Ideal S1x1024 .f32) (x2 : Vec Ideal S1024x3840 .bf16) (x3 : Vec Ideal S800x1024 .bf16) (r : Fin 512) (j : Fin 128) :
    out0_5 x0 x1 x2 x3 (ix3 0 r j)
      = matR (normR (fun k => x0 (ix3 0 r k)) (fun k => x1 (ix2 0 k))) (fun k l => x2 (ix2 k l)) ⟨128 + j.val, by omega⟩ :=
  (out_1 x0 x1 x2 x3 _).trans ((pay_1 x0 x1 x2 r j).trans (product_apply x0 x1 x2 r _))

theorem pay_2 (x0 : Vec Ideal S1x512x1024 .f32) (x1 : Vec Ideal S1x1024 .f32) (x2 : Vec Ideal S1024x3840 .bf16) (r : Fin 512) (j : Fin 128) :
    k0_pay8 x0 x1 x2 (ix3 0 r j) = k0_pay5 x0 x1 x2 (ix2 r ⟨256 + j.val, by omega⟩) := by
  unfold k0_pay8
  generalize k0_pay5 x0 x1 x2 = z
  pointwise

theorem out_2 (x0 : Vec Ideal S1x512x1024 .f32) (x1 : Vec Ideal S1x1024 .f32) (x2 : Vec Ideal S1024x3840 .bf16) (x3 : Vec Ideal S800x1024 .bf16) (y : S1x512x128.Idx) :
    out0_6 x0 x1 x2 x3 y = k0_pay8 x0 x1 x2 y := by
  unfold_out out0_6
  frame_out

theorem tile_2 (x0 : Vec Ideal S1x512x1024 .f32) (x1 : Vec Ideal S1x1024 .f32) (x2 : Vec Ideal S1024x3840 .bf16) (x3 : Vec Ideal S800x1024 .bf16) (r : Fin 512) (j : Fin 128) :
    out0_6 x0 x1 x2 x3 (ix3 0 r j)
      = matR (normR (fun k => x0 (ix3 0 r k)) (fun k => x1 (ix2 0 k))) (fun k l => x2 (ix2 k l)) ⟨256 + j.val, by omega⟩ :=
  (out_2 x0 x1 x2 x3 _).trans ((pay_2 x0 x1 x2 r j).trans (product_apply x0 x1 x2 r _))

theorem pay_3 (x0 : Vec Ideal S1x512x1024 .f32) (x1 : Vec Ideal S1x1024 .f32) (x2 : Vec Ideal S1024x3840 .bf16) (r : Fin 512) (j : Fin 128) :
    k0_pay10 (k0_pay9 x0 x1 x2) (ix3 0 r j) = k0_pay5 x0 x1 x2 (ix2 r ⟨384 + j.val, by omega⟩) := by
  unfold k0_pay10 k0_pay9
  generalize k0_pay5 x0 x1 x2 = z
  pointwise

theorem out_3 (x0 : Vec Ideal S1x512x1024 .f32) (x1 : Vec Ideal S1x1024 .f32) (x2 : Vec Ideal S1024x3840 .bf16) (x3 : Vec Ideal S800x1024 .bf16) (y : S1x512x128.Idx) :
    out0_7 x0 x1 x2 x3 y = k0_pay10 (k0_pay9 x0 x1 x2) y := by
  unfold_out out0_7
  frame_out

theorem tile_3 (x0 : Vec Ideal S1x512x1024 .f32) (x1 : Vec Ideal S1x1024 .f32) (x2 : Vec Ideal S1024x3840 .bf16) (x3 : Vec Ideal S800x1024 .bf16) (r : Fin 512) (j : Fin 128) :
    out0_7 x0 x1 x2 x3 (ix3 0 r j)
      = matR (normR (fun k => x0 (ix3 0 r k)) (fun k => x1 (ix2 0 k))) (fun k l => x2 (ix2 k l)) ⟨384 + j.val, by omega⟩ :=
  (out_3 x0 x1 x2 x3 _).trans ((pay_3 x0 x1 x2 r j).trans (product_apply x0 x1 x2 r _))

theorem pay_4 (z : FVec Ideal S512x3840 .f32) (r : Fin 512) (j : Fin 128) :
    k0_pay11 z (ix3 0 r j) = z (ix2 r ⟨512 + j.val, by omega⟩) := by
  unfold k0_pay11
  pointwise

theorem out_4 (x0 : Vec Ideal S1x512x1024 .f32) (x1 : Vec Ideal S1x1024 .f32) (x2 : Vec Ideal S1024x3840 .bf16) (x3 : Vec Ideal S800x1024 .bf16) (y : S1x512x128.Idx) :
    out0_8 x0 x1 x2 x3 y = k0_pay11 (k0_pay5 x0 x1 x2) y := by
  unfold_out out0_8
  frame_out

theorem tile_4 (x0 : Vec Ideal S1x512x1024 .f32) (x1 : Vec Ideal S1x1024 .f32) (x2 : Vec Ideal S1024x3840 .bf16) (x3 : Vec Ideal S800x1024 .bf16) (r : Fin 512) (j : Fin 128) :
    out0_8 x0 x1 x2 x3 (ix3 0 r j)
      = matR (normR (fun k => x0 (ix3 0 r k)) (fun k => x1 (ix2 0 k))) (fun k l => x2 (ix2 k l)) ⟨512 + j.val, by omega⟩ :=
  (out_4 x0 x1 x2 x3 _).trans ((pay_4 _ r j).trans (product_apply x0 x1 x2 r _))

theorem pay_5 (z : FVec Ideal S512x3840 .f32) (r : Fin 512) (j : Fin 128) :
    k0_pay12 z (ix3 0 r j) = z (ix2 r ⟨640 + j.val, by omega⟩) := by
  unfold k0_pay12
  pointwise

theorem out_5 (x0 : Vec Ideal S1x512x1024 .f32) (x1 : Vec Ideal S1x1024 .f32) (x2 : Vec Ideal S1024x3840 .bf16) (x3 : Vec Ideal S800x1024 .bf16) (y : S1x512x128.Idx) :
    out0_9 x0 x1 x2 x3 y = k0_pay12 (k0_pay5 x0 x1 x2) y := by
  unfold_out out0_9
  frame_out

theorem tile_5 (x0 : Vec Ideal S1x512x1024 .f32) (x1 : Vec Ideal S1x1024 .f32) (x2 : Vec Ideal S1024x3840 .bf16) (x3 : Vec Ideal S800x1024 .bf16) (r : Fin 512) (j : Fin 128) :
    out0_9 x0 x1 x2 x3 (ix3 0 r j)
      = matR (normR (fun k => x0 (ix3 0 r k)) (fun k => x1 (ix2 0 k))) (fun k l => x2 (ix2 k l)) ⟨640 + j.val, by omega⟩ :=
  (out_5 x0 x1 x2 x3 _).trans ((pay_5 _ r j).trans (product_apply x0 x1 x2 r _))

theorem pay_6 (z : FVec Ideal S512x3840 .f32) (r : Fin 512) (j : Fin 512) :
    k0_pay13 z (ix3 0 r j) = z (ix2 r ⟨768 + j.val, by omega⟩) := by
  unfold k0_pay13
  pointwise

theorem out_6 (x0 : Vec Ideal S1x512x1024 .f32) (x1 : Vec Ideal S1x1024 .f32) (x2 : Vec Ideal S1024x3840 .bf16) (x3 : Vec Ideal S800x1024 .bf16) (y : S1x512x512.Idx) :
    out0_10 x0 x1 x2 x3 y = k0_pay13 (k0_pay5 x0 x1 x2) y := by
  unfold_out out0_10
  frame_out

theorem tile_6 (x0 : Vec Ideal S1x512x1024 .f32) (x1 : Vec Ideal S1x1024 .f32) (x2 : Vec Ideal S1024x3840 .bf16) (x3 : Vec Ideal S800x1024 .bf16) (r : Fin 512) (j : Fin 512) :
    out0_10 x0 x1 x2 x3 (ix3 0 r j)
      = matR (normR (fun k => x0 (ix3 0 r k)) (fun k => x1 (ix2 0 k))) (fun k l => x2 (ix2 k l)) ⟨768 + j.val, by omega⟩ :=
  (out_6 x0 x1 x2 x3 _).trans ((pay_6 _ r j).trans (product_apply x0 x1 x2 r _))

theorem pay_7 (z : FVec Ideal S512x3840 .f32) (r : Fin 512) (j : Fin 512) :
    k0_pay14 z (ix3 0 r j) = z (ix2 r ⟨1280 + j.val, by omega⟩) := by
  unfold k0_pay14
  pointwise

theorem out_7 (x0 : Vec Ideal S1x512x1024 .f32) (x1 : Vec Ideal S1x1024 .f32) (x2 : Vec Ideal S1024x3840 .bf16) (x3 : Vec Ideal S800x1024 .bf16) (y : S1x512x512.Idx) :
    out0_11 x0 x1 x2 x3 y = k0_pay14 (k0_pay5 x0 x1 x2) y := by
  unfold_out out0_11
  frame_out

theorem tile_7 (x0 : Vec Ideal S1x512x1024 .f32) (x1 : Vec Ideal S1x1024 .f32) (x2 : Vec Ideal S1024x3840 .bf16) (x3 : Vec Ideal S800x1024 .bf16) (r : Fin 512) (j : Fin 512) :
    out0_11 x0 x1 x2 x3 (ix3 0 r j)
      = matR (normR (fun k => x0 (ix3 0 r k)) (fun k => x1 (ix2 0 k))) (fun k l => x2 (ix2 k l)) ⟨1280 + j.val, by omega⟩ :=
  (out_7 x0 x1 x2 x3 _).trans ((pay_7 _ r j).trans (product_apply x0 x1 x2 r _))

/-- 128 columns of the projection of every token, from column `o` on. -/
def narrowA (o : Nat) (ho : o + 128 ≤ 2840) (x : FVec Ideal S2x8192x1024 .f32) (g : FVec Ideal S1024 .f32) (w : FVec Ideal S1024x2840 .f32) :
    FVec Ideal S2x8192x128 .f32 := fun y =>
  matR (normR (fun k => x (ix3 (y 0) (y 1) k)) (fun k => g (ix1 k))) (fun k (l : Fin 2840) => w (ix2 k l)) ⟨o + (y 2).val, by have h : (y 2).val < 128 := (y 2).isLt; omega⟩

theorem narrowA_congr (o : Nat) (ho : o + 128 ≤ 2840) {x x' : FVec Ideal S2x8192x1024 .f32} {g g' : FVec Ideal S1024 .f32} {w w' : FVec Ideal S1024x2840 .f32}
    (e0 : x = x') (e1 : g = g') (e2 : w = w') : narrowA o ho x g w = narrowA o ho x' g' w' := by
  subst e0 e1 e2
  rfl

/-- 512 columns of the projection of every token, from column `o` on. -/
def wideA (o : Nat) (ho : o + 512 ≤ 2840) (x : FVec Ideal S2x8192x1024 .f32) (g : FVec Ideal S1024 .f32) (w : FVec Ideal S1024x2840 .f32) :
    FVec Ideal S2x8192x512 .f32 := fun y =>
  matR (normR (fun k => x (ix3 (y 0) (y 1) k)) (fun k => g (ix1 k))) (fun k (l : Fin 2840) => w (ix2 k l)) ⟨o + (y 2).val, by have h : (y 2).val < 512 := (y 2).isLt; omega⟩

theorem wideA_congr (o : Nat) (ho : o + 512 ≤ 2840) {x x' : FVec Ideal S2x8192x1024 .f32} {g g' : FVec Ideal S1024 .f32} {w w' : FVec Ideal S1024x2840 .f32}
    (e0 : x = x') (e1 : g = g') (e2 : w = w') : wideA o ho x g w = wideA o ho x' g' w' := by
  subst e0 e1 e2
  rfl

theorem narrowA_apply (o : Nat) (ho : o + 128 ≤ 2840) (x : FVec Ideal S2x8192x1024 .f32) (g : FVec Ideal S1024 .f32) (w : FVec Ideal S1024x2840 .f32)
    (b : Fin 2) (s : Fin 8192) (j : Fin 128) :
    narrowA o ho x g w (ix3 b s j) = matR (normR (fun k => x (ix3 b s k)) (fun k => g (ix1 k))) (fun k (l : Fin 2840) => w (ix2 k l)) ⟨o + j.val, by omega⟩ :=
  rfl

theorem wideA_apply (o : Nat) (ho : o + 512 ≤ 2840) (x : FVec Ideal S2x8192x1024 .f32) (g : FVec Ideal S1024 .f32) (w : FVec Ideal S1024x2840 .f32)
    (b : Fin 2) (s : Fin 8192) (j : Fin 512) :
    wideA o ho x g w (ix3 b s j) = matR (normR (fun k => x (ix3 b s k)) (fun k => g (ix1 k))) (fun k (l : Fin 2840) => w (ix2 k l)) ⟨o + j.val, by omega⟩ :=
  rfl

variable (m : (ℓ : Loc nD τ sig) → Buf (Elt Ideal) ℓ)

/-- Result 0 of the arguments as launched. -/
def result0 (c : Dev nD) : FVec Ideal S2x8192x128 .f32 :=
  narrowA 512 (by decide) (m ((c : Thread nD τ).loc main_arg0)) (m ((c : Thread nD τ).loc main_arg1)) (m ((c : Thread nD τ).loc main_arg2))

theorem point0 (c : Dev nD) (t : Fin cfg0.N) (r : Fin 512) (j : Fin 128) :
    out0_4 (iblk m c 0 t) (iblk m c 1 t) (iblk m c 2 t) (iblk m c 3 t) (ix3 0 r j) = result0 m c (ix3 (bat t) (pos t r) j) := by
  have hx : ∀ k, (iblk m c 0 t : Vec Ideal S1x512x1024 .f32) (ix3 0 r k) = (m ((c : Thread nD τ).loc main_arg0) : FVec Ideal S2x8192x1024 .f32) (ix3 (bat t) (pos t r) k) := (fun k => (read_x t (V m c main_arg0) r k).trans (congrFun (V_main_arg0 m c) _))
  have hg : ∀ k, (iblk m c 1 t : Vec Ideal S1x1024 .f32) (ix2 0 k) = (m ((c : Thread nD τ).loc main_arg1) : FVec Ideal S1024 .f32) (ix1 k) :=
    fun k => (read_g t (V m c main_v167) k).trans (V_g m c k)
  have hw : ∀ k, (iblk m c 2 t : Vec Ideal S1024x3840 .bf16) (ix2 k ⟨0 + j.val, by omega⟩)
      = (m ((c : Thread nD τ).loc main_arg2) : FVec Ideal S1024x2840 .f32) (ix2 k ⟨512 + j.val, by omega⟩) := fun k =>
    (read_w t (V m c main_v164) k ⟨0 + j.val, by omega⟩).trans ((V_w0 m c k (0 + j.val) (by omega)).trans
      (same_col (m ((c : Thread nD τ).loc main_arg2)) k (by dsimp only; omega)))
  refine (tile_0 (iblk m c 0 t) (iblk m c 1 t) (iblk m c 2 t) (iblk m c 3 t) r j).trans ?_
  refine (entry_congr (j := (⟨512 + j.val, by omega⟩ : Fin 2840)) (B := fun k l => (m ((c : Thread nD τ).loc main_arg2) : FVec Ideal S1024x2840 .f32) (ix2 k l)) hx hg hw).trans ?_
  exact (narrowA_apply 512 (by decide) (m ((c : Thread nD τ).loc main_arg0)) (m ((c : Thread nD τ).loc main_arg1)) (m ((c : Thread nD τ).loc main_arg2)) (bat t) (pos t r) j).symm

theorem final0 (c : Dev nD) : (dats m 0 c).arrAt 4 cfg0.N = result0 m c := by
  refine (dats m 0 c).arrAt_eq_of_covers 4 _ (by decide +kernel) fun t _ y => ?_
  blk_simp
  rw [after0_4]
  have hy : ∀ y : S1x512x128.Idx, out0_4 (iblk m c 0 t) (iblk m c 1 t) (iblk m c 2 t) (iblk m c 3 t) y = result0 m c ((win0_4.blk t).view.emb y) := fun y => by
    idx_vars y
    obtain rfl : y0 = 0 := Subsingleton.elim _ _
    exact (point0 m c t y1 y2).trans (congrArg (result0 m c) (emb4 t y1 y2).symm)
  exact hy y

/-- Result 1 of the arguments as launched. -/
def result1 (c : Dev nD) : FVec Ideal S2x8192x128 .f32 :=
  narrowA 640 (by decide) (m ((c : Thread nD τ).loc main_arg0)) (m ((c : Thread nD τ).loc main_arg1)) (m ((c : Thread nD τ).loc main_arg2))

theorem point1 (c : Dev nD) (t : Fin cfg0.N) (r : Fin 512) (j : Fin 128) :
    out0_5 (iblk m c 0 t) (iblk m c 1 t) (iblk m c 2 t) (iblk m c 3 t) (ix3 0 r j) = result1 m c (ix3 (bat t) (pos t r) j) := by
  have hx : ∀ k, (iblk m c 0 t : Vec Ideal S1x512x1024 .f32) (ix3 0 r k) = (m ((c : Thread nD τ).loc main_arg0) : FVec Ideal S2x8192x1024 .f32) (ix3 (bat t) (pos t r) k) := (fun k => (read_x t (V m c main_arg0) r k).trans (congrFun (V_main_arg0 m c) _))
  have hg : ∀ k, (iblk m c 1 t : Vec Ideal S1x1024 .f32) (ix2 0 k) = (m ((c : Thread nD τ).loc main_arg1) : FVec Ideal S1024 .f32) (ix1 k) :=
    fun k => (read_g t (V m c main_v167) k).trans (V_g m c k)
  have hw : ∀ k, (iblk m c 2 t : Vec Ideal S1024x3840 .bf16) (ix2 k ⟨128 + j.val, by omega⟩)
      = (m ((c : Thread nD τ).loc main_arg2) : FVec Ideal S1024x2840 .f32) (ix2 k ⟨640 + j.val, by omega⟩) := fun k =>
    (read_w t (V m c main_v164) k ⟨128 + j.val, by omega⟩).trans ((V_w1 m c k (128 + j.val) (by omega) (by omega)).trans
      (same_col (m ((c : Thread nD τ).loc main_arg2)) k (by dsimp only; omega)))
  refine (tile_1 (iblk m c 0 t) (iblk m c 1 t) (iblk m c 2 t) (iblk m c 3 t) r j).trans ?_
  refine (entry_congr (j := (⟨640 + j.val, by omega⟩ : Fin 2840)) (B := fun k l => (m ((c : Thread nD τ).loc main_arg2) : FVec Ideal S1024x2840 .f32) (ix2 k l)) hx hg hw).trans ?_
  exact (narrowA_apply 640 (by decide) (m ((c : Thread nD τ).loc main_arg0)) (m ((c : Thread nD τ).loc main_arg1)) (m ((c : Thread nD τ).loc main_arg2)) (bat t) (pos t r) j).symm

theorem final1 (c : Dev nD) : (dats m 0 c).arrAt 5 cfg0.N = result1 m c := by
  refine (dats m 0 c).arrAt_eq_of_covers 5 _ (by decide +kernel) fun t _ y => ?_
  blk_simp
  rw [after0_5]
  have hy : ∀ y : S1x512x128.Idx, out0_5 (iblk m c 0 t) (iblk m c 1 t) (iblk m c 2 t) (iblk m c 3 t) y = result1 m c ((win0_5.blk t).view.emb y) := fun y => by
    idx_vars y
    obtain rfl : y0 = 0 := Subsingleton.elim _ _
    exact (point1 m c t y1 y2).trans (congrArg (result1 m c) (emb5 t y1 y2).symm)
  exact hy y

/-- Result 2 of the arguments as launched. -/
def result2 (c : Dev nD) : FVec Ideal S2x8192x128 .f32 :=
  narrowA 768 (by decide) (m ((c : Thread nD τ).loc main_arg0)) (m ((c : Thread nD τ).loc main_arg1)) (m ((c : Thread nD τ).loc main_arg2))

theorem point2 (c : Dev nD) (t : Fin cfg0.N) (r : Fin 512) (j : Fin 128) :
    out0_6 (iblk m c 0 t) (iblk m c 1 t) (iblk m c 2 t) (iblk m c 3 t) (ix3 0 r j) = result2 m c (ix3 (bat t) (pos t r) j) := by
  have hx : ∀ k, (iblk m c 0 t : Vec Ideal S1x512x1024 .f32) (ix3 0 r k) = (m ((c : Thread nD τ).loc main_arg0) : FVec Ideal S2x8192x1024 .f32) (ix3 (bat t) (pos t r) k) := (fun k => (read_x t (V m c main_arg0) r k).trans (congrFun (V_main_arg0 m c) _))
  have hg : ∀ k, (iblk m c 1 t : Vec Ideal S1x1024 .f32) (ix2 0 k) = (m ((c : Thread nD τ).loc main_arg1) : FVec Ideal S1024 .f32) (ix1 k) :=
    fun k => (read_g t (V m c main_v167) k).trans (V_g m c k)
  have hw : ∀ k, (iblk m c 2 t : Vec Ideal S1024x3840 .bf16) (ix2 k ⟨256 + j.val, by omega⟩)
      = (m ((c : Thread nD τ).loc main_arg2) : FVec Ideal S1024x2840 .f32) (ix2 k ⟨768 + j.val, by omega⟩) := fun k =>
    (read_w t (V m c main_v164) k ⟨256 + j.val, by omega⟩).trans ((V_w2 m c k (256 + j.val) (by omega) (by omega)).trans
      (same_col (m ((c : Thread nD τ).loc main_arg2)) k (by dsimp only; omega)))
  refine (tile_2 (iblk m c 0 t) (iblk m c 1 t) (iblk m c 2 t) (iblk m c 3 t) r j).trans ?_
  refine (entry_congr (j := (⟨768 + j.val, by omega⟩ : Fin 2840)) (B := fun k l => (m ((c : Thread nD τ).loc main_arg2) : FVec Ideal S1024x2840 .f32) (ix2 k l)) hx hg hw).trans ?_
  exact (narrowA_apply 768 (by decide) (m ((c : Thread nD τ).loc main_arg0)) (m ((c : Thread nD τ).loc main_arg1)) (m ((c : Thread nD τ).loc main_arg2)) (bat t) (pos t r) j).symm

theorem final2 (c : Dev nD) : (dats m 0 c).arrAt 6 cfg0.N = result2 m c := by
  refine (dats m 0 c).arrAt_eq_of_covers 6 _ (by decide +kernel) fun t _ y => ?_
  blk_simp
  rw [after0_6]
  have hy : ∀ y : S1x512x128.Idx, out0_6 (iblk m c 0 t) (iblk m c 1 t) (iblk m c 2 t) (iblk m c 3 t) y = result2 m c ((win0_6.blk t).view.emb y) := fun y => by
    idx_vars y
    obtain rfl : y0 = 0 := Subsingleton.elim _ _
    exact (point2 m c t y1 y2).trans (congrArg (result2 m c) (emb6 t y1 y2).symm)
  exact hy y

/-- Result 3 of the arguments as launched. -/
def result3 (c : Dev nD) : FVec Ideal S2x8192x128 .f32 :=
  narrowA 896 (by decide) (m ((c : Thread nD τ).loc main_arg0)) (m ((c : Thread nD τ).loc main_arg1)) (m ((c : Thread nD τ).loc main_arg2))

theorem point3 (c : Dev nD) (t : Fin cfg0.N) (r : Fin 512) (j : Fin 128) :
    out0_7 (iblk m c 0 t) (iblk m c 1 t) (iblk m c 2 t) (iblk m c 3 t) (ix3 0 r j) = result3 m c (ix3 (bat t) (pos t r) j) := by
  have hx : ∀ k, (iblk m c 0 t : Vec Ideal S1x512x1024 .f32) (ix3 0 r k) = (m ((c : Thread nD τ).loc main_arg0) : FVec Ideal S2x8192x1024 .f32) (ix3 (bat t) (pos t r) k) := (fun k => (read_x t (V m c main_arg0) r k).trans (congrFun (V_main_arg0 m c) _))
  have hg : ∀ k, (iblk m c 1 t : Vec Ideal S1x1024 .f32) (ix2 0 k) = (m ((c : Thread nD τ).loc main_arg1) : FVec Ideal S1024 .f32) (ix1 k) :=
    fun k => (read_g t (V m c main_v167) k).trans (V_g m c k)
  have hw : ∀ k, (iblk m c 2 t : Vec Ideal S1024x3840 .bf16) (ix2 k ⟨384 + j.val, by omega⟩)
      = (m ((c : Thread nD τ).loc main_arg2) : FVec Ideal S1024x2840 .f32) (ix2 k ⟨896 + j.val, by omega⟩) := fun k =>
    (read_w t (V m c main_v164) k ⟨384 + j.val, by omega⟩).trans ((V_w3 m c k (384 + j.val) (by omega) (by omega)).trans
      (same_col (m ((c : Thread nD τ).loc main_arg2)) k (by dsimp only; omega)))
  refine (tile_3 (iblk m c 0 t) (iblk m c 1 t) (iblk m c 2 t) (iblk m c 3 t) r j).trans ?_
  refine (entry_congr (j := (⟨896 + j.val, by omega⟩ : Fin 2840)) (B := fun k l => (m ((c : Thread nD τ).loc main_arg2) : FVec Ideal S1024x2840 .f32) (ix2 k l)) hx hg hw).trans ?_
  exact (narrowA_apply 896 (by decide) (m ((c : Thread nD τ).loc main_arg0)) (m ((c : Thread nD τ).loc main_arg1)) (m ((c : Thread nD τ).loc main_arg2)) (bat t) (pos t r) j).symm

theorem final3 (c : Dev nD) : (dats m 0 c).arrAt 7 cfg0.N = result3 m c := by
  refine (dats m 0 c).arrAt_eq_of_covers 7 _ (by decide +kernel) fun t _ y => ?_
  blk_simp
  rw [after0_7]
  have hy : ∀ y : S1x512x128.Idx, out0_7 (iblk m c 0 t) (iblk m c 1 t) (iblk m c 2 t) (iblk m c 3 t) y = result3 m c ((win0_7.blk t).view.emb y) := fun y => by
    idx_vars y
    obtain rfl : y0 = 0 := Subsingleton.elim _ _
    exact (point3 m c t y1 y2).trans (congrArg (result3 m c) (emb7 t y1 y2).symm)
  exact hy y

/-- Result 4 of the arguments as launched. -/
def result4 (c : Dev nD) : FVec Ideal S2x8192x128 .f32 :=
  narrowA 1024 (by decide) (m ((c : Thread nD τ).loc main_arg0)) (m ((c : Thread nD τ).loc main_arg1)) (m ((c : Thread nD τ).loc main_arg2))

theorem point4 (c : Dev nD) (t : Fin cfg0.N) (r : Fin 512) (j : Fin 128) :
    out0_8 (iblk m c 0 t) (iblk m c 1 t) (iblk m c 2 t) (iblk m c 3 t) (ix3 0 r j) = result4 m c (ix3 (bat t) (pos t r) j) := by
  have hx : ∀ k, (iblk m c 0 t : Vec Ideal S1x512x1024 .f32) (ix3 0 r k) = (m ((c : Thread nD τ).loc main_arg0) : FVec Ideal S2x8192x1024 .f32) (ix3 (bat t) (pos t r) k) := (fun k => (read_x t (V m c main_arg0) r k).trans (congrFun (V_main_arg0 m c) _))
  have hg : ∀ k, (iblk m c 1 t : Vec Ideal S1x1024 .f32) (ix2 0 k) = (m ((c : Thread nD τ).loc main_arg1) : FVec Ideal S1024 .f32) (ix1 k) :=
    fun k => (read_g t (V m c main_v167) k).trans (V_g m c k)
  have hw : ∀ k, (iblk m c 2 t : Vec Ideal S1024x3840 .bf16) (ix2 k ⟨512 + j.val, by omega⟩)
      = (m ((c : Thread nD τ).loc main_arg2) : FVec Ideal S1024x2840 .f32) (ix2 k ⟨1024 + j.val, by omega⟩) := fun k =>
    (read_w t (V m c main_v164) k ⟨512 + j.val, by omega⟩).trans ((V_w4 m c k (512 + j.val) (by omega) (by omega)).trans
      (same_col (m ((c : Thread nD τ).loc main_arg2)) k (by dsimp only; omega)))
  refine (tile_4 (iblk m c 0 t) (iblk m c 1 t) (iblk m c 2 t) (iblk m c 3 t) r j).trans ?_
  refine (entry_congr (j := (⟨1024 + j.val, by omega⟩ : Fin 2840)) (B := fun k l => (m ((c : Thread nD τ).loc main_arg2) : FVec Ideal S1024x2840 .f32) (ix2 k l)) hx hg hw).trans ?_
  exact (narrowA_apply 1024 (by decide) (m ((c : Thread nD τ).loc main_arg0)) (m ((c : Thread nD τ).loc main_arg1)) (m ((c : Thread nD τ).loc main_arg2)) (bat t) (pos t r) j).symm

theorem final4 (c : Dev nD) : (dats m 0 c).arrAt 8 cfg0.N = result4 m c := by
  refine (dats m 0 c).arrAt_eq_of_covers 8 _ (by decide +kernel) fun t _ y => ?_
  blk_simp
  rw [after0_8]
  have hy : ∀ y : S1x512x128.Idx, out0_8 (iblk m c 0 t) (iblk m c 1 t) (iblk m c 2 t) (iblk m c 3 t) y = result4 m c ((win0_8.blk t).view.emb y) := fun y => by
    idx_vars y
    obtain rfl : y0 = 0 := Subsingleton.elim _ _
    exact (point4 m c t y1 y2).trans (congrArg (result4 m c) (emb8 t y1 y2).symm)
  exact hy y

/-- Result 5 of the arguments as launched. -/
def result5 (c : Dev nD) : FVec Ideal S2x8192x128 .f32 :=
  narrowA 1152 (by decide) (m ((c : Thread nD τ).loc main_arg0)) (m ((c : Thread nD τ).loc main_arg1)) (m ((c : Thread nD τ).loc main_arg2))

theorem point5 (c : Dev nD) (t : Fin cfg0.N) (r : Fin 512) (j : Fin 128) :
    out0_9 (iblk m c 0 t) (iblk m c 1 t) (iblk m c 2 t) (iblk m c 3 t) (ix3 0 r j) = result5 m c (ix3 (bat t) (pos t r) j) := by
  have hx : ∀ k, (iblk m c 0 t : Vec Ideal S1x512x1024 .f32) (ix3 0 r k) = (m ((c : Thread nD τ).loc main_arg0) : FVec Ideal S2x8192x1024 .f32) (ix3 (bat t) (pos t r) k) := (fun k => (read_x t (V m c main_arg0) r k).trans (congrFun (V_main_arg0 m c) _))
  have hg : ∀ k, (iblk m c 1 t : Vec Ideal S1x1024 .f32) (ix2 0 k) = (m ((c : Thread nD τ).loc main_arg1) : FVec Ideal S1024 .f32) (ix1 k) :=
    fun k => (read_g t (V m c main_v167) k).trans (V_g m c k)
  have hw : ∀ k, (iblk m c 2 t : Vec Ideal S1024x3840 .bf16) (ix2 k ⟨640 + j.val, by omega⟩)
      = (m ((c : Thread nD τ).loc main_arg2) : FVec Ideal S1024x2840 .f32) (ix2 k ⟨1152 + j.val, by omega⟩) := fun k =>
    (read_w t (V m c main_v164) k ⟨640 + j.val, by omega⟩).trans ((V_w5 m c k (640 + j.val) (by omega) (by omega)).trans
      (same_col (m ((c : Thread nD τ).loc main_arg2)) k (by dsimp only; omega)))
  refine (tile_5 (iblk m c 0 t) (iblk m c 1 t) (iblk m c 2 t) (iblk m c 3 t) r j).trans ?_
  refine (entry_congr (j := (⟨1152 + j.val, by omega⟩ : Fin 2840)) (B := fun k l => (m ((c : Thread nD τ).loc main_arg2) : FVec Ideal S1024x2840 .f32) (ix2 k l)) hx hg hw).trans ?_
  exact (narrowA_apply 1152 (by decide) (m ((c : Thread nD τ).loc main_arg0)) (m ((c : Thread nD τ).loc main_arg1)) (m ((c : Thread nD τ).loc main_arg2)) (bat t) (pos t r) j).symm

theorem final5 (c : Dev nD) : (dats m 0 c).arrAt 9 cfg0.N = result5 m c := by
  refine (dats m 0 c).arrAt_eq_of_covers 9 _ (by decide +kernel) fun t _ y => ?_
  blk_simp
  rw [after0_9]
  have hy : ∀ y : S1x512x128.Idx, out0_9 (iblk m c 0 t) (iblk m c 1 t) (iblk m c 2 t) (iblk m c 3 t) y = result5 m c ((win0_9.blk t).view.emb y) := fun y => by
    idx_vars y
    obtain rfl : y0 = 0 := Subsingleton.elim _ _
    exact (point5 m c t y1 y2).trans (congrArg (result5 m c) (emb9 t y1 y2).symm)
  exact hy y

/-- Result 6 of the arguments as launched. -/
def result6 (c : Dev nD) : FVec Ideal S2x8192x512 .f32 :=
  wideA 1816 (by decide) (m ((c : Thread nD τ).loc main_arg0)) (m ((c : Thread nD τ).loc main_arg1)) (m ((c : Thread nD τ).loc main_arg2))

theorem point6 (c : Dev nD) (t : Fin cfg0.N) (r : Fin 512) (j : Fin 512) :
    out0_10 (iblk m c 0 t) (iblk m c 1 t) (iblk m c 2 t) (iblk m c 3 t) (ix3 0 r j) = result6 m c (ix3 (bat t) (pos t r) j) := by
  have hx : ∀ k, (iblk m c 0 t : Vec Ideal S1x512x1024 .f32) (ix3 0 r k) = (m ((c : Thread nD τ).loc main_arg0) : FVec Ideal S2x8192x1024 .f32) (ix3 (bat t) (pos t r) k) := (fun k => (read_x t (V m c main_arg0) r k).trans (congrFun (V_main_arg0 m c) _))
  have hg : ∀ k, (iblk m c 1 t : Vec Ideal S1x1024 .f32) (ix2 0 k) = (m ((c : Thread nD τ).loc main_arg1) : FVec Ideal S1024 .f32) (ix1 k) :=
    fun k => (read_g t (V m c main_v167) k).trans (V_g m c k)
  have hw : ∀ k, (iblk m c 2 t : Vec Ideal S1024x3840 .bf16) (ix2 k ⟨768 + j.val, by omega⟩)
      = (m ((c : Thread nD τ).loc main_arg2) : FVec Ideal S1024x2840 .f32) (ix2 k ⟨1816 + j.val, by omega⟩) := fun k =>
    (read_w t (V m c main_v164) k ⟨768 + j.val, by omega⟩).trans ((V_w6 m c k (768 + j.val) (by omega) (by omega)).trans
      (same_col (m ((c : Thread nD τ).loc main_arg2)) k (by dsimp only; omega)))
  refine (tile_6 (iblk m c 0 t) (iblk m c 1 t) (iblk m c 2 t) (iblk m c 3 t) r j).trans ?_
  refine (entry_congr (j := (⟨1816 + j.val, by omega⟩ : Fin 2840)) (B := fun k l => (m ((c : Thread nD τ).loc main_arg2) : FVec Ideal S1024x2840 .f32) (ix2 k l)) hx hg hw).trans ?_
  exact (wideA_apply 1816 (by decide) (m ((c : Thread nD τ).loc main_arg0)) (m ((c : Thread nD τ).loc main_arg1)) (m ((c : Thread nD τ).loc main_arg2)) (bat t) (pos t r) j).symm

theorem final6 (c : Dev nD) : (dats m 0 c).arrAt 10 cfg0.N = result6 m c := by
  refine (dats m 0 c).arrAt_eq_of_covers 10 _ (by decide +kernel) fun t _ y => ?_
  blk_simp
  rw [after0_10]
  have hy : ∀ y : S1x512x512.Idx, out0_10 (iblk m c 0 t) (iblk m c 1 t) (iblk m c 2 t) (iblk m c 3 t) y = result6 m c ((win0_10.blk t).view.emb y) := fun y => by
    idx_vars y
    obtain rfl : y0 = 0 := Subsingleton.elim _ _
    exact (point6 m c t y1 y2).trans (congrArg (result6 m c) (emb10 t y1 y2).symm)
  exact hy y

/-- Result 7 of the arguments as launched. -/
def result7 (c : Dev nD) : FVec Ideal S2x8192x512 .f32 :=
  wideA 2328 (by decide) (m ((c : Thread nD τ).loc main_arg0)) (m ((c : Thread nD τ).loc main_arg1)) (m ((c : Thread nD τ).loc main_arg2))

theorem point7 (c : Dev nD) (t : Fin cfg0.N) (r : Fin 512) (j : Fin 512) :
    out0_11 (iblk m c 0 t) (iblk m c 1 t) (iblk m c 2 t) (iblk m c 3 t) (ix3 0 r j) = result7 m c (ix3 (bat t) (pos t r) j) := by
  have hx : ∀ k, (iblk m c 0 t : Vec Ideal S1x512x1024 .f32) (ix3 0 r k) = (m ((c : Thread nD τ).loc main_arg0) : FVec Ideal S2x8192x1024 .f32) (ix3 (bat t) (pos t r) k) := (fun k => (read_x t (V m c main_arg0) r k).trans (congrFun (V_main_arg0 m c) _))
  have hg : ∀ k, (iblk m c 1 t : Vec Ideal S1x1024 .f32) (ix2 0 k) = (m ((c : Thread nD τ).loc main_arg1) : FVec Ideal S1024 .f32) (ix1 k) :=
    fun k => (read_g t (V m c main_v167) k).trans (V_g m c k)
  have hw : ∀ k, (iblk m c 2 t : Vec Ideal S1024x3840 .bf16) (ix2 k ⟨1280 + j.val, by omega⟩)
      = (m ((c : Thread nD τ).loc main_arg2) : FVec Ideal S1024x2840 .f32) (ix2 k ⟨2328 + j.val, by omega⟩) := fun k =>
    (read_w t (V m c main_v164) k ⟨1280 + j.val, by omega⟩).trans ((V_w7 m c k (1280 + j.val) (by omega) (by omega)).trans
      (same_col (m ((c : Thread nD τ).loc main_arg2)) k (by dsimp only; omega)))
  refine (tile_7 (iblk m c 0 t) (iblk m c 1 t) (iblk m c 2 t) (iblk m c 3 t) r j).trans ?_
  refine (entry_congr (j := (⟨2328 + j.val, by omega⟩ : Fin 2840)) (B := fun k l => (m ((c : Thread nD τ).loc main_arg2) : FVec Ideal S1024x2840 .f32) (ix2 k l)) hx hg hw).trans ?_
  exact (wideA_apply 2328 (by decide) (m ((c : Thread nD τ).loc main_arg0)) (m ((c : Thread nD τ).loc main_arg1)) (m ((c : Thread nD τ).loc main_arg2)) (bat t) (pos t r) j).symm

theorem final7 (c : Dev nD) : (dats m 0 c).arrAt 11 cfg0.N = result7 m c := by
  refine (dats m 0 c).arrAt_eq_of_covers 11 _ (by decide +kernel) fun t _ y => ?_
  blk_simp
  rw [after0_11]
  have hy : ∀ y : S1x512x512.Idx, out0_11 (iblk m c 0 t) (iblk m c 1 t) (iblk m c 2 t) (iblk m c 3 t) y = result7 m c ((win0_11.blk t).view.emb y) := fun y => by
    idx_vars y
    obtain rfl : y0 = 0 := Subsingleton.elim _ _
    exact (point7 m c t y1 y2).trans (congrArg (result7 m c) (emb11 t y1 y2).symm)
  exact hy y

/-- The run: the eight results are the rows' projections, and the arguments stay. -/
theorem run (ρ : Dev nD → PrngReg) :
    θ_run defs (onTc (τ := τ) (main (F := Ideal))) ⟨m, fun _ => 0, ρ⟩ fun r => ∀ c : Dev nD,
      r.2.mem ((c : Thread nD τ).loc main_v168_0) = result0 m c
      ∧ r.2.mem ((c : Thread nD τ).loc main_v168_1) = result1 m c
      ∧ r.2.mem ((c : Thread nD τ).loc main_v168_2) = result2 m c
      ∧ r.2.mem ((c : Thread nD τ).loc main_v168_3) = result3 m c
      ∧ r.2.mem ((c : Thread nD τ).loc main_v168_4) = result4 m c
      ∧ r.2.mem ((c : Thread nD τ).loc main_v168_5) = result5 m c
      ∧ r.2.mem ((c : Thread nD τ).loc main_v168_6) = result6 m c
      ∧ r.2.mem ((c : Thread nD τ).loc main_v168_7) = result7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final0 m c),
      ((h c).1 5).trans (final1 m c),
      ((h c).1 6).trans (final2 m c),
      ((h c).1 7).trans (final3 m c),
      ((h c).1 8).trans (final4 m c),
      ((h c).1 9).trans (final5 m c),
      ((h c).1 10).trans (final6 m c),
      ((h c).1 11).trans (final7 m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel3Ideal.Proj

end
-- ==== Proof.ProjResult.lean ====
/-
  The prompt projection's reference over the extended reals: every row is the normalised row through the columns of the projection.
-/
module

public import proofs.«01_k».proof.Proof.ProjRow
public import proofs.«01_k».proof.Proof.Gen.Reference3Ideal.Run
public import Idealize.ShloMosaic.Lib.Pointwise

@[expose] public section

set_option maxRecDepth 16384

noncomputable section

namespace Cert.Reference3Ideal.Proj

open Cert.Reference3Ideal Cert.Reference3Ideal.Gen Cert.Tail
open Idealize.ShloMosaic Idealize.ShloMosaic.TcCoe

/-- The tokens, normalised. -/
def normH (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

theorem normH_apply (x : FVec Ideal S2x8192x1024 .f32) (g : FVec Ideal S1024 .f32) (b : Fin 2) (s : Fin 8192) (k : Fin 1024) :
    normH x g (ix3 b s k) = normR (fun k => x (ix3 b s k)) (fun k => g (ix1 k)) k := by
  unfold normH
  pointwise
  rfl

/-- The projection of the normalised tokens. -/
def projH (x : FVec Ideal S2x8192x1024 .f32) (g : FVec Ideal S1024 .f32) (w : FVec Ideal S1024x2840 .f32) : FVec Ideal S2x8192x2840 .f32 :=
  Host.dotGeneral dot_S2x8192x1024_S1024x2840_S2x8192x2840_2_0_01_1_n_n none (normH x g) w

theorem projH_apply (x : FVec Ideal S2x8192x1024 .f32) (g : FVec Ideal S1024 .f32) (w : FVec Ideal S1024x2840 .f32) (b : Fin 2) (s : Fin 8192) (q : Fin 2840) :
    projH x g w (ix3 b s q) = matR (normR (fun k => x (ix3 b s k)) (fun k => g (ix1 k))) (fun k l => w (ix2 k l)) q := by
  unfold projH
  have e : ∀ k, normH x g (ix3 b s k) = normR (fun k => x (ix3 b s k)) (fun k => g (ix1 k)) k := normH_apply x g b s
  generalize normH x g = u at e
  refine Eq.trans (b := ∑ k, u (ix3 b s k) * w (ix2 k q)) (by pointwise) ?_
  exact Finset.sum_congr rfl fun k _ => congrArg (· * w (ix2 k q)) (e k)

/-- Result 0: 128 columns of the projection. -/
def cut0 (z : FVec Ideal S2x8192x2840 .f32) : FVec Ideal S2x8192x128 .f32 :=
  extractStridedSlice S2x8192x128 ![0, 0, 512] z slices_S2x8192x2840_S2x8192x128_0_0_512

theorem cut0_apply (z : FVec Ideal S2x8192x2840 .f32) (b : Fin 2) (s : Fin 8192) (j : Fin 128) :
    cut0 z (ix3 b s j) = z (ix3 b s ⟨512 + j.val, by omega⟩) := by
  unfold cut0
  pointwise

/-- Result 1: 128 columns of the projection. -/
def cut1 (z : FVec Ideal S2x8192x2840 .f32) : FVec Ideal S2x8192x128 .f32 :=
  extractStridedSlice S2x8192x128 ![0, 0, 640] z slices_S2x8192x2840_S2x8192x128_0_0_640

theorem cut1_apply (z : FVec Ideal S2x8192x2840 .f32) (b : Fin 2) (s : Fin 8192) (j : Fin 128) :
    cut1 z (ix3 b s j) = z (ix3 b s ⟨640 + j.val, by omega⟩) := by
  unfold cut1
  pointwise

/-- Result 2: 128 columns of the projection. -/
def cut2 (z : FVec Ideal S2x8192x2840 .f32) : FVec Ideal S2x8192x128 .f32 :=
  extractStridedSlice S2x8192x128 ![0, 0, 768] z slices_S2x8192x2840_S2x8192x128_0_0_768

theorem cut2_apply (z : FVec Ideal S2x8192x2840 .f32) (b : Fin 2) (s : Fin 8192) (j : Fin 128) :
    cut2 z (ix3 b s j) = z (ix3 b s ⟨768 + j.val, by omega⟩) := by
  unfold cut2
  pointwise

/-- Result 3: 128 columns of the projection. -/
def cut3 (z : FVec Ideal S2x8192x2840 .f32) : FVec Ideal S2x8192x128 .f32 :=
  extractStridedSlice S2x8192x128 ![0, 0, 896] z slices_S2x8192x2840_S2x8192x128_0_0_896

theorem cut3_apply (z : FVec Ideal S2x8192x2840 .f32) (b : Fin 2) (s : Fin 8192) (j : Fin 128) :
    cut3 z (ix3 b s j) = z (ix3 b s ⟨896 + j.val, by omega⟩) := by
  unfold cut3
  pointwise

/-- Result 4: 128 columns of the projection. -/
def cut4 (z : FVec Ideal S2x8192x2840 .f32) : FVec Ideal S2x8192x128 .f32 :=
  extractStridedSlice S2x8192x128 ![0, 0, 1024] z slices_S2x8192x2840_S2x8192x128_0_0_1024

theorem cut4_apply (z : FVec Ideal S2x8192x2840 .f32) (b : Fin 2) (s : Fin 8192) (j : Fin 128) :
    cut4 z (ix3 b s j) = z (ix3 b s ⟨1024 + j.val, by omega⟩) := by
  unfold cut4
  pointwise

/-- Result 5: 128 columns of the projection. -/
def cut5 (z : FVec Ideal S2x8192x2840 .f32) : FVec Ideal S2x8192x128 .f32 :=
  extractStridedSlice S2x8192x128 ![0, 0, 1152] z slices_S2x8192x2840_S2x8192x128_0_0_1152

theorem cut5_apply (z : FVec Ideal S2x8192x2840 .f32) (b : Fin 2) (s : Fin 8192) (j : Fin 128) :
    cut5 z (ix3 b s j) = z (ix3 b s ⟨1152 + j.val, by omega⟩) := by
  unfold cut5
  pointwise

/-- Result 6: 512 columns of the projection. -/
def cut6 (z : FVec Ideal S2x8192x2840 .f32) : FVec Ideal S2x8192x512 .f32 :=
  extractStridedSlice S2x8192x512 ![0, 0, 1816] z slices_S2x8192x2840_S2x8192x512_0_0_1816

theorem cut6_apply (z : FVec Ideal S2x8192x2840 .f32) (b : Fin 2) (s : Fin 8192) (j : Fin 512) :
    cut6 z (ix3 b s j) = z (ix3 b s ⟨1816 + j.val, by omega⟩) := by
  unfold cut6
  pointwise

/-- Result 7: 512 columns of the projection. -/
def cut7 (z : FVec Ideal S2x8192x2840 .f32) : FVec Ideal S2x8192x512 .f32 :=
  extractStridedSlice S2x8192x512 ![0, 0, 2328] z slices_S2x8192x2840_S2x8192x512_0_0_2328

theorem cut7_apply (z : FVec Ideal S2x8192x2840 .f32) (b : Fin 2) (s : Fin 8192) (j : Fin 512) :
    cut7 z (ix3 b s j) = z (ix3 b s ⟨2328 + j.val, by omega⟩) := by
  unfold cut7
  pointwise

end Cert.Reference3Ideal.Proj

end
-- ==== Proof.ProjAlgebraic.lean ====
/-
  The prompt projection's cache results equal their reference's over the extended reals, for all arguments.
-/
module

public import proofs.«01_k».proof.Defs
public import proofs.«01_k».proof.Proof.ProjFinal
public import proofs.«01_k».proof.Proof.ProjResult

@[expose] public section

noncomputable section

namespace Cert.Proof

open Idealize.ShloMosaic Idealize.ShloMosaic.TcCoe Idealize.SL.Sem

theorem proj_eq0 (x : FVec Ideal Cert.Reference3Ideal.S2x8192x1024 .f32) (g : FVec Ideal Cert.Reference3Ideal.S1024 .f32) (w : FVec Ideal Cert.Reference3Ideal.S1024x2840 .f32) :
    Cert.Reference3Ideal.Proj.cut0 (Cert.Reference3Ideal.Proj.projH x g w) = Cert.Kernel3Ideal.Proj.narrowA 512 (by decide) x g w := by
  funext y
  idx_vars y
  exact (Cert.Reference3Ideal.Proj.cut0_apply _ y0 y1 y2).trans (Cert.Reference3Ideal.Proj.projH_apply x g w y0 y1 _)

theorem proj_eq1 (x : FVec Ideal Cert.Reference3Ideal.S2x8192x1024 .f32) (g : FVec Ideal Cert.Reference3Ideal.S1024 .f32) (w : FVec Ideal Cert.Reference3Ideal.S1024x2840 .f32) :
    Cert.Reference3Ideal.Proj.cut1 (Cert.Reference3Ideal.Proj.projH x g w) = Cert.Kernel3Ideal.Proj.narrowA 640 (by decide) x g w := by
  funext y
  idx_vars y
  exact (Cert.Reference3Ideal.Proj.cut1_apply _ y0 y1 y2).trans (Cert.Reference3Ideal.Proj.projH_apply x g w y0 y1 _)

theorem proj_eq2 (x : FVec Ideal Cert.Reference3Ideal.S2x8192x1024 .f32) (g : FVec Ideal Cert.Reference3Ideal.S1024 .f32) (w : FVec Ideal Cert.Reference3Ideal.S1024x2840 .f32) :
    Cert.Reference3Ideal.Proj.cut2 (Cert.Reference3Ideal.Proj.projH x g w) = Cert.Kernel3Ideal.Proj.narrowA 768 (by decide) x g w := by
  funext y
  idx_vars y
  exact (Cert.Reference3Ideal.Proj.cut2_apply _ y0 y1 y2).trans (Cert.Reference3Ideal.Proj.projH_apply x g w y0 y1 _)

theorem proj_eq3 (x : FVec Ideal Cert.Reference3Ideal.S2x8192x1024 .f32) (g : FVec Ideal Cert.Reference3Ideal.S1024 .f32) (w : FVec Ideal Cert.Reference3Ideal.S1024x2840 .f32) :
    Cert.Reference3Ideal.Proj.cut3 (Cert.Reference3Ideal.Proj.projH x g w) = Cert.Kernel3Ideal.Proj.narrowA 896 (by decide) x g w := by
  funext y
  idx_vars y
  exact (Cert.Reference3Ideal.Proj.cut3_apply _ y0 y1 y2).trans (Cert.Reference3Ideal.Proj.projH_apply x g w y0 y1 _)

theorem proj_eq4 (x : FVec Ideal Cert.Reference3Ideal.S2x8192x1024 .f32) (g : FVec Ideal Cert.Reference3Ideal.S1024 .f32) (w : FVec Ideal Cert.Reference3Ideal.S1024x2840 .f32) :
    Cert.Reference3Ideal.Proj.cut4 (Cert.Reference3Ideal.Proj.projH x g w) = Cert.Kernel3Ideal.Proj.narrowA 1024 (by decide) x g w := by
  funext y
  idx_vars y
  exact (Cert.Reference3Ideal.Proj.cut4_apply _ y0 y1 y2).trans (Cert.Reference3Ideal.Proj.projH_apply x g w y0 y1 _)

theorem proj_eq5 (x : FVec Ideal Cert.Reference3Ideal.S2x8192x1024 .f32) (g : FVec Ideal Cert.Reference3Ideal.S1024 .f32) (w : FVec Ideal Cert.Reference3Ideal.S1024x2840 .f32) :
    Cert.Reference3Ideal.Proj.cut5 (Cert.Reference3Ideal.Proj.projH x g w) = Cert.Kernel3Ideal.Proj.narrowA 1152 (by decide) x g w := by
  funext y
  idx_vars y
  exact (Cert.Reference3Ideal.Proj.cut5_apply _ y0 y1 y2).trans (Cert.Reference3Ideal.Proj.projH_apply x g w y0 y1 _)

theorem proj_eq6 (x : FVec Ideal Cert.Reference3Ideal.S2x8192x1024 .f32) (g : FVec Ideal Cert.Reference3Ideal.S1024 .f32) (w : FVec Ideal Cert.Reference3Ideal.S1024x2840 .f32) :
    Cert.Reference3Ideal.Proj.cut6 (Cert.Reference3Ideal.Proj.projH x g w) = Cert.Kernel3Ideal.Proj.wideA 1816 (by decide) x g w := by
  funext y
  idx_vars y
  exact (Cert.Reference3Ideal.Proj.cut6_apply _ y0 y1 y2).trans (Cert.Reference3Ideal.Proj.projH_apply x g w y0 y1 _)

theorem proj_eq7 (x : FVec Ideal Cert.Reference3Ideal.S2x8192x1024 .f32) (g : FVec Ideal Cert.Reference3Ideal.S1024 .f32) (w : FVec Ideal Cert.Reference3Ideal.S1024x2840 .f32) :
    Cert.Reference3Ideal.Proj.cut7 (Cert.Reference3Ideal.Proj.projH x g w) = Cert.Kernel3Ideal.Proj.wideA 2328 (by decide) x g w := by
  funext y
  idx_vars y
  exact (Cert.Reference3Ideal.Proj.cut7_apply _ y0 y1 y2).trans (Cert.Reference3Ideal.Proj.projH_apply x g w y0 y1 _)

theorem algebraic_proj :
    Cert.algebraic_Kernel3Ideal_Reference3Ideal (hKernel3Ideal := Cert.Kernel3Ideal.Gen.facts) (hReference3Ideal := Cert.Reference3Ideal.Gen.facts) := by
  intro m g m' g' _ hargs
  refine ⟨fun c => Cert.Kernel3Ideal.Proj.result0 m c, fun c => Cert.Kernel3Ideal.Proj.result1 m c, fun c => Cert.Kernel3Ideal.Proj.result2 m c, fun c => Cert.Kernel3Ideal.Proj.result3 m c, fun c => Cert.Kernel3Ideal.Proj.result4 m c, fun c => Cert.Kernel3Ideal.Proj.result5 m c, fun c => Cert.Kernel3Ideal.Proj.result6 m c, fun c => Cert.Kernel3Ideal.Proj.result7 m c, Cert.Kernel3Ideal.Proj.run m g, ?_⟩
  refine (θ_run Cert.Reference3Ideal.defs _ _).mono (fun r h c => ?_) (Cert.Reference3Ideal.Value.run m' g')
  obtain ⟨e0, e1, e2⟩ := hargs c
  obtain ⟨h0, h1, h2, h3, h4, h5, h6, h7, hk⟩ := h c
  exact ⟨h0.trans ((proj_eq0 _ _ _).trans (Cert.Kernel3Ideal.Proj.narrowA_congr _ _ e0 e1 e2)),
    h1.trans ((proj_eq1 _ _ _).trans (Cert.Kernel3Ideal.Proj.narrowA_congr _ _ e0 e1 e2)),
    h2.trans ((proj_eq2 _ _ _).trans (Cert.Kernel3Ideal.Proj.narrowA_congr _ _ e0 e1 e2)),
    h3.trans ((proj_eq3 _ _ _).trans (Cert.Kernel3Ideal.Proj.narrowA_congr _ _ e0 e1 e2)),
    h4.trans ((proj_eq4 _ _ _).trans (Cert.Kernel3Ideal.Proj.narrowA_congr _ _ e0 e1 e2)),
    h5.trans ((proj_eq5 _ _ _).trans (Cert.Kernel3Ideal.Proj.narrowA_congr _ _ e0 e1 e2)),
    h6.trans ((proj_eq6 _ _ _).trans (Cert.Kernel3Ideal.Proj.wideA_congr _ _ e0 e1 e2)),
    h7.trans ((proj_eq7 _ _ _).trans (Cert.Kernel3Ideal.Proj.wideA_congr _ _ e0 e1 e2)), hk⟩

end Cert.Proof

end
-- ==== Proof.MemArray.lean ====
/-
  The memory projection over the extended reals: the kernel's array of keys and values, and the reference's.
-/
module

public import proofs.«01_k».proof.Proof.Gen.Kernel4Ideal.Value
public import proofs.«01_k».proof.Proof.TailRow
public import Idealize.ShloMosaic.Lib.Pointwise
public import Idealize.ShloMosaic.Lib.Pipeline.ValueKit

@[expose] public section

set_option maxRecDepth 16384

noncomputable section

namespace Cert.Kernel4Ideal.Mem

open Cert.Kernel4Ideal Cert.Kernel4Ideal.Gen Cert.Tail
open Idealize.ShloMosaic Idealize.ShloMosaic.TcCoe

variable (m : (ℓ : Loc nD τ sig) → Buf (Elt Ideal) ℓ)

/-! ### The host's arrays -/

theorem V_x (c : Dev nD) (r : Fin 512) (k : Fin 1024) :
    (V m c main_v2 : FVec Ideal S512x1024 .f32) (ix2 r k)
      = (m ((c : Thread nD τ).loc main_arg0) : FVec Ideal S2x256x1024 .f32) (ix3 ⟨r.val / 256, by omega⟩ ⟨r.val % 256, by omega⟩ k) := by
  entry_read
  pointwise

theorem V_g (c : Dev nD) (k : Fin 1024) :
    (V m c main_v3 : FVec Ideal S1x1024 .f32) (ix2 0 k) = (m ((c : Thread nD τ).loc main_arg1) : FVec Ideal S1024 .f32) (ix1 k) := by
  entry_read
  pointwise

theorem V_k (c : Dev nD) (k : Fin 1024) (j : Fin 256) :
    (V m c main_v1 : FVec Ideal S1024x512 .bf16) (ix2 k ⟨j.val, by omega⟩) = (m ((c : Thread nD τ).loc main_arg2) : FVec Ideal S1024x256 .f32) (ix2 k j) := by
  entry_read
  pointwise

theorem V_v (c : Dev nD) (k : Fin 1024) (j : Fin 256) :
    (V m c main_v1 : FVec Ideal S1024x512 .bf16) (ix2 k ⟨256 + j.val, by omega⟩) = (m ((c : Thread nD τ).loc main_arg3) : FVec Ideal S1024x256 .f32) (ix2 k j) := by
  entry_read
  pointwise

/-! ### The blocks of a grid point -/

/-- Where the windows of a grid point lie. -/
theorem idx : ∀ t : Fin cfg0.N, win0_0.index t = ![(grid0.coords t 0).val, 0] ∧ win0_1.index t = ![0, 0]
    ∧ win0_2.index t = ![0, 0] ∧ win0_3.index t = ![(grid0.coords t 0).val, 0] :=
  (by decide +kernel : ∀ t : Fin grid0.N, _)

theorem coord0 (t : Fin cfg0.N) : (grid0.coords t 0).val < 2 := (grid0.coords t 0).isLt

/-- The position of row `r` of a grid point's block. -/
def pos (t : Fin cfg0.N) (r : Fin 256) : Fin 512 :=
  ⟨256 * (grid0.coords t 0).val + r.val, by have := coord0 t; omega⟩

theorem read_x (t : Fin cfg0.N) (X : FVec Ideal S512x1024 .f32) (r : Fin 256) (k : Fin 1024) :
    ((win0_0.blk t).view.read (Elt Ideal) X : Vec Ideal S256x1024 .f32) (ix2 r k) = X (ix2 (pos t r) k) := by
  unfold pos; blk_ext [idx t]

theorem read_g (t : Fin cfg0.N) (X : FVec Ideal S1x1024 .f32) (k : Fin 1024) :
    ((win0_1.blk t).view.read (Elt Ideal) X : Vec Ideal S1x1024 .f32) (ix2 0 k) = X (ix2 0 k) := by
  blk_ext [idx t]

theorem read_w (t : Fin cfg0.N) (X : FVec Ideal S1024x512 .bf16) (k : Fin 1024) (l : Fin 512) :
    ((win0_2.blk t).view.read (Elt Ideal) X : Vec Ideal S1024x512 .bf16) (ix2 k l) = X (ix2 k l) := by
  blk_ext [idx t]

theorem emb_out (t : Fin cfg0.N) (r : Fin 256) (j : Fin 512) :
    (win0_3.blk t).view.emb (ix2 r j : S256x512.Idx) = (ix2 (pos t r) j : S512x512.Idx) := by
  unfold pos; blk_ext [idx t]

end Cert.Kernel4Ideal.Mem

end
-- ==== Proof.MemFinal.lean ====
/-
  The memory projection's result over the extended reals: every row is the normalised row through both projections, side by side.
-/
module

public import proofs.«01_k».proof.Proof.ProjRow
public import proofs.«01_k».proof.Proof.MemArray
public import Idealize.ShloMosaic.Lib.Pipeline.ValueKit

@[expose] public section

set_option maxRecDepth 16384

noncomputable section

namespace Cert.Kernel4Ideal.Mem

open Cert.Kernel4Ideal Cert.Kernel4Ideal.Gen Cert.Tail
open Idealize.ShloMosaic Idealize.ShloMosaic.TcCoe

/-! ### What a grid point writes -/

theorem product_apply (x0 : Vec Ideal S256x1024 .f32) (x1 : Vec Ideal S1x1024 .f32) (x2 : Vec Ideal S1024x512 .bf16) (r : Fin 256) (j : Fin 512) :
    k0_pay1 x0 x1 x2 (ix2 r j) = matR (normR (fun k => x0 (ix2 r k)) (fun k => x1 (ix2 0 k))) (fun k l => x2 (ix2 k l)) j := by
  unfold k0_pay1
  pointwise
  rfl

theorem out_apply (x0 : Vec Ideal S256x1024 .f32) (x1 : Vec Ideal S1x1024 .f32) (x2 : Vec Ideal S1024x512 .bf16) (y : S256x512.Idx) :
    out0_3 x0 x1 x2 y = k0_pay1 x0 x1 x2 y := by
  unfold out0_3
  frame_out

/-- The two projections of a token, side by side. -/
def bothW (wk wv : FVec Ideal S1024x256 .f32) (k : Fin 1024) (l : Fin 512) : EReal :=
  if h : l.val < 256 then wk (ix2 k ⟨l.val, h⟩) else wv (ix2 k ⟨l.val - 256, by omega⟩)

/-- Every token of both batches, normalised, through the two projections. -/
def memA (x : FVec Ideal S2x256x1024 .f32) (g : FVec Ideal S1024 .f32) (wk wv : FVec Ideal S1024x256 .f32) : FVec Ideal S512x512 .f32 := fun y =>
  matR (normR (fun k => x (ix3 ⟨(y 0).val / 256, by have h : (y 0).val < 512 := (y 0).isLt; omega⟩ ⟨(y 0).val % 256, by omega⟩ k)) (fun k => g (ix1 k))) (bothW wk wv) (y 1)

theorem memA_congr {x x' : FVec Ideal S2x256x1024 .f32} {g g' : FVec Ideal S1024 .f32} {wk wk' wv wv' : FVec Ideal S1024x256 .f32}
    (e0 : x = x') (e1 : g = g') (e2 : wk = wk') (e3 : wv = wv') : memA x g wk wv = memA x' g' wk' wv' := by
  subst e0 e1 e2 e3
  rfl

theorem memA_apply (x : FVec Ideal S2x256x1024 .f32) (g : FVec Ideal S1024 .f32) (wk wv : FVec Ideal S1024x256 .f32) (s j : Fin 512) :
    memA x g wk wv (ix2 s j)
      = matR (normR (fun k => x (ix3 ⟨s.val / 256, by omega⟩ ⟨s.val % 256, by omega⟩ k)) (fun k => g (ix1 k))) (bothW wk wv) j :=
  rfl

variable (m : (ℓ : Loc nD τ sig) → Buf (Elt Ideal) ℓ)

/-- The result of the arguments as launched. -/
def result (c : Dev nD) : FVec Ideal S512x512 .f32 :=
  memA (m ((c : Thread nD τ).loc main_arg0)) (m ((c : Thread nD τ).loc main_arg1)) (m ((c : Thread nD τ).loc main_arg2)) (m ((c : Thread nD τ).loc main_arg3))

theorem V_w (c : Dev nD) (k : Fin 1024) (l : Fin 512) :
    (V m c main_v1 : FVec Ideal S1024x512 .bf16) (ix2 k l) = bothW (m ((c : Thread nD τ).loc main_arg2)) (m ((c : Thread nD τ).loc main_arg3)) k l := by
  unfold bothW
  by_cases h : l.val < 256
  · rw [dif_pos h]
    exact V_k m c k ⟨l.val, h⟩
  · rw [dif_neg h]
    have e : l = (⟨256 + (⟨l.val - 256, by omega⟩ : Fin 256).val, by dsimp only; omega⟩ : Fin 512) := Fin.ext (by dsimp only; omega)
    refine (congrArg (fun q : Fin 512 => (V m c main_v1 : FVec Ideal S1024x512 .bf16) (ix2 k q)) e).trans ?_
    exact V_v m c k ⟨l.val - 256, by omega⟩

theorem point (c : Dev nD) (t : Fin cfg0.N) (r : Fin 256) (j : Fin 512) :
    out0_3 (iblk m c 0 t) (iblk m c 1 t) (iblk m c 2 t) (ix2 r j) = result m c (ix2 (pos t r) j) := by
  have hx : ∀ k, (iblk m c 0 t : Vec Ideal S256x1024 .f32) (ix2 r k)
      = (m ((c : Thread nD τ).loc main_arg0) : FVec Ideal S2x256x1024 .f32) (ix3 ⟨(pos t r).val / 256, by omega⟩ ⟨(pos t r).val % 256, by omega⟩ k) :=
    fun k => (read_x t (V m c main_v2) r k).trans (V_x m c (pos t r) k)
  have hg : ∀ k, (iblk m c 1 t : Vec Ideal S1x1024 .f32) (ix2 0 k) = (m ((c : Thread nD τ).loc main_arg1) : FVec Ideal S1024 .f32) (ix1 k) :=
    fun k => (read_g t (V m c main_v3) k).trans (V_g m c k)
  have hw : ∀ k, (iblk m c 2 t : Vec Ideal S1024x512 .bf16) (ix2 k j) = bothW (m ((c : Thread nD τ).loc main_arg2)) (m ((c : Thread nD τ).loc main_arg3)) k j :=
    fun k => (read_w t (V m c main_v1) k j).trans (V_w m c k j)
  refine (out_apply (iblk m c 0 t) (iblk m c 1 t) (iblk m c 2 t) _).trans ((product_apply (iblk m c 0 t) (iblk m c 1 t) (iblk m c 2 t) r j).trans ?_)
  refine (entry_congr hx hg hw).trans ?_
  exact (memA_apply (m ((c : Thread nD τ).loc main_arg0)) (m ((c : Thread nD τ).loc main_arg1)) (m ((c : Thread nD τ).loc main_arg2))
    (m ((c : Thread nD τ).loc main_arg3)) (pos t r) j).symm

/-- The result array: every block holds its rows. -/
theorem final (c : Dev nD) : (dats m 0 c).arrAt 3 cfg0.N = result m c := by
  refine (dats m 0 c).arrAt_eq_of_covers 3 _ (by decide +kernel) fun t _ y => ?_
  blk_simp
  rw [after0_3]
  have hy : ∀ y : S256x512.Idx, out0_3 (iblk m c 0 t) (iblk m c 1 t) (iblk m c 2 t) y = result m c ((win0_3.blk t).view.emb y) := fun y => by
    idx_vars y
    exact (point m c t y0 y1).trans (congrArg (result m c) (emb_out t y0 y1).symm)
  exact hy y

end Cert.Kernel4Ideal.Mem

end
-- ==== Proof.MemResult.lean ====
/-
  The memory projection's reference over the extended reals: every row is the normalised row through both projections, side by side.
-/
module

public import proofs.«01_k».proof.Proof.ProjRow
public import proofs.«01_k».proof.Proof.Gen.Reference4Ideal.Run
public import Idealize.ShloMosaic.Lib.Pointwise

@[expose] public section

set_option maxRecDepth 16384

noncomputable section

namespace Cert.Reference4Ideal.Mem

open Cert.Reference4Ideal Cert.Reference4Ideal.Gen Cert.Tail
open Idealize.ShloMosaic Idealize.ShloMosaic.TcCoe

/-- The tokens, normalised. -/
def normH (x : FVec Ideal S2x256x1024 .f32) (g : FVec Ideal S1024 .f32) : FVec Ideal S2x256x1024 .f32 :=
  mulf (mulf x (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x x) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 g))

theorem normH_apply (x : FVec Ideal S2x256x1024 .f32) (g : FVec Ideal S1024 .f32) (b : Fin 2) (s : Fin 256) (k : Fin 1024) :
    normH x g (ix3 b s k) = normR (fun k => x (ix3 b s k)) (fun k => g (ix1 k)) k := by
  unfold normH
  pointwise
  rfl

/-- One projection of the normalised tokens. -/
def projH (x : FVec Ideal S2x256x1024 .f32) (g : FVec Ideal S1024 .f32) (w : FVec Ideal S1024x256 .f32) : FVec Ideal S2x256x256 .f32 :=
  Host.dotGeneral dot_S2x256x1024_S1024x256_S2x256x256_2_0_01_1_n_n none (normH x g) w

theorem projH_apply (x : FVec Ideal S2x256x1024 .f32) (g : FVec Ideal S1024 .f32) (w : FVec Ideal S1024x256 .f32) (b : Fin 2) (s : Fin 256) (q : Fin 256) :
    projH x g w (ix3 b s q) = matR (normR (fun k => x (ix3 b s k)) (fun k => g (ix1 k))) (fun k l => w (ix2 k l)) q := by
  unfold projH
  have e : ∀ k, normH x g (ix3 b s k) = normR (fun k => x (ix3 b s k)) (fun k => g (ix1 k)) k := normH_apply x g b s
  generalize normH x g = u at e
  refine Eq.trans (b := ∑ k, u (ix3 b s k) * w (ix2 k q)) (by pointwise) ?_
  exact Finset.sum_congr rfl fun k _ => congrArg (· * w (ix2 k q)) (e k)

/-- Both projections side by side, the batches under each other. -/
def bothH (p q : FVec Ideal S2x256x256 .f32) : FVec Ideal S512x512 .f32 :=
  shapeCast S512x512 (concatenate S2x256x512 2 [⟨S2x256x256, p⟩, ⟨S2x256x256, q⟩] concatenates_S2x256x256_S2x256x256_S2x256x512_d2) shapeCasts_S2x256x512_S512x512

theorem bothH_apply (p q : FVec Ideal S2x256x256 .f32) (s j : Fin 512) :
    bothH p q (ix2 s j)
      = if h : j.val < 256 then p (ix3 ⟨s.val / 256, by omega⟩ ⟨s.val % 256, by omega⟩ ⟨j.val, h⟩)
        else q (ix3 ⟨s.val / 256, by omega⟩ ⟨s.val % 256, by omega⟩ ⟨j.val - 256, by omega⟩) := by
  unfold bothH
  pointwise

end Cert.Reference4Ideal.Mem

end
-- ==== Proof.MemAlgebraic.lean ====
/-
  The memory projection equals its reference over the extended reals, for all arguments.
-/
module

public import proofs.«01_k».proof.Defs
public import proofs.«01_k».proof.Proof.MemFinal
public import proofs.«01_k».proof.Proof.MemResult

@[expose] public section

noncomputable section

namespace Cert.Proof

open Idealize.ShloMosaic Idealize.ShloMosaic.TcCoe Idealize.SL.Sem

/-- The reference's array is the rows' projections. -/
theorem mem_eq (x : FVec Ideal Cert.Reference4Ideal.S2x256x1024 .f32) (g : FVec Ideal Cert.Reference4Ideal.S1024 .f32)
    (wk wv : FVec Ideal Cert.Reference4Ideal.S1024x256 .f32) :
    Cert.Reference4Ideal.Mem.bothH (Cert.Reference4Ideal.Mem.projH x g wk) (Cert.Reference4Ideal.Mem.projH x g wv) = Cert.Kernel4Ideal.Mem.memA x g wk wv := by
  funext y
  idx_vars y
  refine (Cert.Reference4Ideal.Mem.bothH_apply _ _ y0 y1).trans (Eq.trans ?_ (Cert.Kernel4Ideal.Mem.memA_apply x g wk wv y0 y1).symm)
  by_cases h : y1.val < 256
  · rw [dif_pos h]
    refine (Cert.Reference4Ideal.Mem.projH_apply x g wk _ _ _).trans (Cert.Tail.entry_congr (fun _ => rfl) (fun _ => rfl) fun k => ?_)
    unfold Cert.Kernel4Ideal.Mem.bothW
    rw [dif_pos h]
  · rw [dif_neg h]
    refine (Cert.Reference4Ideal.Mem.projH_apply x g wv _ _ _).trans (Cert.Tail.entry_congr (fun _ => rfl) (fun _ => rfl) fun k => ?_)
    unfold Cert.Kernel4Ideal.Mem.bothW
    rw [dif_neg h]

theorem algebraic_mem :
    Cert.algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.Mem.result m c, ?_, ?_⟩
  · refine (θ_run Cert.Kernel4Ideal.defs _ _).mono (fun r h c => ?_) (Cert.Kernel4Ideal.Value.run_blocks m g)
    exact ⟨(h c).1.trans (Cert.Kernel4Ideal.Mem.final m c), (h c).2⟩
  · refine (θ_run Cert.Reference4Ideal.defs _ _).mono (fun r h c => ?_) (Cert.Reference4Ideal.Value.run m' g')
    obtain ⟨e0, e1, e2, e3⟩ := hargs c
    exact ⟨(h c).1.trans ((mem_eq _ _ _ _).trans (Cert.Kernel4Ideal.Mem.memA_congr e0 e1 e2 e3)), (h c).2⟩

end Cert.Proof

end
-- ==== Proof.RowsArray.lean ====
/-
  The sample projection's arrays over the extended reals: what the host hands to the call, and the blocks of its grid point.
-/
module

public import proofs.«01_k».proof.Proof.Gen.Kernel5Ideal.Frame
public import Idealize.ShloMosaic.Lib.Pointwise
public import Idealize.ShloMosaic.Lib.StableHlo.RunRead
public import Idealize.ShloMosaic.Lib.Pipeline.ValueKit

@[expose] public section

set_option maxRecDepth 16384
set_option maxHeartbeats 8000000

noncomputable section

namespace Cert.Kernel5Ideal.Rows

open Cert.Kernel5Ideal Cert.Kernel5Ideal.Gen
open Idealize.ShloMosaic Idealize.ShloMosaic.TcCoe

variable (m : (ℓ : Loc nD τ sig) → Buf (Elt Ideal) ℓ)

theorem V_g (c : Dev nD) (k : Fin 1024) :
    (V m c main_v168 : FVec Ideal S1x1024 .f32) (ix2 0 k) = (m ((c : Thread nD τ).loc main_arg1) : FVec Ideal S1024 .f32) (ix1 k) := by
  after_reads_simp
  pointwise

theorem V_x (c : Dev nD) (r : Fin 128) (k : Fin 1024) :
    (V m c main_v167 : FVec Ideal S1x128x1024 .f32) (ix3 0 r k) = (m ((c : Thread nD τ).loc main_arg0) : FVec Ideal S128x1x1024 .f32) (ix3 r 0 k) := by
  after_reads_simp
  pointwise

/-- Equal columns of the projection's matrix. -/
theorem same_col (X : FVec Ideal S1024x2840 .f32) (k : Fin 1024) {a b : Fin 2840} (h : a.val = b.val) : X (ix2 k a) = X (ix2 k b) :=
  congrArg (fun q => X (ix2 k q)) (Fin.ext h)

theorem V_w0 (c : Dev nD) (k : Fin 1024) (q : Nat) (h' : q < 128) :
    (V m c main_v165 : FVec Ideal S1024x2816 .bf16) (ix2 k ⟨q, by omega⟩)
      = (m ((c : Thread nD τ).loc main_arg2) : FVec Ideal S1024x2840 .f32) (ix2 k ⟨512 + q, by omega⟩) := by
  after_reads_simp
  pointwise
  refine (dif_pos (by omega)).trans ?_
  after_reads_simp
  pointwise

theorem V_w1 (c : Dev nD) (k : Fin 1024) (q : Nat) (h : 128 ≤ q) (h' : q < 256) :
    (V m c main_v165 : FVec Ideal S1024x2816 .bf16) (ix2 k ⟨q, by omega⟩)
      = (m ((c : Thread nD τ).loc main_arg2) : FVec Ideal S1024x2840 .f32) (ix2 k ⟨512 + q, by omega⟩) := by
  after_reads_simp
  pointwise
  refine (dif_neg (by omega)).trans ?_
  refine (dif_pos (by omega)).trans ?_
  after_reads_simp
  pointwise
  exact same_col (m ((c : Thread nD τ).loc main_arg2)) k (by dsimp only; omega)

theorem V_w2 (c : Dev nD) (k : Fin 1024) (q : Nat) (h : 256 ≤ q) (h' : q < 384) :
    (V m c main_v165 : FVec Ideal S1024x2816 .bf16) (ix2 k ⟨q, by omega⟩)
      = (m ((c : Thread nD τ).loc main_arg2) : FVec Ideal S1024x2840 .f32) (ix2 k ⟨512 + q, by omega⟩) := by
  after_reads_simp
  pointwise
  refine (dif_neg (by omega)).trans ?_
  refine (dif_neg (by omega)).trans ?_
  refine (dif_pos (by omega)).trans ?_
  after_reads_simp
  pointwise
  exact same_col (m ((c : Thread nD τ).loc main_arg2)) k (by dsimp only; omega)

theorem V_w3 (c : Dev nD) (k : Fin 1024) (q : Nat) (h : 384 ≤ q) (h' : q < 512) :
    (V m c main_v165 : FVec Ideal S1024x2816 .bf16) (ix2 k ⟨q, by omega⟩)
      = (m ((c : Thread nD τ).loc main_arg2) : FVec Ideal S1024x2840 .f32) (ix2 k ⟨512 + q, by omega⟩) := by
  after_reads_simp
  pointwise
  refine (dif_neg (by omega)).trans ?_
  refine (dif_neg (by omega)).trans ?_
  refine (dif_neg (by omega)).trans ?_
  refine (dif_pos (by omega)).trans ?_
  after_reads_simp
  pointwise
  exact same_col (m ((c : Thread nD τ).loc main_arg2)) k (by dsimp only; omega)

theorem V_w4 (c : Dev nD) (k : Fin 1024) (q : Nat) (h : 512 ≤ q) (h' : q < 640) :
    (V m c main_v165 : FVec Ideal S1024x2816 .bf16) (ix2 k ⟨q, by omega⟩)
      = (m ((c : Thread nD τ).loc main_arg2) : FVec Ideal S1024x2840 .f32) (ix2 k ⟨512 + q, by omega⟩) := by
  after_reads_simp
  pointwise
  refine (dif_neg (by omega)).trans ?_
  refine (dif_neg (by omega)).trans ?_
  refine (dif_neg (by omega)).trans ?_
  refine (dif_neg (by omega)).trans ?_
  refine (dif_pos (by omega)).trans ?_
  after_reads_simp
  pointwise
  exact same_col (m ((c : Thread nD τ).loc main_arg2)) k (by dsimp only; omega)

theorem V_w5 (c : Dev nD) (k : Fin 1024) (q : Nat) (h : 640 ≤ q) (h' : q < 768) :
    (V m c main_v165 : FVec Ideal S1024x2816 .bf16) (ix2 k ⟨q, by omega⟩)
      = (m ((c : Thread nD τ).loc main_arg2) : FVec Ideal S1024x2840 .f32) (ix2 k ⟨512 + q, by omega⟩) := by
  after_reads_simp
  pointwise
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_simp
  pointwise
  exact same_col (m ((c : Thread nD τ).loc main_arg2)) k (by dsimp only; omega)

theorem V_w6 (c : Dev nD) (k : Fin 1024) (q : Nat) (h : 768 ≤ q) (h' : q < 1280) :
    (V m c main_v165 : FVec Ideal S1024x2816 .bf16) (ix2 k ⟨q, by omega⟩)
      = (m ((c : Thread nD τ).loc main_arg2) : FVec Ideal S1024x2840 .f32) (ix2 k ⟨1048 + q, by omega⟩) := by
  after_reads_simp
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_simp
  pointwise
  exact same_col (m ((c : Thread nD τ).loc main_arg2)) k (by dsimp only; omega)

theorem V_w7 (c : Dev nD) (k : Fin 1024) (q : Nat) (h : 1280 ≤ q) (h' : q < 1792) :
    (V m c main_v165 : FVec Ideal S1024x2816 .bf16) (ix2 k ⟨q, by omega⟩)
      = (m ((c : Thread nD τ).loc main_arg2) : FVec Ideal S1024x2840 .f32) (ix2 k ⟨1048 + q, by omega⟩) := by
  after_reads_simp
  pointwise
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_neg (by omega)).trans ?_
  refine (dif_pos (by omega)).trans ?_
  after_reads_simp
  pointwise
  exact same_col (m ((c : Thread nD τ).loc main_arg2)) k (by dsimp only; omega)

/-! ### The blocks of the grid point -/

/-- Where the windows of the grid point lie. -/
theorem idx : ∀ t : Fin cfg0.N, win0_0.index t = ![0, 0, 0]
    ∧ win0_1.index t = ![0, 0] ∧ win0_2.index t = ![0, 0]
    ∧ win0_4.index t = ![0, 0, 0]
    ∧ win0_5.index t = ![0, 0, 0]
    ∧ win0_6.index t = ![0, 0, 0]
    ∧ win0_7.index t = ![0, 0, 0]
    ∧ win0_8.index t = ![0, 0, 0]
    ∧ win0_9.index t = ![0, 0, 0]
    ∧ win0_10.index t = ![0, 0, 0]
    ∧ win0_11.index t = ![0, 0, 0] :=
  (by decide +kernel : ∀ t : Fin grid0.N, _)

theorem read_x (t : Fin cfg0.N) (X : FVec Ideal S1x128x1024 .f32) (r : Fin 128) (k : Fin 1024) :
    ((win0_0.blk t).view.read (Elt Ideal) X : Vec Ideal S1x128x1024 .f32) (ix3 0 r k) = X (ix3 0 r k) := by
  blk_ext [idx t]

theorem read_g (t : Fin cfg0.N) (X : FVec Ideal S1x1024 .f32) (k : Fin 1024) :
    ((win0_1.blk t).view.read (Elt Ideal) X : Vec Ideal S1x1024 .f32) (ix2 0 k) = X (ix2 0 k) := by
  blk_ext [idx t]

theorem read_w (t : Fin cfg0.N) (X : FVec Ideal S1024x2816 .bf16) (k : Fin 1024) (l : Fin 2816) :
    ((win0_2.blk t).view.read (Elt Ideal) X : Vec Ideal S1024x2816 .bf16) (ix2 k l) = X (ix2 k l) := by
  blk_ext [idx t]

theorem emb4 (t : Fin cfg0.N) (r : Fin 128) (j : Fin 128) :
    (win0_4.blk t).view.emb (ix3 0 r j : S1x128x128.Idx) = (ix3 0 r j : S1x128x128.Idx) := by
  blk_ext [idx t]

theorem emb5 (t : Fin cfg0.N) (r : Fin 128) (j : Fin 128) :
    (win0_5.blk t).view.emb (ix3 0 r j : S1x128x128.Idx) = (ix3 0 r j : S1x128x128.Idx) := by
  blk_ext [idx t]

theorem emb6 (t : Fin cfg0.N) (r : Fin 128) (j : Fin 128) :
    (win0_6.blk t).view.emb (ix3 0 r j : S1x128x128.Idx) = (ix3 0 r j : S1x128x128.Idx) := by
  blk_ext [idx t]

theorem emb7 (t : Fin cfg0.N) (r : Fin 128) (j : Fin 128) :
    (win0_7.blk t).view.emb (ix3 0 r j : S1x128x128.Idx) = (ix3 0 r j : S1x128x128.Idx) := by
  blk_ext [idx t]

theorem emb8 (t : Fin cfg0.N) (r : Fin 128) (j : Fin 128) :
    (win0_8.blk t).view.emb (ix3 0 r j : S1x128x128.Idx) = (ix3 0 r j : S1x128x128.Idx) := by
  blk_ext [idx t]

theorem emb9 (t : Fin cfg0.N) (r : Fin 128) (j : Fin 128) :
    (win0_9.blk t).view.emb (ix3 0 r j : S1x128x128.Idx) = (ix3 0 r j : S1x128x128.Idx) := by
  blk_ext [idx t]

theorem emb10 (t : Fin cfg0.N) (r : Fin 128) (j : Fin 512) :
    (win0_10.blk t).view.emb (ix3 0 r j : S1x128x512.Idx) = (ix3 0 r j : S1x128x512.Idx) := by
  blk_ext [idx t]

theorem emb11 (t : Fin cfg0.N) (r : Fin 128) (j : Fin 512) :
    (win0_11.blk t).view.emb (ix3 0 r j : S1x128x512.Idx) = (ix3 0 r j : S1x128x512.Idx) := by
  blk_ext [idx t]

end Cert.Kernel5Ideal.Rows

end
-- ==== Proof.RowsFinal.lean ====
/-
  The sample projection's cache results over the extended reals: every row is the normalised row through the columns of the projection.
-/
module

public import proofs.«01_k».proof.Proof.ProjRow
public import proofs.«01_k».proof.Proof.RowsArray
public import Idealize.ShloMosaic.Lib.Pipeline.ValueKit

@[expose] public section

set_option maxRecDepth 16384
set_option maxHeartbeats 4000000

noncomputable section

namespace Cert.Kernel5Ideal.Rows

open Cert.Kernel5Ideal Cert.Kernel5Ideal.Gen Cert.Tail
open Idealize.ShloMosaic Idealize.ShloMosaic.TcCoe Idealize.SL.Sem

/-! ### What a grid point writes -/

theorem product_apply (x0 : Vec Ideal S1x128x1024 .f32) (x1 : Vec Ideal S1x1024 .f32) (x2 : Vec Ideal S1024x2816 .bf16) (r : Fin 128) (j : Fin 2816) :
    k0_pay3 x0 x1 x2 (ix2 r j) = matR (normR (fun k => x0 (ix3 0 r k)) (fun k => x1 (ix2 0 k))) (fun k l => x2 (ix2 k l)) j := by
  unfold k0_pay3 k0_pay2
  pointwise
  rfl

theorem pay_0 (x0 : Vec Ideal S1x128x1024 .f32) (x1 : Vec Ideal S1x1024 .f32) (x2 : Vec Ideal S1024x2816 .bf16) (r : Fin 128) (j : Fin 128) :
    k0_pay4 x0 x1 x2 (ix3 0 r j) = k0_pay3 x0 x1 x2 (ix2 r ⟨0 + j.val, by omega⟩) := by
  unfold k0_pay4
  generalize k0_pay3 x0 x1 x2 = z
  pointwise

theorem out_0 (x0 : Vec Ideal S1x128x1024 .f32) (x1 : Vec Ideal S1x1024 .f32) (x2 : Vec Ideal S1024x2816 .bf16) (x3 : Vec Ideal S800x1024 .bf16) (y : S1x128x128.Idx) :
    out0_4 x0 x1 x2 x3 y = k0_pay4 x0 x1 x2 y := by
  unfold_out out0_4
  frame_out

theorem tile_0 (x0 : Vec Ideal S1x128x1024 .f32) (x1 : Vec Ideal S1x1024 .f32) (x2 : Vec Ideal S1024x2816 .bf16) (x3 : Vec Ideal S800x1024 .bf16) (r : Fin 128) (j : Fin 128) :
    out0_4 x0 x1 x2 x3 (ix3 0 r j)
      = matR (normR (fun k => x0 (ix3 0 r k)) (fun k => x1 (ix2 0 k))) (fun k l => x2 (ix2 k l)) ⟨0 + j.val, by omega⟩ :=
  (out_0 x0 x1 x2 x3 _).trans ((pay_0 x0 x1 x2 r j).trans (product_apply x0 x1 x2 r _))

theorem pay_1 (x0 : Vec Ideal S1x128x1024 .f32) (x1 : Vec Ideal S1x1024 .f32) (x2 : Vec Ideal S1024x2816 .bf16) (r : Fin 128) (j : Fin 128) :
    k0_pay5 x0 x1 x2 (ix3 0 r j) = k0_pay3 x0 x1 x2 (ix2 r ⟨128 + j.val, by omega⟩) := by
  unfold k0_pay5
  generalize k0_pay3 x0 x1 x2 = z
  pointwise

theorem out_1 (x0 : Vec Ideal S1x128x1024 .f32) (x1 : Vec Ideal S1x1024 .f32) (x2 : Vec Ideal S1024x2816 .bf16) (x3 : Vec Ideal S800x1024 .bf16) (y : S1x128x128.Idx) :
    out0_5 x0 x1 x2 x3 y = k0_pay5 x0 x1 x2 y := by
  unfold_out out0_5
  frame_out

theorem tile_1 (x0 : Vec Ideal S1x128x1024 .f32) (x1 : Vec Ideal S1x1024 .f32) (x2 : Vec Ideal S1024x2816 .bf16) (x3 : Vec Ideal S800x1024 .bf16) (r : Fin 128) (j : Fin 128) :
    out0_5 x0 x1 x2 x3 (ix3 0 r j)
      = matR (normR (fun k => x0 (ix3 0 r k)) (fun k => x1 (ix2 0 k))) (fun k l => x2 (ix2 k l)) ⟨128 + j.val, by omega⟩ :=
  (out_1 x0 x1 x2 x3 _).trans ((pay_1 x0 x1 x2 r j).trans (product_apply x0 x1 x2 r _))

theorem pay_2 (x0 : Vec Ideal S1x128x1024 .f32) (x1 : Vec Ideal S1x1024 .f32) (x2 : Vec Ideal S1024x2816 .bf16) (r : Fin 128) (j : Fin 128) :
    k0_pay6 x0 x1 x2 (ix3 0 r j) = k0_pay3 x0 x1 x2 (ix2 r ⟨256 + j.val, by omega⟩) := by
  unfold k0_pay6
  generalize k0_pay3 x0 x1 x2 = z
  pointwise

theorem out_2 (x0 : Vec Ideal S1x128x1024 .f32) (x1 : Vec Ideal S1x1024 .f32) (x2 : Vec Ideal S1024x2816 .bf16) (x3 : Vec Ideal S800x1024 .bf16) (y : S1x128x128.Idx) :
    out0_6 x0 x1 x2 x3 y = k0_pay6 x0 x1 x2 y := by
  unfold_out out0_6
  frame_out

theorem tile_2 (x0 : Vec Ideal S1x128x1024 .f32) (x1 : Vec Ideal S1x1024 .f32) (x2 : Vec Ideal S1024x2816 .bf16) (x3 : Vec Ideal S800x1024 .bf16) (r : Fin 128) (j : Fin 128) :
    out0_6 x0 x1 x2 x3 (ix3 0 r j)
      = matR (normR (fun k => x0 (ix3 0 r k)) (fun k => x1 (ix2 0 k))) (fun k l => x2 (ix2 k l)) ⟨256 + j.val, by omega⟩ :=
  (out_2 x0 x1 x2 x3 _).trans ((pay_2 x0 x1 x2 r j).trans (product_apply x0 x1 x2 r _))

theorem pay_3 (x0 : Vec Ideal S1x128x1024 .f32) (x1 : Vec Ideal S1x1024 .f32) (x2 : Vec Ideal S1024x2816 .bf16) (r : Fin 128) (j : Fin 128) :
    k0_pay8 (k0_pay7 x0 x1 x2) (ix3 0 r j) = k0_pay3 x0 x1 x2 (ix2 r ⟨384 + j.val, by omega⟩) := by
  unfold k0_pay8 k0_pay7
  generalize k0_pay3 x0 x1 x2 = z
  pointwise

theorem out_3 (x0 : Vec Ideal S1x128x1024 .f32) (x1 : Vec Ideal S1x1024 .f32) (x2 : Vec Ideal S1024x2816 .bf16) (x3 : Vec Ideal S800x1024 .bf16) (y : S1x128x128.Idx) :
    out0_7 x0 x1 x2 x3 y = k0_pay8 (k0_pay7 x0 x1 x2) y := by
  unfold_out out0_7
  frame_out

theorem tile_3 (x0 : Vec Ideal S1x128x1024 .f32) (x1 : Vec Ideal S1x1024 .f32) (x2 : Vec Ideal S1024x2816 .bf16) (x3 : Vec Ideal S800x1024 .bf16) (r : Fin 128) (j : Fin 128) :
    out0_7 x0 x1 x2 x3 (ix3 0 r j)
      = matR (normR (fun k => x0 (ix3 0 r k)) (fun k => x1 (ix2 0 k))) (fun k l => x2 (ix2 k l)) ⟨384 + j.val, by omega⟩ :=
  (out_3 x0 x1 x2 x3 _).trans ((pay_3 x0 x1 x2 r j).trans (product_apply x0 x1 x2 r _))

theorem pay_4 (z : FVec Ideal S128x2816 .f32) (r : Fin 128) (j : Fin 128) :
    k0_pay9 z (ix3 0 r j) = z (ix2 r ⟨512 + j.val, by omega⟩) := by
  unfold k0_pay9
  pointwise

theorem out_4 (x0 : Vec Ideal S1x128x1024 .f32) (x1 : Vec Ideal S1x1024 .f32) (x2 : Vec Ideal S1024x2816 .bf16) (x3 : Vec Ideal S800x1024 .bf16) (y : S1x128x128.Idx) :
    out0_8 x0 x1 x2 x3 y = k0_pay9 (k0_pay3 x0 x1 x2) y := by
  unfold_out out0_8
  frame_out

theorem tile_4 (x0 : Vec Ideal S1x128x1024 .f32) (x1 : Vec Ideal S1x1024 .f32) (x2 : Vec Ideal S1024x2816 .bf16) (x3 : Vec Ideal S800x1024 .bf16) (r : Fin 128) (j : Fin 128) :
    out0_8 x0 x1 x2 x3 (ix3 0 r j)
      = matR (normR (fun k => x0 (ix3 0 r k)) (fun k => x1 (ix2 0 k))) (fun k l => x2 (ix2 k l)) ⟨512 + j.val, by omega⟩ :=
  (out_4 x0 x1 x2 x3 _).trans ((pay_4 _ r j).trans (product_apply x0 x1 x2 r _))

theorem pay_5 (z : FVec Ideal S128x2816 .f32) (r : Fin 128) (j : Fin 128) :
    k0_pay10 z (ix3 0 r j) = z (ix2 r ⟨640 + j.val, by omega⟩) := by
  unfold k0_pay10
  pointwise

theorem out_5 (x0 : Vec Ideal S1x128x1024 .f32) (x1 : Vec Ideal S1x1024 .f32) (x2 : Vec Ideal S1024x2816 .bf16) (x3 : Vec Ideal S800x1024 .bf16) (y : S1x128x128.Idx) :
    out0_9 x0 x1 x2 x3 y = k0_pay10 (k0_pay3 x0 x1 x2) y := by
  unfold_out out0_9
  frame_out

theorem tile_5 (x0 : Vec Ideal S1x128x1024 .f32) (x1 : Vec Ideal S1x1024 .f32) (x2 : Vec Ideal S1024x2816 .bf16) (x3 : Vec Ideal S800x1024 .bf16) (r : Fin 128) (j : Fin 128) :
    out0_9 x0 x1 x2 x3 (ix3 0 r j)
      = matR (normR (fun k => x0 (ix3 0 r k)) (fun k => x1 (ix2 0 k))) (fun k l => x2 (ix2 k l)) ⟨640 + j.val, by omega⟩ :=
  (out_5 x0 x1 x2 x3 _).trans ((pay_5 _ r j).trans (product_apply x0 x1 x2 r _))

theorem pay_6 (z : FVec Ideal S128x2816 .f32) (r : Fin 128) (j : Fin 512) :
    k0_pay11 z (ix3 0 r j) = z (ix2 r ⟨768 + j.val, by omega⟩) := by
  unfold k0_pay11
  pointwise

theorem out_6 (x0 : Vec Ideal S1x128x1024 .f32) (x1 : Vec Ideal S1x1024 .f32) (x2 : Vec Ideal S1024x2816 .bf16) (x3 : Vec Ideal S800x1024 .bf16) (y : S1x128x512.Idx) :
    out0_10 x0 x1 x2 x3 y = k0_pay11 (k0_pay3 x0 x1 x2) y := by
  unfold_out out0_10
  frame_out

theorem tile_6 (x0 : Vec Ideal S1x128x1024 .f32) (x1 : Vec Ideal S1x1024 .f32) (x2 : Vec Ideal S1024x2816 .bf16) (x3 : Vec Ideal S800x1024 .bf16) (r : Fin 128) (j : Fin 512) :
    out0_10 x0 x1 x2 x3 (ix3 0 r j)
      = matR (normR (fun k => x0 (ix3 0 r k)) (fun k => x1 (ix2 0 k))) (fun k l => x2 (ix2 k l)) ⟨768 + j.val, by omega⟩ :=
  (out_6 x0 x1 x2 x3 _).trans ((pay_6 _ r j).trans (product_apply x0 x1 x2 r _))

theorem pay_7 (z : FVec Ideal S128x2816 .f32) (r : Fin 128) (j : Fin 512) :
    k0_pay12 z (ix3 0 r j) = z (ix2 r ⟨1280 + j.val, by omega⟩) := by
  unfold k0_pay12
  pointwise

theorem out_7 (x0 : Vec Ideal S1x128x1024 .f32) (x1 : Vec Ideal S1x1024 .f32) (x2 : Vec Ideal S1024x2816 .bf16) (x3 : Vec Ideal S800x1024 .bf16) (y : S1x128x512.Idx) :
    out0_11 x0 x1 x2 x3 y = k0_pay12 (k0_pay3 x0 x1 x2) y := by
  unfold_out out0_11
  frame_out

theorem tile_7 (x0 : Vec Ideal S1x128x1024 .f32) (x1 : Vec Ideal S1x1024 .f32) (x2 : Vec Ideal S1024x2816 .bf16) (x3 : Vec Ideal S800x1024 .bf16) (r : Fin 128) (j : Fin 512) :
    out0_11 x0 x1 x2 x3 (ix3 0 r j)
      = matR (normR (fun k => x0 (ix3 0 r k)) (fun k => x1 (ix2 0 k))) (fun k l => x2 (ix2 k l)) ⟨1280 + j.val, by omega⟩ :=
  (out_7 x0 x1 x2 x3 _).trans ((pay_7 _ r j).trans (product_apply x0 x1 x2 r _))

/-- 128 columns of the projection of every token, from column `o` on. -/
def narrowA (o : Nat) (ho : o + 128 ≤ 2840) (x : FVec Ideal S128x1x1024 .f32) (g : FVec Ideal S1024 .f32) (w : FVec Ideal S1024x2840 .f32) :
    FVec Ideal S1x128x128 .f32 := fun y =>
  matR (normR (fun k => x (ix3 (y 1) 0 k)) (fun k => g (ix1 k))) (fun k (l : Fin 2840) => w (ix2 k l)) ⟨o + (y 2).val, by have h : (y 2).val < 128 := (y 2).isLt; omega⟩

theorem narrowA_congr (o : Nat) (ho : o + 128 ≤ 2840) {x x' : FVec Ideal S128x1x1024 .f32} {g g' : FVec Ideal S1024 .f32} {w w' : FVec Ideal S1024x2840 .f32}
    (e0 : x = x') (e1 : g = g') (e2 : w = w') : narrowA o ho x g w = narrowA o ho x' g' w' := by
  subst e0 e1 e2
  rfl

/-- 512 columns of the projection of every token, from column `o` on. -/
def wideA (o : Nat) (ho : o + 512 ≤ 2840) (x : FVec Ideal S128x1x1024 .f32) (g : FVec Ideal S1024 .f32) (w : FVec Ideal S1024x2840 .f32) :
    FVec Ideal S1x128x512 .f32 := fun y =>
  matR (normR (fun k => x (ix3 (y 1) 0 k)) (fun k => g (ix1 k))) (fun k (l : Fin 2840) => w (ix2 k l)) ⟨o + (y 2).val, by have h : (y 2).val < 512 := (y 2).isLt; omega⟩

theorem wideA_congr (o : Nat) (ho : o + 512 ≤ 2840) {x x' : FVec Ideal S128x1x1024 .f32} {g g' : FVec Ideal S1024 .f32} {w w' : FVec Ideal S1024x2840 .f32}
    (e0 : x = x') (e1 : g = g') (e2 : w = w') : wideA o ho x g w = wideA o ho x' g' w' := by
  subst e0 e1 e2
  rfl

theorem narrowA_apply (o : Nat) (ho : o + 128 ≤ 2840) (x : FVec Ideal S128x1x1024 .f32) (g : FVec Ideal S1024 .f32) (w : FVec Ideal S1024x2840 .f32)
    (b : Fin 1) (s : Fin 128) (j : Fin 128) :
    narrowA o ho x g w (ix3 b s j) = matR (normR (fun k => x (ix3 s 0 k)) (fun k => g (ix1 k))) (fun k (l : Fin 2840) => w (ix2 k l)) ⟨o + j.val, by omega⟩ :=
  rfl

theorem wideA_apply (o : Nat) (ho : o + 512 ≤ 2840) (x : FVec Ideal S128x1x1024 .f32) (g : FVec Ideal S1024 .f32) (w : FVec Ideal S1024x2840 .f32)
    (b : Fin 1) (s : Fin 128) (j : Fin 512) :
    wideA o ho x g w (ix3 b s j) = matR (normR (fun k => x (ix3 s 0 k)) (fun k => g (ix1 k))) (fun k (l : Fin 2840) => w (ix2 k l)) ⟨o + j.val, by omega⟩ :=
  rfl

variable (m : (ℓ : Loc nD τ sig) → Buf (Elt Ideal) ℓ)

/-- Result 0 of the arguments as launched. -/
def result0 (c : Dev nD) : FVec Ideal S1x128x128 .f32 :=
  narrowA 512 (by decide) (m ((c : Thread nD τ).loc main_arg0)) (m ((c : Thread nD τ).loc main_arg1)) (m ((c : Thread nD τ).loc main_arg2))

theorem point0 (c : Dev nD) (t : Fin cfg0.N) (r : Fin 128) (j : Fin 128) :
    out0_4 (iblk m c 0 t) (iblk m c 1 t) (iblk m c 2 t) (iblk m c 3 t) (ix3 0 r j) = result0 m c (ix3 0 r j) := by
  have hx : ∀ k, (iblk m c 0 t : Vec Ideal S1x128x1024 .f32) (ix3 0 r k) = (m ((c : Thread nD τ).loc main_arg0) : FVec Ideal S128x1x1024 .f32) (ix3 r 0 k) := (fun k => (read_x t (V m c main_v167) r k).trans (V_x m c r k))
  have hg : ∀ k, (iblk m c 1 t : Vec Ideal S1x1024 .f32) (ix2 0 k) = (m ((c : Thread nD τ).loc main_arg1) : FVec Ideal S1024 .f32) (ix1 k) :=
    fun k => (read_g t (V m c main_v168) k).trans (V_g m c k)
  have hw : ∀ k, (iblk m c 2 t : Vec Ideal S1024x2816 .bf16) (ix2 k ⟨0 + j.val, by omega⟩)
      = (m ((c : Thread nD τ).loc main_arg2) : FVec Ideal S1024x2840 .f32) (ix2 k ⟨512 + j.val, by omega⟩) := fun k =>
    (read_w t (V m c main_v165) k ⟨0 + j.val, by omega⟩).trans ((V_w0 m c k (0 + j.val) (by omega)).trans
      (same_col (m ((c : Thread nD τ).loc main_arg2)) k (by dsimp only; omega)))
  refine (tile_0 (iblk m c 0 t) (iblk m c 1 t) (iblk m c 2 t) (iblk m c 3 t) r j).trans ?_
  refine (entry_congr (j := (⟨512 + j.val, by omega⟩ : Fin 2840)) (B := fun k l => (m ((c : Thread nD τ).loc main_arg2) : FVec Ideal S1024x2840 .f32) (ix2 k l)) hx hg hw).trans ?_
  exact (narrowA_apply 512 (by decide) (m ((c : Thread nD τ).loc main_arg0)) (m ((c : Thread nD τ).loc main_arg1)) (m ((c : Thread nD τ).loc main_arg2)) 0 r j).symm

theorem final0 (c : Dev nD) : (dats m 0 c).arrAt 4 cfg0.N = result0 m c := by
  refine (dats m 0 c).arrAt_eq_of_covers 4 _ (by decide +kernel) fun t _ y => ?_
  blk_simp
  rw [after0_4]
  have hy : ∀ y : S1x128x128.Idx, out0_4 (iblk m c 0 t) (iblk m c 1 t) (iblk m c 2 t) (iblk m c 3 t) y = result0 m c ((win0_4.blk t).view.emb y) := fun y => by
    idx_vars y
    obtain rfl : y0 = 0 := Subsingleton.elim _ _
    exact (point0 m c t y1 y2).trans (congrArg (result0 m c) (emb4 t y1 y2).symm)
  exact hy y

/-- Result 1 of the arguments as launched. -/
def result1 (c : Dev nD) : FVec Ideal S1x128x128 .f32 :=
  narrowA 640 (by decide) (m ((c : Thread nD τ).loc main_arg0)) (m ((c : Thread nD τ).loc main_arg1)) (m ((c : Thread nD τ).loc main_arg2))

theorem point1 (c : Dev nD) (t : Fin cfg0.N) (r : Fin 128) (j : Fin 128) :
    out0_5 (iblk m c 0 t) (iblk m c 1 t) (iblk m c 2 t) (iblk m c 3 t) (ix3 0 r j) = result1 m c (ix3 0 r j) := by
  have hx : ∀ k, (iblk m c 0 t : Vec Ideal S1x128x1024 .f32) (ix3 0 r k) = (m ((c : Thread nD τ).loc main_arg0) : FVec Ideal S128x1x1024 .f32) (ix3 r 0 k) := (fun k => (read_x t (V m c main_v167) r k).trans (V_x m c r k))
  have hg : ∀ k, (iblk m c 1 t : Vec Ideal S1x1024 .f32) (ix2 0 k) = (m ((c : Thread nD τ).loc main_arg1) : FVec Ideal S1024 .f32) (ix1 k) :=
    fun k => (read_g t (V m c main_v168) k).trans (V_g m c k)
  have hw : ∀ k, (iblk m c 2 t : Vec Ideal S1024x2816 .bf16) (ix2 k ⟨128 + j.val, by omega⟩)
      = (m ((c : Thread nD τ).loc main_arg2) : FVec Ideal S1024x2840 .f32) (ix2 k ⟨640 + j.val, by omega⟩) := fun k =>
    (read_w t (V m c main_v165) k ⟨128 + j.val, by omega⟩).trans ((V_w1 m c k (128 + j.val) (by omega) (by omega)).trans
      (same_col (m ((c : Thread nD τ).loc main_arg2)) k (by dsimp only; omega)))
  refine (tile_1 (iblk m c 0 t) (iblk m c 1 t) (iblk m c 2 t) (iblk m c 3 t) r j).trans ?_
  refine (entry_congr (j := (⟨640 + j.val, by omega⟩ : Fin 2840)) (B := fun k l => (m ((c : Thread nD τ).loc main_arg2) : FVec Ideal S1024x2840 .f32) (ix2 k l)) hx hg hw).trans ?_
  exact (narrowA_apply 640 (by decide) (m ((c : Thread nD τ).loc main_arg0)) (m ((c : Thread nD τ).loc main_arg1)) (m ((c : Thread nD τ).loc main_arg2)) 0 r j).symm

theorem final1 (c : Dev nD) : (dats m 0 c).arrAt 5 cfg0.N = result1 m c := by
  refine (dats m 0 c).arrAt_eq_of_covers 5 _ (by decide +kernel) fun t _ y => ?_
  blk_simp
  rw [after0_5]
  have hy : ∀ y : S1x128x128.Idx, out0_5 (iblk m c 0 t) (iblk m c 1 t) (iblk m c 2 t) (iblk m c 3 t) y = result1 m c ((win0_5.blk t).view.emb y) := fun y => by
    idx_vars y
    obtain rfl : y0 = 0 := Subsingleton.elim _ _
    exact (point1 m c t y1 y2).trans (congrArg (result1 m c) (emb5 t y1 y2).symm)
  exact hy y

/-- Result 2 of the arguments as launched. -/
def result2 (c : Dev nD) : FVec Ideal S1x128x128 .f32 :=
  narrowA 768 (by decide) (m ((c : Thread nD τ).loc main_arg0)) (m ((c : Thread nD τ).loc main_arg1)) (m ((c : Thread nD τ).loc main_arg2))

theorem point2 (c : Dev nD) (t : Fin cfg0.N) (r : Fin 128) (j : Fin 128) :
    out0_6 (iblk m c 0 t) (iblk m c 1 t) (iblk m c 2 t) (iblk m c 3 t) (ix3 0 r j) = result2 m c (ix3 0 r j) := by
  have hx : ∀ k, (iblk m c 0 t : Vec Ideal S1x128x1024 .f32) (ix3 0 r k) = (m ((c : Thread nD τ).loc main_arg0) : FVec Ideal S128x1x1024 .f32) (ix3 r 0 k) := (fun k => (read_x t (V m c main_v167) r k).trans (V_x m c r k))
  have hg : ∀ k, (iblk m c 1 t : Vec Ideal S1x1024 .f32) (ix2 0 k) = (m ((c : Thread nD τ).loc main_arg1) : FVec Ideal S1024 .f32) (ix1 k) :=
    fun k => (read_g t (V m c main_v168) k).trans (V_g m c k)
  have hw : ∀ k, (iblk m c 2 t : Vec Ideal S1024x2816 .bf16) (ix2 k ⟨256 + j.val, by omega⟩)
      = (m ((c : Thread nD τ).loc main_arg2) : FVec Ideal S1024x2840 .f32) (ix2 k ⟨768 + j.val, by omega⟩) := fun k =>
    (read_w t (V m c main_v165) k ⟨256 + j.val, by omega⟩).trans ((V_w2 m c k (256 + j.val) (by omega) (by omega)).trans
      (same_col (m ((c : Thread nD τ).loc main_arg2)) k (by dsimp only; omega)))
  refine (tile_2 (iblk m c 0 t) (iblk m c 1 t) (iblk m c 2 t) (iblk m c 3 t) r j).trans ?_
  refine (entry_congr (j := (⟨768 + j.val, by omega⟩ : Fin 2840)) (B := fun k l => (m ((c : Thread nD τ).loc main_arg2) : FVec Ideal S1024x2840 .f32) (ix2 k l)) hx hg hw).trans ?_
  exact (narrowA_apply 768 (by decide) (m ((c : Thread nD τ).loc main_arg0)) (m ((c : Thread nD τ).loc main_arg1)) (m ((c : Thread nD τ).loc main_arg2)) 0 r j).symm

theorem final2 (c : Dev nD) : (dats m 0 c).arrAt 6 cfg0.N = result2 m c := by
  refine (dats m 0 c).arrAt_eq_of_covers 6 _ (by decide +kernel) fun t _ y => ?_
  blk_simp
  rw [after0_6]
  have hy : ∀ y : S1x128x128.Idx, out0_6 (iblk m c 0 t) (iblk m c 1 t) (iblk m c 2 t) (iblk m c 3 t) y = result2 m c ((win0_6.blk t).view.emb y) := fun y => by
    idx_vars y
    obtain rfl : y0 = 0 := Subsingleton.elim _ _
    exact (point2 m c t y1 y2).trans (congrArg (result2 m c) (emb6 t y1 y2).symm)
  exact hy y

/-- Result 3 of the arguments as launched. -/
def result3 (c : Dev nD) : FVec Ideal S1x128x128 .f32 :=
  narrowA 896 (by decide) (m ((c : Thread nD τ).loc main_arg0)) (m ((c : Thread nD τ).loc main_arg1)) (m ((c : Thread nD τ).loc main_arg2))

theorem point3 (c : Dev nD) (t : Fin cfg0.N) (r : Fin 128) (j : Fin 128) :
    out0_7 (iblk m c 0 t) (iblk m c 1 t) (iblk m c 2 t) (iblk m c 3 t) (ix3 0 r j) = result3 m c (ix3 0 r j) := by
  have hx : ∀ k, (iblk m c 0 t : Vec Ideal S1x128x1024 .f32) (ix3 0 r k) = (m ((c : Thread nD τ).loc main_arg0) : FVec Ideal S128x1x1024 .f32) (ix3 r 0 k) := (fun k => (read_x t (V m c main_v167) r k).trans (V_x m c r k))
  have hg : ∀ k, (iblk m c 1 t : Vec Ideal S1x1024 .f32) (ix2 0 k) = (m ((c : Thread nD τ).loc main_arg1) : FVec Ideal S1024 .f32) (ix1 k) :=
    fun k => (read_g t (V m c main_v168) k).trans (V_g m c k)
  have hw : ∀ k, (iblk m c 2 t : Vec Ideal S1024x2816 .bf16) (ix2 k ⟨384 + j.val, by omega⟩)
      = (m ((c : Thread nD τ).loc main_arg2) : FVec Ideal S1024x2840 .f32) (ix2 k ⟨896 + j.val, by omega⟩) := fun k =>
    (read_w t (V m c main_v165) k ⟨384 + j.val, by omega⟩).trans ((V_w3 m c k (384 + j.val) (by omega) (by omega)).trans
      (same_col (m ((c : Thread nD τ).loc main_arg2)) k (by dsimp only; omega)))
  refine (tile_3 (iblk m c 0 t) (iblk m c 1 t) (iblk m c 2 t) (iblk m c 3 t) r j).trans ?_
  refine (entry_congr (j := (⟨896 + j.val, by omega⟩ : Fin 2840)) (B := fun k l => (m ((c : Thread nD τ).loc main_arg2) : FVec Ideal S1024x2840 .f32) (ix2 k l)) hx hg hw).trans ?_
  exact (narrowA_apply 896 (by decide) (m ((c : Thread nD τ).loc main_arg0)) (m ((c : Thread nD τ).loc main_arg1)) (m ((c : Thread nD τ).loc main_arg2)) 0 r j).symm

theorem final3 (c : Dev nD) : (dats m 0 c).arrAt 7 cfg0.N = result3 m c := by
  refine (dats m 0 c).arrAt_eq_of_covers 7 _ (by decide +kernel) fun t _ y => ?_
  blk_simp
  rw [after0_7]
  have hy : ∀ y : S1x128x128.Idx, out0_7 (iblk m c 0 t) (iblk m c 1 t) (iblk m c 2 t) (iblk m c 3 t) y = result3 m c ((win0_7.blk t).view.emb y) := fun y => by
    idx_vars y
    obtain rfl : y0 = 0 := Subsingleton.elim _ _
    exact (point3 m c t y1 y2).trans (congrArg (result3 m c) (emb7 t y1 y2).symm)
  exact hy y

/-- Result 4 of the arguments as launched. -/
def result4 (c : Dev nD) : FVec Ideal S1x128x128 .f32 :=
  narrowA 1024 (by decide) (m ((c : Thread nD τ).loc main_arg0)) (m ((c : Thread nD τ).loc main_arg1)) (m ((c : Thread nD τ).loc main_arg2))

theorem point4 (c : Dev nD) (t : Fin cfg0.N) (r : Fin 128) (j : Fin 128) :
    out0_8 (iblk m c 0 t) (iblk m c 1 t) (iblk m c 2 t) (iblk m c 3 t) (ix3 0 r j) = result4 m c (ix3 0 r j) := by
  have hx : ∀ k, (iblk m c 0 t : Vec Ideal S1x128x1024 .f32) (ix3 0 r k) = (m ((c : Thread nD τ).loc main_arg0) : FVec Ideal S128x1x1024 .f32) (ix3 r 0 k) := (fun k => (read_x t (V m c main_v167) r k).trans (V_x m c r k))
  have hg : ∀ k, (iblk m c 1 t : Vec Ideal S1x1024 .f32) (ix2 0 k) = (m ((c : Thread nD τ).loc main_arg1) : FVec Ideal S1024 .f32) (ix1 k) :=
    fun k => (read_g t (V m c main_v168) k).trans (V_g m c k)
  have hw : ∀ k, (iblk m c 2 t : Vec Ideal S1024x2816 .bf16) (ix2 k ⟨512 + j.val, by omega⟩)
      = (m ((c : Thread nD τ).loc main_arg2) : FVec Ideal S1024x2840 .f32) (ix2 k ⟨1024 + j.val, by omega⟩) := fun k =>
    (read_w t (V m c main_v165) k ⟨512 + j.val, by omega⟩).trans ((V_w4 m c k (512 + j.val) (by omega) (by omega)).trans
      (same_col (m ((c : Thread nD τ).loc main_arg2)) k (by dsimp only; omega)))
  refine (tile_4 (iblk m c 0 t) (iblk m c 1 t) (iblk m c 2 t) (iblk m c 3 t) r j).trans ?_
  refine (entry_congr (j := (⟨1024 + j.val, by omega⟩ : Fin 2840)) (B := fun k l => (m ((c : Thread nD τ).loc main_arg2) : FVec Ideal S1024x2840 .f32) (ix2 k l)) hx hg hw).trans ?_
  exact (narrowA_apply 1024 (by decide) (m ((c : Thread nD τ).loc main_arg0)) (m ((c : Thread nD τ).loc main_arg1)) (m ((c : Thread nD τ).loc main_arg2)) 0 r j).symm

theorem final4 (c : Dev nD) : (dats m 0 c).arrAt 8 cfg0.N = result4 m c := by
  refine (dats m 0 c).arrAt_eq_of_covers 8 _ (by decide +kernel) fun t _ y => ?_
  blk_simp
  rw [after0_8]
  have hy : ∀ y : S1x128x128.Idx, out0_8 (iblk m c 0 t) (iblk m c 1 t) (iblk m c 2 t) (iblk m c 3 t) y = result4 m c ((win0_8.blk t).view.emb y) := fun y => by
    idx_vars y
    obtain rfl : y0 = 0 := Subsingleton.elim _ _
    exact (point4 m c t y1 y2).trans (congrArg (result4 m c) (emb8 t y1 y2).symm)
  exact hy y

/-- Result 5 of the arguments as launched. -/
def result5 (c : Dev nD) : FVec Ideal S1x128x128 .f32 :=
  narrowA 1152 (by decide) (m ((c : Thread nD τ).loc main_arg0)) (m ((c : Thread nD τ).loc main_arg1)) (m ((c : Thread nD τ).loc main_arg2))

theorem point5 (c : Dev nD) (t : Fin cfg0.N) (r : Fin 128) (j : Fin 128) :
    out0_9 (iblk m c 0 t) (iblk m c 1 t) (iblk m c 2 t) (iblk m c 3 t) (ix3 0 r j) = result5 m c (ix3 0 r j) := by
  have hx : ∀ k, (iblk m c 0 t : Vec Ideal S1x128x1024 .f32) (ix3 0 r k) = (m ((c : Thread nD τ).loc main_arg0) : FVec Ideal S128x1x1024 .f32) (ix3 r 0 k) := (fun k => (read_x t (V m c main_v167) r k).trans (V_x m c r k))
  have hg : ∀ k, (iblk m c 1 t : Vec Ideal S1x1024 .f32) (ix2 0 k) = (m ((c : Thread nD τ).loc main_arg1) : FVec Ideal S1024 .f32) (ix1 k) :=
    fun k => (read_g t (V m c main_v168) k).trans (V_g m c k)
  have hw : ∀ k, (iblk m c 2 t : Vec Ideal S1024x2816 .bf16) (ix2 k ⟨640 + j.val, by omega⟩)
      = (m ((c : Thread nD τ).loc main_arg2) : FVec Ideal S1024x2840 .f32) (ix2 k ⟨1152 + j.val, by omega⟩) := fun k =>
    (read_w t (V m c main_v165) k ⟨640 + j.val, by omega⟩).trans ((V_w5 m c k (640 + j.val) (by omega) (by omega)).trans
      (same_col (m ((c : Thread nD τ).loc main_arg2)) k (by dsimp only; omega)))
  refine (tile_5 (iblk m c 0 t) (iblk m c 1 t) (iblk m c 2 t) (iblk m c 3 t) r j).trans ?_
  refine (entry_congr (j := (⟨1152 + j.val, by omega⟩ : Fin 2840)) (B := fun k l => (m ((c : Thread nD τ).loc main_arg2) : FVec Ideal S1024x2840 .f32) (ix2 k l)) hx hg hw).trans ?_
  exact (narrowA_apply 1152 (by decide) (m ((c : Thread nD τ).loc main_arg0)) (m ((c : Thread nD τ).loc main_arg1)) (m ((c : Thread nD τ).loc main_arg2)) 0 r j).symm

theorem final5 (c : Dev nD) : (dats m 0 c).arrAt 9 cfg0.N = result5 m c := by
  refine (dats m 0 c).arrAt_eq_of_covers 9 _ (by decide +kernel) fun t _ y => ?_
  blk_simp
  rw [after0_9]
  have hy : ∀ y : S1x128x128.Idx, out0_9 (iblk m c 0 t) (iblk m c 1 t) (iblk m c 2 t) (iblk m c 3 t) y = result5 m c ((win0_9.blk t).view.emb y) := fun y => by
    idx_vars y
    obtain rfl : y0 = 0 := Subsingleton.elim _ _
    exact (point5 m c t y1 y2).trans (congrArg (result5 m c) (emb9 t y1 y2).symm)
  exact hy y

/-- Result 6 of the arguments as launched. -/
def result6 (c : Dev nD) : FVec Ideal S1x128x512 .f32 :=
  wideA 1816 (by decide) (m ((c : Thread nD τ).loc main_arg0)) (m ((c : Thread nD τ).loc main_arg1)) (m ((c : Thread nD τ).loc main_arg2))

theorem point6 (c : Dev nD) (t : Fin cfg0.N) (r : Fin 128) (j : Fin 512) :
    out0_10 (iblk m c 0 t) (iblk m c 1 t) (iblk m c 2 t) (iblk m c 3 t) (ix3 0 r j) = result6 m c (ix3 0 r j) := by
  have hx : ∀ k, (iblk m c 0 t : Vec Ideal S1x128x1024 .f32) (ix3 0 r k) = (m ((c : Thread nD τ).loc main_arg0) : FVec Ideal S128x1x1024 .f32) (ix3 r 0 k) := (fun k => (read_x t (V m c main_v167) r k).trans (V_x m c r k))
  have hg : ∀ k, (iblk m c 1 t : Vec Ideal S1x1024 .f32) (ix2 0 k) = (m ((c : Thread nD τ).loc main_arg1) : FVec Ideal S1024 .f32) (ix1 k) :=
    fun k => (read_g t (V m c main_v168) k).trans (V_g m c k)
  have hw : ∀ k, (iblk m c 2 t : Vec Ideal S1024x2816 .bf16) (ix2 k ⟨768 + j.val, by omega⟩)
      = (m ((c : Thread nD τ).loc main_arg2) : FVec Ideal S1024x2840 .f32) (ix2 k ⟨1816 + j.val, by omega⟩) := fun k =>
    (read_w t (V m c main_v165) k ⟨768 + j.val, by omega⟩).trans ((V_w6 m c k (768 + j.val) (by omega) (by omega)).trans
      (same_col (m ((c : Thread nD τ).loc main_arg2)) k (by dsimp only; omega)))
  refine (tile_6 (iblk m c 0 t) (iblk m c 1 t) (iblk m c 2 t) (iblk m c 3 t) r j).trans ?_
  refine (entry_congr (j := (⟨1816 + j.val, by omega⟩ : Fin 2840)) (B := fun k l => (m ((c : Thread nD τ).loc main_arg2) : FVec Ideal S1024x2840 .f32) (ix2 k l)) hx hg hw).trans ?_
  exact (wideA_apply 1816 (by decide) (m ((c : Thread nD τ).loc main_arg0)) (m ((c : Thread nD τ).loc main_arg1)) (m ((c : Thread nD τ).loc main_arg2)) 0 r j).symm

theorem final6 (c : Dev nD) : (dats m 0 c).arrAt 10 cfg0.N = result6 m c := by
  refine (dats m 0 c).arrAt_eq_of_covers 10 _ (by decide +kernel) fun t _ y => ?_
  blk_simp
  rw [after0_10]
  have hy : ∀ y : S1x128x512.Idx, out0_10 (iblk m c 0 t) (iblk m c 1 t) (iblk m c 2 t) (iblk m c 3 t) y = result6 m c ((win0_10.blk t).view.emb y) := fun y => by
    idx_vars y
    obtain rfl : y0 = 0 := Subsingleton.elim _ _
    exact (point6 m c t y1 y2).trans (congrArg (result6 m c) (emb10 t y1 y2).symm)
  exact hy y

/-- Result 7 of the arguments as launched. -/
def result7 (c : Dev nD) : FVec Ideal S1x128x512 .f32 :=
  wideA 2328 (by decide) (m ((c : Thread nD τ).loc main_arg0)) (m ((c : Thread nD τ).loc main_arg1)) (m ((c : Thread nD τ).loc main_arg2))

theorem point7 (c : Dev nD) (t : Fin cfg0.N) (r : Fin 128) (j : Fin 512) :
    out0_11 (iblk m c 0 t) (iblk m c 1 t) (iblk m c 2 t) (iblk m c 3 t) (ix3 0 r j) = result7 m c (ix3 0 r j) := by
  have hx : ∀ k, (iblk m c 0 t : Vec Ideal S1x128x1024 .f32) (ix3 0 r k) = (m ((c : Thread nD τ).loc main_arg0) : FVec Ideal S128x1x1024 .f32) (ix3 r 0 k) := (fun k => (read_x t (V m c main_v167) r k).trans (V_x m c r k))
  have hg : ∀ k, (iblk m c 1 t : Vec Ideal S1x1024 .f32) (ix2 0 k) = (m ((c : Thread nD τ).loc main_arg1) : FVec Ideal S1024 .f32) (ix1 k) :=
    fun k => (read_g t (V m c main_v168) k).trans (V_g m c k)
  have hw : ∀ k, (iblk m c 2 t : Vec Ideal S1024x2816 .bf16) (ix2 k ⟨1280 + j.val, by omega⟩)
      = (m ((c : Thread nD τ).loc main_arg2) : FVec Ideal S1024x2840 .f32) (ix2 k ⟨2328 + j.val, by omega⟩) := fun k =>
    (read_w t (V m c main_v165) k ⟨1280 + j.val, by omega⟩).trans ((V_w7 m c k (1280 + j.val) (by omega) (by omega)).trans
      (same_col (m ((c : Thread nD τ).loc main_arg2)) k (by dsimp only; omega)))
  refine (tile_7 (iblk m c 0 t) (iblk m c 1 t) (iblk m c 2 t) (iblk m c 3 t) r j).trans ?_
  refine (entry_congr (j := (⟨2328 + j.val, by omega⟩ : Fin 2840)) (B := fun k l => (m ((c : Thread nD τ).loc main_arg2) : FVec Ideal S1024x2840 .f32) (ix2 k l)) hx hg hw).trans ?_
  exact (wideA_apply 2328 (by decide) (m ((c : Thread nD τ).loc main_arg0)) (m ((c : Thread nD τ).loc main_arg1)) (m ((c : Thread nD τ).loc main_arg2)) 0 r j).symm

theorem final7 (c : Dev nD) : (dats m 0 c).arrAt 11 cfg0.N = result7 m c := by
  refine (dats m 0 c).arrAt_eq_of_covers 11 _ (by decide +kernel) fun t _ y => ?_
  blk_simp
  rw [after0_11]
  have hy : ∀ y : S1x128x512.Idx, out0_11 (iblk m c 0 t) (iblk m c 1 t) (iblk m c 2 t) (iblk m c 3 t) y = result7 m c ((win0_11.blk t).view.emb y) := fun y => by
    idx_vars y
    obtain rfl : y0 = 0 := Subsingleton.elim _ _
    exact (point7 m c t y1 y2).trans (congrArg (result7 m c) (emb11 t y1 y2).symm)
  exact hy y

/-- The run: the eight results are the rows' projections, and the arguments stay. -/
theorem run (ρ : Dev nD → PrngReg) :
    θ_run defs (onTc (τ := τ) (main (F := Ideal))) ⟨m, fun _ => 0, ρ⟩ fun r => ∀ c : Dev nD,
      r.2.mem ((c : Thread nD τ).loc main_v169_0) = result0 m c
      ∧ r.2.mem ((c : Thread nD τ).loc main_v169_1) = result1 m c
      ∧ r.2.mem ((c : Thread nD τ).loc main_v169_2) = result2 m c
      ∧ r.2.mem ((c : Thread nD τ).loc main_v169_3) = result3 m c
      ∧ r.2.mem ((c : Thread nD τ).loc main_v169_4) = result4 m c
      ∧ r.2.mem ((c : Thread nD τ).loc main_v169_5) = result5 m c
      ∧ r.2.mem ((c : Thread nD τ).loc main_v169_6) = result6 m c
      ∧ r.2.mem ((c : Thread nD τ).loc main_v169_7) = result7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final0 m c),
      ((h c).1 5).trans (final1 m c),
      ((h c).1 6).trans (final2 m c),
      ((h c).1 7).trans (final3 m c),
      ((h c).1 8).trans (final4 m c),
      ((h c).1 9).trans (final5 m c),
      ((h c).1 10).trans (final6 m c),
      ((h c).1 11).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel5Ideal.Rows

end
-- ==== Proof.RowsResult.lean ====
/-
  The sample projection's reference over the extended reals: every row is the normalised row through the columns of the projection.
-/
module

public import proofs.«01_k».proof.Proof.ProjRow
public import proofs.«01_k».proof.Proof.Gen.Reference5Ideal.Run
public import Idealize.ShloMosaic.Lib.Pointwise

@[expose] public section

set_option maxRecDepth 16384

noncomputable section

namespace Cert.Reference5Ideal.Rows

open Cert.Reference5Ideal Cert.Reference5Ideal.Gen Cert.Tail
open Idealize.ShloMosaic Idealize.ShloMosaic.TcCoe

/-- The tokens, normalised. -/
def normH (x : FVec Ideal S128x1x1024 .f32) (g : FVec Ideal S1024 .f32) : FVec Ideal S128x1x1024 .f32 :=
  mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 g))

theorem normH_apply (x : FVec Ideal S128x1x1024 .f32) (g : FVec Ideal S1024 .f32) (b : Fin 128) (s : Fin 1) (k : Fin 1024) :
    normH x g (ix3 b s k) = normR (fun k => x (ix3 b s k)) (fun k => g (ix1 k)) k := by
  obtain rfl : s = 0 := Subsingleton.elim _ _
  unfold normH
  pointwise
  rfl

/-- The projection of the normalised tokens. -/
def projH (x : FVec Ideal S128x1x1024 .f32) (g : FVec Ideal S1024 .f32) (w : FVec Ideal S1024x2840 .f32) : FVec Ideal S128x1x2840 .f32 :=
  Host.dotGeneral dot_S128x1x1024_S1024x2840_S128x1x2840_2_0_01_1_n_n none (normH x g) w

theorem projH_apply (x : FVec Ideal S128x1x1024 .f32) (g : FVec Ideal S1024 .f32) (w : FVec Ideal S1024x2840 .f32) (b : Fin 128) (s : Fin 1) (q : Fin 2840) :
    projH x g w (ix3 b s q) = matR (normR (fun k => x (ix3 b s k)) (fun k => g (ix1 k))) (fun k l => w (ix2 k l)) q := by
  unfold projH
  have e : ∀ k, normH x g (ix3 b s k) = normR (fun k => x (ix3 b s k)) (fun k => g (ix1 k)) k := normH_apply x g b s
  generalize normH x g = u at e
  refine Eq.trans (b := ∑ k, u (ix3 b s k) * w (ix2 k q)) (by pointwise) ?_
  exact Finset.sum_congr rfl fun k _ => congrArg (· * w (ix2 k q)) (e k)

/-- Result 0: 128 columns of the projection. -/
def cut0 (z : FVec Ideal S128x1x2840 .f32) : FVec Ideal S1x128x128 .f32 :=
  shapeCast S1x128x128 (extractStridedSlice S128x1x128 ![0, 0, 512] z slices_S128x1x2840_S128x1x128_0_0_512) shapeCasts_S128x1x128_S1x128x128

theorem cut0_apply (z : FVec Ideal S128x1x2840 .f32) (b : Fin 128) (j : Fin 128) :
    cut0 z (ix3 0 b j) = z (ix3 b 0 ⟨512 + j.val, by omega⟩) := by
  unfold cut0
  pointwise

/-- Result 1: 128 columns of the projection. -/
def cut1 (z : FVec Ideal S128x1x2840 .f32) : FVec Ideal S1x128x128 .f32 :=
  shapeCast S1x128x128 (extractStridedSlice S128x1x128 ![0, 0, 640] z slices_S128x1x2840_S128x1x128_0_0_640) shapeCasts_S128x1x128_S1x128x128

theorem cut1_apply (z : FVec Ideal S128x1x2840 .f32) (b : Fin 128) (j : Fin 128) :
    cut1 z (ix3 0 b j) = z (ix3 b 0 ⟨640 + j.val, by omega⟩) := by
  unfold cut1
  pointwise

/-- Result 2: 128 columns of the projection. -/
def cut2 (z : FVec Ideal S128x1x2840 .f32) : FVec Ideal S1x128x128 .f32 :=
  shapeCast S1x128x128 (extractStridedSlice S128x1x128 ![0, 0, 768] z slices_S128x1x2840_S128x1x128_0_0_768) shapeCasts_S128x1x128_S1x128x128

theorem cut2_apply (z : FVec Ideal S128x1x2840 .f32) (b : Fin 128) (j : Fin 128) :
    cut2 z (ix3 0 b j) = z (ix3 b 0 ⟨768 + j.val, by omega⟩) := by
  unfold cut2
  pointwise

/-- Result 3: 128 columns of the projection. -/
def cut3 (z : FVec Ideal S128x1x2840 .f32) : FVec Ideal S1x128x128 .f32 :=
  shapeCast S1x128x128 (extractStridedSlice S128x1x128 ![0, 0, 896] z slices_S128x1x2840_S128x1x128_0_0_896) shapeCasts_S128x1x128_S1x128x128

theorem cut3_apply (z : FVec Ideal S128x1x2840 .f32) (b : Fin 128) (j : Fin 128) :
    cut3 z (ix3 0 b j) = z (ix3 b 0 ⟨896 + j.val, by omega⟩) := by
  unfold cut3
  pointwise

/-- Result 4: 128 columns of the projection. -/
def cut4 (z : FVec Ideal S128x1x2840 .f32) : FVec Ideal S1x128x128 .f32 :=
  shapeCast S1x128x128 (extractStridedSlice S128x1x128 ![0, 0, 1024] z slices_S128x1x2840_S128x1x128_0_0_1024) shapeCasts_S128x1x128_S1x128x128

theorem cut4_apply (z : FVec Ideal S128x1x2840 .f32) (b : Fin 128) (j : Fin 128) :
    cut4 z (ix3 0 b j) = z (ix3 b 0 ⟨1024 + j.val, by omega⟩) := by
  unfold cut4
  pointwise

/-- Result 5: 128 columns of the projection. -/
def cut5 (z : FVec Ideal S128x1x2840 .f32) : FVec Ideal S1x128x128 .f32 :=
  shapeCast S1x128x128 (extractStridedSlice S128x1x128 ![0, 0, 1152] z slices_S128x1x2840_S128x1x128_0_0_1152) shapeCasts_S128x1x128_S1x128x128

theorem cut5_apply (z : FVec Ideal S128x1x2840 .f32) (b : Fin 128) (j : Fin 128) :
    cut5 z (ix3 0 b j) = z (ix3 b 0 ⟨1152 + j.val, by omega⟩) := by
  unfold cut5
  pointwise

/-- Result 6: 512 columns of the projection. -/
def cut6 (z : FVec Ideal S128x1x2840 .f32) : FVec Ideal S1x128x512 .f32 :=
  shapeCast S1x128x512 (extractStridedSlice S128x1x512 ![0, 0, 1816] z slices_S128x1x2840_S128x1x512_0_0_1816) shapeCasts_S128x1x512_S1x128x512

theorem cut6_apply (z : FVec Ideal S128x1x2840 .f32) (b : Fin 128) (j : Fin 512) :
    cut6 z (ix3 0 b j) = z (ix3 b 0 ⟨1816 + j.val, by omega⟩) := by
  unfold cut6
  pointwise

/-- Result 7: 512 columns of the projection. -/
def cut7 (z : FVec Ideal S128x1x2840 .f32) : FVec Ideal S1x128x512 .f32 :=
  shapeCast S1x128x512 (extractStridedSlice S128x1x512 ![0, 0, 2328] z slices_S128x1x2840_S128x1x512_0_0_2328) shapeCasts_S128x1x512_S1x128x512

theorem cut7_apply (z : FVec Ideal S128x1x2840 .f32) (b : Fin 128) (j : Fin 512) :
    cut7 z (ix3 0 b j) = z (ix3 b 0 ⟨2328 + j.val, by omega⟩) := by
  unfold cut7
  pointwise

end Cert.Reference5Ideal.Rows

end
-- ==== Proof.RowsAlgebraic.lean ====
/-
  The sample projection's cache results equal their reference's over the extended reals, for all arguments.
-/
module

public import proofs.«01_k».proof.Defs
public import proofs.«01_k».proof.Proof.RowsFinal
public import proofs.«01_k».proof.Proof.RowsResult

@[expose] public section

noncomputable section

namespace Cert.Proof

open Idealize.ShloMosaic Idealize.ShloMosaic.TcCoe Idealize.SL.Sem

theorem rows_eq0 (x : FVec Ideal Cert.Reference5Ideal.S128x1x1024 .f32) (g : FVec Ideal Cert.Reference5Ideal.S1024 .f32) (w : FVec Ideal Cert.Reference5Ideal.S1024x2840 .f32) :
    Cert.Reference5Ideal.Rows.cut0 (Cert.Reference5Ideal.Rows.projH x g w) = Cert.Kernel5Ideal.Rows.narrowA 512 (by decide) x g w := by
  funext y
  idx_vars y
  obtain rfl : y0 = 0 := Subsingleton.elim _ _
  exact (Cert.Reference5Ideal.Rows.cut0_apply _ y1 y2).trans (Cert.Reference5Ideal.Rows.projH_apply x g w y1 0 _)

theorem rows_eq1 (x : FVec Ideal Cert.Reference5Ideal.S128x1x1024 .f32) (g : FVec Ideal Cert.Reference5Ideal.S1024 .f32) (w : FVec Ideal Cert.Reference5Ideal.S1024x2840 .f32) :
    Cert.Reference5Ideal.Rows.cut1 (Cert.Reference5Ideal.Rows.projH x g w) = Cert.Kernel5Ideal.Rows.narrowA 640 (by decide) x g w := by
  funext y
  idx_vars y
  obtain rfl : y0 = 0 := Subsingleton.elim _ _
  exact (Cert.Reference5Ideal.Rows.cut1_apply _ y1 y2).trans (Cert.Reference5Ideal.Rows.projH_apply x g w y1 0 _)

theorem rows_eq2 (x : FVec Ideal Cert.Reference5Ideal.S128x1x1024 .f32) (g : FVec Ideal Cert.Reference5Ideal.S1024 .f32) (w : FVec Ideal Cert.Reference5Ideal.S1024x2840 .f32) :
    Cert.Reference5Ideal.Rows.cut2 (Cert.Reference5Ideal.Rows.projH x g w) = Cert.Kernel5Ideal.Rows.narrowA 768 (by decide) x g w := by
  funext y
  idx_vars y
  obtain rfl : y0 = 0 := Subsingleton.elim _ _
  exact (Cert.Reference5Ideal.Rows.cut2_apply _ y1 y2).trans (Cert.Reference5Ideal.Rows.projH_apply x g w y1 0 _)

theorem rows_eq3 (x : FVec Ideal Cert.Reference5Ideal.S128x1x1024 .f32) (g : FVec Ideal Cert.Reference5Ideal.S1024 .f32) (w : FVec Ideal Cert.Reference5Ideal.S1024x2840 .f32) :
    Cert.Reference5Ideal.Rows.cut3 (Cert.Reference5Ideal.Rows.projH x g w) = Cert.Kernel5Ideal.Rows.narrowA 896 (by decide) x g w := by
  funext y
  idx_vars y
  obtain rfl : y0 = 0 := Subsingleton.elim _ _
  exact (Cert.Reference5Ideal.Rows.cut3_apply _ y1 y2).trans (Cert.Reference5Ideal.Rows.projH_apply x g w y1 0 _)

theorem rows_eq4 (x : FVec Ideal Cert.Reference5Ideal.S128x1x1024 .f32) (g : FVec Ideal Cert.Reference5Ideal.S1024 .f32) (w : FVec Ideal Cert.Reference5Ideal.S1024x2840 .f32) :
    Cert.Reference5Ideal.Rows.cut4 (Cert.Reference5Ideal.Rows.projH x g w) = Cert.Kernel5Ideal.Rows.narrowA 1024 (by decide) x g w := by
  funext y
  idx_vars y
  obtain rfl : y0 = 0 := Subsingleton.elim _ _
  exact (Cert.Reference5Ideal.Rows.cut4_apply _ y1 y2).trans (Cert.Reference5Ideal.Rows.projH_apply x g w y1 0 _)

theorem rows_eq5 (x : FVec Ideal Cert.Reference5Ideal.S128x1x1024 .f32) (g : FVec Ideal Cert.Reference5Ideal.S1024 .f32) (w : FVec Ideal Cert.Reference5Ideal.S1024x2840 .f32) :
    Cert.Reference5Ideal.Rows.cut5 (Cert.Reference5Ideal.Rows.projH x g w) = Cert.Kernel5Ideal.Rows.narrowA 1152 (by decide) x g w := by
  funext y
  idx_vars y
  obtain rfl : y0 = 0 := Subsingleton.elim _ _
  exact (Cert.Reference5Ideal.Rows.cut5_apply _ y1 y2).trans (Cert.Reference5Ideal.Rows.projH_apply x g w y1 0 _)

theorem rows_eq6 (x : FVec Ideal Cert.Reference5Ideal.S128x1x1024 .f32) (g : FVec Ideal Cert.Reference5Ideal.S1024 .f32) (w : FVec Ideal Cert.Reference5Ideal.S1024x2840 .f32) :
    Cert.Reference5Ideal.Rows.cut6 (Cert.Reference5Ideal.Rows.projH x g w) = Cert.Kernel5Ideal.Rows.wideA 1816 (by decide) x g w := by
  funext y
  idx_vars y
  obtain rfl : y0 = 0 := Subsingleton.elim _ _
  exact (Cert.Reference5Ideal.Rows.cut6_apply _ y1 y2).trans (Cert.Reference5Ideal.Rows.projH_apply x g w y1 0 _)

theorem rows_eq7 (x : FVec Ideal Cert.Reference5Ideal.S128x1x1024 .f32) (g : FVec Ideal Cert.Reference5Ideal.S1024 .f32) (w : FVec Ideal Cert.Reference5Ideal.S1024x2840 .f32) :
    Cert.Reference5Ideal.Rows.cut7 (Cert.Reference5Ideal.Rows.projH x g w) = Cert.Kernel5Ideal.Rows.wideA 2328 (by decide) x g w := by
  funext y
  idx_vars y
  obtain rfl : y0 = 0 := Subsingleton.elim _ _
  exact (Cert.Reference5Ideal.Rows.cut7_apply _ y1 y2).trans (Cert.Reference5Ideal.Rows.projH_apply x g w y1 0 _)

theorem algebraic_rows :
    Cert.algebraic_Kernel5Ideal_Reference5Ideal (hKernel5Ideal := Cert.Kernel5Ideal.Gen.facts) (hReference5Ideal := Cert.Reference5Ideal.Gen.facts) := by
  intro m g m' g' _ hargs
  refine ⟨fun c => Cert.Kernel5Ideal.Rows.result0 m c, fun c => Cert.Kernel5Ideal.Rows.result1 m c, fun c => Cert.Kernel5Ideal.Rows.result2 m c, fun c => Cert.Kernel5Ideal.Rows.result3 m c, fun c => Cert.Kernel5Ideal.Rows.result4 m c, fun c => Cert.Kernel5Ideal.Rows.result5 m c, fun c => Cert.Kernel5Ideal.Rows.result6 m c, fun c => Cert.Kernel5Ideal.Rows.result7 m c, Cert.Kernel5Ideal.Rows.run m g, ?_⟩
  refine (θ_run Cert.Reference5Ideal.defs _ _).mono (fun r h c => ?_) (Cert.Reference5Ideal.Value.run m' g')
  obtain ⟨e0, e1, e2⟩ := hargs c
  obtain ⟨h0, h1, h2, h3, h4, h5, h6, h7, hk⟩ := h c
  exact ⟨h0.trans ((rows_eq0 _ _ _).trans (Cert.Kernel5Ideal.Rows.narrowA_congr _ _ e0 e1 e2)),
    h1.trans ((rows_eq1 _ _ _).trans (Cert.Kernel5Ideal.Rows.narrowA_congr _ _ e0 e1 e2)),
    h2.trans ((rows_eq2 _ _ _).trans (Cert.Kernel5Ideal.Rows.narrowA_congr _ _ e0 e1 e2)),
    h3.trans ((rows_eq3 _ _ _).trans (Cert.Kernel5Ideal.Rows.narrowA_congr _ _ e0 e1 e2)),
    h4.trans ((rows_eq4 _ _ _).trans (Cert.Kernel5Ideal.Rows.narrowA_congr _ _ e0 e1 e2)),
    h5.trans ((rows_eq5 _ _ _).trans (Cert.Kernel5Ideal.Rows.narrowA_congr _ _ e0 e1 e2)),
    h6.trans ((rows_eq6 _ _ _).trans (Cert.Kernel5Ideal.Rows.wideA_congr _ _ e0 e1 e2)),
    h7.trans ((rows_eq7 _ _ _).trans (Cert.Kernel5Ideal.Rows.wideA_congr _ _ e0 e1 e2)), hk⟩

end Cert.Proof

end
-- ==== Proof.FirstArray.lean ====
/-
  The sample tail's first part's arrays over the extended reals: what the host hands to the call, and the blocks of its single grid point.
-/
module

public import proofs.«01_k».proof.Proof.Gen.Kernel6Ideal.Frame
public import Idealize.ShloMosaic.Lib.Pointwise
public import Idealize.ShloMosaic.Lib.StableHlo.RunRead
public import Idealize.ShloMosaic.Lib.Pipeline.ValueKit

@[expose] public section

set_option maxRecDepth 16384
set_option maxHeartbeats 4000000

noncomputable section

namespace Cert.Kernel6Ideal.First

open Cert.Kernel6Ideal Cert.Kernel6Ideal.Gen
open Idealize.ShloMosaic Idealize.ShloMosaic.TcCoe

variable (m : (ℓ : Loc nD τ sig) → Buf (Elt Ideal) ℓ)

theorem V_wo (c : Dev nD) (k : Fin 1024) (j : Fin 1024) :
    (V m c main_v0 : FVec Ideal S1024x1024 .bf16) (ix2 k j) = (m ((c : Thread nD τ).loc main_arg3) : FVec Ideal S1024x1024 .f32) (ix2 k j) := by
  entry_read
  pointwise

theorem V_gc (c : Dev nD) (k : Fin 1024) :
    (V m c main_v1 : FVec Ideal S1x1024 .f32) (ix2 0 k) = (m ((c : Thread nD τ).loc main_arg4) : FVec Ideal S1024 .f32) (ix1 k) := by
  entry_read
  pointwise

/-- The scaled weights of the query projection. -/
def scaledW (w : FVec Ideal S1024x256 .f32) (k : Fin 1024) (j : Fin 256) : EReal := w (ix2 k j) * Ideal.ofBits .f32 1040187392#32

theorem V_wq (c : Dev nD) (k : Fin 1024) (j : Fin 256) :
    (V m c main_v4 : FVec Ideal S1024x256 .bf16) (ix2 k j) = scaledW (m ((c : Thread nD τ).loc main_arg5)) k j := by
  unfold scaledW
  entry_read
  pointwise

theorem idx_x : ∀ t : Fin cfg0.N, win0_0.index t (0 : Fin 2) = 0 ∧ win0_0.index t (1 : Fin 2) = 0 :=
  (by decide +kernel : ∀ t : Fin grid0.N, _)

theorem read_x (t : Fin cfg0.N) (X : Vec Ideal S128x1024 .f32) (k : Fin 128) (j : Fin 1024) :
    ((win0_0.blk t).view.read (Elt Ideal) X : Vec Ideal S128x1024 .f32) (ix2 k j) = X (ix2 k j) := by
  obtain ⟨h0, h1⟩ := idx_x t
  blk_ext [h0, h1]

theorem idx_on : ∀ t : Fin cfg0.N, win0_1.index t (0 : Fin 2) = 0 ∧ win0_1.index t (1 : Fin 2) = 0 :=
  (by decide +kernel : ∀ t : Fin grid0.N, _)

theorem read_on (t : Fin cfg0.N) (X : Vec Ideal S128x512 .f32) (k : Fin 128) (j : Fin 512) :
    ((win0_1.blk t).view.read (Elt Ideal) X : Vec Ideal S128x512 .f32) (ix2 k j) = X (ix2 k j) := by
  obtain ⟨h0, h1⟩ := idx_on t
  blk_ext [h0, h1]

theorem idx_ob : ∀ t : Fin cfg0.N, win0_2.index t (0 : Fin 2) = 0 ∧ win0_2.index t (1 : Fin 2) = 0 :=
  (by decide +kernel : ∀ t : Fin grid0.N, _)

theorem read_ob (t : Fin cfg0.N) (X : Vec Ideal S128x512 .f32) (k : Fin 128) (j : Fin 512) :
    ((win0_2.blk t).view.read (Elt Ideal) X : Vec Ideal S128x512 .f32) (ix2 k j) = X (ix2 k j) := by
  obtain ⟨h0, h1⟩ := idx_ob t
  blk_ext [h0, h1]

theorem idx_wo : ∀ t : Fin cfg0.N, win0_3.index t (0 : Fin 2) = 0 ∧ win0_3.index t (1 : Fin 2) = 0 :=
  (by decide +kernel : ∀ t : Fin grid0.N, _)

theorem read_wo (t : Fin cfg0.N) (X : Vec Ideal S1024x1024 .bf16) (k : Fin 1024) (j : Fin 1024) :
    ((win0_3.blk t).view.read (Elt Ideal) X : Vec Ideal S1024x1024 .bf16) (ix2 k j) = X (ix2 k j) := by
  obtain ⟨h0, h1⟩ := idx_wo t
  blk_ext [h0, h1]

theorem idx_gc : ∀ t : Fin cfg0.N, win0_4.index t (0 : Fin 2) = 0 ∧ win0_4.index t (1 : Fin 2) = 0 :=
  (by decide +kernel : ∀ t : Fin grid0.N, _)

theorem read_gc (t : Fin cfg0.N) (X : Vec Ideal S1x1024 .f32) (k : Fin 1) (j : Fin 1024) :
    ((win0_4.blk t).view.read (Elt Ideal) X : Vec Ideal S1x1024 .f32) (ix2 k j) = X (ix2 k j) := by
  obtain ⟨h0, h1⟩ := idx_gc t
  blk_ext [h0, h1]

theorem idx_wq : ∀ t : Fin cfg0.N, win0_5.index t (0 : Fin 2) = 0 ∧ win0_5.index t (1 : Fin 2) = 0 :=
  (by decide +kernel : ∀ t : Fin grid0.N, _)

theorem read_wq (t : Fin cfg0.N) (X : Vec Ideal S1024x256 .bf16) (k : Fin 1024) (j : Fin 256) :
    ((win0_5.blk t).view.read (Elt Ideal) X : Vec Ideal S1024x256 .bf16) (ix2 k j) = X (ix2 k j) := by
  obtain ⟨h0, h1⟩ := idx_wq t
  blk_ext [h0, h1]

theorem idx_h : ∀ t : Fin cfg0.N, win0_6.index t (0 : Fin 2) = 0 ∧ win0_6.index t (1 : Fin 2) = 0 :=
  (by decide +kernel : ∀ t : Fin grid0.N, _)

theorem emb_h (t : Fin cfg0.N) (k : Fin 128) (j : Fin 1024) : (win0_6.blk t).view.emb (ix2 k j) = (ix2 k j : S128x1024.Idx) := by
  obtain ⟨h0, h1⟩ := idx_h t
  blk_ext [h0, h1]

theorem idx_q : ∀ t : Fin cfg0.N, win0_7.index t (0 : Fin 2) = 0 ∧ win0_7.index t (1 : Fin 2) = 0 :=
  (by decide +kernel : ∀ t : Fin grid0.N, _)

theorem emb_q (t : Fin cfg0.N) (k : Fin 128) (j : Fin 256) : (win0_7.blk t).view.emb (ix2 k j) = (ix2 k j : S128x256.Idx) := by
  obtain ⟨h0, h1⟩ := idx_q t
  blk_ext [h0, h1]

end Cert.Kernel6Ideal.First

end
-- ==== Proof.FirstFinal.lean ====
/-
  The sample tail's first part's results over the extended reals: the rows that the call leaves.
-/
module

public import proofs.«01_k».proof.Proof.ProjRow
public import proofs.«01_k».proof.Proof.FirstArray
public import Idealize.ShloMosaic.Lib.Pipeline.ValueKit

@[expose] public section

set_option maxRecDepth 16384
set_option maxHeartbeats 4000000

noncomputable section

namespace Cert.Kernel6Ideal.First

open Cert.Kernel6Ideal Cert.Kernel6Ideal.Gen Cert.Tail
open Idealize.ShloMosaic Idealize.ShloMosaic.TcCoe Idealize.SL.Sem

/-! ### What the grid point writes -/

theorem proj_apply (x0 : Vec Ideal S128x1024 .f32) (x1 x2 : Vec Ideal S128x512 .f32) (x3 : Vec Ideal S1024x1024 .bf16) (r : Fin 128) (j : Fin 1024) :
    k0_pay1 x1 x2 x0 x3 (ix2 r j) = projR (fun k => x0 (ix2 r k)) (fun k => x1 (ix2 r k)) (fun k => x2 (ix2 r k)) (fun k l => x3 (ix2 k l)) j := by
  unfold k0_pay1
  pointwise
  rfl

theorem query_apply (x0 : Vec Ideal S128x1024 .f32) (x1 x2 : Vec Ideal S128x512 .f32) (x3 : Vec Ideal S1024x1024 .bf16) (x4 : Vec Ideal S1x1024 .f32) (x5 : Vec Ideal S1024x256 .bf16)
    (r : Fin 128) (j : Fin 256) :
    k0_pay2 x1 x2 x0 x3 x4 x5 (ix2 r j) = matR (normR (fun k => k0_pay1 x1 x2 x0 x3 (ix2 r k)) (fun k => x4 (ix2 0 k))) (fun k l => x5 (ix2 k l)) j := by
  unfold k0_pay2
  generalize k0_pay1 x1 x2 x0 x3 = z
  pointwise
  rfl

theorem out_h (x0 : Vec Ideal S128x1024 .f32) (x1 : Vec Ideal S128x512 .f32) (x2 : Vec Ideal S128x512 .f32) (x3 : Vec Ideal S1024x1024 .bf16) (x4 : Vec Ideal S1x1024 .f32) (x5 : Vec Ideal S1024x256 .bf16) (y : S128x1024.Idx) :
    out0_6 x0 x1 x2 x3 x4 x5 y = k0_pay1 x1 x2 x0 x3 y := by
  unfold out0_6
  frame_out

theorem out_q (x0 : Vec Ideal S128x1024 .f32) (x1 : Vec Ideal S128x512 .f32) (x2 : Vec Ideal S128x512 .f32) (x3 : Vec Ideal S1024x1024 .bf16) (x4 : Vec Ideal S1x1024 .f32) (x5 : Vec Ideal S1024x256 .bf16) (y : S128x256.Idx) :
    out0_7 x0 x1 x2 x3 x4 x5 y = k0_pay2 x1 x2 x0 x3 x4 x5 y := by
  unfold out0_7
  frame_out

/-- Every token's row after the output projection. -/
def projA (x : FVec Ideal S128x1024 .f32) (on ob : FVec Ideal S128x512 .f32) (wo : FVec Ideal S1024x1024 .f32) : FVec Ideal S128x1024 .f32 := fun y => projR (fun k => x (ix2 (y 0) k)) (fun k => on (ix2 (y 0) k)) (fun k => ob (ix2 (y 0) k)) (fun k l => wo (ix2 k l)) (y 1)

theorem projA_apply (x : FVec Ideal S128x1024 .f32) (on ob : FVec Ideal S128x512 .f32) (wo : FVec Ideal S1024x1024 .f32) (r : Fin 128) (j : Fin 1024) :
    projA x on ob wo (ix2 r j) = projR (fun k => x (ix2 r k)) (fun k => on (ix2 r k)) (fun k => ob (ix2 r k)) (fun k l => wo (ix2 k l)) j :=
  rfl

/-- Every token's scaled queries for the cross-attention. -/
def queryA (x : FVec Ideal S128x1024 .f32) (on ob : FVec Ideal S128x512 .f32) (wo : FVec Ideal S1024x1024 .f32) (gc : FVec Ideal S1024 .f32) (wq : FVec Ideal S1024x256 .f32) : FVec Ideal S128x256 .f32 := fun y =>
  matR (normR (projR (fun k => x (ix2 (y 0) k)) (fun k => on (ix2 (y 0) k)) (fun k => ob (ix2 (y 0) k)) (fun k l => wo (ix2 k l))) (fun k => gc (ix1 k))) (fun k l => wq (ix2 k l) * Ideal.ofBits .f32 1040187392#32) (y 1)

theorem queryA_apply (x : FVec Ideal S128x1024 .f32) (on ob : FVec Ideal S128x512 .f32) (wo : FVec Ideal S1024x1024 .f32) (gc : FVec Ideal S1024 .f32) (wq : FVec Ideal S1024x256 .f32) (r : Fin 128) (j : Fin 256) :
    queryA x on ob wo gc wq (ix2 r j)
      = matR (normR (projR (fun k => x (ix2 r k)) (fun k => on (ix2 r k)) (fun k => ob (ix2 r k)) (fun k l => wo (ix2 k l))) (fun k => gc (ix1 k))) (fun k l => wq (ix2 k l) * Ideal.ofBits .f32 1040187392#32) j :=
  rfl

theorem projR_congr {x x' : Fin 1024 → EReal} {on on' ob ob' : Fin 512 → EReal} {w w' : Fin 1024 → Fin 1024 → EReal} (j : Fin 1024)
    (e0 : ∀ k, x k = x' k) (e1 : ∀ k, on k = on' k) (e2 : ∀ k, ob k = ob' k) (e3 : ∀ k l, w k l = w' k l) : projR x on ob w j = projR x' on' ob' w' j := by
  obtain rfl : x = x' := funext e0
  obtain rfl : on = on' := funext e1
  obtain rfl : ob = ob' := funext e2
  obtain rfl : w = w' := funext fun k => funext (e3 k)
  rfl

theorem projA_congr {x x' : FVec Ideal S128x1024 .f32} {on on' ob ob' : FVec Ideal S128x512 .f32} {wo wo' : FVec Ideal S1024x1024 .f32}
    (e0 : x = x') (e1 : on = on') (e2 : ob = ob') (e3 : wo = wo') : projA x on ob wo = projA x' on' ob' wo' := by
  subst e0 e1 e2 e3
  rfl

theorem queryA_congr {x x' : FVec Ideal S128x1024 .f32} {on on' ob ob' : FVec Ideal S128x512 .f32} {wo wo' : FVec Ideal S1024x1024 .f32}
    {gc gc' : FVec Ideal S1024 .f32} {wq wq' : FVec Ideal S1024x256 .f32}
    (e0 : x = x') (e1 : on = on') (e2 : ob = ob') (e3 : wo = wo') (e4 : gc = gc') (e5 : wq = wq') : queryA x on ob wo gc wq = queryA x' on' ob' wo' gc' wq' := by
  subst e0 e1 e2 e3 e4 e5
  rfl

variable (m : (ℓ : Loc nD τ sig) → Buf (Elt Ideal) ℓ)

/-- The residual stream, of the arguments as launched. -/
def result_h (c : Dev nD) : FVec Ideal S128x1024 .f32 :=
  projA (m ((c : Thread nD τ).loc main_arg0)) (m ((c : Thread nD τ).loc main_arg1)) (m ((c : Thread nD τ).loc main_arg2)) (m ((c : Thread nD τ).loc main_arg3))

/-- The scaled queries, of the arguments as launched. -/
def result_q (c : Dev nD) : FVec Ideal S128x256 .f32 :=
  queryA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

theorem point_h (c : Dev nD) (t : Fin cfg0.N) (r : Fin 128) (j : Fin 1024) :
    out0_6 (iblk m c 0 t) (iblk m c 1 t) (iblk m c 2 t) (iblk m c 3 t) (iblk m c 4 t) (iblk m c 5 t) (ix2 r j) = result_h m c (ix2 r j) := by
  have e0 : ∀ k, (iblk m c 0 t : Vec Ideal S128x1024 .f32) (ix2 r k) = (m ((c : Thread nD τ).loc main_arg0) : FVec Ideal S128x1024 .f32) (ix2 r k) :=
    fun k => (read_x t (V m c main_arg0) r k).trans (congrFun (V_main_arg0 m c) _)
  have e1 : ∀ k, (iblk m c 1 t : Vec Ideal S128x512 .f32) (ix2 r k) = (m ((c : Thread nD τ).loc main_arg1) : FVec Ideal S128x512 .f32) (ix2 r k) :=
    fun k => (read_on t (V m c main_arg1) r k).trans (congrFun (V_main_arg1 m c) _)
  have e2 : ∀ k, (iblk m c 2 t : Vec Ideal S128x512 .f32) (ix2 r k) = (m ((c : Thread nD τ).loc main_arg2) : FVec Ideal S128x512 .f32) (ix2 r k) :=
    fun k => (read_ob t (V m c main_arg2) r k).trans (congrFun (V_main_arg2 m c) _)
  have e3 : ∀ k l, (iblk m c 3 t : Vec Ideal S1024x1024 .bf16) (ix2 k l) = (m ((c : Thread nD τ).loc main_arg3) : FVec Ideal S1024x1024 .f32) (ix2 k l) :=
    fun k l => (read_wo t (V m c main_v0) k l).trans (V_wo m c k l)
  refine (out_h (iblk m c 0 t) (iblk m c 1 t) (iblk m c 2 t) (iblk m c 3 t) (iblk m c 4 t) (iblk m c 5 t) _).trans ((proj_apply (iblk m c 0 t) (iblk m c 1 t) (iblk m c 2 t) (iblk m c 3 t) r j).trans ?_)
  refine (projR_congr j e0 e1 e2 e3).trans ?_
  exact (projA_apply (m ((c : Thread nD τ).loc main_arg0)) (m ((c : Thread nD τ).loc main_arg1)) (m ((c : Thread nD τ).loc main_arg2)) (m ((c : Thread nD τ).loc main_arg3)) r j).symm

theorem point_q (c : Dev nD) (t : Fin cfg0.N) (r : Fin 128) (j : Fin 256) :
    out0_7 (iblk m c 0 t) (iblk m c 1 t) (iblk m c 2 t) (iblk m c 3 t) (iblk m c 4 t) (iblk m c 5 t) (ix2 r j) = result_q m c (ix2 r j) := by
  have e0 : ∀ k, (iblk m c 0 t : Vec Ideal S128x1024 .f32) (ix2 r k) = (m ((c : Thread nD τ).loc main_arg0) : FVec Ideal S128x1024 .f32) (ix2 r k) :=
    fun k => (read_x t (V m c main_arg0) r k).trans (congrFun (V_main_arg0 m c) _)
  have e1 : ∀ k, (iblk m c 1 t : Vec Ideal S128x512 .f32) (ix2 r k) = (m ((c : Thread nD τ).loc main_arg1) : FVec Ideal S128x512 .f32) (ix2 r k) :=
    fun k => (read_on t (V m c main_arg1) r k).trans (congrFun (V_main_arg1 m c) _)
  have e2 : ∀ k, (iblk m c 2 t : Vec Ideal S128x512 .f32) (ix2 r k) = (m ((c : Thread nD τ).loc main_arg2) : FVec Ideal S128x512 .f32) (ix2 r k) :=
    fun k => (read_ob t (V m c main_arg2) r k).trans (congrFun (V_main_arg2 m c) _)
  have e3 : ∀ k l, (iblk m c 3 t : Vec Ideal S1024x1024 .bf16) (ix2 k l) = (m ((c : Thread nD τ).loc main_arg3) : FVec Ideal S1024x1024 .f32) (ix2 k l) :=
    fun k l => (read_wo t (V m c main_v0) k l).trans (V_wo m c k l)
  have e4 : ∀ k, (iblk m c 4 t : Vec Ideal S1x1024 .f32) (ix2 0 k) = (m ((c : Thread nD τ).loc main_arg4) : FVec Ideal S1024 .f32) (ix1 k) :=
    fun k => (read_gc t (V m c main_v1) 0 k).trans (V_gc m c k)
  have e5 : ∀ k l, (iblk m c 5 t : Vec Ideal S1024x256 .bf16) (ix2 k l) = scaledW (m ((c : Thread nD τ).loc main_arg5)) k l :=
    fun k l => (read_wq t (V m c main_v4) k l).trans (V_wq m c k l)
  refine (out_q (iblk m c 0 t) (iblk m c 1 t) (iblk m c 2 t) (iblk m c 3 t) (iblk m c 4 t) (iblk m c 5 t) _).trans ((query_apply (iblk m c 0 t) (iblk m c 1 t) (iblk m c 2 t) (iblk m c 3 t) (iblk m c 4 t) (iblk m c 5 t) r j).trans ?_)
  have e : ∀ k, (k0_pay1 (iblk m c 1 t) (iblk m c 2 t) (iblk m c 0 t) (iblk m c 3 t) : FVec Ideal S128x1024 .f32) (ix2 r k) = _ :=
    fun k => (proj_apply (iblk m c 0 t) (iblk m c 1 t) (iblk m c 2 t) (iblk m c 3 t) r k).trans (projR_congr k e0 e1 e2 e3)
  refine (entry_congr e e4 (fun k => e5 k j)).trans ?_
  exact (queryA_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r j).symm

/-- The array is filled by its single block. -/
theorem final_h (c : Dev nD) : (dats m 0 c).arrAt 6 cfg0.N = result_h m c := by
  refine (dats m 0 c).arrAt_eq_of_covers 6 _ (by decide +kernel) fun t _ y => ?_
  blk_simp
  rw [after0_6]
  have hy : ∀ y : S128x1024.Idx, out0_6 (iblk m c 0 t) (iblk m c 1 t) (iblk m c 2 t) (iblk m c 3 t) (iblk m c 4 t) (iblk m c 5 t) y = result_h m c ((win0_6.blk t).view.emb y) := fun y => by
    idx_vars y
    exact (point_h m c t y0 y1).trans (congrArg (result_h m c) (emb_h t y0 y1).symm)
  exact hy y

/-- The array is filled by its single block. -/
theorem final_q (c : Dev nD) : (dats m 0 c).arrAt 7 cfg0.N = result_q m c := by
  refine (dats m 0 c).arrAt_eq_of_covers 7 _ (by decide +kernel) fun t _ y => ?_
  blk_simp
  rw [after0_7]
  have hy : ∀ y : S128x256.Idx, out0_7 (iblk m c 0 t) (iblk m c 1 t) (iblk m c 2 t) (iblk m c 3 t) (iblk m c 4 t) (iblk m c 5 t) y = result_q m c ((win0_7.blk t).view.emb y) := fun y => by
    idx_vars y
    exact (point_q m c t y0 y1).trans (congrArg (result_q m c) (emb_q t y0 y1).symm)
  exact hy y

end Cert.Kernel6Ideal.First

end
-- ==== Proof.FirstResult.lean ====
/-
  The reference of the sample tail's first part over the extended reals, read at an index.
-/
module

public import proofs.«01_k».proof.Proof.ProjRow
public import proofs.«01_k».proof.Proof.TailTile
public import proofs.«01_k».proof.Proof.Gen.Reference6Ideal.Run
public import Idealize.ShloMosaic.Lib.Pointwise

@[expose] public section

set_option maxRecDepth 16384

noncomputable section

namespace Cert.Reference6Ideal.First

open Cert.Reference6Ideal Cert.Reference6Ideal.Gen Cert.Tail
open Idealize.ShloMosaic Idealize.ShloMosaic.TcCoe

/-- The norm of each row. -/
def normH (h : FVec Ideal S128x1024 .f32) (g : FVec Ideal S1024 .f32) : FVec Ideal S128x1024 .f32 :=
  mulf (mulf h (broadcastInDim S128x1024 ![0, 1] bcast_S128x1_S128x1024_0_1
      (Host.rsqrt (addf (Host.divf (broadcastInDim S128x1 ![0] bcast_S128_S128x1_0
        (Host.reduceAdd (mulf h h) (constant S_ .f32 0x00000000#32) reducesTo_S128x1024_S128_d1 h_S_))
        (broadcastInDim S128x1 ![] bcast_S_S128x1 (constant S_ .f32 0x44800000#32)))
        (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

theorem normH_apply (h : FVec Ideal S128x1024 .f32) (g : FVec Ideal S1024 .f32) (r : Fin 128) (j : Fin 1024) :
    normH h g (ix2 r j) = normR (fun k => h (ix2 r k)) (fun k => g (ix1 k)) j := by
  unfold normH
  pointwise
  rfl

/-- The residual stream after the output projection. -/
def projH (x : FVec Ideal S128x1024 .f32) (on ob : FVec Ideal S128x512 .f32) (wo : FVec Ideal S1024x1024 .f32) : FVec Ideal S128x1024 .f32 :=
  addf x (Host.dotGeneral dot_S128x1024_S1024x1024_S128x1024_1_0_0_1_n_n none
    (concatenate S128x1024 1 [⟨S128x512, on⟩, ⟨S128x512, ob⟩] concatenates_S128x512_S128x512_S128x1024_d1) wo)

theorem projH_apply (x : FVec Ideal S128x1024 .f32) (on ob : FVec Ideal S128x512 .f32) (wo : FVec Ideal S1024x1024 .f32) (r : Fin 128) (j : Fin 1024) :
    projH x on ob wo (ix2 r j) = projR (fun k => x (ix2 r k)) (fun k => on (ix2 r k)) (fun k => ob (ix2 r k)) (fun k l => wo (ix2 k l)) j := by
  unfold projH
  pointwise
  rfl

/-- The scaled queries of the rows. -/
def scaledH (h : FVec Ideal S128x1024 .f32) (wq : FVec Ideal S1024x256 .f32) : FVec Ideal S128x256 .f32 :=
  mulf (Host.dotGeneral dot_S128x1024_S1024x256_S128x256_1_0_0_1_n_n none h wq)
    (broadcastInDim S128x256 ![] bcast_S_S128x256 (constant S_ .f32 0x3E000000#32))

theorem scaledH_apply (h : FVec Ideal S128x1024 .f32) (wq : FVec Ideal S1024x256 .f32) (r : Fin 128) (j : Fin 256) :
    scaledH h wq (ix2 r j) = matR (fun k => h (ix2 r k)) (fun k l => wq (ix2 k l) * Ideal.ofBits .f32 1040187392#32) j := by
  unfold scaledH
  refine Eq.trans (b := (∑ k, h (ix2 r k) * wq (ix2 k j)) * Ideal.ofBits .f32 1040187392#32) (by pointwise) ?_
  refine (Cert.Kernel2Ideal.Tail.sum_scale (fun k => h (ix2 r k) * wq (ix2 k j))).symm.trans ?_
  exact Finset.sum_congr rfl fun k _ => mul_assoc _ _ _

/-- The reference's queries. -/
def queryH (x : FVec Ideal S128x1024 .f32) (on ob : FVec Ideal S128x512 .f32) (wo : FVec Ideal S1024x1024 .f32) (gc : FVec Ideal S1024 .f32) (wq : FVec Ideal S1024x256 .f32) : FVec Ideal S128x256 .f32 :=
  scaledH (normH (projH x on ob wo) gc) wq

theorem queryH_apply (x : FVec Ideal S128x1024 .f32) (on ob : FVec Ideal S128x512 .f32) (wo : FVec Ideal S1024x1024 .f32) (gc : FVec Ideal S1024 .f32) (wq : FVec Ideal S1024x256 .f32) (r : Fin 128) (j : Fin 256) :
    queryH x on ob wo gc wq (ix2 r j)
      = matR (normR (projR (fun k => x (ix2 r k)) (fun k => on (ix2 r k)) (fun k => ob (ix2 r k)) (fun k l => wo (ix2 k l))) (fun k => gc (ix1 k))) (fun k l => wq (ix2 k l) * Ideal.ofBits .f32 1040187392#32) j := by
  unfold queryH
  refine (scaledH_apply _ wq r j).trans ?_
  have ep : (fun k => projH x on ob wo (ix2 r k)) = projR (fun k => x (ix2 r k)) (fun k => on (ix2 r k)) (fun k => ob (ix2 r k)) (fun k l => wo (ix2 k l)) := funext fun k => projH_apply x on ob wo r k
  have en : (fun k => normH (projH x on ob wo) gc (ix2 r k)) = _ := funext fun k => normH_apply (projH x on ob wo) gc r k
  rw [en, ep]

end Cert.Reference6Ideal.First

end
-- ==== Proof.FirstAlgebraic.lean ====
/-
  The sample tail's first part equals its reference over the extended reals, for all arguments.
-/
module

public import proofs.«01_k».proof.Defs
public import proofs.«01_k».proof.Proof.FirstFinal
public import proofs.«01_k».proof.Proof.FirstResult
public import proofs.«01_k».proof.Proof.Gen.Kernel6Ideal.Value

@[expose] public section

noncomputable section

namespace Cert.Proof

open Idealize.ShloMosaic Idealize.ShloMosaic.TcCoe Idealize.SL.Sem

open Cert.Reference6Ideal in
theorem first_eq_h (x : FVec Ideal S128x1024 .f32) (on ob : FVec Ideal S128x512 .f32) (wo : FVec Ideal S1024x1024 .f32) :
    Cert.Reference6Ideal.First.projH x on ob wo = Cert.Kernel6Ideal.First.projA x on ob wo := by
  funext y
  idx_vars y
  exact (Cert.Reference6Ideal.First.projH_apply x on ob wo y0 y1).trans (Cert.Kernel6Ideal.First.projA_apply x on ob wo y0 y1).symm

open Cert.Reference6Ideal in
theorem first_eq_q (x : FVec Ideal S128x1024 .f32) (on ob : FVec Ideal S128x512 .f32) (wo : FVec Ideal S1024x1024 .f32) (gc : FVec Ideal S1024 .f32) (wq : FVec Ideal S1024x256 .f32) :
    Cert.Reference6Ideal.First.queryH x on ob wo gc wq = Cert.Kernel6Ideal.First.queryA x on ob wo gc wq := by
  funext y
  idx_vars y
  exact (Cert.Reference6Ideal.First.queryH_apply x on ob wo gc wq y0 y1).trans (Cert.Kernel6Ideal.First.queryA_apply x on ob wo gc wq y0 y1).symm

theorem algebraic_first :
    Cert.algebraic_Kernel6Ideal_Reference6Ideal (hKernel6Ideal := Cert.Kernel6Ideal.Gen.facts) (hReference6Ideal := Cert.Reference6Ideal.Gen.facts) := by
  intro m g m' g' _ hargs
  refine ⟨fun c => Cert.Kernel6Ideal.First.result_h m c, fun c => Cert.Kernel6Ideal.First.result_q m c, ?_, ?_⟩
  · refine (θ_run Cert.Kernel6Ideal.defs _ _).mono (fun r h c => ?_) (Cert.Kernel6Ideal.Value.run_blocks m g)
    exact ⟨(h c).1.trans (Cert.Kernel6Ideal.First.final_h m c), (h c).2.1.trans (Cert.Kernel6Ideal.First.final_q m c), (h c).2.2⟩
  · refine (θ_run Cert.Reference6Ideal.defs _ _).mono (fun r h c => ?_) (Cert.Reference6Ideal.Value.run m' g')
    obtain ⟨e0, e1, e2, e3, e4, e5⟩ := hargs c
    exact ⟨(h c).1.trans ((first_eq_h _ _ _ _).trans (Cert.Kernel6Ideal.First.projA_congr e0 e1 e2 e3)),
      (h c).2.1.trans ((first_eq_q _ _ _ _ _ _).trans (Cert.Kernel6Ideal.First.queryA_congr e0 e1 e2 e3 e4 e5)), (h c).2.2⟩

end Cert.Proof

end
-- ==== Proof.CrossTile.lean ====
/-
  One row of the sample cross-attention over the extended reals: the masked products are sums over a head's own lanes.
-/
module

public import proofs.«01_k».proof.Proof.TailHeads
public import proofs.«01_k».proof.Proof.Gen.Kernel7Ideal.Frame
public import Idealize.ShloMosaic.Lib.Pointwise
public import Idealize.ShloMosaic.Lib.Pipeline.ValueKit

@[expose] public section

set_option maxRecDepth 16384
set_option maxHeartbeats 4000000

noncomputable section

namespace Cert.Kernel7Ideal.Cross

open Cert.Kernel7Ideal Cert.Kernel7Ideal.Gen Cert.Tail
open Idealize.ShloMosaic Idealize.ShloMosaic.TcCoe

/-! ### One row's computation -/

/-- The row's queries, one head per line, the other heads' lanes zero. -/
def maskK (M : IVec S8x256 1) (q : FVec Ideal S1x256 .f32) : FVec Ideal S8x256 .bf16 :=
  truncf .bf16 (select M (broadcastTo S8x256 (shapeCast S1x256 q shapeCasts_S1x256_S1x256) broadcasts_S1x256_S8x256)
    (broadcast S8x256 (Scalar.ofBits (F := Ideal) .f32 0x00000000#32))) bitsLt_bf16_f32

/-- The scores of the lines. -/
def scoreK (u : FVec Ideal S8x256 .bf16) (k : FVec Ideal S1x256x256 .f32) : FVec Ideal S8x256 .f32 :=
  matmul dot_S8x256_S256x256_S8x256_1_1_0_0_n_n none u (truncf .bf16 (shapeCast S256x256 k shapeCasts_S1x256x256_S256x256) bitsLt_bf16_f32)
    (constant S8x256 .f32 0x00000000#32)

/-- The exponentials of the scores less their maximum. -/
def expK (s : FVec Ideal S8x256 .f32) : FVec Ideal S8x256 .f32 :=
  exp (subf s (broadcastTo S8x256 (shapeCast S8x1 (multiReduction .maximumf [1] S8 s 0xFF800000#32 reduces_S8x256_S8 (.inl rfl) rfl)
    shapeCasts_S8_S8x1) broadcasts_S8x1_S8x256))

/-- The weights of the memory tokens. -/
def probK (e : FVec Ideal S8x256 .f32) : FVec Ideal S8x256 .f32 :=
  divf e (broadcastTo S8x256 (shapeCast S8x1 (multiReduction .add [1] S8 e 0x00000000#32 reduces_S8x256_S8 (.inl rfl) rfl)
    shapeCasts_S8_S8x1) broadcasts_S8x1_S8x256)

/-- The lines' outputs, each head's lanes taken from its own line. -/
def takeK (M : IVec S8x256 1) (p : FVec Ideal S8x256 .f32) (v : FVec Ideal S1x256x256 .f32) : FVec Ideal S1x256 .f32 :=
  shapeCast S1x256 (multiReduction .add [0] S256
    (select M (matmul dot_S8x256_S256x256_S8x256_1_0_0_1_n_n none (truncf .bf16 p bitsLt_bf16_f32)
        (truncf .bf16 (shapeCast S256x256 v shapeCasts_S1x256x256_S256x256) bitsLt_bf16_f32) (constant S8x256 .f32 0x00000000#32))
      (broadcast S8x256 (Scalar.ofBits (F := Ideal) .f32 0x00000000#32)))
    0x00000000#32 reduces_S8x256_S256 (.inl rfl) rfl) shapeCasts_S256_S1x256

/-- The row's output. -/
def rowK (M : IVec S8x256 1) (q : FVec Ideal S1x256 .f32) (k v : FVec Ideal S1x256x256 .f32) : FVec Ideal S1x256 .f32 :=
  takeK M (probK (expK (scoreK (maskK M q) k))) v

theorem pay_0 (q : FVec Ideal S8x256 .f32) (k v : FVec Ideal S1x256x256 .f32) :
    k0_pay4 k0_pay2 (k0_pay3 q k) v = rowK k0_pay2 (extractStridedSlice S1x256 ![0, 0] q slices_S8x256_o0_0_S1x256) k v := rfl

theorem pay_1 (q : FVec Ideal S8x256 .f32) (k v : FVec Ideal S1x256x256 .f32) :
    k0_pay6 k0_pay2 (k0_pay5 k0_pay2 q k v) = rowK k0_pay2 (extractStridedSlice S1x256 ![1, 0] q slices_S8x256_o1_0_S1x256) k v := rfl

theorem pay_2 (q : FVec Ideal S8x256 .f32) (k v : FVec Ideal S1x256x256 .f32) :
    k0_pay7 k0_pay2 q k v = rowK k0_pay2 (extractStridedSlice S1x256 ![2, 0] q slices_S8x256_o2_0_S1x256) k v := rfl

theorem pay_3 (q : FVec Ideal S8x256 .f32) (k v : FVec Ideal S1x256x256 .f32) :
    k0_pay10 k0_pay2 (k0_pay8 q) (k0_pay9 (F := Ideal)) k v = rowK k0_pay2 (extractStridedSlice S1x256 ![3, 0] q slices_S8x256_o3_0_S1x256) k v := rfl

theorem pay_4 (q : FVec Ideal S8x256 .f32) (k v : FVec Ideal S1x256x256 .f32) :
    k0_pay12 k0_pay2 (k0_pay11 k0_pay2 q k) v = rowK k0_pay2 (extractStridedSlice S1x256 ![4, 0] q slices_S8x256_o4_0_S1x256) k v := rfl

theorem pay_5 (q : FVec Ideal S8x256 .f32) (k v : FVec Ideal S1x256x256 .f32) :
    k0_pay14 k0_pay2 (k0_pay13 k0_pay2 q k v) = rowK k0_pay2 (extractStridedSlice S1x256 ![5, 0] q slices_S8x256_o5_0_S1x256) k v := rfl

theorem pay_6 (q : FVec Ideal S8x256 .f32) (k v : FVec Ideal S1x256x256 .f32) :
    k0_pay15 k0_pay2 q k v = rowK k0_pay2 (extractStridedSlice S1x256 ![6, 0] q slices_S8x256_o6_0_S1x256) k v := rfl

theorem pay_7 (q : FVec Ideal S8x256 .f32) (k v : FVec Ideal S1x256x256 .f32) :
    k0_pay1 k0_pay2 (k0_pay16 q) (k0_pay17 (F := Ideal)) k v = rowK k0_pay2 (extractStridedSlice S1x256 ![7, 0] q slices_S8x256_o7_0_S1x256) k v := rfl

/-! ### The row at a lane -/

/-- A line's mask: a lane is in it when the line's number is the lane's head. -/
theorem mask_apply (h : Fin 8) (l : Fin 256) :
    (k0_pay2 : IVec S8x256 1) (ix2 h l) = IntOp.cmpi .eq (BitVec.ofNat 32 (l.val / 64)) (BitVec.ofNat 32 h.val) := by
  unfold k0_pay2
  pointwise
  revert h l
  decide +kernel

theorem score_apply (M : IVec S8x256 1) (q : FVec Ideal S1x256 .f32) (k : FVec Ideal S1x256x256 .f32) (h : Fin 8) (m : Fin 256) :
    scoreK (maskK M q) k (ix2 h m) = ∑ x : Fin 256, Scalar.select (M (ix2 h x)) (q (ix2 0 x) * k (ix3 0 m x)) (0 : EReal) := by
  unfold scoreK maskK
  pointwise

theorem expK_apply (s : FVec Ideal S8x256 .f32) (h : Fin 8) (m : Fin 256) : expK s (ix2 h m) = expR (fun x => s (ix2 h x)) m := by
  unfold expK expR
  pointwise
  rw [word_bot]

theorem probK_apply (e : FVec Ideal S8x256 .f32) (h : Fin 8) (m : Fin 256) : probK e (ix2 h m) = Ideal.div (e (ix2 h m)) (∑ x, e (ix2 h x)) := by
  unfold probK
  pointwise

theorem takeK_apply (M : IVec S8x256 1) (p : FVec Ideal S8x256 .f32) (v : FVec Ideal S1x256x256 .f32) (j : Fin 256) :
    takeK M p v (ix2 0 j) = ∑ h : Fin 8, Scalar.select (M (ix2 h j)) (∑ m : Fin 256, p (ix2 h m) * v (ix3 0 m j)) (0 : EReal) := by
  unfold takeK
  pointwise

/-- A sum over the lines of a lane's masked entries is the entry of the lane's own head. -/
theorem sum_lines (f : Fin 8 → EReal) (j : Fin 256) :
    ∑ h : Fin 8, Scalar.select (IntOp.cmpi .eq (BitVec.ofNat 32 (j.val / 64)) (BitVec.ofNat 32 h.val)) (f h) 0 = f ⟨j.val / 64, by omega⟩ := by
  have c : ∀ a h : Fin 8, IntOp.cmpi .eq (BitVec.ofNat 32 a.val) (BitVec.ofNat 32 h.val) = if a = h then 1#1 else 0#1 := by decide
  have e : ∀ h : Fin 8, Scalar.select (IntOp.cmpi .eq (BitVec.ofNat 32 (j.val / 64)) (BitVec.ofNat 32 h.val)) (f h) 0
      = if (⟨j.val / 64, by omega⟩ : Fin 8) = h then f h else 0 := fun h => by
    rw [show IntOp.cmpi .eq (BitVec.ofNat 32 (j.val / 64)) (BitVec.ofNat 32 h.val) = _ from c ⟨j.val / 64, by omega⟩ h]
    split
    · rfl
    · rfl
  rw [Finset.sum_congr rfl fun h _ => e h, Finset.sum_ite_eq, if_pos (Finset.mem_univ _)]

/-- The weights of a head's memory tokens. -/
theorem weights_apply (q : FVec Ideal S1x256 .f32) (k : FVec Ideal S1x256x256 .f32) (i : Fin 4) (m : Fin 256) :
    probK (expK (scoreK (maskK k0_pay2 q) k)) (ix2 ⟨i.val, by omega⟩ m)
      = probR (fun m => ∑ d : Fin 64, (show EReal from q (ix2 0 ⟨i.val * 64 + d.val, by omega⟩)) * k (ix3 0 m ⟨i.val * 64 + d.val, by omega⟩)) m := by
  have es : (fun m => scoreK (maskK k0_pay2 q) k (ix2 (⟨i.val, by omega⟩ : Fin 8) m))
      = fun m => ∑ d : Fin 64, (show EReal from q (ix2 0 ⟨i.val * 64 + d.val, by omega⟩)) * k (ix3 0 m ⟨i.val * 64 + d.val, by omega⟩) :=
    funext fun m => by
      rw [score_apply]
      simp only [mask_apply]
      exact Cert.Kernel2Ideal.Tail.sum_mask (fun x => (show EReal from q (ix2 0 x)) * k (ix3 0 m x)) i
  generalize scoreK (maskK k0_pay2 q) k = s at es
  rw [probK_apply]
  simp only [expK_apply]
  rw [es]
  rfl

/-- The row's output at a lane: the lane's head attends over the row's memory. -/
theorem rowK_apply (q : FVec Ideal S1x256 .f32) (k v : FVec Ideal S1x256x256 .f32) (j : Fin 256) :
    rowK k0_pay2 q k v (ix2 0 j)
      = headR (fun i => probR (fun m => ∑ d : Fin 64, (show EReal from q (ix2 0 ⟨i.val * 64 + d.val, by omega⟩)) * k (ix3 0 m ⟨i.val * 64 + d.val, by omega⟩)))
          (fun m i d => v (ix3 0 m ⟨i.val * 64 + d.val, by omega⟩)) j := by
  unfold rowK
  refine (takeK_apply k0_pay2 _ v j).trans ?_
  simp only [mask_apply]
  refine (sum_lines (fun h => ∑ m : Fin 256, (show EReal from probK (expK (scoreK (maskK k0_pay2 q) k)) (ix2 h m)) * v (ix3 0 m j)) j).trans ?_
  unfold headR
  refine Finset.sum_congr rfl fun m _ => ?_
  have ev : (⟨(j.val / 64) * 64 + j.val % 64, by omega⟩ : Fin 256) = j := Fin.ext (by dsimp only; omega)
  refine congrArg₂ (fun a b : EReal => a * b) (weights_apply q k ⟨j.val / 64, by omega⟩ m) ?_
  exact congrArg (fun l : Fin 256 => (show EReal from v (ix3 0 m l))) ev.symm

end Cert.Kernel7Ideal.Cross

end
-- ==== Proof.CrossPoint.lean ====
/-
  A grid point of the sample cross-attention over the extended reals: its eight rows.
-/
module

public import proofs.«01_k».proof.Proof.CrossTile
public import Idealize.ShloMosaic.Lib.Pipeline.ValueKit

@[expose] public section

set_option maxRecDepth 16384
set_option maxHeartbeats 4000000

noncomputable section

namespace Cert.Kernel7Ideal.Cross

open Cert.Kernel7Ideal Cert.Kernel7Ideal.Gen Cert.Tail
open Idealize.ShloMosaic Idealize.ShloMosaic.TcCoe

/-- Row `a` of a grid point, at lane `j`. -/
def tileR (x0 : Vec Ideal S8x256 .f32) (x1 x2 : Vec Ideal S8x256x256 .f32) (a : Fin 8) (j : Fin 256) : EReal :=
  headR (fun i => probR (fun m => ∑ d : Fin 64, (show EReal from x0 (ix2 a ⟨i.val * 64 + d.val, by omega⟩)) * x1 (ix3 a m ⟨i.val * 64 + d.val, by omega⟩))) (fun m i d => x2 (ix3 a m ⟨i.val * 64 + d.val, by omega⟩)) j

theorem row_congr {q : FVec Ideal S1x256 .f32} {k v : FVec Ideal S1x256x256 .f32} {x0 : Vec Ideal S8x256 .f32} {x1 x2 : Vec Ideal S8x256x256 .f32} {a : Fin 8}
    (hq : ∀ l, q (ix2 0 l) = x0 (ix2 a l)) (hk : ∀ m l, k (ix3 0 m l) = x1 (ix3 a m l)) (hv : ∀ m l, v (ix3 0 m l) = x2 (ix3 a m l)) (j : Fin 256) :
    rowK k0_pay2 q k v (ix2 0 j) = tileR x0 x1 x2 a j := by
  rw [rowK_apply]
  unfold tileR
  simp only [hq, hk, hv]

theorem whole_q (x0 : Vec Ideal S8x256 .f32) : View.ld x0 r0_0 = x0 := View.ld_unit_lit _ x0 (by decide)

theorem ld_0 (X : Vec Ideal S8x256x256 .f32) (m l : Fin 256) : (View.ld X r0_1 : FVec Ideal S1x256x256 .f32) (ix3 0 m l) = X (ix3 0 m l) := by
  refine congrArg X (a₁ := r0_1.idx (ix3 0 m l)) ?_
  funext b
  match b with
  | ⟨0, _⟩ => rfl
  | ⟨1, _⟩ => exact Fin.ext (by show 0 + 1 * m.val = m.val; omega)
  | ⟨2, _⟩ => exact Fin.ext (by show 0 + 1 * l.val = l.val; omega)

theorem slice_0 (q : FVec Ideal S8x256 .f32) (l : Fin 256) :
    (extractStridedSlice S1x256 ![0, 0] q slices_S8x256_o0_0_S1x256 : FVec Ideal S1x256 .f32) (ix2 0 l) = q (ix2 0 l) := by
  pointwise

theorem piece_0 (x0 : Vec Ideal S8x256 .f32) (x1 x2 : Vec Ideal S8x256x256 .f32) (j : Fin 256) :
    (k0_pay4 (k0_pay18 x0 x1 x2) (k0_pay3 (View.ld x0 r0_0) (View.ld x1 r0_1)) (View.ld x2 r0_1) : FVec Ideal S1x256 .f32) (ix2 0 j) = tileR x0 x1 x2 0 j := by
  rw [whole_q]
  refine (congrFun (pay_0 x0 (View.ld x1 r0_1) (View.ld x2 r0_1)) (ix2 0 j)).trans ?_
  exact row_congr (slice_0 x0) (ld_0 x1) (ld_0 x2) j

theorem ld_1 (X : Vec Ideal S8x256x256 .f32) (m l : Fin 256) : (View.ld X r0_3 : FVec Ideal S1x256x256 .f32) (ix3 0 m l) = X (ix3 1 m l) := by
  refine congrArg X (a₁ := r0_3.idx (ix3 0 m l)) ?_
  funext b
  match b with
  | ⟨0, _⟩ => rfl
  | ⟨1, _⟩ => exact Fin.ext (by show 0 + 1 * m.val = m.val; omega)
  | ⟨2, _⟩ => exact Fin.ext (by show 0 + 1 * l.val = l.val; omega)

theorem slice_1 (q : FVec Ideal S8x256 .f32) (l : Fin 256) :
    (extractStridedSlice S1x256 ![1, 0] q slices_S8x256_o1_0_S1x256 : FVec Ideal S1x256 .f32) (ix2 0 l) = q (ix2 1 l) := by
  pointwise

theorem piece_1 (x0 : Vec Ideal S8x256 .f32) (x1 x2 : Vec Ideal S8x256x256 .f32) (j : Fin 256) :
    (k0_pay6 (k0_pay18 x0 x1 x2) (k0_pay5 (k0_pay18 x0 x1 x2) (View.ld x0 r0_0) (View.ld x1 r0_3) (View.ld x2 r0_3)) : FVec Ideal S1x256 .f32) (ix2 0 j) = tileR x0 x1 x2 1 j := by
  rw [whole_q]
  refine (congrFun (pay_1 x0 (View.ld x1 r0_3) (View.ld x2 r0_3)) (ix2 0 j)).trans ?_
  exact row_congr (slice_1 x0) (ld_1 x1) (ld_1 x2) j

theorem ld_2 (X : Vec Ideal S8x256x256 .f32) (m l : Fin 256) : (View.ld X r0_5 : FVec Ideal S1x256x256 .f32) (ix3 0 m l) = X (ix3 2 m l) := by
  refine congrArg X (a₁ := r0_5.idx (ix3 0 m l)) ?_
  funext b
  match b with
  | ⟨0, _⟩ => rfl
  | ⟨1, _⟩ => exact Fin.ext (by show 0 + 1 * m.val = m.val; omega)
  | ⟨2, _⟩ => exact Fin.ext (by show 0 + 1 * l.val = l.val; omega)

theorem slice_2 (q : FVec Ideal S8x256 .f32) (l : Fin 256) :
    (extractStridedSlice S1x256 ![2, 0] q slices_S8x256_o2_0_S1x256 : FVec Ideal S1x256 .f32) (ix2 0 l) = q (ix2 2 l) := by
  pointwise

theorem piece_2 (x0 : Vec Ideal S8x256 .f32) (x1 x2 : Vec Ideal S8x256x256 .f32) (j : Fin 256) :
    (k0_pay7 (k0_pay18 x0 x1 x2) (View.ld x0 r0_0) (View.ld x1 r0_5) (View.ld x2 r0_5) : FVec Ideal S1x256 .f32) (ix2 0 j) = tileR x0 x1 x2 2 j := by
  rw [whole_q]
  refine (congrFun (pay_2 x0 (View.ld x1 r0_5) (View.ld x2 r0_5)) (ix2 0 j)).trans ?_
  exact row_congr (slice_2 x0) (ld_2 x1) (ld_2 x2) j

theorem ld_3 (X : Vec Ideal S8x256x256 .f32) (m l : Fin 256) : (View.ld X r0_7 : FVec Ideal S1x256x256 .f32) (ix3 0 m l) = X (ix3 3 m l) := by
  refine congrArg X (a₁ := r0_7.idx (ix3 0 m l)) ?_
  funext b
  match b with
  | ⟨0, _⟩ => rfl
  | ⟨1, _⟩ => exact Fin.ext (by show 0 + 1 * m.val = m.val; omega)
  | ⟨2, _⟩ => exact Fin.ext (by show 0 + 1 * l.val = l.val; omega)

theorem slice_3 (q : FVec Ideal S8x256 .f32) (l : Fin 256) :
    (extractStridedSlice S1x256 ![3, 0] q slices_S8x256_o3_0_S1x256 : FVec Ideal S1x256 .f32) (ix2 0 l) = q (ix2 3 l) := by
  pointwise

theorem piece_3 (x0 : Vec Ideal S8x256 .f32) (x1 x2 : Vec Ideal S8x256x256 .f32) (j : Fin 256) :
    (k0_pay10 (k0_pay18 x0 x1 x2) (k0_pay8 (View.ld x0 r0_0)) (k0_pay9 (F := Ideal)) (View.ld x1 r0_7) (View.ld x2 r0_7) : FVec Ideal S1x256 .f32) (ix2 0 j) = tileR x0 x1 x2 3 j := by
  rw [whole_q]
  refine (congrFun (pay_3 x0 (View.ld x1 r0_7) (View.ld x2 r0_7)) (ix2 0 j)).trans ?_
  exact row_congr (slice_3 x0) (ld_3 x1) (ld_3 x2) j

theorem ld_4 (X : Vec Ideal S8x256x256 .f32) (m l : Fin 256) : (View.ld X r0_9 : FVec Ideal S1x256x256 .f32) (ix3 0 m l) = X (ix3 4 m l) := by
  refine congrArg X (a₁ := r0_9.idx (ix3 0 m l)) ?_
  funext b
  match b with
  | ⟨0, _⟩ => rfl
  | ⟨1, _⟩ => exact Fin.ext (by show 0 + 1 * m.val = m.val; omega)
  | ⟨2, _⟩ => exact Fin.ext (by show 0 + 1 * l.val = l.val; omega)

theorem slice_4 (q : FVec Ideal S8x256 .f32) (l : Fin 256) :
    (extractStridedSlice S1x256 ![4, 0] q slices_S8x256_o4_0_S1x256 : FVec Ideal S1x256 .f32) (ix2 0 l) = q (ix2 4 l) := by
  pointwise

theorem piece_4 (x0 : Vec Ideal S8x256 .f32) (x1 x2 : Vec Ideal S8x256x256 .f32) (j : Fin 256) :
    (k0_pay12 (k0_pay18 x0 x1 x2) (k0_pay11 (k0_pay18 x0 x1 x2) (View.ld x0 r0_0) (View.ld x1 r0_9)) (View.ld x2 r0_9) : FVec Ideal S1x256 .f32) (ix2 0 j) = tileR x0 x1 x2 4 j := by
  rw [whole_q]
  refine (congrFun (pay_4 x0 (View.ld x1 r0_9) (View.ld x2 r0_9)) (ix2 0 j)).trans ?_
  exact row_congr (slice_4 x0) (ld_4 x1) (ld_4 x2) j

theorem ld_5 (X : Vec Ideal S8x256x256 .f32) (m l : Fin 256) : (View.ld X r0_11 : FVec Ideal S1x256x256 .f32) (ix3 0 m l) = X (ix3 5 m l) := by
  refine congrArg X (a₁ := r0_11.idx (ix3 0 m l)) ?_
  funext b
  match b with
  | ⟨0, _⟩ => rfl
  | ⟨1, _⟩ => exact Fin.ext (by show 0 + 1 * m.val = m.val; omega)
  | ⟨2, _⟩ => exact Fin.ext (by show 0 + 1 * l.val = l.val; omega)

theorem slice_5 (q : FVec Ideal S8x256 .f32) (l : Fin 256) :
    (extractStridedSlice S1x256 ![5, 0] q slices_S8x256_o5_0_S1x256 : FVec Ideal S1x256 .f32) (ix2 0 l) = q (ix2 5 l) := by
  pointwise

theorem piece_5 (x0 : Vec Ideal S8x256 .f32) (x1 x2 : Vec Ideal S8x256x256 .f32) (j : Fin 256) :
    (k0_pay14 (k0_pay18 x0 x1 x2) (k0_pay13 (k0_pay18 x0 x1 x2) (View.ld x0 r0_0) (View.ld x1 r0_11) (View.ld x2 r0_11)) : FVec Ideal S1x256 .f32) (ix2 0 j) = tileR x0 x1 x2 5 j := by
  rw [whole_q]
  refine (congrFun (pay_5 x0 (View.ld x1 r0_11) (View.ld x2 r0_11)) (ix2 0 j)).trans ?_
  exact row_congr (slice_5 x0) (ld_5 x1) (ld_5 x2) j

theorem ld_6 (X : Vec Ideal S8x256x256 .f32) (m l : Fin 256) : (View.ld X r0_13 : FVec Ideal S1x256x256 .f32) (ix3 0 m l) = X (ix3 6 m l) := by
  refine congrArg X (a₁ := r0_13.idx (ix3 0 m l)) ?_
  funext b
  match b with
  | ⟨0, _⟩ => rfl
  | ⟨1, _⟩ => exact Fin.ext (by show 0 + 1 * m.val = m.val; omega)
  | ⟨2, _⟩ => exact Fin.ext (by show 0 + 1 * l.val = l.val; omega)

theorem slice_6 (q : FVec Ideal S8x256 .f32) (l : Fin 256) :
    (extractStridedSlice S1x256 ![6, 0] q slices_S8x256_o6_0_S1x256 : FVec Ideal S1x256 .f32) (ix2 0 l) = q (ix2 6 l) := by
  pointwise

theorem piece_6 (x0 : Vec Ideal S8x256 .f32) (x1 x2 : Vec Ideal S8x256x256 .f32) (j : Fin 256) :
    (k0_pay15 (k0_pay18 x0 x1 x2) (View.ld x0 r0_0) (View.ld x1 r0_13) (View.ld x2 r0_13) : FVec Ideal S1x256 .f32) (ix2 0 j) = tileR x0 x1 x2 6 j := by
  rw [whole_q]
  refine (congrFun (pay_6 x0 (View.ld x1 r0_13) (View.ld x2 r0_13)) (ix2 0 j)).trans ?_
  exact row_congr (slice_6 x0) (ld_6 x1) (ld_6 x2) j

theorem ld_7 (X : Vec Ideal S8x256x256 .f32) (m l : Fin 256) : (View.ld X r0_15 : FVec Ideal S1x256x256 .f32) (ix3 0 m l) = X (ix3 7 m l) := by
  refine congrArg X (a₁ := r0_15.idx (ix3 0 m l)) ?_
  funext b
  match b with
  | ⟨0, _⟩ => rfl
  | ⟨1, _⟩ => exact Fin.ext (by show 0 + 1 * m.val = m.val; omega)
  | ⟨2, _⟩ => exact Fin.ext (by show 0 + 1 * l.val = l.val; omega)

theorem slice_7 (q : FVec Ideal S8x256 .f32) (l : Fin 256) :
    (extractStridedSlice S1x256 ![7, 0] q slices_S8x256_o7_0_S1x256 : FVec Ideal S1x256 .f32) (ix2 0 l) = q (ix2 7 l) := by
  pointwise

theorem piece_7 (x0 : Vec Ideal S8x256 .f32) (x1 x2 : Vec Ideal S8x256x256 .f32) (j : Fin 256) :
    (k0_pay1 (k0_pay18 x0 x1 x2) (k0_pay16 (View.ld x0 r0_0)) (k0_pay17 (F := Ideal)) (View.ld x1 r0_15) (View.ld x2 r0_15) : FVec Ideal S1x256 .f32) (ix2 0 j) = tileR x0 x1 x2 7 j := by
  rw [whole_q]
  refine (congrFun (pay_7 x0 (View.ld x1 r0_15) (View.ld x2 r0_15)) (ix2 0 j)).trans ?_
  exact row_congr (slice_7 x0) (ld_7 x1) (ld_7 x2) j

theorem out_apply (x0 : Vec Ideal S8x256 .f32) (x1 x2 : Vec Ideal S8x256x256 .f32) (a : Fin 8) (j : Fin 256) : out0_3 x0 x1 x2 (ix2 a j) = tileR x0 x1 x2 a j := by
  unfold out0_3
  canon_tiles x h
  · have ea : a = 7 := by
      have h2 : (x 0).val < 1 := (x 0).isLt
      have h3 : a.val = 7 + (x 0).val := h0
      exact Fin.ext (by show a.val = 7; omega)
    have ex : x = (ix2 0 j : S1x256.Idx) := by
      funext b
      match b with
      | ⟨0, _⟩ => exact Subsingleton.elim (α := Fin 1) _ _
      | ⟨1, _⟩ => exact Fin.ext h1.symm
    subst ea
    rw [ex]
    exact piece_7 x0 x1 x2 j
  · have ea : a = 6 := by
      have h2 : (x 0).val < 1 := (x 0).isLt
      have h3 : a.val = 6 + (x 0).val := h0
      exact Fin.ext (by show a.val = 6; omega)
    have ex : x = (ix2 0 j : S1x256.Idx) := by
      funext b
      match b with
      | ⟨0, _⟩ => exact Subsingleton.elim (α := Fin 1) _ _
      | ⟨1, _⟩ => exact Fin.ext h1.symm
    subst ea
    rw [ex]
    exact piece_6 x0 x1 x2 j
  · have ea : a = 5 := by
      have h2 : (x 0).val < 1 := (x 0).isLt
      have h3 : a.val = 5 + (x 0).val := h0
      exact Fin.ext (by show a.val = 5; omega)
    have ex : x = (ix2 0 j : S1x256.Idx) := by
      funext b
      match b with
      | ⟨0, _⟩ => exact Subsingleton.elim (α := Fin 1) _ _
      | ⟨1, _⟩ => exact Fin.ext h1.symm
    subst ea
    rw [ex]
    exact piece_5 x0 x1 x2 j
  · have ea : a = 4 := by
      have h2 : (x 0).val < 1 := (x 0).isLt
      have h3 : a.val = 4 + (x 0).val := h0
      exact Fin.ext (by show a.val = 4; omega)
    have ex : x = (ix2 0 j : S1x256.Idx) := by
      funext b
      match b with
      | ⟨0, _⟩ => exact Subsingleton.elim (α := Fin 1) _ _
      | ⟨1, _⟩ => exact Fin.ext h1.symm
    subst ea
    rw [ex]
    exact piece_4 x0 x1 x2 j
  · have ea : a = 3 := by
      have h2 : (x 0).val < 1 := (x 0).isLt
      have h3 : a.val = 3 + (x 0).val := h0
      exact Fin.ext (by show a.val = 3; omega)
    have ex : x = (ix2 0 j : S1x256.Idx) := by
      funext b
      match b with
      | ⟨0, _⟩ => exact Subsingleton.elim (α := Fin 1) _ _
      | ⟨1, _⟩ => exact Fin.ext h1.symm
    subst ea
    rw [ex]
    exact piece_3 x0 x1 x2 j
  · have ea : a = 2 := by
      have h2 : (x 0).val < 1 := (x 0).isLt
      have h3 : a.val = 2 + (x 0).val := h0
      exact Fin.ext (by show a.val = 2; omega)
    have ex : x = (ix2 0 j : S1x256.Idx) := by
      funext b
      match b with
      | ⟨0, _⟩ => exact Subsingleton.elim (α := Fin 1) _ _
      | ⟨1, _⟩ => exact Fin.ext h1.symm
    subst ea
    rw [ex]
    exact piece_2 x0 x1 x2 j
  · have ea : a = 1 := by
      have h2 : (x 0).val < 1 := (x 0).isLt
      have h3 : a.val = 1 + (x 0).val := h0
      exact Fin.ext (by show a.val = 1; omega)
    have ex : x = (ix2 0 j : S1x256.Idx) := by
      funext b
      match b with
      | ⟨0, _⟩ => exact Subsingleton.elim (α := Fin 1) _ _
      | ⟨1, _⟩ => exact Fin.ext h1.symm
    subst ea
    rw [ex]
    exact piece_1 x0 x1 x2 j
  · have ea : a = 0 := by
      have h2 : (x 0).val < 1 := (x 0).isLt
      have h3 : a.val = (x 0).val := h0
      exact Fin.ext (by show a.val = 0; omega)
    have ex : x = (ix2 0 j : S1x256.Idx) := by
      funext b
      match b with
      | ⟨0, _⟩ => exact Subsingleton.elim (α := Fin 1) _ _
      | ⟨1, _⟩ => exact Fin.ext h1.symm
    subst ea
    rw [ex]
    exact piece_0 x0 x1 x2 j

end Cert.Kernel7Ideal.Cross

end
-- ==== Proof.CrossArray.lean ====
/-
  The sample cross-attention's arrays over the extended reals: what the host hands to the call, and the blocks of its grid points.
-/
module

public import proofs.«01_k».proof.Proof.Gen.Kernel7Ideal.Frame
public import Idealize.ShloMosaic.Lib.Pointwise
public import Idealize.ShloMosaic.Lib.StableHlo.RunRead
public import Idealize.ShloMosaic.Lib.Pipeline.ValueKit

@[expose] public section

set_option maxRecDepth 16384
set_option maxHeartbeats 4000000

noncomputable section

namespace Cert.Kernel7Ideal.Cross

open Cert.Kernel7Ideal Cert.Kernel7Ideal.Gen
open Idealize.ShloMosaic Idealize.ShloMosaic.TcCoe

variable (m : (ℓ : Loc nD τ sig) → Buf (Elt Ideal) ℓ)

theorem V_k (c : Dev nD) (b : Fin 128) (n l : Fin 256) :
    (V m c main_v0 : FVec Ideal S128x256x256 .f32) (ix3 b n l)
      = (m ((c : Thread nD τ).loc main_arg1) : FVec Ideal S128x256x4x64 .f32) (ix4 b n ⟨l.val / 64, by omega⟩ ⟨l.val % 64, by omega⟩) := by
  entry_read
  pointwise

/-- Head `i`'s lane `d`. -/
theorem V_k_head (c : Dev nD) (b : Fin 128) (n : Fin 256) (i : Fin 4) (d : Fin 64) :
    (V m c main_v0 : FVec Ideal S128x256x256 .f32) (ix3 b n ⟨i.val * 64 + d.val, by omega⟩)
      = (m ((c : Thread nD τ).loc main_arg1) : FVec Ideal S128x256x4x64 .f32) (ix4 b n i d) := by
  refine (V_k m c b n ⟨i.val * 64 + d.val, by omega⟩).trans ?_
  have e1 : (⟨(i.val * 64 + d.val) / 64, by omega⟩ : Fin 4) = i := Fin.ext (by dsimp only; omega)
  have e2 : (⟨(i.val * 64 + d.val) % 64, by omega⟩ : Fin 64) = d := Fin.ext (by dsimp only; omega)
  exact congrArg₂ (fun (p : Fin 4) (q : Fin 64) => (m ((c : Thread nD τ).loc main_arg1) : FVec Ideal S128x256x4x64 .f32) (ix4 b n p q)) e1 e2

theorem V_v (c : Dev nD) (b : Fin 128) (n l : Fin 256) :
    (V m c main_v1 : FVec Ideal S128x256x256 .f32) (ix3 b n l)
      = (m ((c : Thread nD τ).loc main_arg2) : FVec Ideal S128x256x4x64 .f32) (ix4 b n ⟨l.val / 64, by omega⟩ ⟨l.val % 64, by omega⟩) := by
  entry_read
  pointwise

/-- Head `i`'s lane `d`. -/
theorem V_v_head (c : Dev nD) (b : Fin 128) (n : Fin 256) (i : Fin 4) (d : Fin 64) :
    (V m c main_v1 : FVec Ideal S128x256x256 .f32) (ix3 b n ⟨i.val * 64 + d.val, by omega⟩)
      = (m ((c : Thread nD τ).loc main_arg2) : FVec Ideal S128x256x4x64 .f32) (ix4 b n i d) := by
  refine (V_v m c b n ⟨i.val * 64 + d.val, by omega⟩).trans ?_
  have e1 : (⟨(i.val * 64 + d.val) / 64, by omega⟩ : Fin 4) = i := Fin.ext (by dsimp only; omega)
  have e2 : (⟨(i.val * 64 + d.val) % 64, by omega⟩ : Fin 64) = d := Fin.ext (by dsimp only; omega)
  exact congrArg₂ (fun (p : Fin 4) (q : Fin 64) => (m ((c : Thread nD τ).loc main_arg2) : FVec Ideal S128x256x4x64 .f32) (ix4 b n p q)) e1 e2

/-- The row that a grid point's row is of the whole. -/
def pos (t : Fin cfg0.N) (a : Fin 8) : Fin 128 :=
  ⟨8 * t.val + a.val, by have h : t.val < 16 := t.isLt; omega⟩

theorem idx : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

theorem read_q (t : Fin cfg0.N) (X : Vec Ideal S128x256 .f32) (a : Fin 8) (j : Fin 256) :
    ((win0_0.blk t).view.read (Elt Ideal) X : Vec Ideal S8x256 .f32) (ix2 a j) = X (ix2 (pos t a) j) := by
  unfold pos
  blk_ext [idx t]

theorem read_k (t : Fin cfg0.N) (X : Vec Ideal S128x256x256 .f32) (a : Fin 8) (n l : Fin 256) :
    ((win0_1.blk t).view.read (Elt Ideal) X : Vec Ideal S8x256x256 .f32) (ix3 a n l) = X (ix3 (pos t a) n l) := by
  unfold pos
  blk_ext [idx t]

theorem read_v (t : Fin cfg0.N) (X : Vec Ideal S128x256x256 .f32) (a : Fin 8) (n l : Fin 256) :
    ((win0_2.blk t).view.read (Elt Ideal) X : Vec Ideal S8x256x256 .f32) (ix3 a n l) = X (ix3 (pos t a) n l) := by
  unfold pos
  blk_ext [idx t]

theorem emb_out (t : Fin cfg0.N) (a : Fin 8) (j : Fin 256) :
    (win0_3.blk t).view.emb (ix2 a j : S8x256.Idx) = (ix2 (pos t a) j : S128x256.Idx) := by
  unfold pos
  blk_ext [idx t]

end Cert.Kernel7Ideal.Cross

end
-- ==== Proof.CrossFinal.lean ====
/-
  The sample cross-attention's result over the extended reals: every head of every row attends over the row's memory.
-/
module

public import proofs.«01_k».proof.Proof.CrossPoint
public import proofs.«01_k».proof.Proof.CrossArray
public import Idealize.ShloMosaic.Lib.Pipeline.ValueKit

@[expose] public section

set_option maxRecDepth 16384
set_option maxHeartbeats 4000000

noncomputable section

namespace Cert.Kernel7Ideal.Cross

open Cert.Kernel7Ideal Cert.Kernel7Ideal.Gen Cert.Tail
open Idealize.ShloMosaic Idealize.ShloMosaic.TcCoe Idealize.SL.Sem

/-- Every row's heads attend over the row's memory. -/
def crossA (q : FVec Ideal S128x256 .f32) (mk mv : FVec Ideal S128x256x4x64 .f32) : FVec Ideal S128x256 .f32 := fun y =>
  headR (fun i => probR (fun n => ∑ d : Fin 64, q (ix2 (y 0) ⟨i.val * 64 + d.val, by omega⟩) * mk (ix4 (y 0) n i d))) (fun n i d => mv (ix4 (y 0) n i d)) (y 1)

theorem crossA_apply (q : FVec Ideal S128x256 .f32) (mk mv : FVec Ideal S128x256x4x64 .f32) (b : Fin 128) (j : Fin 256) :
    crossA q mk mv (ix2 b j)
      = headR (fun i => probR (fun n => ∑ d : Fin 64, q (ix2 b ⟨i.val * 64 + d.val, by omega⟩) * mk (ix4 b n i d))) (fun n i d => mv (ix4 b n i d)) j :=
  rfl

theorem crossA_congr {q q' : FVec Ideal S128x256 .f32} {mk mk' mv mv' : FVec Ideal S128x256x4x64 .f32} (e0 : q = q') (e1 : mk = mk') (e2 : mv = mv') :
    crossA q mk mv = crossA q' mk' mv' := by
  subst e0 e1 e2
  rfl

/-- A grid point's row, when its blocks are rows of the arguments. -/
theorem tileR_eq {x0 : Vec Ideal S8x256 .f32} {x1 x2 : Vec Ideal S8x256x256 .f32} {q : FVec Ideal S128x256 .f32} {mk mv : FVec Ideal S128x256x4x64 .f32} {a : Fin 8} {b : Fin 128}
    (hq : ∀ l, x0 (ix2 a l) = q (ix2 b l)) (hk : ∀ (n : Fin 256) (i : Fin 4) (d : Fin 64), x1 (ix3 a n ⟨i.val * 64 + d.val, by omega⟩) = mk (ix4 b n i d))
    (hv : ∀ (n : Fin 256) (i : Fin 4) (d : Fin 64), x2 (ix3 a n ⟨i.val * 64 + d.val, by omega⟩) = mv (ix4 b n i d)) (j : Fin 256) :
    tileR x0 x1 x2 a j = crossA q mk mv (ix2 b j) := by
  rw [crossA_apply]
  unfold tileR
  simp only [hq, hk, hv]

variable (m : (ℓ : Loc nD τ sig) → Buf (Elt Ideal) ℓ)

/-- The result of the arguments as launched. -/
def result (c : Dev nD) : FVec Ideal S128x256 .f32 :=
  crossA (m ((c : Thread nD τ).loc main_arg0)) (m ((c : Thread nD τ).loc main_arg1)) (m ((c : Thread nD τ).loc main_arg2))

theorem point (c : Dev nD) (t : Fin cfg0.N) (a : Fin 8) (j : Fin 256) :
    out0_3 (iblk m c 0 t) (iblk m c 1 t) (iblk m c 2 t) (ix2 a j) = result m c (ix2 (pos t a) j) := by
  have hq : ∀ l, (iblk m c 0 t : Vec Ideal S8x256 .f32) (ix2 a l) = (m ((c : Thread nD τ).loc main_arg0) : FVec Ideal S128x256 .f32) (ix2 (pos t a) l) :=
    fun l => (read_q t (V m c main_arg0) a l).trans (congrFun (V_main_arg0 m c) _)
  have hk : ∀ (n : Fin 256) (i : Fin 4) (d : Fin 64), (iblk m c 1 t : Vec Ideal S8x256x256 .f32) (ix3 a n ⟨i.val * 64 + d.val, by omega⟩)
      = (m ((c : Thread nD τ).loc main_arg1) : FVec Ideal S128x256x4x64 .f32) (ix4 (pos t a) n i d) :=
    fun n i d => (read_k t (V m c main_v0) a n _).trans (V_k_head m c (pos t a) n i d)
  have hv : ∀ (n : Fin 256) (i : Fin 4) (d : Fin 64), (iblk m c 2 t : Vec Ideal S8x256x256 .f32) (ix3 a n ⟨i.val * 64 + d.val, by omega⟩)
      = (m ((c : Thread nD τ).loc main_arg2) : FVec Ideal S128x256x4x64 .f32) (ix4 (pos t a) n i d) :=
    fun n i d => (read_v t (V m c main_v1) a n _).trans (V_v_head m c (pos t a) n i d)
  exact (out_apply (iblk m c 0 t) (iblk m c 1 t) (iblk m c 2 t) a j).trans (tileR_eq hq hk hv j)

/-- The result array: every block holds its rows. -/
theorem final (c : Dev nD) : (dats m 0 c).arrAt 3 cfg0.N = result m c := by
  refine (dats m 0 c).arrAt_eq_of_covers 3 _ (by decide +kernel) fun t _ y => ?_
  blk_simp
  rw [after0_3]
  have hy : ∀ y : S8x256.Idx, out0_3 (iblk m c 0 t) (iblk m c 1 t) (iblk m c 2 t) y = result m c ((win0_3.blk t).view.emb y) := fun y => by
    idx_vars y
    exact (point m c t y0 y1).trans (congrArg (result m c) (emb_out t y0 y1).symm)
  exact hy y

end Cert.Kernel7Ideal.Cross

end
-- ==== Proof.CrossResult.lean ====
/-
  The reference of the sample cross-attention over the extended reals, read at an index.
-/
module

public import proofs.«01_k».proof.Proof.TailReference
public import proofs.«01_k».proof.Proof.Gen.Reference7Ideal.Run
public import Idealize.ShloMosaic.Lib.Pointwise

@[expose] public section

set_option maxRecDepth 16384

noncomputable section

namespace Cert.Reference7Ideal.Cross

open Cert.Reference7Ideal Cert.Reference7Ideal.Gen Cert.Tail
open Idealize.ShloMosaic Idealize.ShloMosaic.TcCoe

/-- The scores. -/
def scoreH (q : FVec Ideal S128x256 .f32) (mk : FVec Ideal S128x256x4x64 .f32) : FVec Ideal S128x4x1x256 .f32 :=
  Host.dotGeneral dot_S128x1x4x64_S128x256x4x64_S128x4x1x256_3_3_1_1_02_02 none (shapeCast S128x1x4x64 q shapeCasts_S128x256_S128x1x4x64) mk

/-- The greatest score of every head. -/
def maxH (s : FVec Ideal S128x4x1x256 .f32) : FVec Ideal S128x4x1 .f32 :=
  Host.reduce FloatOps.maximumf s (constant S_ .f32 0xFF800000#32) reducesTo_S128x4x1x256_S128x4x1_d3 h_S_

/-- The exponentials of the scores less their maximum. -/
def expH (s : FVec Ideal S128x4x1x256 .f32) (t : FVec Ideal S128x4x1 .f32) : FVec Ideal S128x4x1x256 .f32 :=
  Host.exp (subf s (broadcastInDim S128x4x1x256 ![0, 1, 2, 3] bcast_S128x4x1x1_S128x4x1x256_0_1_2_3
    (broadcastInDim S128x4x1x1 ![0, 1, 2] bcast_S128x4x1_S128x4x1x1_0_1_2
      (maximumf (broadcastInDim S128x4x1 ![] bcast_S_S128x4x1 (constant S_ .f32 0xFF800000#32)) t))))

/-- The weights of the memory tokens. -/
def probH (e : FVec Ideal S128x4x1x256 .f32) : FVec Ideal S128x4x1x256 .f32 :=
  Host.divf e (broadcastInDim S128x4x1x256 ![0, 1, 2, 3] bcast_S128x4x1x1_S128x4x1x256_0_1_2_3
    (broadcastInDim S128x4x1x1 ![0, 1, 2] bcast_S128x4x1_S128x4x1x1_0_1_2
      (Host.reduceAdd e (constant S_ .f32 0x00000000#32) reducesTo_S128x4x1x256_S128x4x1_d3 h_S_)))

/-- The heads' outputs. -/
def headH (p : FVec Ideal S128x4x1x256 .f32) (mv : FVec Ideal S128x256x4x64 .f32) : FVec Ideal S128x256 .f32 :=
  shapeCast S128x256 (transpose S128x1x4x64 [0, 3, 1, 2]
    (Host.dotGeneral dot_S128x256x4x64_S128x4x1x256_S128x4x64x1_1_3_3_2_02_01 none mv p : FVec Ideal S128x4x64x1 .f32) transposes_S128x4x64x1_S128x1x4x64_0_3_1_2) shapeCasts_S128x1x4x64_S128x256

theorem scoreH_apply (q : FVec Ideal S128x256 .f32) (mk : FVec Ideal S128x256x4x64 .f32) (b : Fin 128) (i : Fin 4) (n : Fin 256) :
    scoreH q mk (ix4 b i 0 n) = ∑ d : Fin 64, q (ix2 b ⟨i.val * 64 + d.val, by omega⟩) * mk (ix4 b n i d) := by
  unfold scoreH
  pointwise

theorem maxH_apply (s : FVec Ideal S128x4x1x256 .f32) (b : Fin 128) (i : Fin 4) :
    maxH s (ix3 b i 0) = (Finset.univ : Finset (Fin 256)).fold max ⊥ (fun k => s (ix4 b i 0 k)) := by
  unfold maxH
  exact Cert.Reference2Ideal.Tail.max_last (n0 := 128) (n1 := 4) (n2 := 1) (n3 := 256) s reducesTo_S128x4x1x256_S128x4x1_d3 h_S_ b i 0

theorem expH_of_max (s : FVec Ideal S128x4x1x256 .f32) (t : FVec Ideal S128x4x1 .f32) (b : Fin 128) (i : Fin 4) (n : Fin 256) (M : EReal)
    (e : t (ix3 b i 0) = M) : expH s t (ix4 b i 0 n) = Ideal.exp (s (ix4 b i 0 n) - M) := by
  unfold expH
  pointwise
  rw [e, word_bot, max_eq_right bot_le]

theorem expH_apply (s : FVec Ideal S128x4x1x256 .f32) (b : Fin 128) (i : Fin 4) (n : Fin 256) :
    expH s (maxH s) (ix4 b i 0 n) = expR (fun k => s (ix4 b i 0 k)) n :=
  expH_of_max s (maxH s) b i n _ (maxH_apply s b i)

theorem probH_apply (e : FVec Ideal S128x4x1x256 .f32) (b : Fin 128) (i : Fin 4) (n : Fin 256) :
    probH e (ix4 b i 0 n) = Ideal.div (e (ix4 b i 0 n)) (∑ x, e (ix4 b i 0 x)) := by
  unfold probH
  pointwise

theorem headH_apply (p : FVec Ideal S128x4x1x256 .f32) (mv : FVec Ideal S128x256x4x64 .f32) (b : Fin 128) (j : Fin 256) :
    headH p mv (ix2 b j) = headR (fun i n => p (ix4 b i 0 n)) (fun n i d => mv (ix4 b n i d)) j := by
  unfold headH headR
  pointwise
  exact Finset.sum_congr rfl fun k _ => mul_comm _ _

/-- The reference's result. -/
def crossH (q : FVec Ideal S128x256 .f32) (mk mv : FVec Ideal S128x256x4x64 .f32) : FVec Ideal S128x256 .f32 :=
  headH (probH (expH (scoreH q mk) (maxH (scoreH q mk)))) mv

theorem crossH_apply (q : FVec Ideal S128x256 .f32) (mk mv : FVec Ideal S128x256x4x64 .f32) (b : Fin 128) (j : Fin 256) :
    crossH q mk mv (ix2 b j)
      = headR (fun i => probR (fun n => ∑ d : Fin 64, q (ix2 b ⟨i.val * 64 + d.val, by omega⟩) * mk (ix4 b n i d))) (fun n i d => mv (ix4 b n i d)) j := by
  have es : ∀ i : Fin 4, (fun n => scoreH q mk (ix4 b i 0 n)) = fun n => ∑ d : Fin 64, q (ix2 b ⟨i.val * 64 + d.val, by omega⟩) * mk (ix4 b n i d) :=
    fun i => funext fun n => scoreH_apply q mk b i n
  unfold crossH
  generalize scoreH q mk = s at es
  refine (headH_apply _ mv b j).trans ?_
  have ep : (fun (i : Fin 4) (n : Fin 256) => probH (expH s (maxH s)) (ix4 b i 0 n))
      = fun i => probR (fun n => ∑ d : Fin 64, q (ix2 b ⟨i.val * 64 + d.val, by omega⟩) * mk (ix4 b n i d)) := funext fun i => funext fun n => by
    rw [probH_apply]
    simp only [expH_apply]
    rw [es i]
    rfl
  rw [ep]

end Cert.Reference7Ideal.Cross

end
-- ==== Proof.CrossAlgebraic.lean ====
/-
  The sample cross-attention equals its reference over the extended reals, for all arguments.
-/
module

public import proofs.«01_k».proof.Defs
public import proofs.«01_k».proof.Proof.CrossFinal
public import proofs.«01_k».proof.Proof.CrossResult
public import proofs.«01_k».proof.Proof.Gen.Kernel7Ideal.Value

@[expose] public section

noncomputable section

namespace Cert.Proof

open Idealize.ShloMosaic Idealize.ShloMosaic.TcCoe Idealize.SL.Sem

open Cert.Reference7Ideal in
theorem cross_eq (q : FVec Ideal S128x256 .f32) (mk mv : FVec Ideal S128x256x4x64 .f32) :
    Cert.Reference7Ideal.Cross.crossH q mk mv = Cert.Kernel7Ideal.Cross.crossA q mk mv := by
  funext y
  idx_vars y
  exact (Cert.Reference7Ideal.Cross.crossH_apply q mk mv y0 y1).trans (Cert.Kernel7Ideal.Cross.crossA_apply q mk mv y0 y1).symm

theorem algebraic_cross :
    Cert.algebraic_Kernel7Ideal_Reference7Ideal (hKernel7Ideal := Cert.Kernel7Ideal.Gen.facts) (hReference7Ideal := Cert.Reference7Ideal.Gen.facts) := by
  intro m g m' g' _ hargs
  refine ⟨fun c => Cert.Kernel7Ideal.Cross.result m c, ?_, ?_⟩
  · refine (θ_run Cert.Kernel7Ideal.defs _ _).mono (fun r h c => ?_) (Cert.Kernel7Ideal.Value.run_blocks m g)
    exact ⟨(h c).1.trans (Cert.Kernel7Ideal.Cross.final m c), (h c).2⟩
  · refine (θ_run Cert.Reference7Ideal.defs _ _).mono (fun r h c => ?_) (Cert.Reference7Ideal.Value.run m' g')
    obtain ⟨e0, e1, e2⟩ := hargs c
    exact ⟨(h c).1.trans ((cross_eq _ _ _).trans (Cert.Kernel7Ideal.Cross.crossA_congr e0 e1 e2)), (h c).2⟩

end Cert.Proof

end
-- ==== Proof.LastArray.lean ====
/-
  The sample tail's last part's arrays over the extended reals: what the host hands to the call, and the blocks of its single grid point.
-/
module

public import proofs.«01_k».proof.Proof.Gen.Kernel8Ideal.Frame
public import Idealize.ShloMosaic.Lib.Pointwise
public import Idealize.ShloMosaic.Lib.StableHlo.RunRead
public import Idealize.ShloMosaic.Lib.Pipeline.ValueKit

@[expose] public section

set_option maxRecDepth 16384
set_option maxHeartbeats 4000000

noncomputable section

namespace Cert.Kernel8Ideal.Last

open Cert.Kernel8Ideal Cert.Kernel8Ideal.Gen
open Idealize.ShloMosaic Idealize.ShloMosaic.TcCoe

variable (m : (ℓ : Loc nD τ sig) → Buf (Elt Ideal) ℓ)

theorem V_wo (c : Dev nD) (k : Fin 256) (j : Fin 1024) :
    (V m c main_v0 : FVec Ideal S256x1024 .bf16) (ix2 k j) = (m ((c : Thread nD τ).loc main_arg2) : FVec Ideal S256x1024 .f32) (ix2 k j) := by
  entry_read
  pointwise

theorem V_gf (c : Dev nD) (k : Fin 1024) :
    (V m c main_v1 : FVec Ideal S1x1024 .f32) (ix2 0 k) = (m ((c : Thread nD τ).loc main_arg3) : FVec Ideal S1024 .f32) (ix1 k) := by
  entry_read
  pointwise

theorem V_wg (c : Dev nD) (k : Fin 1024) (j : Fin 2816) :
    (V m c main_v2 : FVec Ideal S1024x2816 .bf16) (ix2 k j) = (m ((c : Thread nD τ).loc main_arg4) : FVec Ideal S1024x2816 .f32) (ix2 k j) := by
  entry_read
  pointwise

theorem V_wu (c : Dev nD) (k : Fin 1024) (j : Fin 2816) :
    (V m c main_v3 : FVec Ideal S1024x2816 .bf16) (ix2 k j) = (m ((c : Thread nD τ).loc main_arg5) : FVec Ideal S1024x2816 .f32) (ix2 k j) := by
  entry_read
  pointwise

theorem V_wd (c : Dev nD) (k : Fin 2816) (j : Fin 1024) :
    (V m c main_v4 : FVec Ideal S2816x1024 .bf16) (ix2 k j) = (m ((c : Thread nD τ).loc main_arg6) : FVec Ideal S2816x1024 .f32) (ix2 k j) := by
  entry_read
  pointwise

theorem V_gl (c : Dev nD) (k : Fin 1024) :
    (V m c main_v5 : FVec Ideal S1x1024 .f32) (ix2 0 k) = (m ((c : Thread nD τ).loc main_arg7) : FVec Ideal S1024 .f32) (ix1 k) := by
  entry_read
  pointwise

theorem idx_h : ∀ t : Fin cfg0.N, win0_0.index t (0 : Fin 2) = 0 ∧ win0_0.index t (1 : Fin 2) = 0 :=
  (by decide +kernel : ∀ t : Fin grid0.N, _)

theorem read_h (t : Fin cfg0.N) (X : Vec Ideal S128x1024 .f32) (k : Fin 128) (j : Fin 1024) :
    ((win0_0.blk t).view.read (Elt Ideal) X : Vec Ideal S128x1024 .f32) (ix2 k j) = X (ix2 k j) := by
  obtain ⟨h0, h1⟩ := idx_h t
  blk_ext [h0, h1]

theorem idx_o : ∀ t : Fin cfg0.N, win0_1.index t (0 : Fin 2) = 0 ∧ win0_1.index t (1 : Fin 2) = 0 :=
  (by decide +kernel : ∀ t : Fin grid0.N, _)

theorem read_o (t : Fin cfg0.N) (X : Vec Ideal S128x256 .f32) (k : Fin 128) (j : Fin 256) :
    ((win0_1.blk t).view.read (Elt Ideal) X : Vec Ideal S128x256 .f32) (ix2 k j) = X (ix2 k j) := by
  obtain ⟨h0, h1⟩ := idx_o t
  blk_ext [h0, h1]

theorem idx_wo : ∀ t : Fin cfg0.N, win0_2.index t (0 : Fin 2) = 0 ∧ win0_2.index t (1 : Fin 2) = 0 :=
  (by decide +kernel : ∀ t : Fin grid0.N, _)

theorem read_wo (t : Fin cfg0.N) (X : Vec Ideal S256x1024 .bf16) (k : Fin 256) (j : Fin 1024) :
    ((win0_2.blk t).view.read (Elt Ideal) X : Vec Ideal S256x1024 .bf16) (ix2 k j) = X (ix2 k j) := by
  obtain ⟨h0, h1⟩ := idx_wo t
  blk_ext [h0, h1]

theorem idx_gf : ∀ t : Fin cfg0.N, win0_3.index t (0 : Fin 2) = 0 ∧ win0_3.index t (1 : Fin 2) = 0 :=
  (by decide +kernel : ∀ t : Fin grid0.N, _)

theorem read_gf (t : Fin cfg0.N) (X : Vec Ideal S1x1024 .f32) (k : Fin 1) (j : Fin 1024) :
    ((win0_3.blk t).view.read (Elt Ideal) X : Vec Ideal S1x1024 .f32) (ix2 k j) = X (ix2 k j) := by
  obtain ⟨h0, h1⟩ := idx_gf t
  blk_ext [h0, h1]

theorem idx_wg : ∀ t : Fin cfg0.N, win0_4.index t (0 : Fin 2) = 0 ∧ win0_4.index t (1 : Fin 2) = 0 :=
  (by decide +kernel : ∀ t : Fin grid0.N, _)

theorem read_wg (t : Fin cfg0.N) (X : Vec Ideal S1024x2816 .bf16) (k : Fin 1024) (j : Fin 2816) :
    ((win0_4.blk t).view.read (Elt Ideal) X : Vec Ideal S1024x2816 .bf16) (ix2 k j) = X (ix2 k j) := by
  obtain ⟨h0, h1⟩ := idx_wg t
  blk_ext [h0, h1]

theorem idx_wu : ∀ t : Fin cfg0.N, win0_5.index t (0 : Fin 2) = 0 ∧ win0_5.index t (1 : Fin 2) = 0 :=
  (by decide +kernel : ∀ t : Fin grid0.N, _)

theorem read_wu (t : Fin cfg0.N) (X : Vec Ideal S1024x2816 .bf16) (k : Fin 1024) (j : Fin 2816) :
    ((win0_5.blk t).view.read (Elt Ideal) X : Vec Ideal S1024x2816 .bf16) (ix2 k j) = X (ix2 k j) := by
  obtain ⟨h0, h1⟩ := idx_wu t
  blk_ext [h0, h1]

theorem idx_wd : ∀ t : Fin cfg0.N, win0_6.index t (0 : Fin 2) = 0 ∧ win0_6.index t (1 : Fin 2) = 0 :=
  (by decide +kernel : ∀ t : Fin grid0.N, _)

theorem read_wd (t : Fin cfg0.N) (X : Vec Ideal S2816x1024 .bf16) (k : Fin 2816) (j : Fin 1024) :
    ((win0_6.blk t).view.read (Elt Ideal) X : Vec Ideal S2816x1024 .bf16) (ix2 k j) = X (ix2 k j) := by
  obtain ⟨h0, h1⟩ := idx_wd t
  blk_ext [h0, h1]

theorem idx_gl : ∀ t : Fin cfg0.N, win0_7.index t (0 : Fin 2) = 0 ∧ win0_7.index t (1 : Fin 2) = 0 :=
  (by decide +kernel : ∀ t : Fin grid0.N, _)

theorem read_gl (t : Fin cfg0.N) (X : Vec Ideal S1x1024 .f32) (k : Fin 1) (j : Fin 1024) :
    ((win0_7.blk t).view.read (Elt Ideal) X : Vec Ideal S1x1024 .f32) (ix2 k j) = X (ix2 k j) := by
  obtain ⟨h0, h1⟩ := idx_gl t
  blk_ext [h0, h1]

theorem idx_y : ∀ t : Fin cfg0.N, win0_8.index t (0 : Fin 2) = 0 ∧ win0_8.index t (1 : Fin 2) = 0 :=
  (by decide +kernel : ∀ t : Fin grid0.N, _)

theorem emb_y (t : Fin cfg0.N) (k : Fin 128) (j : Fin 1024) : (win0_8.blk t).view.emb (ix2 k j) = (ix2 k j : S128x1024.Idx) := by
  obtain ⟨h0, h1⟩ := idx_y t
  blk_ext [h0, h1]

end Cert.Kernel8Ideal.Last

end
-- ==== Proof.LastFinal.lean ====
/-
  The sample tail's last part's results over the extended reals: the rows that the call leaves.
-/
module

public import proofs.«01_k».proof.Proof.ProjRow
public import proofs.«01_k».proof.Proof.LastArray
public import Idealize.ShloMosaic.Lib.Pipeline.ValueKit

@[expose] public section

set_option maxRecDepth 16384
set_option maxHeartbeats 4000000

noncomputable section

namespace Cert.Kernel8Ideal.Last

open Cert.Kernel8Ideal Cert.Kernel8Ideal.Gen Cert.Tail
open Idealize.ShloMosaic Idealize.ShloMosaic.TcCoe Idealize.SL.Sem

/-! ### What the grid point writes -/

theorem cross_apply (x0 : Vec Ideal S128x1024 .f32) (x1 : Vec Ideal S128x256 .f32) (x2 : Vec Ideal S256x1024 .bf16) (r : Fin 128) (j : Fin 1024) :
    k0_pay3 x0 x1 x2 (ix2 r j) = crossR (fun k => x0 (ix2 r k)) (fun k => x1 (ix2 r k)) (fun k l => x2 (ix2 k l)) j := by
  unfold k0_pay3
  pointwise
  rfl

/-- What the feed-forward layer adds to the row. -/
theorem delta_apply (x0 : Vec Ideal S128x1024 .f32) (x1 : Vec Ideal S128x256 .f32) (x2 : Vec Ideal S256x1024 .bf16) (x3 : Vec Ideal S1x1024 .f32)
    (x4 x5 : Vec Ideal S1024x2816 .bf16) (x6 : Vec Ideal S2816x1024 .bf16) (r : Fin 128) (j : Fin 1024) :
    k0_pay3 x0 x1 x2 (ix2 r j) + k0_pay4 x0 x1 x2 x3 x4 x5 x6 (ix2 r j)
      = ffnR (fun k => k0_pay3 x0 x1 x2 (ix2 r k)) (normR (fun k => k0_pay3 x0 x1 x2 (ix2 r k)) (fun k => x3 (ix2 0 k)))
          (matR (normR (fun k => k0_pay3 x0 x1 x2 (ix2 r k)) (fun k => x3 (ix2 0 k))) (fun k l => x4 (ix2 k l))) (fun k l => x5 (ix2 k l)) (fun k l => x6 (ix2 k l)) j := by
  unfold k0_pay4
  generalize k0_pay3 x0 x1 x2 = z
  pointwise
  rfl

theorem last_apply (x7 : Vec Ideal S1x1024 .f32) (z u : FVec Ideal S128x1024 .f32) (r : Fin 128) (j : Fin 1024) :
    k0_pay1 (k0_pay2 x7) z u (ix2 r j) = normR (fun k => z (ix2 r k) + u (ix2 r k)) (fun k => x7 (ix2 0 k)) j := by
  unfold k0_pay1 k0_pay2
  pointwise
  rfl

theorem tile_apply (x0 : Vec Ideal S128x1024 .f32) (x1 : Vec Ideal S128x256 .f32) (x2 : Vec Ideal S256x1024 .bf16) (x3 : Vec Ideal S1x1024 .f32)
    (x4 x5 : Vec Ideal S1024x2816 .bf16) (x6 : Vec Ideal S2816x1024 .bf16) (x7 : Vec Ideal S1x1024 .f32) (r : Fin 128) (j : Fin 1024) :
    k0_pay1 (k0_pay2 x7) (k0_pay3 x0 x1 x2) (k0_pay4 x0 x1 x2 x3 x4 x5 x6) (ix2 r j)
      = lastR (crossR (fun k => x0 (ix2 r k)) (fun k => x1 (ix2 r k)) (fun k l => x2 (ix2 k l))) (fun k => x3 (ix2 0 k))
          (fun k l => x4 (ix2 k l)) (fun k l => x5 (ix2 k l)) (fun k l => x6 (ix2 k l)) (fun k => x7 (ix2 0 k)) j := by
  refine (last_apply x7 (k0_pay3 x0 x1 x2) (k0_pay4 x0 x1 x2 x3 x4 x5 x6) r j).trans ?_
  have e : (fun k => k0_pay3 x0 x1 x2 (ix2 r k)) = crossR (fun k => x0 (ix2 r k)) (fun k => x1 (ix2 r k)) (fun k l => x2 (ix2 k l)) :=
    funext fun k => cross_apply x0 x1 x2 r k
  have d := delta_apply x0 x1 x2 x3 x4 x5 x6 r
  rw [e] at d
  unfold lastR
  rw [funext d]

theorem out_y (x0 : Vec Ideal S128x1024 .f32) (x1 : Vec Ideal S128x256 .f32) (x2 : Vec Ideal S256x1024 .bf16) (x3 : Vec Ideal S1x1024 .f32) (x4 : Vec Ideal S1024x2816 .bf16) (x5 : Vec Ideal S1024x2816 .bf16) (x6 : Vec Ideal S2816x1024 .bf16) (x7 : Vec Ideal S1x1024 .f32) (y : S128x1024.Idx) :
    out0_8 x0 x1 x2 x3 x4 x5 x6 x7 y = k0_pay1 (k0_pay2 x7) (k0_pay3 x0 x1 x2) (k0_pay4 x0 x1 x2 x3 x4 x5 x6) y := by
  unfold out0_8
  frame_out

/-- Every token's row: the cross-attention's output added, the feed-forward layer, and the final norm. -/
def lastA (h : FVec Ideal S128x1024 .f32) (o : FVec Ideal S128x256 .f32) (wo : FVec Ideal S256x1024 .f32) (gf : FVec Ideal S1024 .f32) (wg wu : FVec Ideal S1024x2816 .f32) (wd : FVec Ideal S2816x1024 .f32) (gl : FVec Ideal S1024 .f32) : FVec Ideal S128x1024 .f32 := fun y =>
  lastR (crossR (fun k => h (ix2 (y 0) k)) (fun k => o (ix2 (y 0) k)) (fun k l => wo (ix2 k l))) (fun k => gf (ix1 k)) (fun k l => wg (ix2 k l)) (fun k l => wu (ix2 k l)) (fun k l => wd (ix2 k l)) (fun k => gl (ix1 k)) (y 1)

theorem lastA_apply (h : FVec Ideal S128x1024 .f32) (o : FVec Ideal S128x256 .f32) (wo : FVec Ideal S256x1024 .f32) (gf : FVec Ideal S1024 .f32) (wg wu : FVec Ideal S1024x2816 .f32) (wd : FVec Ideal S2816x1024 .f32) (gl : FVec Ideal S1024 .f32) (r : Fin 128) (j : Fin 1024) :
    lastA h o wo gf wg wu wd gl (ix2 r j)
      = lastR (crossR (fun k => h (ix2 r k)) (fun k => o (ix2 r k)) (fun k l => wo (ix2 k l))) (fun k => gf (ix1 k)) (fun k l => wg (ix2 k l)) (fun k l => wu (ix2 k l)) (fun k l => wd (ix2 k l)) (fun k => gl (ix1 k)) j :=
  rfl

theorem lastR_congr {h h' : Fin 1024 → EReal} {o o' : Fin 256 → EReal} {wo wo' : Fin 256 → Fin 1024 → EReal} {gf gf' : Fin 1024 → EReal}
    {wg wg' wu wu' : Fin 1024 → Fin 2816 → EReal} {wd wd' : Fin 2816 → Fin 1024 → EReal} {gl gl' : Fin 1024 → EReal} (j : Fin 1024)
    (e0 : ∀ k, h k = h' k) (e1 : ∀ k, o k = o' k) (e2 : ∀ k l, wo k l = wo' k l) (e3 : ∀ k, gf k = gf' k) (e4 : ∀ k l, wg k l = wg' k l)
    (e5 : ∀ k l, wu k l = wu' k l) (e6 : ∀ k l, wd k l = wd' k l) (e7 : ∀ k, gl k = gl' k) :
    lastR (crossR h o wo) gf wg wu wd gl j = lastR (crossR h' o' wo') gf' wg' wu' wd' gl' j := by
  obtain rfl : h = h' := funext e0
  obtain rfl : o = o' := funext e1
  obtain rfl : wo = wo' := funext fun k => funext (e2 k)
  obtain rfl : gf = gf' := funext e3
  obtain rfl : wg = wg' := funext fun k => funext (e4 k)
  obtain rfl : wu = wu' := funext fun k => funext (e5 k)
  obtain rfl : wd = wd' := funext fun k => funext (e6 k)
  obtain rfl : gl = gl' := funext e7
  rfl

theorem lastA_congr {h h' : FVec Ideal S128x1024 .f32} {o o' : FVec Ideal S128x256 .f32} {wo wo' : FVec Ideal S256x1024 .f32} {gf gf' : FVec Ideal S1024 .f32}
    {wg wg' wu wu' : FVec Ideal S1024x2816 .f32} {wd wd' : FVec Ideal S2816x1024 .f32} {gl gl' : FVec Ideal S1024 .f32}
    (e0 : h = h') (e1 : o = o') (e2 : wo = wo') (e3 : gf = gf') (e4 : wg = wg') (e5 : wu = wu') (e6 : wd = wd') (e7 : gl = gl') :
    lastA h o wo gf wg wu wd gl = lastA h' o' wo' gf' wg' wu' wd' gl' := by
  subst e0 e1 e2 e3 e4 e5 e6 e7
  rfl

variable (m : (ℓ : Loc nD τ sig) → Buf (Elt Ideal) ℓ)

/-- The result of the arguments as launched. -/
def result_y (c : Dev nD) : FVec Ideal S128x1024 .f32 :=
  lastA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

theorem point_y (c : Dev nD) (t : Fin cfg0.N) (r : Fin 128) (j : Fin 1024) :
    out0_8 (iblk m c 0 t) (iblk m c 1 t) (iblk m c 2 t) (iblk m c 3 t) (iblk m c 4 t) (iblk m c 5 t) (iblk m c 6 t) (iblk m c 7 t) (ix2 r j) = result_y m c (ix2 r j) := by
  have e0 : ∀ k, (iblk m c 0 t : Vec Ideal S128x1024 .f32) (ix2 r k) = (m ((c : Thread nD τ).loc main_arg0) : FVec Ideal S128x1024 .f32) (ix2 r k) :=
    fun k => (read_h t (V m c main_arg0) r k).trans (congrFun (V_main_arg0 m c) _)
  have e1 : ∀ k, (iblk m c 1 t : Vec Ideal S128x256 .f32) (ix2 r k) = (m ((c : Thread nD τ).loc main_arg1) : FVec Ideal S128x256 .f32) (ix2 r k) :=
    fun k => (read_o t (V m c main_arg1) r k).trans (congrFun (V_main_arg1 m c) _)
  have e2 : ∀ k l, (iblk m c 2 t : Vec Ideal S256x1024 .bf16) (ix2 k l) = (m ((c : Thread nD τ).loc main_arg2) : FVec Ideal S256x1024 .f32) (ix2 k l) :=
    fun k l => (read_wo t (V m c main_v0) k l).trans (V_wo m c k l)
  have e3 : ∀ k, (iblk m c 3 t : Vec Ideal S1x1024 .f32) (ix2 0 k) = (m ((c : Thread nD τ).loc main_arg3) : FVec Ideal S1024 .f32) (ix1 k) :=
    fun k => (read_gf t (V m c main_v1) 0 k).trans (V_gf m c k)
  have e4 : ∀ k l, (iblk m c 4 t : Vec Ideal S1024x2816 .bf16) (ix2 k l) = (m ((c : Thread nD τ).loc main_arg4) : FVec Ideal S1024x2816 .f32) (ix2 k l) :=
    fun k l => (read_wg t (V m c main_v2) k l).trans (V_wg m c k l)
  have e5 : ∀ k l, (iblk m c 5 t : Vec Ideal S1024x2816 .bf16) (ix2 k l) = (m ((c : Thread nD τ).loc main_arg5) : FVec Ideal S1024x2816 .f32) (ix2 k l) :=
    fun k l => (read_wu t (V m c main_v3) k l).trans (V_wu m c k l)
  have e6 : ∀ k l, (iblk m c 6 t : Vec Ideal S2816x1024 .bf16) (ix2 k l) = (m ((c : Thread nD τ).loc main_arg6) : FVec Ideal S2816x1024 .f32) (ix2 k l) :=
    fun k l => (read_wd t (V m c main_v4) k l).trans (V_wd m c k l)
  have e7 : ∀ k, (iblk m c 7 t : Vec Ideal S1x1024 .f32) (ix2 0 k) = (m ((c : Thread nD τ).loc main_arg7) : FVec Ideal S1024 .f32) (ix1 k) :=
    fun k => (read_gl t (V m c main_v5) 0 k).trans (V_gl m c k)
  refine (out_y (iblk m c 0 t) (iblk m c 1 t) (iblk m c 2 t) (iblk m c 3 t) (iblk m c 4 t) (iblk m c 5 t) (iblk m c 6 t) (iblk m c 7 t) _).trans ((tile_apply (iblk m c 0 t) (iblk m c 1 t) (iblk m c 2 t) (iblk m c 3 t) (iblk m c 4 t) (iblk m c 5 t) (iblk m c 6 t) (iblk m c 7 t) r j).trans ?_)
  refine (lastR_congr j e0 e1 e2 e3 e4 e5 e6 e7).trans ?_
  exact (lastA_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) r j).symm

/-- The array is filled by its single block. -/
theorem final_y (c : Dev nD) : (dats m 0 c).arrAt 8 cfg0.N = result_y m c := by
  refine (dats m 0 c).arrAt_eq_of_covers 8 _ (by decide +kernel) fun t _ y => ?_
  blk_simp
  rw [after0_8]
  have hy : ∀ y : S128x1024.Idx, out0_8 (iblk m c 0 t) (iblk m c 1 t) (iblk m c 2 t) (iblk m c 3 t) (iblk m c 4 t) (iblk m c 5 t) (iblk m c 6 t) (iblk m c 7 t) y = result_y m c ((win0_8.blk t).view.emb y) := fun y => by
    idx_vars y
    exact (point_y m c t y0 y1).trans (congrArg (result_y m c) (emb_y t y0 y1).symm)
  exact hy y

end Cert.Kernel8Ideal.Last

end
-- ==== Proof.LastResult.lean ====
/-
  The reference of the sample tail's last part over the extended reals, read at an index.
-/
module

public import proofs.«01_k».proof.Proof.ProjRow
public import proofs.«01_k».proof.Proof.Gen.Reference8Ideal.Run
public import Idealize.ShloMosaic.Lib.Pointwise

@[expose] public section

set_option maxRecDepth 16384

noncomputable section

namespace Cert.Reference8Ideal.Last

open Cert.Reference8Ideal Cert.Reference8Ideal.Gen Cert.Tail
open Idealize.ShloMosaic Idealize.ShloMosaic.TcCoe

/-- The norm of each row. -/
def normH (h : FVec Ideal S128x1024 .f32) (g : FVec Ideal S1024 .f32) : FVec Ideal S128x1024 .f32 :=
  mulf (mulf h (broadcastInDim S128x1024 ![0, 1] bcast_S128x1_S128x1024_0_1
      (Host.rsqrt (addf (Host.divf (broadcastInDim S128x1 ![0] bcast_S128_S128x1_0
        (Host.reduceAdd (mulf h h) (constant S_ .f32 0x00000000#32) reducesTo_S128x1024_S128_d1 h_S_))
        (broadcastInDim S128x1 ![] bcast_S_S128x1 (constant S_ .f32 0x44800000#32)))
        (broadcastInDim S128x1 ![] bcast_S_S128x1 (constant S_ .f32 0x358637BD#32))))))
    (broadcastInDim S128x1024 ![0, 1] bcast_S1x1024_S128x1024_0_1 (broadcastInDim S1x1024 ![1] bcast_S1024_S1x1024_1 g))

theorem normH_apply (h : FVec Ideal S128x1024 .f32) (g : FVec Ideal S1024 .f32) (r : Fin 128) (j : Fin 1024) :
    normH h g (ix2 r j) = normR (fun k => h (ix2 r k)) (fun k => g (ix1 k)) j := by
  unfold normH
  pointwise
  rfl

/-- The rows after the cross-attention. -/
def crossH (h : FVec Ideal S128x1024 .f32) (o : FVec Ideal S128x256 .f32) (w : FVec Ideal S256x1024 .f32) : FVec Ideal S128x1024 .f32 :=
  addf h (Host.dotGeneral dot_S128x256_S256x1024_S128x1024_1_0_0_1_n_n none o w)

theorem crossH_apply (h : FVec Ideal S128x1024 .f32) (o : FVec Ideal S128x256 .f32) (w : FVec Ideal S256x1024 .f32) (r : Fin 128) (j : Fin 1024) :
    crossH h o w (ix2 r j) = crossR (fun k => h (ix2 r k)) (fun k => o (ix2 r k)) (fun k l => w (ix2 k l)) j := by
  unfold crossH
  pointwise
  rfl

/-- The gate of the feed-forward layer. -/
def gateH (u : FVec Ideal S128x1024 .f32) (w : FVec Ideal S1024x2816 .f32) : FVec Ideal S128x2816 .f32 :=
  Host.dotGeneral dot_S128x1024_S1024x2816_S128x2816_1_0_0_1_n_n none u w

theorem gateH_apply (u : FVec Ideal S128x1024 .f32) (w : FVec Ideal S1024x2816 .f32) (r : Fin 128) (j : Fin 2816) :
    gateH u w (ix2 r j) = matR (fun k => u (ix2 r k)) (fun k l => w (ix2 k l)) j := by
  unfold gateH
  pointwise
  rfl

/-- The rows after the feed-forward layer. -/
def ffnH (h u : FVec Ideal S128x1024 .f32) (a : FVec Ideal S128x2816 .f32) (wu : FVec Ideal S1024x2816 .f32) (wd : FVec Ideal S2816x1024 .f32) : FVec Ideal S128x1024 .f32 :=
  addf h (Host.dotGeneral dot_S128x2816_S2816x1024_S128x1024_1_0_0_1_n_n none
    (mulf (mulf a (Host.divf (broadcastInDim S128x2816 ![] bcast_S_S128x2816 (constant S_ .f32 0x3F800000#32))
        (addf (broadcastInDim S128x2816 ![] bcast_S_S128x2816 (constant S_ .f32 0x3F800000#32)) (Host.exp (Host.negf a)))))
      (Host.dotGeneral dot_S128x1024_S1024x2816_S128x2816_1_0_0_1_n_n none u wu : FVec Ideal S128x2816 .f32)) wd)

theorem ffnH_apply (h u : FVec Ideal S128x1024 .f32) (a : FVec Ideal S128x2816 .f32) (wu : FVec Ideal S1024x2816 .f32) (wd : FVec Ideal S2816x1024 .f32) (r : Fin 128) (j : Fin 1024) :
    ffnH h u a wu wd (ix2 r j) = ffnR (fun k => h (ix2 r k)) (fun k => u (ix2 r k)) (fun k => a (ix2 r k)) (fun k l => wu (ix2 k l)) (fun k l => wd (ix2 k l)) j := by
  unfold ffnH
  pointwise
  rfl

/-- The feed-forward layer on the rows. -/
def layerH (h : FVec Ideal S128x1024 .f32) (gf : FVec Ideal S1024 .f32) (wg wu : FVec Ideal S1024x2816 .f32) (wd : FVec Ideal S2816x1024 .f32) : FVec Ideal S128x1024 .f32 :=
  ffnH h (normH h gf) (gateH (normH h gf) wg) wu wd

theorem layerH_apply (h : FVec Ideal S128x1024 .f32) (gf : FVec Ideal S1024 .f32) (wg wu : FVec Ideal S1024x2816 .f32) (wd : FVec Ideal S2816x1024 .f32) (r : Fin 128) (j : Fin 1024) :
    layerH h gf wg wu wd (ix2 r j)
      = ffnR (fun k => h (ix2 r k)) (normR (fun k => h (ix2 r k)) (fun k => gf (ix1 k)))
          (matR (normR (fun k => h (ix2 r k)) (fun k => gf (ix1 k))) (fun k l => wg (ix2 k l))) (fun k l => wu (ix2 k l)) (fun k l => wd (ix2 k l)) j := by
  unfold layerH
  rw [ffnH_apply]
  have eu : (fun k => normH h gf (ix2 r k)) = normR (fun k => h (ix2 r k)) (fun k => gf (ix1 k)) := funext fun k => normH_apply h gf r k
  have ea : (fun k => gateH (normH h gf) wg (ix2 r k)) = matR (normR (fun k => h (ix2 r k)) (fun k => gf (ix1 k))) (fun k l => wg (ix2 k l)) :=
    funext fun k => (gateH_apply (normH h gf) wg r k).trans (by rw [eu])
  rw [eu, ea]

/-- The reference's result. -/
def lastH (h : FVec Ideal S128x1024 .f32) (o : FVec Ideal S128x256 .f32) (wo : FVec Ideal S256x1024 .f32) (gf : FVec Ideal S1024 .f32) (wg wu : FVec Ideal S1024x2816 .f32) (wd : FVec Ideal S2816x1024 .f32) (gl : FVec Ideal S1024 .f32) : FVec Ideal S128x1024 .f32 :=
  normH (layerH (crossH h o wo) gf wg wu wd) gl

theorem lastH_apply (h : FVec Ideal S128x1024 .f32) (o : FVec Ideal S128x256 .f32) (wo : FVec Ideal S256x1024 .f32) (gf : FVec Ideal S1024 .f32) (wg wu : FVec Ideal S1024x2816 .f32) (wd : FVec Ideal S2816x1024 .f32) (gl : FVec Ideal S1024 .f32) (r : Fin 128) (j : Fin 1024) :
    lastH h o wo gf wg wu wd gl (ix2 r j)
      = lastR (crossR (fun k => h (ix2 r k)) (fun k => o (ix2 r k)) (fun k l => wo (ix2 k l))) (fun k => gf (ix1 k)) (fun k l => wg (ix2 k l)) (fun k l => wu (ix2 k l)) (fun k l => wd (ix2 k l)) (fun k => gl (ix1 k)) j := by
  unfold lastH
  refine (normH_apply _ gl r j).trans ?_
  have ec : (fun k => crossH h o wo (ix2 r k)) = crossR (fun k => h (ix2 r k)) (fun k => o (ix2 r k)) (fun k l => wo (ix2 k l)) :=
    funext fun k => crossH_apply h o wo r k
  have el : (fun k => layerH (crossH h o wo) gf wg wu wd (ix2 r k)) = _ := funext fun k => layerH_apply (crossH h o wo) gf wg wu wd r k
  rw [el, ec]
  rfl

theorem res_eq (m : (ℓ : Loc nD τ sig) → Buf (Elt Ideal) ℓ) (c : Dev nD) :
    Value.res_out0 m c = lastH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Value.res_out0 Value.res_main_v33
  rfl

end Cert.Reference8Ideal.Last

end
-- ==== Proof.LastAlgebraic.lean ====
/-
  The sample tail's last part equals its reference over the extended reals, for all arguments.
-/
module

public import proofs.«01_k».proof.Defs
public import proofs.«01_k».proof.Proof.LastFinal
public import proofs.«01_k».proof.Proof.LastResult
public import proofs.«01_k».proof.Proof.Gen.Kernel8Ideal.Value

@[expose] public section

noncomputable section

namespace Cert.Proof

open Idealize.ShloMosaic Idealize.ShloMosaic.TcCoe Idealize.SL.Sem

open Cert.Reference8Ideal in
theorem last_eq (h : FVec Ideal S128x1024 .f32) (o : FVec Ideal S128x256 .f32) (wo : FVec Ideal S256x1024 .f32) (gf : FVec Ideal S1024 .f32) (wg wu : FVec Ideal S1024x2816 .f32) (wd : FVec Ideal S2816x1024 .f32) (gl : FVec Ideal S1024 .f32) :
    Cert.Reference8Ideal.Last.lastH h o wo gf wg wu wd gl = Cert.Kernel8Ideal.Last.lastA h o wo gf wg wu wd gl := by
  funext y
  idx_vars y
  exact (Cert.Reference8Ideal.Last.lastH_apply h o wo gf wg wu wd gl y0 y1).trans (Cert.Kernel8Ideal.Last.lastA_apply h o wo gf wg wu wd gl y0 y1).symm

theorem algebraic_last :
    Cert.algebraic_Kernel8Ideal_Reference8Ideal (hKernel8Ideal := Cert.Kernel8Ideal.Gen.facts) (hReference8Ideal := Cert.Reference8Ideal.Gen.facts) := by
  intro m g m' g' _ hargs
  refine ⟨fun c => Cert.Kernel8Ideal.Last.result_y m c, ?_, ?_⟩
  · refine (θ_run Cert.Kernel8Ideal.defs _ _).mono (fun r h c => ?_) (Cert.Kernel8Ideal.Value.run_blocks m g)
    exact ⟨(h c).1.trans (Cert.Kernel8Ideal.Last.final_y m c), (h c).2⟩
  · refine (θ_run Cert.Reference8Ideal.defs _ _).mono (fun r h c => ?_) (Cert.Reference8Ideal.Value.run m' g')
    obtain ⟨e0, e1, e2, e3, e4, e5, e6, e7⟩ := hargs c
    refine ⟨(h c).1.trans ((Cert.Reference8Ideal.Last.res_eq m' c).trans ((last_eq _ _ _ _ _ _ _ _).trans ?_)), (h c).2⟩
    exact Cert.Kernel8Ideal.Last.lastA_congr e0 e1 e2 e3 e4 e5 e6 e7

end Cert.Proof

end
-- ==== Proof.lean ====
/-
  The claims about the stick-breaking attention call (Kernel), the tail call (Kernel2), the prompt's projection (Kernel3),
  the memory's projection (Kernel4), the samples' projection (Kernel5) and the three calls of the samples' tail (Kernel6,
  Kernel7, Kernel8): each program's frame, the named constant of the attention call, and each call equal to its reference
  over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.SbFrame
public import proofs.«01_k».proof.Proof.SbWordFrame
public import proofs.«01_k».proof.Proof.SbAlgebraic
public import proofs.«01_k».proof.Proof.TailAlgebraic
public import proofs.«01_k».proof.Proof.ProjAlgebraic
public import proofs.«01_k».proof.Proof.MemAlgebraic
public import proofs.«01_k».proof.Proof.RowsAlgebraic
public import proofs.«01_k».proof.Proof.FirstAlgebraic
public import proofs.«01_k».proof.Proof.CrossAlgebraic
public import proofs.«01_k».proof.Proof.LastAlgebraic
public import Idealize.ShloMosaic.Adequacy
public import Idealize.ShloMosaic.Init

@[expose] public section

noncomputable section

namespace Cert.Proof

open Idealize.ShloMosaic Idealize.ShloMosaic.TcCoe Idealize.SL.Sem

theorem frame_kernel : Cert.quiescent_Kernel (hKernel := Cert.Kernel.Gen.facts) := fun m ρ _ => Cert.Kernel.Sb.kept m ρ

theorem frame_ideal : Cert.quiescent_KernelIdeal (hKernelIdeal := Cert.KernelIdeal.Gen.facts) := fun m ρ _ => Cert.KernelIdeal.Sb.kept m ρ

theorem frame_ideal_finite : Cert.quiescent_KernelIdeal_pre_finite (hKernelIdeal := Cert.KernelIdeal.Gen.facts) (hPre_finite := pre_facts) :=
  fun m ρ _ => Cert.KernelIdeal.Sb.kept m ρ

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

theorem frame_reference_finite :
    Cert.quiescent_ReferenceIdeal_pre_finite (hReferenceIdeal := Cert.ReferenceIdeal.Gen.facts) (hPre_finite := pre_facts) :=
  fun m ρ _ => frame_reference m ρ trivial

theorem frame_tail : Cert.quiescent_Kernel2 (hKernel2 := Cert.Kernel2.Gen.facts) := fun m ρ _ => Cert.Kernel2.Gen.frame m ρ

theorem frame_tail_ideal : Cert.quiescent_Kernel2Ideal (hKernel2Ideal := Cert.Kernel2Ideal.Gen.facts) := fun m ρ _ => Cert.Kernel2Ideal.Gen.frame m ρ

theorem frame_tail_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run m ρ)

theorem preserves : Cert.preserves_Kernel_KernelIdeal := IdealRules.named_const.statement _ _ _ _ _ rfl

theorem preserves_tail : Cert.preserves_Kernel2_Kernel2Ideal := trivial

theorem frame_proj : Cert.quiescent_Kernel3 (hKernel3 := Cert.Kernel3.Gen.facts) := fun m ρ _ => Cert.Kernel3.Gen.frame m ρ

theorem frame_proj_ideal : Cert.quiescent_Kernel3Ideal (hKernel3Ideal := Cert.Kernel3Ideal.Gen.facts) := fun m ρ _ => Cert.Kernel3Ideal.Gen.frame m ρ

theorem frame_proj_reference : Cert.quiescent_Reference3Ideal (hReference3Ideal := Cert.Reference3Ideal.Gen.facts) := fun m ρ _ =>
  (θ_run Cert.Reference3Ideal.defs _ _).mono (fun r h => ⟨fun c => (h c).2.2.2.2.2.2.2.2, sem_eq_zero_of_no_sems (by decide) r.2⟩)
    (Cert.Reference3Ideal.Value.run m ρ)

theorem preserves_proj : Cert.preserves_Kernel3_Kernel3Ideal := trivial

theorem frame_mem : Cert.quiescent_Kernel4 (hKernel4 := Cert.Kernel4.Gen.facts) := fun m ρ _ => Cert.Kernel4.Gen.frame m ρ

theorem frame_mem_ideal : Cert.quiescent_Kernel4Ideal (hKernel4Ideal := Cert.Kernel4Ideal.Gen.facts) := fun m ρ _ => Cert.Kernel4Ideal.Gen.frame m ρ

theorem frame_mem_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run m ρ)

theorem preserves_mem : Cert.preserves_Kernel4_Kernel4Ideal := trivial

theorem frame_rows : Cert.quiescent_Kernel5 (hKernel5 := Cert.Kernel5.Gen.facts) := fun m ρ _ => Cert.Kernel5.Gen.frame m ρ

theorem frame_rows_ideal : Cert.quiescent_Kernel5Ideal (hKernel5Ideal := Cert.Kernel5Ideal.Gen.facts) := fun m ρ _ => Cert.Kernel5Ideal.Gen.frame m ρ

theorem frame_rows_reference : Cert.quiescent_Reference5Ideal (hReference5Ideal := Cert.Reference5Ideal.Gen.facts) := fun m ρ _ =>
  (θ_run Cert.Reference5Ideal.defs _ _).mono (fun r h => ⟨fun c => (h c).2.2.2.2.2.2.2.2, sem_eq_zero_of_no_sems (by decide) r.2⟩)
    (Cert.Reference5Ideal.Value.run m ρ)

theorem preserves_rows : Cert.preserves_Kernel5_Kernel5Ideal := trivial

theorem frame_first : Cert.quiescent_Kernel6 (hKernel6 := Cert.Kernel6.Gen.facts) := fun m ρ _ => Cert.Kernel6.Gen.frame m ρ

theorem frame_first_ideal : Cert.quiescent_Kernel6Ideal (hKernel6Ideal := Cert.Kernel6Ideal.Gen.facts) := fun m ρ _ => Cert.Kernel6Ideal.Gen.frame m ρ

theorem frame_first_reference : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩)
    (Cert.Reference6Ideal.Value.run m ρ)

theorem preserves_first : Cert.preserves_Kernel6_Kernel6Ideal := trivial

theorem frame_cross : Cert.quiescent_Kernel7 (hKernel7 := Cert.Kernel7.Gen.facts) := fun m ρ _ => Cert.Kernel7.Gen.frame m ρ

theorem frame_cross_ideal : Cert.quiescent_Kernel7Ideal (hKernel7Ideal := Cert.Kernel7Ideal.Gen.facts) := fun m ρ _ => Cert.Kernel7Ideal.Gen.frame m ρ

theorem frame_cross_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run m ρ)

theorem preserves_cross : Cert.preserves_Kernel7_Kernel7Ideal := trivial

theorem frame_last : Cert.quiescent_Kernel8 (hKernel8 := Cert.Kernel8.Gen.facts) := fun m ρ _ => Cert.Kernel8.Gen.frame m ρ

theorem frame_last_ideal : Cert.quiescent_Kernel8Ideal (hKernel8Ideal := Cert.Kernel8Ideal.Gen.facts) := fun m ρ _ => Cert.Kernel8Ideal.Gen.frame m ρ

theorem frame_last_reference : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run m ρ)

theorem preserves_last : Cert.preserves_Kernel8_Kernel8Ideal := trivial

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    pre_facts, frame_kernel, frame_ideal, frame_ideal_finite, frame_reference, frame_reference_finite,
    frame_tail, frame_tail_ideal, frame_tail_reference, frame_proj, frame_proj_ideal, frame_proj_reference, frame_mem, frame_mem_ideal, frame_mem_reference,
    frame_rows, frame_rows_ideal, frame_rows_reference,
    frame_first, frame_first_ideal, frame_first_reference, frame_cross, frame_cross_ideal, frame_cross_reference,
    frame_last, frame_last_ideal, frame_last_reference, preserves, algebraic, preserves_tail, algebraic_tail, preserves_proj, algebraic_proj,
    preserves_mem, algebraic_mem, preserves_rows, algebraic_rows,
    preserves_first, algebraic_first, preserves_cross, algebraic_cross, preserves_last, algebraic_last⟩

end Cert.Proof

end
